-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MlaProj (m : (ℓ : Loc Cert.MlaProj.nD Cert.MlaProj.τ Cert.MlaProj.sig) → Buf (Elt Bits) ℓ) : Prop :=
  True

def Pre_MlaProjIdeal (m : (ℓ : Loc Cert.MlaProjIdeal.nD Cert.MlaProjIdeal.τ Cert.MlaProjIdeal.sig) → Buf (Elt Ideal) ℓ) : Prop :=
  True

def Pre_MlaProjRefIdeal (m : (ℓ : Loc Cert.MlaProjRefIdeal.nD Cert.MlaProjRefIdeal.τ Cert.MlaProjRefIdeal.sig) → Buf (Elt Ideal) ℓ) : Prop :=
  True

def Pre_ConvMix (m : (ℓ : Loc Cert.ConvMix.nD Cert.ConvMix.τ Cert.ConvMix.sig) → Buf (Elt Bits) ℓ) : Prop :=
  True

def Pre_ConvMixIdeal (m : (ℓ : Loc Cert.ConvMixIdeal.nD Cert.ConvMixIdeal.τ Cert.ConvMixIdeal.sig) → Buf (Elt Ideal) ℓ) : Prop :=
  True

def Pre_ConvMixRefIdeal (m : (ℓ : Loc Cert.ConvMixRefIdeal.nD Cert.ConvMixRefIdeal.τ Cert.ConvMixRefIdeal.sig) → Buf (Elt Ideal) ℓ) : Prop :=
  True

def Pre_Retain (m : (ℓ : Loc Cert.Retain.nD Cert.Retain.τ Cert.Retain.sig) → Buf (Elt Bits) ℓ) : Prop :=
  True

def Pre_RetainIdeal (m : (ℓ : Loc Cert.RetainIdeal.nD Cert.RetainIdeal.τ Cert.RetainIdeal.sig) → Buf (Elt Ideal) ℓ) : Prop :=
  True

def Pre_RetainIdeal_finite_pr [hPre_finite_pr : Cert.Pre_finite_pr.Facts] (m : (ℓ : Loc Cert.RetainIdeal.nD Cert.RetainIdeal.τ Cert.RetainIdeal.sig) → Buf (Elt Ideal) ℓ) : Prop :=
  ∀ c : Dev Cert.RetainIdeal.nD,
    (Cert.Pre_finite_pr.fn (F := Ideal) (m ((c.tc : Thread Cert.RetainIdeal.nD Cert.RetainIdeal.τ).loc Cert.RetainIdeal.main_arg0)) (m ((c.tc : Thread Cert.RetainIdeal.nD Cert.RetainIdeal.τ).loc Cert.RetainIdeal.main_arg1)) (m ((c.tc : Thread Cert.RetainIdeal.nD Cert.RetainIdeal.τ).loc Cert.RetainIdeal.main_arg2))) = (fun _ => 1#1)

def Pre_RetainRefIdeal (m : (ℓ : Loc Cert.RetainRefIdeal.nD Cert.RetainRefIdeal.τ Cert.RetainRefIdeal.sig) → Buf (Elt Ideal) ℓ) : Prop :=
  True

def Pre_RetainRefIdeal_finite_pr [hPre_finite_pr : Cert.Pre_finite_pr.Facts] (m : (ℓ : Loc Cert.RetainRefIdeal.nD Cert.RetainRefIdeal.τ Cert.RetainRefIdeal.sig) → Buf (Elt Ideal) ℓ) : Prop :=
  ∀ c : Dev Cert.RetainRefIdeal.nD,
    (Cert.Pre_finite_pr.fn (F := Ideal) (m ((c.tc : Thread Cert.RetainRefIdeal.nD Cert.RetainRefIdeal.τ).loc Cert.RetainRefIdeal.main_arg0)) (m ((c.tc : Thread Cert.RetainRefIdeal.nD Cert.RetainRefIdeal.τ).loc Cert.RetainRefIdeal.main_arg1)) (m ((c.tc : Thread Cert.RetainRefIdeal.nD Cert.RetainRefIdeal.τ).loc Cert.RetainRefIdeal.main_arg2))) = (fun _ => 1#1)

def Pre_Modul (m : (ℓ : Loc Cert.Modul.nD Cert.Modul.τ Cert.Modul.sig) → Buf (Elt Bits) ℓ) : Prop :=
  True

def Pre_ModulIdeal (m : (ℓ : Loc Cert.ModulIdeal.nD Cert.ModulIdeal.τ Cert.ModulIdeal.sig) → Buf (Elt Ideal) ℓ) : Prop :=
  True

def Pre_ModulRefIdeal (m : (ℓ : Loc Cert.ModulRefIdeal.nD Cert.ModulRefIdeal.τ Cert.ModulRefIdeal.sig) → Buf (Elt Ideal) ℓ) : Prop :=
  True

def Pre_Prolog (m : (ℓ : Loc Cert.Prolog.nD Cert.Prolog.τ Cert.Prolog.sig) → Buf (Elt Bits) ℓ) : Prop :=
  True

def Pre_PrologIdeal (m : (ℓ : Loc Cert.PrologIdeal.nD Cert.PrologIdeal.τ Cert.PrologIdeal.sig) → Buf (Elt Ideal) ℓ) : Prop :=
  True

def Pre_PrologRefIdeal (m : (ℓ : Loc Cert.PrologRefIdeal.nD Cert.PrologRefIdeal.τ Cert.PrologRefIdeal.sig) → Buf (Elt Ideal) ℓ) : Prop :=
  True

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishIdeal_finite_y [hPre_finite_y : Cert.Pre_finite_y.Facts] (m : (ℓ : Loc Cert.FinishIdeal.nD Cert.FinishIdeal.τ Cert.FinishIdeal.sig) → Buf (Elt Ideal) ℓ) : Prop :=
  ∀ c : Dev Cert.FinishIdeal.nD,
    (Cert.Pre_finite_y.fn (F := Ideal) (m ((c.tc : Thread Cert.FinishIdeal.nD Cert.FinishIdeal.τ).loc Cert.FinishIdeal.main_arg0)) (m ((c.tc : Thread Cert.FinishIdeal.nD Cert.FinishIdeal.τ).loc Cert.FinishIdeal.main_arg1)) (m ((c.tc : Thread Cert.FinishIdeal.nD Cert.FinishIdeal.τ).loc Cert.FinishIdeal.main_arg2)) (m ((c.tc : Thread Cert.FinishIdeal.nD Cert.FinishIdeal.τ).loc Cert.FinishIdeal.main_arg3)) (m ((c.tc : Thread Cert.FinishIdeal.nD Cert.FinishIdeal.τ).loc Cert.FinishIdeal.main_arg4))) = (fun _ => 1#1)

def Pre_FinishRefIdeal (m : (ℓ : Loc Cert.FinishRefIdeal.nD Cert.FinishRefIdeal.τ Cert.FinishRefIdeal.sig) → Buf (Elt Ideal) ℓ) : Prop :=
  True

def Pre_FinishRefIdeal_finite_y [hPre_finite_y : Cert.Pre_finite_y.Facts] (m : (ℓ : Loc Cert.FinishRefIdeal.nD Cert.FinishRefIdeal.τ Cert.FinishRefIdeal.sig) → Buf (Elt Ideal) ℓ) : Prop :=
  ∀ c : Dev Cert.FinishRefIdeal.nD,
    (Cert.Pre_finite_y.fn (F := Ideal) (m ((c.tc : Thread Cert.FinishRefIdeal.nD Cert.FinishRefIdeal.τ).loc Cert.FinishRefIdeal.main_arg0)) (m ((c.tc : Thread Cert.FinishRefIdeal.nD Cert.FinishRefIdeal.τ).loc Cert.FinishRefIdeal.main_arg1)) (m ((c.tc : Thread Cert.FinishRefIdeal.nD Cert.FinishRefIdeal.τ).loc Cert.FinishRefIdeal.main_arg2)) (m ((c.tc : Thread Cert.FinishRefIdeal.nD Cert.FinishRefIdeal.τ).loc Cert.FinishRefIdeal.main_arg3)) (m ((c.tc : Thread Cert.FinishRefIdeal.nD Cert.FinishRefIdeal.τ).loc Cert.FinishRefIdeal.main_arg4))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4)
      ∧ r.2.mem ((c.tc : Thread Cert.FfnDown.nD Cert.FfnDown.τ).loc Cert.FfnDown.main_arg5) = m ((c.tc : Thread Cert.FfnDown.nD Cert.FfnDown.τ).loc Cert.FfnDown.main_arg5))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
      ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4)
      ∧ r.2.mem ((c.tc : Thread Cert.FfnDownRefIdeal.nD Cert.FfnDownRefIdeal.τ).loc Cert.FfnDownRefIdeal.main_arg5) = m ((c.tc : Thread Cert.FfnDownRefIdeal.nD Cert.FfnDownRefIdeal.τ).loc Cert.FfnDownRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_MlaProj [hMlaProj : Cert.MlaProj.Facts] : Prop :=
  ∀ (m : (ℓ : Loc Cert.MlaProj.nD Cert.MlaProj.τ Cert.MlaProj.sig) → Buf (Elt Bits) ℓ) (g : Dev Cert.MlaProj.nD → PrngReg), Pre_MlaProj m →
    θ_run (Cert.MlaProj.defs (F := Bits)) (onTc (τ := Cert.MlaProj.τ) (Cert.MlaProj.main (F := Bits))) ⟨m, fun _ => 0, g⟩ (fun r => (∀ c : Dev Cert.MlaProj.nD,
      r.2.mem ((c.tc : Thread Cert.MlaProj.nD Cert.MlaProj.τ).loc Cert.MlaProj.main_arg0) = m ((c.tc : Thread Cert.MlaProj.nD Cert.MlaProj.τ).loc Cert.MlaProj.main_arg0)
      ∧ r.2.mem ((c.tc : Thread Cert.MlaProj.nD Cert.MlaProj.τ).loc Cert.MlaProj.main_arg1) = m ((c.tc : Thread Cert.MlaProj.nD Cert.MlaProj.τ).loc Cert.MlaProj.main_arg1)
      ∧ r.2.mem ((c.tc : Thread Cert.MlaProj.nD Cert.MlaProj.τ).loc Cert.MlaProj.main_arg2) = m ((c.tc : Thread Cert.MlaProj.nD Cert.MlaProj.τ).loc Cert.MlaProj.main_arg2)
      ∧ r.2.mem ((c.tc : Thread Cert.MlaProj.nD Cert.MlaProj.τ).loc Cert.MlaProj.main_arg3) = m ((c.tc : Thread Cert.MlaProj.nD Cert.MlaProj.τ).loc Cert.MlaProj.main_arg3)
      ∧ r.2.mem ((c.tc : Thread Cert.MlaProj.nD Cert.MlaProj.τ).loc Cert.MlaProj.main_arg4) = m ((c.tc : Thread Cert.MlaProj.nD Cert.MlaProj.τ).loc Cert.MlaProj.main_arg4))
      ∧ r.2.sem = fun _ => 0)

def quiescent_MlaProjIdeal [hMlaProjIdeal : Cert.MlaProjIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg), Pre_MlaProjIdeal m →
    θ_run (Cert.MlaProjIdeal.defs (F := Ideal)) (onTc (τ := Cert.MlaProjIdeal.τ) (Cert.MlaProjIdeal.main (F := Ideal))) ⟨m, fun _ => 0, g⟩ (fun r => (∀ c : Dev Cert.MlaProjIdeal.nD,
      r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
      ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
      ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
      ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
      ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4))
      ∧ r.2.sem = fun _ => 0)

def quiescent_MlaProjRefIdeal [hMlaProjRefIdeal : Cert.MlaProjRefIdeal.Facts] : Prop :=
  ∀ (m : (ℓ : Loc Cert.MlaProjRefIdeal.nD Cert.MlaProjRefIdeal.τ Cert.MlaProjRefIdeal.sig) → Buf (Elt Ideal) ℓ) (g : Dev Cert.MlaProjRefIdeal.nD → PrngReg), Pre_MlaProjRefIdeal m →
    θ_run (Cert.MlaProjRefIdeal.defs (F := Ideal)) (onTc (τ := Cert.MlaProjRefIdeal.τ) (Cert.MlaProjRefIdeal.main (F := Ideal))) ⟨m, fun _ => 0, g⟩ (fun r => (∀ c : Dev Cert.MlaProjRefIdeal.nD,
      r.2.mem ((c.tc : Thread Cert.MlaProjRefIdeal.nD Cert.MlaProjRefIdeal.τ).loc Cert.MlaProjRefIdeal.main_arg0) = m ((c.tc : Thread Cert.MlaProjRefIdeal.nD Cert.MlaProjRefIdeal.τ).loc Cert.MlaProjRefIdeal.main_arg0)
      ∧ r.2.mem ((c.tc : Thread Cert.MlaProjRefIdeal.nD Cert.MlaProjRefIdeal.τ).loc Cert.MlaProjRefIdeal.main_arg1) = m ((c.tc : Thread Cert.MlaProjRefIdeal.nD Cert.MlaProjRefIdeal.τ).loc Cert.MlaProjRefIdeal.main_arg1)
      ∧ r.2.mem ((c.tc : Thread Cert.MlaProjRefIdeal.nD Cert.MlaProjRefIdeal.τ).loc Cert.MlaProjRefIdeal.main_arg2) = m ((c.tc : Thread Cert.MlaProjRefIdeal.nD Cert.MlaProjRefIdeal.τ).loc Cert.MlaProjRefIdeal.main_arg2)
      ∧ r.2.mem ((c.tc : Thread Cert.MlaProjRefIdeal.nD Cert.MlaProjRefIdeal.τ).loc Cert.MlaProjRefIdeal.main_arg3) = m ((c.tc : Thread Cert.MlaProjRefIdeal.nD Cert.MlaProjRefIdeal.τ).loc Cert.MlaProjRefIdeal.main_arg3)
      ∧ r.2.mem ((c.tc : Thread Cert.MlaProjRefIdeal.nD Cert.MlaProjRefIdeal.τ).loc Cert.MlaProjRefIdeal.main_arg4) = m ((c.tc : Thread Cert.MlaProjRefIdeal.nD Cert.MlaProjRefIdeal.τ).loc Cert.MlaProjRefIdeal.main_arg4))
      ∧ r.2.sem = fun _ => 0)

def quiescent_ConvMix [hConvMix : Cert.ConvMix.Facts] : Prop :=
  ∀ (m : (ℓ : Loc Cert.ConvMix.nD Cert.ConvMix.τ Cert.ConvMix.sig) → Buf (Elt Bits) ℓ) (g : Dev Cert.ConvMix.nD → PrngReg), Pre_ConvMix m →
    θ_run (Cert.ConvMix.defs (F := Bits)) (onTc (τ := Cert.ConvMix.τ) (Cert.ConvMix.main (F := Bits))) ⟨m, fun _ => 0, g⟩ (fun r => (∀ c : Dev Cert.ConvMix.nD,
      r.2.mem ((c.tc : Thread Cert.ConvMix.nD Cert.ConvMix.τ).loc Cert.ConvMix.main_arg0) = m ((c.tc : Thread Cert.ConvMix.nD Cert.ConvMix.τ).loc Cert.ConvMix.main_arg0)
      ∧ r.2.mem ((c.tc : Thread Cert.ConvMix.nD Cert.ConvMix.τ).loc Cert.ConvMix.main_arg1) = m ((c.tc : Thread Cert.ConvMix.nD Cert.ConvMix.τ).loc Cert.ConvMix.main_arg1))
      ∧ r.2.sem = fun _ => 0)

def quiescent_ConvMixIdeal [hConvMixIdeal : Cert.ConvMixIdeal.Facts] : Prop :=
  ∀ (m : (ℓ : Loc Cert.ConvMixIdeal.nD Cert.ConvMixIdeal.τ Cert.ConvMixIdeal.sig) → Buf (Elt Ideal) ℓ) (g : Dev Cert.ConvMixIdeal.nD → PrngReg), Pre_ConvMixIdeal m →
    θ_run (Cert.ConvMixIdeal.defs (F := Ideal)) (onTc (τ := Cert.ConvMixIdeal.τ) (Cert.ConvMixIdeal.main (F := Ideal))) ⟨m, fun _ => 0, g⟩ (fun r => (∀ c : Dev Cert.ConvMixIdeal.nD,
      r.2.mem ((c.tc : Thread Cert.ConvMixIdeal.nD Cert.ConvMixIdeal.τ).loc Cert.ConvMixIdeal.main_arg0) = m ((c.tc : Thread Cert.ConvMixIdeal.nD Cert.ConvMixIdeal.τ).loc Cert.ConvMixIdeal.main_arg0)
      ∧ r.2.mem ((c.tc : Thread Cert.ConvMixIdeal.nD Cert.ConvMixIdeal.τ).loc Cert.ConvMixIdeal.main_arg1) = m ((c.tc : Thread Cert.ConvMixIdeal.nD Cert.ConvMixIdeal.τ).loc Cert.ConvMixIdeal.main_arg1))
      ∧ r.2.sem = fun _ => 0)

def quiescent_ConvMixRefIdeal [hConvMixRefIdeal : Cert.ConvMixRefIdeal.Facts] : Prop :=
  ∀ (m : (ℓ : Loc Cert.ConvMixRefIdeal.nD Cert.ConvMixRefIdeal.τ Cert.ConvMixRefIdeal.sig) → Buf (Elt Ideal) ℓ) (g : Dev Cert.ConvMixRefIdeal.nD → PrngReg), Pre_ConvMixRefIdeal m →
    θ_run (Cert.ConvMixRefIdeal.defs (F := Ideal)) (onTc (τ := Cert.ConvMixRefIdeal.τ) (Cert.ConvMixRefIdeal.main (F := Ideal))) ⟨m, fun _ => 0, g⟩ (fun r => (∀ c : Dev Cert.ConvMixRefIdeal.nD,
      r.2.mem ((c.tc : Thread Cert.ConvMixRefIdeal.nD Cert.ConvMixRefIdeal.τ).loc Cert.ConvMixRefIdeal.main_arg0) = m ((c.tc : Thread Cert.ConvMixRefIdeal.nD Cert.ConvMixRefIdeal.τ).loc Cert.ConvMixRefIdeal.main_arg0)
      ∧ r.2.mem ((c.tc : Thread Cert.ConvMixRefIdeal.nD Cert.ConvMixRefIdeal.τ).loc Cert.ConvMixRefIdeal.main_arg1) = m ((c.tc : Thread Cert.ConvMixRefIdeal.nD Cert.ConvMixRefIdeal.τ).loc Cert.ConvMixRefIdeal.main_arg1))
      ∧ r.2.sem = fun _ => 0)

def quiescent_Retain [hRetain : Cert.Retain.Facts] : Prop :=
  ∀ (m : (ℓ : Loc Cert.Retain.nD Cert.Retain.τ Cert.Retain.sig) → Buf (Elt Bits) ℓ) (g : Dev Cert.Retain.nD → PrngReg), Pre_Retain m →
    θ_run (Cert.Retain.defs (F := Bits)) (onTc (τ := Cert.Retain.τ) (Cert.Retain.main (F := Bits))) ⟨m, fun _ => 0, g⟩ (fun r => (∀ c : Dev Cert.Retain.nD,
      r.2.mem ((c.tc : Thread Cert.Retain.nD Cert.Retain.τ).loc Cert.Retain.main_arg0) = m ((c.tc : Thread Cert.Retain.nD Cert.Retain.τ).loc Cert.Retain.main_arg0)
      ∧ r.2.mem ((c.tc : Thread Cert.Retain.nD Cert.Retain.τ).loc Cert.Retain.main_arg1) = m ((c.tc : Thread Cert.Retain.nD Cert.Retain.τ).loc Cert.Retain.main_arg1)
      ∧ r.2.mem ((c.tc : Thread Cert.Retain.nD Cert.Retain.τ).loc Cert.Retain.main_arg2) = m ((c.tc : Thread Cert.Retain.nD Cert.Retain.τ).loc Cert.Retain.main_arg2))
      ∧ r.2.sem = fun _ => 0)

def quiescent_RetainIdeal [hRetainIdeal : Cert.RetainIdeal.Facts] : Prop :=
  ∀ (m : (ℓ : Loc Cert.RetainIdeal.nD Cert.RetainIdeal.τ Cert.RetainIdeal.sig) → Buf (Elt Ideal) ℓ) (g : Dev Cert.RetainIdeal.nD → PrngReg), Pre_RetainIdeal m →
    θ_run (Cert.RetainIdeal.defs (F := Ideal)) (onTc (τ := Cert.RetainIdeal.τ) (Cert.RetainIdeal.main (F := Ideal))) ⟨m, fun _ => 0, g⟩ (fun r => (∀ c : Dev Cert.RetainIdeal.nD,
      r.2.mem ((c.tc : Thread Cert.RetainIdeal.nD Cert.RetainIdeal.τ).loc Cert.RetainIdeal.main_arg0) = m ((c.tc : Thread Cert.RetainIdeal.nD Cert.RetainIdeal.τ).loc Cert.RetainIdeal.main_arg0)
      ∧ r.2.mem ((c.tc : Thread Cert.RetainIdeal.nD Cert.RetainIdeal.τ).loc Cert.RetainIdeal.main_arg1) = m ((c.tc : Thread Cert.RetainIdeal.nD Cert.RetainIdeal.τ).loc Cert.RetainIdeal.main_arg1)
      ∧ r.2.mem ((c.tc : Thread Cert.RetainIdeal.nD Cert.RetainIdeal.τ).loc Cert.RetainIdeal.main_arg2) = m ((c.tc : Thread Cert.RetainIdeal.nD Cert.RetainIdeal.τ).loc Cert.RetainIdeal.main_arg2))
      ∧ r.2.sem = fun _ => 0)

def quiescent_RetainIdeal_pre_finite_pr [hRetainIdeal : Cert.RetainIdeal.Facts] [hPre_finite_pr : Cert.Pre_finite_pr.Facts] : Prop :=
  ∀ (m : (ℓ : Loc Cert.RetainIdeal.nD Cert.RetainIdeal.τ Cert.RetainIdeal.sig) → Buf (Elt Ideal) ℓ) (g : Dev Cert.RetainIdeal.nD → PrngReg), Pre_RetainIdeal_finite_pr m →
    θ_run (Cert.RetainIdeal.defs (F := Ideal)) (onTc (τ := Cert.RetainIdeal.τ) (Cert.RetainIdeal.main (F := Ideal))) ⟨m, fun _ => 0, g⟩ (fun r => (∀ c : Dev Cert.RetainIdeal.nD,
      r.2.mem ((c.tc : Thread Cert.RetainIdeal.nD Cert.RetainIdeal.τ).loc Cert.RetainIdeal.main_arg0) = m ((c.tc : Thread Cert.RetainIdeal.nD Cert.RetainIdeal.τ).loc Cert.RetainIdeal.main_arg0)
      ∧ r.2.mem ((c.tc : Thread Cert.RetainIdeal.nD Cert.RetainIdeal.τ).loc Cert.RetainIdeal.main_arg1) = m ((c.tc : Thread Cert.RetainIdeal.nD Cert.RetainIdeal.τ).loc Cert.RetainIdeal.main_arg1)
      ∧ r.2.mem ((c.tc : Thread Cert.RetainIdeal.nD Cert.RetainIdeal.τ).loc Cert.RetainIdeal.main_arg2) = m ((c.tc : Thread Cert.RetainIdeal.nD Cert.RetainIdeal.τ).loc Cert.RetainIdeal.main_arg2))
      ∧ r.2.sem = fun _ => 0)

def quiescent_RetainRefIdeal [hRetainRefIdeal : Cert.RetainRefIdeal.Facts] : Prop :=
  ∀ (m : (ℓ : Loc Cert.RetainRefIdeal.nD Cert.RetainRefIdeal.τ Cert.RetainRefIdeal.sig) → Buf (Elt Ideal) ℓ) (g : Dev Cert.RetainRefIdeal.nD → PrngReg), Pre_RetainRefIdeal m →
    θ_run (Cert.RetainRefIdeal.defs (F := Ideal)) (onTc (τ := Cert.RetainRefIdeal.τ) (Cert.RetainRefIdeal.main (F := Ideal))) ⟨m, fun _ => 0, g⟩ (fun r => (∀ c : Dev Cert.RetainRefIdeal.nD,
      r.2.mem ((c.tc : Thread Cert.RetainRefIdeal.nD Cert.RetainRefIdeal.τ).loc Cert.RetainRefIdeal.main_arg0) = m ((c.tc : Thread Cert.RetainRefIdeal.nD Cert.RetainRefIdeal.τ).loc Cert.RetainRefIdeal.main_arg0)
      ∧ r.2.mem ((c.tc : Thread Cert.RetainRefIdeal.nD Cert.RetainRefIdeal.τ).loc Cert.RetainRefIdeal.main_arg1) = m ((c.tc : Thread Cert.RetainRefIdeal.nD Cert.RetainRefIdeal.τ).loc Cert.RetainRefIdeal.main_arg1)
      ∧ r.2.mem ((c.tc : Thread Cert.RetainRefIdeal.nD Cert.RetainRefIdeal.τ).loc Cert.RetainRefIdeal.main_arg2) = m ((c.tc : Thread Cert.RetainRefIdeal.nD Cert.RetainRefIdeal.τ).loc Cert.RetainRefIdeal.main_arg2))
      ∧ r.2.sem = fun _ => 0)

def quiescent_RetainRefIdeal_pre_finite_pr [hRetainRefIdeal : Cert.RetainRefIdeal.Facts] [hPre_finite_pr : Cert.Pre_finite_pr.Facts] : Prop :=
  ∀ (m : (ℓ : Loc Cert.RetainRefIdeal.nD Cert.RetainRefIdeal.τ Cert.RetainRefIdeal.sig) → Buf (Elt Ideal) ℓ) (g : Dev Cert.RetainRefIdeal.nD → PrngReg), Pre_RetainRefIdeal_finite_pr m →
    θ_run (Cert.RetainRefIdeal.defs (F := Ideal)) (onTc (τ := Cert.RetainRefIdeal.τ) (Cert.RetainRefIdeal.main (F := Ideal))) ⟨m, fun _ => 0, g⟩ (fun r => (∀ c : Dev Cert.RetainRefIdeal.nD,
      r.2.mem ((c.tc : Thread Cert.RetainRefIdeal.nD Cert.RetainRefIdeal.τ).loc Cert.RetainRefIdeal.main_arg0) = m ((c.tc : Thread Cert.RetainRefIdeal.nD Cert.RetainRefIdeal.τ).loc Cert.RetainRefIdeal.main_arg0)
      ∧ r.2.mem ((c.tc : Thread Cert.RetainRefIdeal.nD Cert.RetainRefIdeal.τ).loc Cert.RetainRefIdeal.main_arg1) = m ((c.tc : Thread Cert.RetainRefIdeal.nD Cert.RetainRefIdeal.τ).loc Cert.RetainRefIdeal.main_arg1)
      ∧ r.2.mem ((c.tc : Thread Cert.RetainRefIdeal.nD Cert.RetainRefIdeal.τ).loc Cert.RetainRefIdeal.main_arg2) = m ((c.tc : Thread Cert.RetainRefIdeal.nD Cert.RetainRefIdeal.τ).loc Cert.RetainRefIdeal.main_arg2))
      ∧ r.2.sem = fun _ => 0)

def quiescent_Modul [hModul : Cert.Modul.Facts] : Prop :=
  ∀ (m : (ℓ : Loc Cert.Modul.nD Cert.Modul.τ Cert.Modul.sig) → Buf (Elt Bits) ℓ) (g : Dev Cert.Modul.nD → PrngReg), Pre_Modul m →
    θ_run (Cert.Modul.defs (F := Bits)) (onTc (τ := Cert.Modul.τ) (Cert.Modul.main (F := Bits))) ⟨m, fun _ => 0, g⟩ (fun r => (∀ c : Dev Cert.Modul.nD,
      r.2.mem ((c.tc : Thread Cert.Modul.nD Cert.Modul.τ).loc Cert.Modul.main_arg0) = m ((c.tc : Thread Cert.Modul.nD Cert.Modul.τ).loc Cert.Modul.main_arg0)
      ∧ r.2.mem ((c.tc : Thread Cert.Modul.nD Cert.Modul.τ).loc Cert.Modul.main_arg1) = m ((c.tc : Thread Cert.Modul.nD Cert.Modul.τ).loc Cert.Modul.main_arg1)
      ∧ r.2.mem ((c.tc : Thread Cert.Modul.nD Cert.Modul.τ).loc Cert.Modul.main_arg2) = m ((c.tc : Thread Cert.Modul.nD Cert.Modul.τ).loc Cert.Modul.main_arg2)
      ∧ r.2.mem ((c.tc : Thread Cert.Modul.nD Cert.Modul.τ).loc Cert.Modul.main_arg3) = m ((c.tc : Thread Cert.Modul.nD Cert.Modul.τ).loc Cert.Modul.main_arg3))
      ∧ r.2.sem = fun _ => 0)

def quiescent_ModulIdeal [hModulIdeal : Cert.ModulIdeal.Facts] : Prop :=
  ∀ (m : (ℓ : Loc Cert.ModulIdeal.nD Cert.ModulIdeal.τ Cert.ModulIdeal.sig) → Buf (Elt Ideal) ℓ) (g : Dev Cert.ModulIdeal.nD → PrngReg), Pre_ModulIdeal m →
    θ_run (Cert.ModulIdeal.defs (F := Ideal)) (onTc (τ := Cert.ModulIdeal.τ) (Cert.ModulIdeal.main (F := Ideal))) ⟨m, fun _ => 0, g⟩ (fun r => (∀ c : Dev Cert.ModulIdeal.nD,
      r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
      ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
      ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2)
      ∧ r.2.mem ((c.tc : Thread Cert.ModulIdeal.nD Cert.ModulIdeal.τ).loc Cert.ModulIdeal.main_arg3) = m ((c.tc : Thread Cert.ModulIdeal.nD Cert.ModulIdeal.τ).loc Cert.ModulIdeal.main_arg3))
      ∧ r.2.sem = fun _ => 0)

def quiescent_ModulRefIdeal [hModulRefIdeal : Cert.ModulRefIdeal.Facts] : Prop :=
  ∀ (m : (ℓ : Loc Cert.ModulRefIdeal.nD Cert.ModulRefIdeal.τ Cert.ModulRefIdeal.sig) → Buf (Elt Ideal) ℓ) (g : Dev Cert.ModulRefIdeal.nD → PrngReg), Pre_ModulRefIdeal m →
    θ_run (Cert.ModulRefIdeal.defs (F := Ideal)) (onTc (τ := Cert.ModulRefIdeal.τ) (Cert.ModulRefIdeal.main (F := Ideal))) ⟨m, fun _ => 0, g⟩ (fun r => (∀ c : Dev Cert.ModulRefIdeal.nD,
      r.2.mem ((c.tc : Thread Cert.ModulRefIdeal.nD Cert.ModulRefIdeal.τ).loc Cert.ModulRefIdeal.main_arg0) = m ((c.tc : Thread Cert.ModulRefIdeal.nD Cert.ModulRefIdeal.τ).loc Cert.ModulRefIdeal.main_arg0)
      ∧ r.2.mem ((c.tc : Thread Cert.ModulRefIdeal.nD Cert.ModulRefIdeal.τ).loc Cert.ModulRefIdeal.main_arg1) = m ((c.tc : Thread Cert.ModulRefIdeal.nD Cert.ModulRefIdeal.τ).loc Cert.ModulRefIdeal.main_arg1)
      ∧ r.2.mem ((c.tc : Thread Cert.ModulRefIdeal.nD Cert.ModulRefIdeal.τ).loc Cert.ModulRefIdeal.main_arg2) = m ((c.tc : Thread Cert.ModulRefIdeal.nD Cert.ModulRefIdeal.τ).loc Cert.ModulRefIdeal.main_arg2)
      ∧ r.2.mem ((c.tc : Thread Cert.ModulRefIdeal.nD Cert.ModulRefIdeal.τ).loc Cert.ModulRefIdeal.main_arg3) = m ((c.tc : Thread Cert.ModulRefIdeal.nD Cert.ModulRefIdeal.τ).loc Cert.ModulRefIdeal.main_arg3))
      ∧ r.2.sem = fun _ => 0)

def quiescent_Prolog [hProlog : Cert.Prolog.Facts] : Prop :=
  ∀ (m : (ℓ : Loc Cert.Prolog.nD Cert.Prolog.τ Cert.Prolog.sig) → Buf (Elt Bits) ℓ) (g : Dev Cert.Prolog.nD → PrngReg), Pre_Prolog m →
    θ_run (Cert.Prolog.defs (F := Bits)) (onTc (τ := Cert.Prolog.τ) (Cert.Prolog.main (F := Bits))) ⟨m, fun _ => 0, g⟩ (fun r => (∀ c : Dev Cert.Prolog.nD,
      r.2.mem ((c.tc : Thread Cert.Prolog.nD Cert.Prolog.τ).loc Cert.Prolog.main_arg0) = m ((c.tc : Thread Cert.Prolog.nD Cert.Prolog.τ).loc Cert.Prolog.main_arg0)
      ∧ r.2.mem ((c.tc : Thread Cert.Prolog.nD Cert.Prolog.τ).loc Cert.Prolog.main_arg1) = m ((c.tc : Thread Cert.Prolog.nD Cert.Prolog.τ).loc Cert.Prolog.main_arg1)
      ∧ r.2.mem ((c.tc : Thread Cert.Prolog.nD Cert.Prolog.τ).loc Cert.Prolog.main_arg2) = m ((c.tc : Thread Cert.Prolog.nD Cert.Prolog.τ).loc Cert.Prolog.main_arg2)
      ∧ r.2.mem ((c.tc : Thread Cert.Prolog.nD Cert.Prolog.τ).loc Cert.Prolog.main_arg3) = m ((c.tc : Thread Cert.Prolog.nD Cert.Prolog.τ).loc Cert.Prolog.main_arg3)
      ∧ r.2.mem ((c.tc : Thread Cert.Prolog.nD Cert.Prolog.τ).loc Cert.Prolog.main_arg4) = m ((c.tc : Thread Cert.Prolog.nD Cert.Prolog.τ).loc Cert.Prolog.main_arg4))
      ∧ r.2.sem = fun _ => 0)

def quiescent_PrologIdeal [hPrologIdeal : Cert.PrologIdeal.Facts] : Prop :=
  ∀ (m : (ℓ : Loc Cert.PrologIdeal.nD Cert.PrologIdeal.τ Cert.PrologIdeal.sig) → Buf (Elt Ideal) ℓ) (g : Dev Cert.PrologIdeal.nD → PrngReg), Pre_PrologIdeal m →
    θ_run (Cert.PrologIdeal.defs (F := Ideal)) (onTc (τ := Cert.PrologIdeal.τ) (Cert.PrologIdeal.main (F := Ideal))) ⟨m, fun _ => 0, g⟩ (fun r => (∀ c : Dev Cert.PrologIdeal.nD,
      r.2.mem ((c.tc : Thread Cert.PrologIdeal.nD Cert.PrologIdeal.τ).loc Cert.PrologIdeal.main_arg0) = m ((c.tc : Thread Cert.PrologIdeal.nD Cert.PrologIdeal.τ).loc Cert.PrologIdeal.main_arg0)
      ∧ r.2.mem ((c.tc : Thread Cert.PrologIdeal.nD Cert.PrologIdeal.τ).loc Cert.PrologIdeal.main_arg1) = m ((c.tc : Thread Cert.PrologIdeal.nD Cert.PrologIdeal.τ).loc Cert.PrologIdeal.main_arg1)
      ∧ r.2.mem ((c.tc : Thread Cert.PrologIdeal.nD Cert.PrologIdeal.τ).loc Cert.PrologIdeal.main_arg2) = m ((c.tc : Thread Cert.PrologIdeal.nD Cert.PrologIdeal.τ).loc Cert.PrologIdeal.main_arg2)
      ∧ r.2.mem ((c.tc : Thread Cert.PrologIdeal.nD Cert.PrologIdeal.τ).loc Cert.PrologIdeal.main_arg3) = m ((c.tc : Thread Cert.PrologIdeal.nD Cert.PrologIdeal.τ).loc Cert.PrologIdeal.main_arg3)
      ∧ r.2.mem ((c.tc : Thread Cert.PrologIdeal.nD Cert.PrologIdeal.τ).loc Cert.PrologIdeal.main_arg4) = m ((c.tc : Thread Cert.PrologIdeal.nD Cert.PrologIdeal.τ).loc Cert.PrologIdeal.main_arg4))
      ∧ r.2.sem = fun _ => 0)

def quiescent_PrologRefIdeal [hPrologRefIdeal : Cert.PrologRefIdeal.Facts] : Prop :=
  ∀ (m : (ℓ : Loc Cert.PrologRefIdeal.nD Cert.PrologRefIdeal.τ Cert.PrologRefIdeal.sig) → Buf (Elt Ideal) ℓ) (g : Dev Cert.PrologRefIdeal.nD → PrngReg), Pre_PrologRefIdeal m →
    θ_run (Cert.PrologRefIdeal.defs (F := Ideal)) (onTc (τ := Cert.PrologRefIdeal.τ) (Cert.PrologRefIdeal.main (F := Ideal))) ⟨m, fun _ => 0, g⟩ (fun r => (∀ c : Dev Cert.PrologRefIdeal.nD,
      r.2.mem ((c.tc : Thread Cert.PrologRefIdeal.nD Cert.PrologRefIdeal.τ).loc Cert.PrologRefIdeal.main_arg0) = m ((c.tc : Thread Cert.PrologRefIdeal.nD Cert.PrologRefIdeal.τ).loc Cert.PrologRefIdeal.main_arg0)
      ∧ r.2.mem ((c.tc : Thread Cert.PrologRefIdeal.nD Cert.PrologRefIdeal.τ).loc Cert.PrologRefIdeal.main_arg1) = m ((c.tc : Thread Cert.PrologRefIdeal.nD Cert.PrologRefIdeal.τ).loc Cert.PrologRefIdeal.main_arg1)
      ∧ r.2.mem ((c.tc : Thread Cert.PrologRefIdeal.nD Cert.PrologRefIdeal.τ).loc Cert.PrologRefIdeal.main_arg2) = m ((c.tc : Thread Cert.PrologRefIdeal.nD Cert.PrologRefIdeal.τ).loc Cert.PrologRefIdeal.main_arg2)
      ∧ r.2.mem ((c.tc : Thread Cert.PrologRefIdeal.nD Cert.PrologRefIdeal.τ).loc Cert.PrologRefIdeal.main_arg3) = m ((c.tc : Thread Cert.PrologRefIdeal.nD Cert.PrologRefIdeal.τ).loc Cert.PrologRefIdeal.main_arg3)
      ∧ r.2.mem ((c.tc : Thread Cert.PrologRefIdeal.nD Cert.PrologRefIdeal.τ).loc Cert.PrologRefIdeal.main_arg4) = m ((c.tc : Thread Cert.PrologRefIdeal.nD Cert.PrologRefIdeal.τ).loc Cert.PrologRefIdeal.main_arg4))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4))
      ∧ r.2.sem = fun _ => 0)

def quiescent_FinishIdeal_pre_finite_y [hFinishIdeal : Cert.FinishIdeal.Facts] [hPre_finite_y : Cert.Pre_finite_y.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal_finite_y m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4))
      ∧ r.2.sem = fun _ => 0)

def quiescent_FinishRefIdeal [hFinishRefIdeal : Cert.FinishRefIdeal.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1)
      ∧ r.2.mem ((c.tc : Thread Cert.FinishRefIdeal.nD Cert.FinishRefIdeal.τ).loc Cert.FinishRefIdeal.main_arg2) = m ((c.tc : Thread Cert.FinishRefIdeal.nD Cert.FinishRefIdeal.τ).loc Cert.FinishRefIdeal.main_arg2)
      ∧ r.2.mem ((c.tc : Thread Cert.FinishRefIdeal.nD Cert.FinishRefIdeal.τ).loc Cert.FinishRefIdeal.main_arg3) = m ((c.tc : Thread Cert.FinishRefIdeal.nD Cert.FinishRefIdeal.τ).loc Cert.FinishRefIdeal.main_arg3)
      ∧ r.2.mem ((c.tc : Thread Cert.FinishRefIdeal.nD Cert.FinishRefIdeal.τ).loc Cert.FinishRefIdeal.main_arg4) = m ((c.tc : Thread Cert.FinishRefIdeal.nD Cert.FinishRefIdeal.τ).loc Cert.FinishRefIdeal.main_arg4))
      ∧ r.2.sem = fun _ => 0)

def quiescent_FinishRefIdeal_pre_finite_y [hFinishRefIdeal : Cert.FinishRefIdeal.Facts] [hPre_finite_y : Cert.Pre_finite_y.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal_finite_y m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1)
      ∧ r.2.mem ((c.tc : Thread Cert.FinishRefIdeal.nD Cert.FinishRefIdeal.τ).loc Cert.FinishRefIdeal.main_arg2) = m ((c.tc : Thread Cert.FinishRefIdeal.nD Cert.FinishRefIdeal.τ).loc Cert.FinishRefIdeal.main_arg2)
      ∧ r.2.mem ((c.tc : Thread Cert.FinishRefIdeal.nD Cert.FinishRefIdeal.τ).loc Cert.FinishRefIdeal.main_arg3) = m ((c.tc : Thread Cert.FinishRefIdeal.nD Cert.FinishRefIdeal.τ).loc Cert.FinishRefIdeal.main_arg3)
      ∧ r.2.mem ((c.tc : Thread Cert.FinishRefIdeal.nD Cert.FinishRefIdeal.τ).loc Cert.FinishRefIdeal.main_arg4) = m ((c.tc : Thread Cert.FinishRefIdeal.nD Cert.FinishRefIdeal.τ).loc Cert.FinishRefIdeal.main_arg4))
      ∧ r.2.sem = fun _ => 0)

def preserves_Attn_AttnIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v58) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v66) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)
      ∧ m' ((c.tc : Thread Cert.FfnDownRefIdeal.nD Cert.FfnDownRefIdeal.τ).loc Cert.FfnDownRefIdeal.main_arg5) = m ((c.tc : Thread Cert.FfnDownIdeal.nD Cert.FfnDownIdeal.τ).loc Cert.FfnDownIdeal.main_arg5)) →
    ∃ (v0 : (c : Dev Cert.FfnDownIdeal.nD) → Buf (Elt Ideal) ((c.tc : Thread Cert.FfnDownIdeal.nD Cert.FfnDownIdeal.τ).loc Cert.FfnDownIdeal.main_v0_0)) (v1 : (c : Dev Cert.FfnDownIdeal.nD) → Buf (Elt Ideal) ((c.tc : Thread Cert.FfnDownIdeal.nD Cert.FfnDownIdeal.τ).loc Cert.FfnDownIdeal.main_v0_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0_0) = v0 c
          ∧ r.2.mem ((c.tc : Thread Cert.FfnDownIdeal.nD Cert.FfnDownIdeal.τ).loc Cert.FfnDownIdeal.main_v0_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
          ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v106) = v0 c
          ∧ r.2.mem ((c.tc : Thread Cert.FfnDownRefIdeal.nD Cert.FfnDownRefIdeal.τ).loc Cert.FfnDownRefIdeal.main_v109) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4)
          ∧ r.2.mem ((c.tc : Thread Cert.FfnDownRefIdeal.nD Cert.FfnDownRefIdeal.τ).loc Cert.FfnDownRefIdeal.main_arg5) = m' ((c.tc : Thread Cert.FfnDownRefIdeal.nD Cert.FfnDownRefIdeal.τ).loc Cert.FfnDownRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v107) = v0 c
          ∧ r.2.mem ((c.tc : Thread Cert.OutProjRefIdeal.nD Cert.OutProjRefIdeal.τ).loc Cert.OutProjRefIdeal.main_v110) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_MlaProj_MlaProjIdeal : Prop :=
  IdealRules.named_const.Statement Cert.MlaProjIdeal.κ "logit_scale" .f32 0x3DD53B95#32 ((((Real.sqrt 192) * (Real.log 2))⁻¹ : ℝ) : EReal)

def algebraic_MlaProjIdeal_MlaProjRefIdeal [hMlaProjIdeal : Cert.MlaProjIdeal.Facts] [hMlaProjRefIdeal : Cert.MlaProjRefIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg)
    (m' : (ℓ : Loc Cert.MlaProjRefIdeal.nD Cert.MlaProjRefIdeal.τ Cert.MlaProjRefIdeal.sig) → Buf (Elt Ideal) ℓ) (g' : Dev Cert.MlaProjRefIdeal.nD → PrngReg), Pre_MlaProjIdeal m →
    (∀ c : Dev Cert.MlaProjIdeal.nD,
      m' ((c.tc : Thread Cert.MlaProjRefIdeal.nD Cert.MlaProjRefIdeal.τ).loc Cert.MlaProjRefIdeal.main_arg0) = m ((c.tc : Thread Cert.MlaProjIdeal.nD Cert.MlaProjIdeal.τ).loc Cert.MlaProjIdeal.main_arg0)
      ∧ m' ((c.tc : Thread Cert.MlaProjRefIdeal.nD Cert.MlaProjRefIdeal.τ).loc Cert.MlaProjRefIdeal.main_arg1) = m ((c.tc : Thread Cert.MlaProjIdeal.nD Cert.MlaProjIdeal.τ).loc Cert.MlaProjIdeal.main_arg1)
      ∧ m' ((c.tc : Thread Cert.MlaProjRefIdeal.nD Cert.MlaProjRefIdeal.τ).loc Cert.MlaProjRefIdeal.main_arg2) = m ((c.tc : Thread Cert.MlaProjIdeal.nD Cert.MlaProjIdeal.τ).loc Cert.MlaProjIdeal.main_arg2)
      ∧ m' ((c.tc : Thread Cert.MlaProjRefIdeal.nD Cert.MlaProjRefIdeal.τ).loc Cert.MlaProjRefIdeal.main_arg3) = m ((c.tc : Thread Cert.MlaProjIdeal.nD Cert.MlaProjIdeal.τ).loc Cert.MlaProjIdeal.main_arg3)
      ∧ m' ((c.tc : Thread Cert.MlaProjRefIdeal.nD Cert.MlaProjRefIdeal.τ).loc Cert.MlaProjRefIdeal.main_arg4) = m ((c.tc : Thread Cert.MlaProjIdeal.nD Cert.MlaProjIdeal.τ).loc Cert.MlaProjIdeal.main_arg4)) →
    ∃ (v0 : (c : Dev Cert.MlaProjIdeal.nD) → Buf (Elt Ideal) ((c.tc : Thread Cert.MlaProjIdeal.nD Cert.MlaProjIdeal.τ).loc Cert.MlaProjIdeal.main_v80_0)) (v1 : (c : Dev Cert.MlaProjIdeal.nD) → Buf (Elt Ideal) ((c.tc : Thread Cert.MlaProjIdeal.nD Cert.MlaProjIdeal.τ).loc Cert.MlaProjIdeal.main_v80_1)) (v2 : (c : Dev Cert.MlaProjIdeal.nD) → Buf (Elt Ideal) ((c.tc : Thread Cert.MlaProjIdeal.nD Cert.MlaProjIdeal.τ).loc Cert.MlaProjIdeal.main_v80_2)),
      θ_run (Cert.MlaProjIdeal.defs (F := Ideal)) (onTc (τ := Cert.MlaProjIdeal.τ) (Cert.MlaProjIdeal.main (F := Ideal))) ⟨m, fun _ => 0, g⟩ (fun r => ∀ c : Dev Cert.MlaProjIdeal.nD,
          r.2.mem ((c.tc : Thread Cert.MlaProjIdeal.nD Cert.MlaProjIdeal.τ).loc Cert.MlaProjIdeal.main_v80_0) = v0 c
          ∧ r.2.mem ((c.tc : Thread Cert.MlaProjIdeal.nD Cert.MlaProjIdeal.τ).loc Cert.MlaProjIdeal.main_v80_1) = v1 c
          ∧ r.2.mem ((c.tc : Thread Cert.MlaProjIdeal.nD Cert.MlaProjIdeal.τ).loc Cert.MlaProjIdeal.main_v80_2) = v2 c
          ∧ r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
          ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
          ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
          ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
          ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4))
      ∧ θ_run (Cert.MlaProjRefIdeal.defs (F := Ideal)) (onTc (τ := Cert.MlaProjRefIdeal.τ) (Cert.MlaProjRefIdeal.main (F := Ideal))) ⟨m', fun _ => 0, g'⟩ (fun r => ∀ c : Dev Cert.MlaProjRefIdeal.nD,
          r.2.mem ((c.tc : Thread Cert.MlaProjRefIdeal.nD Cert.MlaProjRefIdeal.τ).loc Cert.MlaProjRefIdeal.main_v214) = v0 c
          ∧ r.2.mem ((c.tc : Thread Cert.MlaProjRefIdeal.nD Cert.MlaProjRefIdeal.τ).loc Cert.MlaProjRefIdeal.main_v217) = v1 c
          ∧ r.2.mem ((c.tc : Thread Cert.MlaProjRefIdeal.nD Cert.MlaProjRefIdeal.τ).loc Cert.MlaProjRefIdeal.main_v220) = v2 c
          ∧ r.2.mem ((c.tc : Thread Cert.MlaProjRefIdeal.nD Cert.MlaProjRefIdeal.τ).loc Cert.MlaProjRefIdeal.main_arg0) = m' ((c.tc : Thread Cert.MlaProjRefIdeal.nD Cert.MlaProjRefIdeal.τ).loc Cert.MlaProjRefIdeal.main_arg0)
          ∧ r.2.mem ((c.tc : Thread Cert.MlaProjRefIdeal.nD Cert.MlaProjRefIdeal.τ).loc Cert.MlaProjRefIdeal.main_arg1) = m' ((c.tc : Thread Cert.MlaProjRefIdeal.nD Cert.MlaProjRefIdeal.τ).loc Cert.MlaProjRefIdeal.main_arg1)
          ∧ r.2.mem ((c.tc : Thread Cert.MlaProjRefIdeal.nD Cert.MlaProjRefIdeal.τ).loc Cert.MlaProjRefIdeal.main_arg2) = m' ((c.tc : Thread Cert.MlaProjRefIdeal.nD Cert.MlaProjRefIdeal.τ).loc Cert.MlaProjRefIdeal.main_arg2)
          ∧ r.2.mem ((c.tc : Thread Cert.MlaProjRefIdeal.nD Cert.MlaProjRefIdeal.τ).loc Cert.MlaProjRefIdeal.main_arg3) = m' ((c.tc : Thread Cert.MlaProjRefIdeal.nD Cert.MlaProjRefIdeal.τ).loc Cert.MlaProjRefIdeal.main_arg3)
          ∧ r.2.mem ((c.tc : Thread Cert.MlaProjRefIdeal.nD Cert.MlaProjRefIdeal.τ).loc Cert.MlaProjRefIdeal.main_arg4) = m' ((c.tc : Thread Cert.MlaProjRefIdeal.nD Cert.MlaProjRefIdeal.τ).loc Cert.MlaProjRefIdeal.main_arg4))

def preserves_ConvMix_ConvMixIdeal : Prop :=
  True

def algebraic_ConvMixIdeal_ConvMixRefIdeal [hConvMixIdeal : Cert.ConvMixIdeal.Facts] [hConvMixRefIdeal : Cert.ConvMixRefIdeal.Facts] : Prop :=
  ∀ (m : (ℓ : Loc Cert.ConvMixIdeal.nD Cert.ConvMixIdeal.τ Cert.ConvMixIdeal.sig) → Buf (Elt Ideal) ℓ) (g : Dev Cert.ConvMixIdeal.nD → PrngReg)
    (m' : (ℓ : Loc Cert.ConvMixRefIdeal.nD Cert.ConvMixRefIdeal.τ Cert.ConvMixRefIdeal.sig) → Buf (Elt Ideal) ℓ) (g' : Dev Cert.ConvMixRefIdeal.nD → PrngReg), Pre_ConvMixIdeal m →
    (∀ c : Dev Cert.ConvMixIdeal.nD,
      m' ((c.tc : Thread Cert.ConvMixRefIdeal.nD Cert.ConvMixRefIdeal.τ).loc Cert.ConvMixRefIdeal.main_arg0) = m ((c.tc : Thread Cert.ConvMixIdeal.nD Cert.ConvMixIdeal.τ).loc Cert.ConvMixIdeal.main_arg0)
      ∧ m' ((c.tc : Thread Cert.ConvMixRefIdeal.nD Cert.ConvMixRefIdeal.τ).loc Cert.ConvMixRefIdeal.main_arg1) = m ((c.tc : Thread Cert.ConvMixIdeal.nD Cert.ConvMixIdeal.τ).loc Cert.ConvMixIdeal.main_arg1)) →
    ∃ (v0 : (c : Dev Cert.ConvMixIdeal.nD) → Buf (Elt Ideal) ((c.tc : Thread Cert.ConvMixIdeal.nD Cert.ConvMixIdeal.τ).loc Cert.ConvMixIdeal.main_v0)),
      θ_run (Cert.ConvMixIdeal.defs (F := Ideal)) (onTc (τ := Cert.ConvMixIdeal.τ) (Cert.ConvMixIdeal.main (F := Ideal))) ⟨m, fun _ => 0, g⟩ (fun r => ∀ c : Dev Cert.ConvMixIdeal.nD,
          r.2.mem ((c.tc : Thread Cert.ConvMixIdeal.nD Cert.ConvMixIdeal.τ).loc Cert.ConvMixIdeal.main_v0) = v0 c
          ∧ r.2.mem ((c.tc : Thread Cert.ConvMixIdeal.nD Cert.ConvMixIdeal.τ).loc Cert.ConvMixIdeal.main_arg0) = m ((c.tc : Thread Cert.ConvMixIdeal.nD Cert.ConvMixIdeal.τ).loc Cert.ConvMixIdeal.main_arg0)
          ∧ r.2.mem ((c.tc : Thread Cert.ConvMixIdeal.nD Cert.ConvMixIdeal.τ).loc Cert.ConvMixIdeal.main_arg1) = m ((c.tc : Thread Cert.ConvMixIdeal.nD Cert.ConvMixIdeal.τ).loc Cert.ConvMixIdeal.main_arg1))
      ∧ θ_run (Cert.ConvMixRefIdeal.defs (F := Ideal)) (onTc (τ := Cert.ConvMixRefIdeal.τ) (Cert.ConvMixRefIdeal.main (F := Ideal))) ⟨m', fun _ => 0, g'⟩ (fun r => ∀ c : Dev Cert.ConvMixRefIdeal.nD,
          r.2.mem ((c.tc : Thread Cert.ConvMixRefIdeal.nD Cert.ConvMixRefIdeal.τ).loc Cert.ConvMixRefIdeal.main_v58) = v0 c
          ∧ r.2.mem ((c.tc : Thread Cert.ConvMixRefIdeal.nD Cert.ConvMixRefIdeal.τ).loc Cert.ConvMixRefIdeal.main_arg0) = m' ((c.tc : Thread Cert.ConvMixRefIdeal.nD Cert.ConvMixRefIdeal.τ).loc Cert.ConvMixRefIdeal.main_arg0)
          ∧ r.2.mem ((c.tc : Thread Cert.ConvMixRefIdeal.nD Cert.ConvMixRefIdeal.τ).loc Cert.ConvMixRefIdeal.main_arg1) = m' ((c.tc : Thread Cert.ConvMixRefIdeal.nD Cert.ConvMixRefIdeal.τ).loc Cert.ConvMixRefIdeal.main_arg1))

def preserves_Retain_RetainIdeal : Prop :=
  True

def algebraic_RetainIdeal_RetainRefIdeal_pre_finite_pr [hRetainIdeal : Cert.RetainIdeal.Facts] [hRetainRefIdeal : Cert.RetainRefIdeal.Facts] [hPre_finite_pr : Cert.Pre_finite_pr.Facts] : Prop :=
  ∀ (m : (ℓ : Loc Cert.RetainIdeal.nD Cert.RetainIdeal.τ Cert.RetainIdeal.sig) → Buf (Elt Ideal) ℓ) (g : Dev Cert.RetainIdeal.nD → PrngReg)
    (m' : (ℓ : Loc Cert.RetainRefIdeal.nD Cert.RetainRefIdeal.τ Cert.RetainRefIdeal.sig) → Buf (Elt Ideal) ℓ) (g' : Dev Cert.RetainRefIdeal.nD → PrngReg), Pre_RetainIdeal_finite_pr m →
    (∀ c : Dev Cert.RetainIdeal.nD,
      m' ((c.tc : Thread Cert.RetainRefIdeal.nD Cert.RetainRefIdeal.τ).loc Cert.RetainRefIdeal.main_arg0) = m ((c.tc : Thread Cert.RetainIdeal.nD Cert.RetainIdeal.τ).loc Cert.RetainIdeal.main_arg0)
      ∧ m' ((c.tc : Thread Cert.RetainRefIdeal.nD Cert.RetainRefIdeal.τ).loc Cert.RetainRefIdeal.main_arg1) = m ((c.tc : Thread Cert.RetainIdeal.nD Cert.RetainIdeal.τ).loc Cert.RetainIdeal.main_arg1)
      ∧ m' ((c.tc : Thread Cert.RetainRefIdeal.nD Cert.RetainRefIdeal.τ).loc Cert.RetainRefIdeal.main_arg2) = m ((c.tc : Thread Cert.RetainIdeal.nD Cert.RetainIdeal.τ).loc Cert.RetainIdeal.main_arg2)) →
    ∃ (v0 : (c : Dev Cert.RetainIdeal.nD) → Buf (Elt Ideal) ((c.tc : Thread Cert.RetainIdeal.nD Cert.RetainIdeal.τ).loc Cert.RetainIdeal.main_v57)),
      θ_run (Cert.RetainIdeal.defs (F := Ideal)) (onTc (τ := Cert.RetainIdeal.τ) (Cert.RetainIdeal.main (F := Ideal))) ⟨m, fun _ => 0, g⟩ (fun r => ∀ c : Dev Cert.RetainIdeal.nD,
          r.2.mem ((c.tc : Thread Cert.RetainIdeal.nD Cert.RetainIdeal.τ).loc Cert.RetainIdeal.main_v57) = v0 c
          ∧ r.2.mem ((c.tc : Thread Cert.RetainIdeal.nD Cert.RetainIdeal.τ).loc Cert.RetainIdeal.main_arg0) = m ((c.tc : Thread Cert.RetainIdeal.nD Cert.RetainIdeal.τ).loc Cert.RetainIdeal.main_arg0)
          ∧ r.2.mem ((c.tc : Thread Cert.RetainIdeal.nD Cert.RetainIdeal.τ).loc Cert.RetainIdeal.main_arg1) = m ((c.tc : Thread Cert.RetainIdeal.nD Cert.RetainIdeal.τ).loc Cert.RetainIdeal.main_arg1)
          ∧ r.2.mem ((c.tc : Thread Cert.RetainIdeal.nD Cert.RetainIdeal.τ).loc Cert.RetainIdeal.main_arg2) = m ((c.tc : Thread Cert.RetainIdeal.nD Cert.RetainIdeal.τ).loc Cert.RetainIdeal.main_arg2))
      ∧ θ_run (Cert.RetainRefIdeal.defs (F := Ideal)) (onTc (τ := Cert.RetainRefIdeal.τ) (Cert.RetainRefIdeal.main (F := Ideal))) ⟨m', fun _ => 0, g'⟩ (fun r => ∀ c : Dev Cert.RetainRefIdeal.nD,
          r.2.mem ((c.tc : Thread Cert.RetainRefIdeal.nD Cert.RetainRefIdeal.τ).loc Cert.RetainRefIdeal.main_v420) = v0 c
          ∧ r.2.mem ((c.tc : Thread Cert.RetainRefIdeal.nD Cert.RetainRefIdeal.τ).loc Cert.RetainRefIdeal.main_arg0) = m' ((c.tc : Thread Cert.RetainRefIdeal.nD Cert.RetainRefIdeal.τ).loc Cert.RetainRefIdeal.main_arg0)
          ∧ r.2.mem ((c.tc : Thread Cert.RetainRefIdeal.nD Cert.RetainRefIdeal.τ).loc Cert.RetainRefIdeal.main_arg1) = m' ((c.tc : Thread Cert.RetainRefIdeal.nD Cert.RetainRefIdeal.τ).loc Cert.RetainRefIdeal.main_arg1)
          ∧ r.2.mem ((c.tc : Thread Cert.RetainRefIdeal.nD Cert.RetainRefIdeal.τ).loc Cert.RetainRefIdeal.main_arg2) = m' ((c.tc : Thread Cert.RetainRefIdeal.nD Cert.RetainRefIdeal.τ).loc Cert.RetainRefIdeal.main_arg2))

def preserves_Modul_ModulIdeal : Prop :=
  True

def algebraic_ModulIdeal_ModulRefIdeal [hModulIdeal : Cert.ModulIdeal.Facts] [hModulRefIdeal : Cert.ModulRefIdeal.Facts] : Prop :=
  ∀ (m : (ℓ : Loc Cert.ModulIdeal.nD Cert.ModulIdeal.τ Cert.ModulIdeal.sig) → Buf (Elt Ideal) ℓ) (g : Dev Cert.ModulIdeal.nD → PrngReg)
    (m' : (ℓ : Loc Cert.ModulRefIdeal.nD Cert.ModulRefIdeal.τ Cert.ModulRefIdeal.sig) → Buf (Elt Ideal) ℓ) (g' : Dev Cert.ModulRefIdeal.nD → PrngReg), Pre_ModulIdeal m →
    (∀ c : Dev Cert.ModulIdeal.nD,
      m' ((c.tc : Thread Cert.ModulRefIdeal.nD Cert.ModulRefIdeal.τ).loc Cert.ModulRefIdeal.main_arg0) = m ((c.tc : Thread Cert.ModulIdeal.nD Cert.ModulIdeal.τ).loc Cert.ModulIdeal.main_arg0)
      ∧ m' ((c.tc : Thread Cert.ModulRefIdeal.nD Cert.ModulRefIdeal.τ).loc Cert.ModulRefIdeal.main_arg1) = m ((c.tc : Thread Cert.ModulIdeal.nD Cert.ModulIdeal.τ).loc Cert.ModulIdeal.main_arg1)
      ∧ m' ((c.tc : Thread Cert.ModulRefIdeal.nD Cert.ModulRefIdeal.τ).loc Cert.ModulRefIdeal.main_arg2) = m ((c.tc : Thread Cert.ModulIdeal.nD Cert.ModulIdeal.τ).loc Cert.ModulIdeal.main_arg2)
      ∧ m' ((c.tc : Thread Cert.ModulRefIdeal.nD Cert.ModulRefIdeal.τ).loc Cert.ModulRefIdeal.main_arg3) = m ((c.tc : Thread Cert.ModulIdeal.nD Cert.ModulIdeal.τ).loc Cert.ModulIdeal.main_arg3)) →
    ∃ (v0 : (c : Dev Cert.ModulIdeal.nD) → Buf (Elt Ideal) ((c.tc : Thread Cert.ModulIdeal.nD Cert.ModulIdeal.τ).loc Cert.ModulIdeal.main_v4)),
      θ_run (Cert.ModulIdeal.defs (F := Ideal)) (onTc (τ := Cert.ModulIdeal.τ) (Cert.ModulIdeal.main (F := Ideal))) ⟨m, fun _ => 0, g⟩ (fun r => ∀ c : Dev Cert.ModulIdeal.nD,
          r.2.mem ((c.tc : Thread Cert.ModulIdeal.nD Cert.ModulIdeal.τ).loc Cert.ModulIdeal.main_v4) = v0 c
          ∧ r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
          ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
          ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2)
          ∧ r.2.mem ((c.tc : Thread Cert.ModulIdeal.nD Cert.ModulIdeal.τ).loc Cert.ModulIdeal.main_arg3) = m ((c.tc : Thread Cert.ModulIdeal.nD Cert.ModulIdeal.τ).loc Cert.ModulIdeal.main_arg3))
      ∧ θ_run (Cert.ModulRefIdeal.defs (F := Ideal)) (onTc (τ := Cert.ModulRefIdeal.τ) (Cert.ModulRefIdeal.main (F := Ideal))) ⟨m', fun _ => 0, g'⟩ (fun r => ∀ c : Dev Cert.ModulRefIdeal.nD,
          r.2.mem ((c.tc : Thread Cert.ModulRefIdeal.nD Cert.ModulRefIdeal.τ).loc Cert.ModulRefIdeal.main_v8) = v0 c
          ∧ r.2.mem ((c.tc : Thread Cert.ModulRefIdeal.nD Cert.ModulRefIdeal.τ).loc Cert.ModulRefIdeal.main_arg0) = m' ((c.tc : Thread Cert.ModulRefIdeal.nD Cert.ModulRefIdeal.τ).loc Cert.ModulRefIdeal.main_arg0)
          ∧ r.2.mem ((c.tc : Thread Cert.ModulRefIdeal.nD Cert.ModulRefIdeal.τ).loc Cert.ModulRefIdeal.main_arg1) = m' ((c.tc : Thread Cert.ModulRefIdeal.nD Cert.ModulRefIdeal.τ).loc Cert.ModulRefIdeal.main_arg1)
          ∧ r.2.mem ((c.tc : Thread Cert.ModulRefIdeal.nD Cert.ModulRefIdeal.τ).loc Cert.ModulRefIdeal.main_arg2) = m' ((c.tc : Thread Cert.ModulRefIdeal.nD Cert.ModulRefIdeal.τ).loc Cert.ModulRefIdeal.main_arg2)
          ∧ r.2.mem ((c.tc : Thread Cert.ModulRefIdeal.nD Cert.ModulRefIdeal.τ).loc Cert.ModulRefIdeal.main_arg3) = m' ((c.tc : Thread Cert.ModulRefIdeal.nD Cert.ModulRefIdeal.τ).loc Cert.ModulRefIdeal.main_arg3))

def preserves_Prolog_PrologIdeal : Prop :=
  True

def algebraic_PrologIdeal_PrologRefIdeal [hPrologIdeal : Cert.PrologIdeal.Facts] [hPrologRefIdeal : Cert.PrologRefIdeal.Facts] : Prop :=
  ∀ (m : (ℓ : Loc Cert.PrologIdeal.nD Cert.PrologIdeal.τ Cert.PrologIdeal.sig) → Buf (Elt Ideal) ℓ) (g : Dev Cert.PrologIdeal.nD → PrngReg)
    (m' : (ℓ : Loc Cert.PrologRefIdeal.nD Cert.PrologRefIdeal.τ Cert.PrologRefIdeal.sig) → Buf (Elt Ideal) ℓ) (g' : Dev Cert.PrologRefIdeal.nD → PrngReg), Pre_PrologIdeal m →
    (∀ c : Dev Cert.PrologIdeal.nD,
      m' ((c.tc : Thread Cert.PrologRefIdeal.nD Cert.PrologRefIdeal.τ).loc Cert.PrologRefIdeal.main_arg0) = m ((c.tc : Thread Cert.PrologIdeal.nD Cert.PrologIdeal.τ).loc Cert.PrologIdeal.main_arg0)
      ∧ m' ((c.tc : Thread Cert.PrologRefIdeal.nD Cert.PrologRefIdeal.τ).loc Cert.PrologRefIdeal.main_arg1) = m ((c.tc : Thread Cert.PrologIdeal.nD Cert.PrologIdeal.τ).loc Cert.PrologIdeal.main_arg1)
      ∧ m' ((c.tc : Thread Cert.PrologRefIdeal.nD Cert.PrologRefIdeal.τ).loc Cert.PrologRefIdeal.main_arg2) = m ((c.tc : Thread Cert.PrologIdeal.nD Cert.PrologIdeal.τ).loc Cert.PrologIdeal.main_arg2)
      ∧ m' ((c.tc : Thread Cert.PrologRefIdeal.nD Cert.PrologRefIdeal.τ).loc Cert.PrologRefIdeal.main_arg3) = m ((c.tc : Thread Cert.PrologIdeal.nD Cert.PrologIdeal.τ).loc Cert.PrologIdeal.main_arg3)
      ∧ m' ((c.tc : Thread Cert.PrologRefIdeal.nD Cert.PrologRefIdeal.τ).loc Cert.PrologRefIdeal.main_arg4) = m ((c.tc : Thread Cert.PrologIdeal.nD Cert.PrologIdeal.τ).loc Cert.PrologIdeal.main_arg4)) →
    ∃ (v0 : (c : Dev Cert.PrologIdeal.nD) → Buf (Elt Ideal) ((c.tc : Thread Cert.PrologIdeal.nD Cert.PrologIdeal.τ).loc Cert.PrologIdeal.main_v0_0)) (v1 : (c : Dev Cert.PrologIdeal.nD) → Buf (Elt Ideal) ((c.tc : Thread Cert.PrologIdeal.nD Cert.PrologIdeal.τ).loc Cert.PrologIdeal.main_v0_1)),
      θ_run (Cert.PrologIdeal.defs (F := Ideal)) (onTc (τ := Cert.PrologIdeal.τ) (Cert.PrologIdeal.main (F := Ideal))) ⟨m, fun _ => 0, g⟩ (fun r => ∀ c : Dev Cert.PrologIdeal.nD,
          r.2.mem ((c.tc : Thread Cert.PrologIdeal.nD Cert.PrologIdeal.τ).loc Cert.PrologIdeal.main_v0_0) = v0 c
          ∧ r.2.mem ((c.tc : Thread Cert.PrologIdeal.nD Cert.PrologIdeal.τ).loc Cert.PrologIdeal.main_v0_1) = v1 c
          ∧ r.2.mem ((c.tc : Thread Cert.PrologIdeal.nD Cert.PrologIdeal.τ).loc Cert.PrologIdeal.main_arg0) = m ((c.tc : Thread Cert.PrologIdeal.nD Cert.PrologIdeal.τ).loc Cert.PrologIdeal.main_arg0)
          ∧ r.2.mem ((c.tc : Thread Cert.PrologIdeal.nD Cert.PrologIdeal.τ).loc Cert.PrologIdeal.main_arg1) = m ((c.tc : Thread Cert.PrologIdeal.nD Cert.PrologIdeal.τ).loc Cert.PrologIdeal.main_arg1)
          ∧ r.2.mem ((c.tc : Thread Cert.PrologIdeal.nD Cert.PrologIdeal.τ).loc Cert.PrologIdeal.main_arg2) = m ((c.tc : Thread Cert.PrologIdeal.nD Cert.PrologIdeal.τ).loc Cert.PrologIdeal.main_arg2)
          ∧ r.2.mem ((c.tc : Thread Cert.PrologIdeal.nD Cert.PrologIdeal.τ).loc Cert.PrologIdeal.main_arg3) = m ((c.tc : Thread Cert.PrologIdeal.nD Cert.PrologIdeal.τ).loc Cert.PrologIdeal.main_arg3)
          ∧ r.2.mem ((c.tc : Thread Cert.PrologIdeal.nD Cert.PrologIdeal.τ).loc Cert.PrologIdeal.main_arg4) = m ((c.tc : Thread Cert.PrologIdeal.nD Cert.PrologIdeal.τ).loc Cert.PrologIdeal.main_arg4))
      ∧ θ_run (Cert.PrologRefIdeal.defs (F := Ideal)) (onTc (τ := Cert.PrologRefIdeal.τ) (Cert.PrologRefIdeal.main (F := Ideal))) ⟨m', fun _ => 0, g'⟩ (fun r => ∀ c : Dev Cert.PrologRefIdeal.nD,
          r.2.mem ((c.tc : Thread Cert.PrologRefIdeal.nD Cert.PrologRefIdeal.τ).loc Cert.PrologRefIdeal.main_v53) = v0 c
          ∧ r.2.mem ((c.tc : Thread Cert.PrologRefIdeal.nD Cert.PrologRefIdeal.τ).loc Cert.PrologRefIdeal.main_v56) = v1 c
          ∧ r.2.mem ((c.tc : Thread Cert.PrologRefIdeal.nD Cert.PrologRefIdeal.τ).loc Cert.PrologRefIdeal.main_arg0) = m' ((c.tc : Thread Cert.PrologRefIdeal.nD Cert.PrologRefIdeal.τ).loc Cert.PrologRefIdeal.main_arg0)
          ∧ r.2.mem ((c.tc : Thread Cert.PrologRefIdeal.nD Cert.PrologRefIdeal.τ).loc Cert.PrologRefIdeal.main_arg1) = m' ((c.tc : Thread Cert.PrologRefIdeal.nD Cert.PrologRefIdeal.τ).loc Cert.PrologRefIdeal.main_arg1)
          ∧ r.2.mem ((c.tc : Thread Cert.PrologRefIdeal.nD Cert.PrologRefIdeal.τ).loc Cert.PrologRefIdeal.main_arg2) = m' ((c.tc : Thread Cert.PrologRefIdeal.nD Cert.PrologRefIdeal.τ).loc Cert.PrologRefIdeal.main_arg2)
          ∧ r.2.mem ((c.tc : Thread Cert.PrologRefIdeal.nD Cert.PrologRefIdeal.τ).loc Cert.PrologRefIdeal.main_arg3) = m' ((c.tc : Thread Cert.PrologRefIdeal.nD Cert.PrologRefIdeal.τ).loc Cert.PrologRefIdeal.main_arg3)
          ∧ r.2.mem ((c.tc : Thread Cert.PrologRefIdeal.nD Cert.PrologRefIdeal.τ).loc Cert.PrologRefIdeal.main_arg4) = m' ((c.tc : Thread Cert.PrologRefIdeal.nD Cert.PrologRefIdeal.τ).loc Cert.PrologRefIdeal.main_arg4))

def preserves_Finish_FinishIdeal : Prop :=
  True

def algebraic_FinishIdeal_FinishRefIdeal_pre_finite_y [hFinishIdeal : Cert.FinishIdeal.Facts] [hFinishRefIdeal : Cert.FinishRefIdeal.Facts] [hPre_finite_y : Cert.Pre_finite_y.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishRefIdeal.nD Cert.FinishRefIdeal.τ Cert.FinishRefIdeal.sig) → Buf (Elt Ideal) ℓ) (g' : Dev Cert.FinishRefIdeal.nD → PrngReg), Pre_FinishIdeal_finite_y m →
    (∀ c : Dev Cert.FinishIdeal.nD,
      m' ((c.tc : Thread Cert.FinishRefIdeal.nD Cert.FinishRefIdeal.τ).loc Cert.FinishRefIdeal.main_arg0) = m ((c.tc : Thread Cert.FinishIdeal.nD Cert.FinishIdeal.τ).loc Cert.FinishIdeal.main_arg0)
      ∧ m' ((c.tc : Thread Cert.FinishRefIdeal.nD Cert.FinishRefIdeal.τ).loc Cert.FinishRefIdeal.main_arg1) = m ((c.tc : Thread Cert.FinishIdeal.nD Cert.FinishIdeal.τ).loc Cert.FinishIdeal.main_arg1)
      ∧ m' ((c.tc : Thread Cert.FinishRefIdeal.nD Cert.FinishRefIdeal.τ).loc Cert.FinishRefIdeal.main_arg2) = m ((c.tc : Thread Cert.FinishIdeal.nD Cert.FinishIdeal.τ).loc Cert.FinishIdeal.main_arg2)
      ∧ m' ((c.tc : Thread Cert.FinishRefIdeal.nD Cert.FinishRefIdeal.τ).loc Cert.FinishRefIdeal.main_arg3) = m ((c.tc : Thread Cert.FinishIdeal.nD Cert.FinishIdeal.τ).loc Cert.FinishIdeal.main_arg3)
      ∧ m' ((c.tc : Thread Cert.FinishRefIdeal.nD Cert.FinishRefIdeal.τ).loc Cert.FinishRefIdeal.main_arg4) = m ((c.tc : Thread Cert.FinishIdeal.nD Cert.FinishIdeal.τ).loc Cert.FinishIdeal.main_arg4)) →
    ∃ (v0 : (c : Dev Cert.FinishIdeal.nD) → Buf (Elt Ideal) ((c.tc : Thread Cert.FinishIdeal.nD Cert.FinishIdeal.τ).loc Cert.FinishIdeal.main_v8)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v8) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4))
      ∧ θ_run (Cert.FinishRefIdeal.defs (F := Ideal)) (onTc (τ := Cert.FinishRefIdeal.τ) (Cert.FinishRefIdeal.main (F := Ideal))) ⟨m', fun _ => 0, g'⟩ (fun r => ∀ c : Dev Cert.FinishRefIdeal.nD,
          r.2.mem ((c.tc : Thread Cert.FinishRefIdeal.nD Cert.FinishRefIdeal.τ).loc Cert.FinishRefIdeal.main_v36) = v0 c
          ∧ r.2.mem ((c.tc : Thread Cert.FinishRefIdeal.nD Cert.FinishRefIdeal.τ).loc Cert.FinishRefIdeal.main_arg0) = m' ((c.tc : Thread Cert.FinishRefIdeal.nD Cert.FinishRefIdeal.τ).loc Cert.FinishRefIdeal.main_arg0)
          ∧ r.2.mem ((c.tc : Thread Cert.FinishRefIdeal.nD Cert.FinishRefIdeal.τ).loc Cert.FinishRefIdeal.main_arg1) = m' ((c.tc : Thread Cert.FinishRefIdeal.nD Cert.FinishRefIdeal.τ).loc Cert.FinishRefIdeal.main_arg1)
          ∧ r.2.mem ((c.tc : Thread Cert.FinishRefIdeal.nD Cert.FinishRefIdeal.τ).loc Cert.FinishRefIdeal.main_arg2) = m' ((c.tc : Thread Cert.FinishRefIdeal.nD Cert.FinishRefIdeal.τ).loc Cert.FinishRefIdeal.main_arg2)
          ∧ r.2.mem ((c.tc : Thread Cert.FinishRefIdeal.nD Cert.FinishRefIdeal.τ).loc Cert.FinishRefIdeal.main_arg3) = m' ((c.tc : Thread Cert.FinishRefIdeal.nD Cert.FinishRefIdeal.τ).loc Cert.FinishRefIdeal.main_arg3)
          ∧ r.2.mem ((c.tc : Thread Cert.FinishRefIdeal.nD Cert.FinishRefIdeal.τ).loc Cert.FinishRefIdeal.main_arg4) = m' ((c.tc : Thread Cert.FinishRefIdeal.nD Cert.FinishRefIdeal.τ).loc Cert.FinishRefIdeal.main_arg4))

def Claim : Prop :=
  ∃ (hAttn : Cert.Attn.Facts) (hAttnIdeal : Cert.AttnIdeal.Facts) (hAttnRefIdeal : Cert.AttnRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hMlaProj : Cert.MlaProj.Facts) (hMlaProjIdeal : Cert.MlaProjIdeal.Facts) (hMlaProjRefIdeal : Cert.MlaProjRefIdeal.Facts) (hConvMix : Cert.ConvMix.Facts) (hConvMixIdeal : Cert.ConvMixIdeal.Facts) (hConvMixRefIdeal : Cert.ConvMixRefIdeal.Facts) (hRetain : Cert.Retain.Facts) (hRetainIdeal : Cert.RetainIdeal.Facts) (hRetainRefIdeal : Cert.RetainRefIdeal.Facts) (hModul : Cert.Modul.Facts) (hModulIdeal : Cert.ModulIdeal.Facts) (hModulRefIdeal : Cert.ModulRefIdeal.Facts) (hProlog : Cert.Prolog.Facts) (hPrologIdeal : Cert.PrologIdeal.Facts) (hPrologRefIdeal : Cert.PrologRefIdeal.Facts) (hFinish : Cert.Finish.Facts) (hFinishIdeal : Cert.FinishIdeal.Facts) (hFinishRefIdeal : Cert.FinishRefIdeal.Facts) (hPre_finite_qk : Cert.Pre_finite_qk.Facts) (hPre_finite_pr : Cert.Pre_finite_pr.Facts) (hPre_finite_y : Cert.Pre_finite_y.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_MlaProj (hMlaProj := hMlaProj)
    ∧ quiescent_MlaProjIdeal (hMlaProjIdeal := hMlaProjIdeal)
    ∧ quiescent_MlaProjRefIdeal (hMlaProjRefIdeal := hMlaProjRefIdeal)
    ∧ quiescent_ConvMix (hConvMix := hConvMix)
    ∧ quiescent_ConvMixIdeal (hConvMixIdeal := hConvMixIdeal)
    ∧ quiescent_ConvMixRefIdeal (hConvMixRefIdeal := hConvMixRefIdeal)
    ∧ quiescent_Retain (hRetain := hRetain)
    ∧ quiescent_RetainIdeal (hRetainIdeal := hRetainIdeal)
    ∧ quiescent_RetainIdeal_pre_finite_pr (hRetainIdeal := hRetainIdeal) (hPre_finite_pr := hPre_finite_pr)
    ∧ quiescent_RetainRefIdeal (hRetainRefIdeal := hRetainRefIdeal)
    ∧ quiescent_RetainRefIdeal_pre_finite_pr (hRetainRefIdeal := hRetainRefIdeal) (hPre_finite_pr := hPre_finite_pr)
    ∧ quiescent_Modul (hModul := hModul)
    ∧ quiescent_ModulIdeal (hModulIdeal := hModulIdeal)
    ∧ quiescent_ModulRefIdeal (hModulRefIdeal := hModulRefIdeal)
    ∧ quiescent_Prolog (hProlog := hProlog)
    ∧ quiescent_PrologIdeal (hPrologIdeal := hPrologIdeal)
    ∧ quiescent_PrologRefIdeal (hPrologRefIdeal := hPrologRefIdeal)
    ∧ quiescent_Finish (hFinish := hFinish)
    ∧ quiescent_FinishIdeal (hFinishIdeal := hFinishIdeal)
    ∧ quiescent_FinishIdeal_pre_finite_y (hFinishIdeal := hFinishIdeal) (hPre_finite_y := hPre_finite_y)
    ∧ quiescent_FinishRefIdeal (hFinishRefIdeal := hFinishRefIdeal)
    ∧ quiescent_FinishRefIdeal_pre_finite_y (hFinishRefIdeal := hFinishRefIdeal) (hPre_finite_y := hPre_finite_y)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_MlaProj_MlaProjIdeal
    ∧ algebraic_MlaProjIdeal_MlaProjRefIdeal (hMlaProjIdeal := hMlaProjIdeal) (hMlaProjRefIdeal := hMlaProjRefIdeal)
    ∧ preserves_ConvMix_ConvMixIdeal
    ∧ algebraic_ConvMixIdeal_ConvMixRefIdeal (hConvMixIdeal := hConvMixIdeal) (hConvMixRefIdeal := hConvMixRefIdeal)
    ∧ preserves_Retain_RetainIdeal
    ∧ algebraic_RetainIdeal_RetainRefIdeal_pre_finite_pr (hRetainIdeal := hRetainIdeal) (hRetainRefIdeal := hRetainRefIdeal) (hPre_finite_pr := hPre_finite_pr)
    ∧ preserves_Modul_ModulIdeal
    ∧ algebraic_ModulIdeal_ModulRefIdeal (hModulIdeal := hModulIdeal) (hModulRefIdeal := hModulRefIdeal)
    ∧ preserves_Prolog_PrologIdeal
    ∧ algebraic_PrologIdeal_PrologRefIdeal (hPrologIdeal := hPrologIdeal) (hPrologRefIdeal := hPrologRefIdeal)
    ∧ preserves_Finish_FinishIdeal
    ∧ algebraic_FinishIdeal_FinishRefIdeal_pre_finite_y (hFinishIdeal := hFinishIdeal) (hFinishRefIdeal := hFinishRefIdeal) (hPre_finite_y := hPre_finite_y)
-- ==== Pre_finite_pr.lean ====
abbrev S9216x6400 : Shape := ⟨2, ![9216, 6400]⟩
abbrev S2x4 : Shape := ⟨2, ![2, 4]⟩
abbrev S512 : Shape := ⟨1, ![512]⟩
abbrev S9216x512 : Shape := ⟨2, ![9216, 512]⟩
abbrev S_ : Shape := ⟨0, ![]⟩

class Facts : Prop where
  slices_S9216x6400_S9216x512_0_2048 : S9216x6400.Slices ![0, 2048] S9216x512
  slices_S9216x6400_S9216x512_0_3072 : S9216x6400.Slices ![0, 3072] S9216x512
  bitsLt_bf16_f32 : FTy.bits .bf16 < FTy.bits .f32
  bcast_S_S9216x512 : S_.BroadcastsInDim S9216x512 (![] : Fin 0 → Fin S9216x512.rank)
  reducesTo_S9216x512_S_d0_1 : S9216x512.ReducesTo [0, 1] S_
  h_S_ : 0 < S_.numel

variable [Facts]

def fn {F : FTy → Type} [FloatOps F] (main_arg0 : FVec F S9216x6400 .bf16) (main_arg1 : FVec F S2x4 .f32) (main_arg2 : FVec F S512 .f32) : IVec S_ 1 :=
  let main_v0 : FVec F S9216x512 .bf16 := (extractStridedSlice S9216x512 ![0, 2048] · slices_S9216x6400_S9216x512_0_2048) main_arg0
  let main_v1 : FVec F S9216x512 .bf16 := (extractStridedSlice S9216x512 ![0, 3072] · slices_S9216x6400_S9216x512_0_3072) main_arg0
  let main_v2 : FVec F S9216x512 .f32 := (extf .f32 · bitsLt_bf16_f32) main_v0
  let main_v3 : FVec F S9216x512 .f32 := Host.absf main_v2
  let main_cst : FVec F S_ .f32 := constant S_ .f32 0x7F800000#32
  let main_v4 : FVec F S9216x512 .f32 := broadcastInDim S9216x512 ![] bcast_S_S9216x512 main_cst
  let main_v5 : IVec S9216x512 1 := cmpf .olt main_v3 main_v4
  let main_c : IVec S_ 1 := constantI S_ 1 1#1
  let main_v6 : IVec S_ 1 := (fun x v => Host.reduce IntOp.andi x v reducesTo_S9216x512_S_d0_1 h_S_) main_v5 main_c
  let main_v7 : FVec F S9216x512 .f32 := (extf .f32 · bitsLt_bf16_f32) main_v1
  let main_v8 : FVec F S9216x512 .f32 := Host.absf main_v7
  let main_cst_0 : FVec F S_ .f32 := constant S_ .f32 0x7F800000#32
  let main_v9 : FVec F S9216x512 .f32 := broadcastInDim S9216x512 ![] bcast_S_S9216x512 main_cst_0
  let main_v10 : IVec S9216x512 1 := cmpf .olt main_v8 main_v9
  let main_c_1 : IVec S_ 1 := constantI S_ 1 1#1
  let main_v11 : IVec S_ 1 := (fun x v => Host.reduce IntOp.andi x v reducesTo_S9216x512_S_d0_1 h_S_) main_v10 main_c_1
  let main_v12 : IVec S_ 1 := andi main_v6 main_v11
  main_v12
-- ==== Pre_finite_qk.lean ====
abbrev S9216x1024 : Shape := ⟨2, ![9216, 1024]⟩
abbrev S9216x512 : Shape := ⟨2, ![9216, 512]⟩
abbrev S_ : Shape := ⟨0, ![]⟩

class Facts : Prop where
  bitsLt_bf16_f32 : FTy.bits .bf16 < FTy.bits .f32
  bcast_S_S9216x1024 : S_.BroadcastsInDim S9216x1024 (![] : Fin 0 → Fin S9216x1024.rank)
  reducesTo_S9216x1024_S_d0_1 : S9216x1024.ReducesTo [0, 1] S_
  h_S_ : 0 < S_.numel

variable [Facts]

def fn {F : FTy → Type} [FloatOps F] (main_arg0 : FVec F S9216x1024 .bf16) (main_arg1 : FVec F S9216x1024 .bf16) (main_arg2 : FVec F S9216x512 .bf16) : IVec S_ 1 :=
  let main_v0 : FVec F S9216x1024 .f32 := (extf .f32 · bitsLt_bf16_f32) main_arg0
  let main_v1 : FVec F S9216x1024 .f32 := Host.absf main_v0
  let main_cst : FVec F S_ .f32 := constant S_ .f32 0x7F800000#32
  let main_v2 : FVec F S9216x1024 .f32 := broadcastInDim S9216x1024 ![] bcast_S_S9216x1024 main_cst
  let main_v3 : IVec S9216x1024 1 := cmpf .olt main_v1 main_v2
  let main_c : IVec S_ 1 := constantI S_ 1 1#1
  let main_v4 : IVec S_ 1 := (fun x v => Host.reduce IntOp.andi x v reducesTo_S9216x1024_S_d0_1 h_S_) main_v3 main_c
  let main_v5 : FVec F S9216x1024 .f32 := (extf .f32 · bitsLt_bf16_f32) main_arg1
  let main_v6 : FVec F S9216x1024 .f32 := Host.absf main_v5
  let main_cst_0 : FVec F S_ .f32 := constant S_ .f32 0x7F800000#32
  let main_v7 : FVec F S9216x1024 .f32 := broadcastInDim S9216x1024 ![] bcast_S_S9216x1024 main_cst_0
  let main_v8 : IVec S9216x1024 1 := cmpf .olt main_v6 main_v7
  let main_c_1 : IVec S_ 1 := constantI S_ 1 1#1
  let main_v9 : IVec S_ 1 := (fun x v => Host.reduce IntOp.andi x v reducesTo_S9216x1024_S_d0_1 h_S_) main_v8 main_c_1
  let main_v10 : IVec S_ 1 := andi main_v4 main_v9
  main_v10
-- ==== Pre_finite_y.lean ====
abbrev S9216x512 : Shape := ⟨2, ![9216, 512]⟩
abbrev S5x512 : Shape := ⟨2, ![5, 512]⟩
abbrev S_ : Shape := ⟨0, ![]⟩

class Facts : Prop where
  bcast_S_S9216x512 : S_.BroadcastsInDim S9216x512 (![] : Fin 0 → Fin S9216x512.rank)
  reducesTo_S9216x512_S_d0_1 : S9216x512.ReducesTo [0, 1] S_
  h_S_ : 0 < S_.numel

variable [Facts]

def fn {F : FTy → Type} [FloatOps F] (main_arg0 : FVec F S9216x512 .f32) (main_arg1 : FVec F S9216x512 .f32) (main_arg2 : FVec F S9216x512 .f32) (main_arg3 : FVec F S9216x512 .f32) (main_arg4 : FVec F S5x512 .f32) : IVec S_ 1 :=
  let main_v0 : FVec F S9216x512 .f32 := Host.absf main_arg0
  let main_cst : FVec F S_ .f32 := constant S_ .f32 0x7F800000#32
  let main_v1 : FVec F S9216x512 .f32 := broadcastInDim S9216x512 ![] bcast_S_S9216x512 main_cst
  let main_v2 : IVec S9216x512 1 := cmpf .olt main_v0 main_v1
  let main_c : IVec S_ 1 := constantI S_ 1 1#1
  let main_v3 : IVec S_ 1 := (fun x v => Host.reduce IntOp.andi x v reducesTo_S9216x512_S_d0_1 h_S_) main_v2 main_c
  let main_v4 : FVec F S9216x512 .f32 := Host.absf main_arg1
  let main_cst_0 : FVec F S_ .f32 := constant S_ .f32 0x7F800000#32
  let main_v5 : FVec F S9216x512 .f32 := broadcastInDim S9216x512 ![] bcast_S_S9216x512 main_cst_0
  let main_v6 : IVec S9216x512 1 := cmpf .olt main_v4 main_v5
  let main_c_1 : IVec S_ 1 := constantI S_ 1 1#1
  let main_v7 : IVec S_ 1 := (fun x v => Host.reduce IntOp.andi x v reducesTo_S9216x512_S_d0_1 h_S_) main_v6 main_c_1
  let main_v8 : IVec S_ 1 := andi main_v3 main_v7
  main_v8
-- ==== Attn.lean ====
abbrev S9216x1024 : Shape := ⟨2, ![9216, 1024]⟩
abbrev S9216x512 : Shape := ⟨2, ![9216, 512]⟩
abbrev S2304x256 : Shape := ⟨2, ![2304, 256]⟩
abbrev S2304x128 : Shape := ⟨2, ![2304, 128]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S256x2304 : Shape := ⟨2, ![256, 2304]⟩

abbrev nBuf : Space → Nat
  | .hbm => 4
  | .vmem => 8
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x512, .bf16⟩
  | .hbm, ⟨3, _⟩ => ⟨S9216x512, .bf16⟩
  | .local _ .vmem, ⟨0, _⟩ => ⟨S2304x256, .bf16⟩
  | .local _ .vmem, ⟨1, _⟩ => ⟨S2304x256, .bf16⟩
  | .local _ .vmem, ⟨2, _⟩ => ⟨S2304x256, .bf16⟩
  | .local _ .vmem, ⟨3, _⟩ => ⟨S2304x256, .bf16⟩
  | .local _ .vmem, ⟨4, _⟩ => ⟨S2304x128, .bf16⟩
  | .local _ .vmem, ⟨5, _⟩ => ⟨S2304x128, .bf16⟩
  | .local _ .vmem, ⟨6, _⟩ => ⟨S2304x128, .bf16⟩
  | .local _ .vmem, ⟨7, _⟩ => ⟨S2304x128, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2304x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnRefIdeal.lean ====
abbrev S9216x1024 : Shape := ⟨2, ![9216, 1024]⟩
abbrev S9216x512 : Shape := ⟨2, ![9216, 512]⟩
abbrev S4x2304x1024 : Shape := ⟨3, ![4, 2304, 1024]⟩
abbrev S4x256x1024 : Shape := ⟨3, ![4, 256, 1024]⟩
abbrev S4x2048x1024 : Shape := ⟨3, ![4, 2048, 1024]⟩
abbrev S4x256x4x256 : Shape := ⟨4, ![4, 256, 4, 256]⟩
abbrev S4x2048x4x256 : Shape := ⟨4, ![4, 2048, 4, 256]⟩
abbrev S4x2304x512 : Shape := ⟨3, ![4, 2304, 512]⟩
abbrev S4x256x512 : Shape := ⟨3, ![4, 256, 512]⟩
abbrev S4x2048x512 : Shape := ⟨3, ![4, 2048, 512]⟩
abbrev S4x256x4x128 : Shape := ⟨4, ![4, 256, 4, 128]⟩
abbrev S4x2048x4x128 : Shape := ⟨4, ![4, 2048, 4, 128]⟩
abbrev S4x4x256x256 : Shape := ⟨4, ![4, 4, 256, 256]⟩
abbrev S_ : Shape := ⟨0, ![]⟩
abbrev S4x4x256 : Shape := ⟨3, ![4, 4, 256]⟩
abbrev S4x4x256x1 : Shape := ⟨4, ![4, 4, 256, 1]⟩
abbrev S4x4x128x256 : Shape := ⟨4, ![4, 4, 128, 256]⟩
abbrev S4x2304x4x256 : Shape := ⟨4, ![4, 2304, 4, 256]⟩
abbrev S4x2304x4x128 : Shape := ⟨4, ![4, 2304, 4, 128]⟩
abbrev S4x4x2048x2304 : Shape := ⟨4, ![4, 4, 2048, 2304]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 70
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x512, .bf16⟩
  | .hbm, ⟨3, _⟩ => ⟨S9216x1024, .f32⟩
  | .hbm, ⟨4, _⟩ => ⟨S4x2304x1024, .f32⟩
  | .hbm, ⟨5, _⟩ => ⟨S4x256x1024, .f32⟩
  | .hbm, ⟨6, _⟩ => ⟨S4x2048x1024, .f32⟩
  | .hbm, ⟨7, _⟩ => ⟨S4x256x4x256, .f32⟩
  | .hbm, ⟨8, _⟩ => ⟨S4x2048x4x256, .f32⟩
  | .hbm, ⟨9, _⟩ => ⟨S9216x1024, .f32⟩
  | .hbm, ⟨10, _⟩ => ⟨S4x2304x1024, .f32⟩
  | .hbm, ⟨11, _⟩ => ⟨S4x256x1024, .f32⟩
  | .hbm, ⟨12, _⟩ => ⟨S4x2048x1024, .f32⟩
  | .hbm, ⟨13, _⟩ => ⟨S4x256x4x256, .f32⟩
  | .hbm, ⟨14, _⟩ => ⟨S4x2048x4x256, .f32⟩
  | .hbm, ⟨15, _⟩ => ⟨S9216x512, .f32⟩
  | .hbm, ⟨16, _⟩ => ⟨S4x2304x512, .f32⟩
  | .hbm, ⟨17, _⟩ => ⟨S4x256x512, .f32⟩
  | .hbm, ⟨18, _⟩ => ⟨S4x2048x512, .f32⟩
  | .hbm, ⟨19, _⟩ => ⟨S4x256x4x128, .f32⟩
  | .hbm, ⟨20, _⟩ => ⟨S4x2048x4x128, .f32⟩
  | .hbm, ⟨21, _⟩ => ⟨S4x4x256x256, .f32⟩
  | .hbm, ⟨22, _⟩ => ⟨S_, .f32⟩
  | .hbm, ⟨23, _⟩ => ⟨S_, .f32⟩
  | .hbm, ⟨24, _⟩ => ⟨S4x4x256x256, .f32⟩
  | .hbm, ⟨25, _⟩ => ⟨S4x4x256x256, .f32⟩
  | .hbm, ⟨26, _⟩ => ⟨S_, .f32⟩
  | .hbm, ⟨27, _⟩ => ⟨S4x4x256, .f32⟩
  | .hbm, ⟨28, _⟩ => ⟨S_, .f32⟩
  | .hbm, ⟨29, _⟩ => ⟨S4x4x256, .f32⟩
  | .hbm, ⟨30, _⟩ => ⟨S4x4x256, .f32⟩
  | .hbm, ⟨31, _⟩ => ⟨S4x4x256x1, .f32⟩
  | .hbm, ⟨32, _⟩ => ⟨S4x4x256x256, .f32⟩
  | .hbm, ⟨33, _⟩ => ⟨S4x4x256x256, .f32⟩
  | .hbm, ⟨34, _⟩ => ⟨S4x4x256x256, .f32⟩
  | .hbm, ⟨35, _⟩ => ⟨S_, .f32⟩
  | .hbm, ⟨36, _⟩ => ⟨S4x4x256, .f32⟩
  | .hbm, ⟨37, _⟩ => ⟨S4x4x256x1, .f32⟩
  | .hbm, ⟨38, _⟩ => ⟨S4x4x256x256, .f32⟩
  | .hbm, ⟨39, _⟩ => ⟨S4x4x256x256, .f32⟩
  | .hbm, ⟨40, _⟩ => ⟨S4x4x128x256, .f32⟩
  | .hbm, ⟨41, _⟩ => ⟨S4x256x4x128, .f32⟩
  | .hbm, ⟨42, _⟩ => ⟨S4x2304x4x256, .f32⟩
  | .hbm, ⟨43, _⟩ => ⟨S4x2304x4x128, .f32⟩
  | .hbm, ⟨44, _⟩ => ⟨S4x4x2048x2304, .f32⟩
  | .hbm, ⟨45, _⟩ => ⟨S_, .f32⟩
  | .hbm, ⟨46, _⟩ => ⟨S_, .f32⟩
  | .hbm, ⟨47, _⟩ => ⟨S4x4x2048x2304, .f32⟩
  | .hbm, ⟨48, _⟩ => ⟨S4x4x2048x2304, .f32⟩
  | .hbm, ⟨49, _⟩ => ⟨S_, .f32⟩
  | .hbm, ⟨50, _⟩ => ⟨S4x4x2048, .f32⟩
  | .hbm, ⟨51, _⟩ => ⟨S_, .f32⟩
  | .hbm, ⟨52, _⟩ => ⟨S4x4x2048, .f32⟩
  | .hbm, ⟨53, _⟩ => ⟨S4x4x2048, .f32⟩
  | .hbm, ⟨54, _⟩ => ⟨S4x4x2048x1, .f32⟩
  | .hbm, ⟨55, _⟩ => ⟨S4x4x2048x2304, .f32⟩
  | .hbm, ⟨56, _⟩ => ⟨S4x4x2048x2304, .f32⟩
  | .hbm, ⟨57, _⟩ => ⟨S4x4x2048x2304, .f32⟩
  | .hbm, ⟨58, _⟩ => ⟨S_, .f32⟩
  | .hbm, ⟨59, _⟩ => ⟨S4x4x2048, .f32⟩
  | .hbm, ⟨60, _⟩ => ⟨S4x4x2048x1, .f32⟩
  | .hbm, ⟨61, _⟩ => ⟨S4x4x2048x2304, .f32⟩
  | .hbm, ⟨62, _⟩ => ⟨S4x4x2048x2304, .f32⟩
  | .hbm, ⟨63, _⟩ => ⟨S4x4x128x2048, .f32⟩
  | .hbm, ⟨64, _⟩ => ⟨S4x2048x4x128, .f32⟩
  | .hbm, ⟨65, _⟩ => ⟨S4x256x512, .f32⟩
  | .hbm, ⟨66, _⟩ => ⟨S4x2048x512, .f32⟩
  | .hbm, ⟨67, _⟩ => ⟨S4x2304x512, .f32⟩
  | .hbm, ⟨68, _⟩ => ⟨S9216x512, .f32⟩
  | .hbm, ⟨69, _⟩ => ⟨S9216x512, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩

abbrev nD : Nat := 1
abbrev τ : Topo := Topo.v7x

variable {F : FTy → Type} [FloatOps F]
-- ==== FfnUp.lean ====
abbrev S9216x2048 : Shape := ⟨2, ![9216, 2048]⟩
abbrev S4x2048x11264 : Shape := ⟨3, ![4, 2048, 11264]⟩
abbrev S4x3x11264 : Shape := ⟨3, ![4, 3, 11264]⟩
abbrev S9216x5632 : Shape := ⟨2, ![9216, 5632]⟩
abbrev S2304x2048 : Shape := ⟨2, ![2304, 2048]⟩
abbrev S1x2048x512 : Shape := ⟨3, ![1, 2048, 512]⟩
abbrev S1x3x512 : Shape := ⟨3, ![1, 3, 512]⟩
abbrev S2304x512 : Shape := ⟨2, ![2304, 512]⟩
abbrev S2320x512 : Shape := ⟨2, ![2320, 512]⟩
abbrev S2048x512 : Shape := ⟨2, ![2048, 512]⟩
abbrev S8x512 : Shape := ⟨2, ![8, 512]⟩
abbrev S768x1 : Shape := ⟨2, ![768, 1]⟩
abbrev S768x2048 : Shape := ⟨2, ![768, 2048]⟩
abbrev S768x512 : Shape := ⟨2, ![768, 512]⟩
abbrev S1x1x512 : Shape := ⟨3, ![1, 1, 512]⟩
abbrev S1x512 : Shape := ⟨2, ![1, 512]⟩

abbrev nBuf : Space → Nat
  | .hbm => 4
  | .vmem => 13
  | .smem => 0
  | _ => 0

abbrev bufTy : (tb : Table) → Fin (tcTables nBuf tb) → BufTy
  | .hbm, ⟨0, _⟩ => ⟨S9216x2048, .bf16⟩
  | .hbm, ⟨1, _⟩ => ⟨S4x2048x11264, .f32⟩
  | .hbm, ⟨2, _⟩ => ⟨S4x3x11264, .f32⟩
  | .hbm, ⟨3, _⟩ => ⟨S9216x5632, .bf16⟩
  | .local _ .vmem, ⟨0, _⟩ => ⟨S2304x2048, .bf16⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x3x512, .f32⟩
  | .local _ .vmem, ⟨6, _⟩ => ⟨S1x3x512, .f32⟩
  | .local _ .vmem, ⟨7, _⟩ => ⟨S1x3x512, .f32⟩
  | .local _ .vmem, ⟨8, _⟩ => ⟨S1x3x512, .f32⟩
  | .local _ .vmem, ⟨9, _⟩ => ⟨S2304x512, .bf16⟩
  | .local _ .vmem, ⟨10, _⟩ => ⟨S2304x512, .bf16⟩
  | .local _ .vmem, ⟨11, _⟩ => ⟨S2320x512, .f32⟩
  | .local _ .vmem, ⟨12, _⟩ => ⟨S2320x512, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2304x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S9216x2048 : Shape := ⟨2, ![9216, 2048]⟩
abbrev S4x2048x11264 : Shape := ⟨3, ![4, 2048, 11264]⟩
abbrev S4x3x11264 : Shape := ⟨3, ![4, 3, 11264]⟩
abbrev S4x2304x2048 : Shape := ⟨3, ![4, 2304, 2048]⟩
abbrev S4x256x2048 : Shape := ⟨3, ![4, 256, 2048]⟩
abbrev S4x2048x2048 : Shape := ⟨3, ![4, 2048, 2048]⟩
abbrev S1x2048x11264 : Shape := ⟨3, ![1, 2048, 11264]⟩
abbrev S2048x11264 : Shape := ⟨2, ![2048, 11264]⟩
abbrev S4x256x11264 : Shape := ⟨3, ![4, 256, 11264]⟩
abbrev S1x3x11264 : Shape := ⟨3, ![1, 3, 11264]⟩
abbrev S3x11264 : Shape := ⟨2, ![3, 11264]⟩
abbrev S_ : Shape := ⟨0, ![]⟩
abbrev S4x258x11264 : Shape := ⟨3, ![4, 258, 11264]⟩
abbrev S1x11264 : Shape := ⟨2, ![1, 11264]⟩
abbrev S11264 : Shape := ⟨1, ![11264]⟩
abbrev S1x1x11264 : Shape := ⟨3, ![1, 1, 11264]⟩
abbrev S4x256x5632 : Shape := ⟨3, ![4, 256, 5632]⟩
abbrev S4x2050x11264 : Shape := ⟨3, ![4, 2050, 11264]⟩
abbrev S4x2048x5632 : Shape := ⟨3, ![4, 2048, 5632]⟩
abbrev S4x2304x5632 : Shape := ⟨3, ![4, 2304, 5632]⟩
abbrev S9216x5632 : Shape := ⟨2, ![9216, 5632]⟩

abbrev nBuf : Space → Nat
  | .hbm => 90
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S4x2048x11264, .f32⟩
  | .hbm, ⟨2, _⟩ => ⟨S4x3x11264, .f32⟩
  | .hbm, ⟨3, _⟩ => ⟨S9216x2048, .f32⟩
  | .hbm, ⟨4, _⟩ => ⟨S4x2304x2048, .f32⟩
  | .hbm, ⟨5, _⟩ => ⟨S4x256x2048, .f32⟩
  | .hbm, ⟨6, _⟩ => ⟨S4x2048x2048, .f32⟩
  | .hbm, ⟨7, _⟩ => ⟨S1x2048x11264, .f32⟩
  | .hbm, ⟨8, _⟩ => ⟨S2048x11264, .f32⟩
  | .hbm, ⟨9, _⟩ => ⟨S4x256x11264, .f32⟩
  | .hbm, ⟨10, _⟩ => ⟨S1x3x11264, .f32⟩
  | .hbm, ⟨11, _⟩ => ⟨S3x11264, .f32⟩
  | .hbm, ⟨12, _⟩ => ⟨S_, .i32⟩
  | .hbm, ⟨13, _⟩ => ⟨S_, .f32⟩
  | .hbm, ⟨14, _⟩ => ⟨S4x258x11264, .f32⟩
  | .hbm, ⟨15, _⟩ => ⟨S4x256x11264, .f32⟩
  | .hbm, ⟨16, _⟩ => ⟨S1x11264, .f32⟩
  | .hbm, ⟨17, _⟩ => ⟨S11264, .f32⟩
  | .hbm, ⟨18, _⟩ => ⟨S1x1x11264, .f32⟩
  | .hbm, ⟨19, _⟩ => ⟨S4x256x11264, .f32⟩
  | .hbm, ⟨20, _⟩ => ⟨S4x256x11264, .f32⟩
  | .hbm, ⟨21, _⟩ => ⟨S4x256x11264, .f32⟩
  | .hbm, ⟨22, _⟩ => ⟨S1x11264, .f32⟩
  | .hbm, ⟨23, _⟩ => ⟨S11264, .f32⟩
  | .hbm, ⟨24, _⟩ => ⟨S1x1x11264, .f32⟩
  | .hbm, ⟨25, _⟩ => ⟨S4x256x11264, .f32⟩
  | .hbm, ⟨26, _⟩ => ⟨S4x256x11264, .f32⟩
  | .hbm, ⟨27, _⟩ => ⟨S4x256x11264, .f32⟩
  | .hbm, ⟨28, _⟩ => ⟨S4x256x11264, .f32⟩
  | .hbm, ⟨29, _⟩ => ⟨S1x11264, .f32⟩
  | .hbm, ⟨30, _⟩ => ⟨S11264, .f32⟩
  | .hbm, ⟨31, _⟩ => ⟨S1x1x11264, .f32⟩
  | .hbm, ⟨32, _⟩ => ⟨S4x256x11264, .f32⟩
  | .hbm, ⟨33, _⟩ => ⟨S4x256x11264, .f32⟩
  | .hbm, ⟨34, _⟩ => ⟨S4x256x11264, .f32⟩
  | .hbm, ⟨35, _⟩ => ⟨S4x256x5632, .f32⟩
  | .hbm, ⟨36, _⟩ => ⟨S4x256x5632, .f32⟩
  | .hbm, ⟨37, _⟩ => ⟨S4x256x5632, .f32⟩
  | .hbm, ⟨38, _⟩ => ⟨S4x256x5632, .f32⟩
  | .hbm, ⟨39, _⟩ => ⟨S_, .f32⟩
  | .hbm, ⟨40, _⟩ => ⟨S4x256x5632, .f32⟩
  | .hbm, ⟨41, _⟩ => ⟨S4x256x5632, .f32⟩
  | .hbm, ⟨42, _⟩ => ⟨S_, .f32⟩
  | .hbm, ⟨43, _⟩ => ⟨S4x256x5632, .f32⟩
  | .hbm, ⟨44, _⟩ => ⟨S4x256x5632, .f32⟩
  | .hbm, ⟨45, _⟩ => ⟨S4x256x5632, .f32⟩
  | .hbm, ⟨46, _⟩ => ⟨S4x256x5632, .f32⟩
  | .hbm, ⟨47, _⟩ => ⟨S1x2048x11264, .f32⟩
  | .hbm, ⟨48, _⟩ => ⟨S2048x11264, .f32⟩
  | .hbm, ⟨49, _⟩ => ⟨S4x2048x11264, .f32⟩
  | .hbm, ⟨50, _⟩ => ⟨S1x3x11264, .f32⟩
  | .hbm, ⟨51, _⟩ => ⟨S3x11264, .f32⟩
  | .hbm, ⟨52, _⟩ => ⟨S_, .i32⟩
  | .hbm, ⟨53, _⟩ => ⟨S_, .f32⟩
  | .hbm, ⟨54, _⟩ => ⟨S4x2050x11264, .f32⟩
  | .hbm, ⟨55, _⟩ => ⟨S4x2048x11264, .f32⟩
  | .hbm, ⟨56, _⟩ => ⟨S1x11264, .f32⟩
  | .hbm, ⟨57, _⟩ => ⟨S11264, .f32⟩
  | .hbm, ⟨58, _⟩ => ⟨S1x1x11264, .f32⟩
  | .hbm, ⟨59, _⟩ => ⟨S4x2048x11264, .f32⟩
  | .hbm, ⟨60, _⟩ => ⟨S4x2048x11264, .f32⟩
  | .hbm, ⟨61, _⟩ => ⟨S4x2048x11264, .f32⟩
  | .hbm, ⟨62, _⟩ => ⟨S1x11264, .f32⟩
  | .hbm, ⟨63, _⟩ => ⟨S11264, .f32⟩
  | .hbm, ⟨64, _⟩ => ⟨S1x1x11264, .f32⟩
  | .hbm, ⟨65, _⟩ => ⟨S4x2048x11264, .f32⟩
  | .hbm, ⟨66, _⟩ => ⟨S4x2048x11264, .f32⟩
  | .hbm, ⟨67, _⟩ => ⟨S4x2048x11264, .f32⟩
  | .hbm, ⟨68, _⟩ => ⟨S4x2048x11264, .f32⟩
  | .hbm, ⟨69, _⟩ => ⟨S1x11264, .f32⟩
  | .hbm, ⟨70, _⟩ => ⟨S11264, .f32⟩
  | .hbm, ⟨71, _⟩ => ⟨S1x1x11264, .f32⟩
  | .hbm, ⟨72, _⟩ => ⟨S4x2048x11264, .f32⟩
  | .hbm, ⟨73, _⟩ => ⟨S4x2048x11264, .f32⟩
  | .hbm, ⟨74, _⟩ => ⟨S4x2048x11264, .f32⟩
  | .hbm, ⟨75, _⟩ => ⟨S4x2048x5632, .f32⟩
  | .hbm, ⟨76, _⟩ => ⟨S4x2048x5632, .f32⟩
  | .hbm, ⟨77, _⟩ => ⟨S4x2048x5632, .f32⟩
  | .hbm, ⟨78, _⟩ => ⟨S4x2048x5632, .f32⟩
  | .hbm, ⟨79, _⟩ => ⟨S_, .f32⟩
  | .hbm, ⟨80, _⟩ => ⟨S4x2048x5632, .f32⟩
  | .hbm, ⟨81, _⟩ => ⟨S4x2048x5632, .f32⟩
  | .hbm, ⟨82, _⟩ => ⟨S_, .f32⟩
  | .hbm, ⟨83, _⟩ => ⟨S4x2048x5632, .f32⟩
  | .hbm, ⟨84, _⟩ => ⟨S4x2048x5632, .f32⟩
  | .hbm, ⟨85, _⟩ => ⟨S4x2048x5632, .f32⟩
  | .hbm, ⟨86, _⟩ => ⟨S4x2048x5632, .f32⟩
  | .hbm, ⟨87, _⟩ => ⟨S4x2304x5632, .f32⟩
  | .hbm, ⟨88, _⟩ => ⟨S9216x5632, .f32⟩
  | .hbm, ⟨89, _⟩ => ⟨S9216x5632, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_0 : Ref sig .tc := ⟨.hbm, 52, rfl⟩
abbrev main_call2_v0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_call3_v0 : Ref sig .tc := ⟨.hbm, 77, rfl⟩
abbrev main_call3_v1 : Ref sig .tc := ⟨.hbm, 78, rfl⟩
abbrev main_call3_cst : Ref sig .tc := ⟨.hbm, 79, rfl⟩
abbrev main_call3_v2 : Ref sig .tc := ⟨.hbm, 80, rfl⟩
abbrev main_call3_v3 : Ref sig .tc := ⟨.hbm, 81, rfl⟩
abbrev main_call3_cst_0 : Ref sig .tc := ⟨.hbm, 82, rfl⟩
abbrev main_call3_v4 : Ref sig .tc := ⟨.hbm, 83, rfl⟩
abbrev main_call3_v5 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩

abbrev nD : Nat := 1
abbrev τ : Topo := Topo.v7x

variable {F : FTy → Type} [FloatOps F]
-- ==== FfnDown.lean ====
abbrev S9216x5632 : Shape := ⟨2, ![9216, 5632]⟩
abbrev S5632x2048 : Shape := ⟨2, ![5632, 2048]⟩
abbrev S9216x2048 : Shape := ⟨2, ![9216, 2048]⟩
abbrev S3x2048 : Shape := ⟨2, ![3, 2048]⟩
abbrev S4x3x2048 : Shape := ⟨3, ![4, 3, 2048]⟩
abbrev S2x2048 : Shape := ⟨2, ![2, 2048]⟩
abbrev S384x5632 : Shape := ⟨2, ![384, 5632]⟩
abbrev S384x2048 : Shape := ⟨2, ![384, 2048]⟩
abbrev S1x3x2048 : Shape := ⟨3, ![1, 3, 2048]⟩
abbrev S384x1 : Shape := ⟨2, ![384, 1]⟩
abbrev S384 : Shape := ⟨1, ![384]⟩
abbrev S1x2048 : Shape := ⟨2, ![1, 2048]⟩
abbrev S1x1x2048 : Shape := ⟨3, ![1, 1, 2048]⟩

abbrev nBuf : Space → Nat
  | .hbm => 8
  | .vmem => 13
  | .smem => 0
  | _ => 0

abbrev bufTy : (tb : Table) → Fin (tcTables nBuf tb) → BufTy
  | .hbm, ⟨0, _⟩ => ⟨S9216x5632, .bf16⟩
  | .hbm, ⟨1, _⟩ => ⟨S5632x2048, .bf16⟩
  | .hbm, ⟨2, _⟩ => ⟨S9216x2048, .f32⟩
  | .hbm, ⟨3, _⟩ => ⟨S3x2048, .f32⟩
  | .hbm, ⟨4, _⟩ => ⟨S4x3x2048, .f32⟩
  | .hbm, ⟨5, _⟩ => ⟨S2x2048, .f32⟩
  | .hbm, ⟨6, _⟩ => ⟨S9216x2048, .f32⟩
  | .hbm, ⟨7, _⟩ => ⟨S9216x2048, .bf16⟩
  | .local _ .vmem, ⟨0, _⟩ => ⟨S384x5632, .bf16⟩
  | .local _ .vmem, ⟨1, _⟩ => ⟨S384x5632, .bf16⟩
  | .local _ .vmem, ⟨2, _⟩ => ⟨S5632x2048, .bf16⟩
  | .local _ .vmem, ⟨3, _⟩ => ⟨S384x2048, .f32⟩
  | .local _ .vmem, ⟨4, _⟩ => ⟨S384x2048, .f32⟩
  | .local _ .vmem, ⟨5, _⟩ => ⟨S3x2048, .f32⟩
  | .local _ .vmem, ⟨6, _⟩ => ⟨S1x3x2048, .f32⟩
  | .local _ .vmem, ⟨7, _⟩ => ⟨S1x3x2048, .f32⟩
  | .local _ .vmem, ⟨8, _⟩ => ⟨S2x2048, .f32⟩
  | .local _ .vmem, ⟨9, _⟩ => ⟨S384x2048, .f32⟩
  | .local _ .vmem, ⟨10, _⟩ => ⟨S384x2048, .f32⟩
  | .local _ .vmem, ⟨11, _⟩ => ⟨S384x2048, .bf16⟩
  | .local _ .vmem, ⟨12, _⟩ => ⟨S384x2048, .bf16⟩
  | _, _ => ⟨S9216x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S384x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x3x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S384x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S384x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnDownRefIdeal.lean ====
abbrev S9216x5632 : Shape := ⟨2, ![9216, 5632]⟩
abbrev S5632x2048 : Shape := ⟨2, ![5632, 2048]⟩
abbrev S9216x2048 : Shape := ⟨2, ![9216, 2048]⟩
abbrev S3x2048 : Shape := ⟨2, ![3, 2048]⟩
abbrev S4x3x2048 : Shape := ⟨3, ![4, 3, 2048]⟩
abbrev S2x2048 : Shape := ⟨2, ![2, 2048]⟩
abbrev S4x2304x2048 : Shape := ⟨3, ![4, 2304, 2048]⟩
abbrev S4x256x2048 : Shape := ⟨3, ![4, 256, 2048]⟩
abbrev S4x2048x2048 : Shape := ⟨3, ![4, 2048, 2048]⟩
abbrev S1x2048 : Shape := ⟨2, ![1, 2048]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S4x1x2048 : Shape := ⟨3, ![4, 1, 2048]⟩
abbrev S4x2048 : Shape := ⟨2, ![4, 2048]⟩
abbrev S4x2048x1 : Shape := ⟨3, ![4, 2048, 1]⟩

abbrev nBuf : Space → Nat
  | .hbm => 130
  | .vmem => 0
  | .smem => 0
  | _ => 0

abbrev hbmTy0_0 (i : Nat) : BufTy := match i % 128 with
  | 0 => ⟨S9216x5632, .bf16⟩
  | 1 => ⟨S5632x2048, .bf16⟩
  | 2 => ⟨S9216x2048, .f32⟩
  | 3 => ⟨S3x2048, .f32⟩
  | 4 => ⟨S4x3x2048, .f32⟩
  | 5 => ⟨S2x2048, .f32⟩
  | 6 => ⟨S9216x5632, .f32⟩
  | 7 => ⟨S5632x2048, .f32⟩
  | 8 => ⟨S9216x2048, .f32⟩
  | 9 => ⟨S4x2304x2048, .f32⟩
  | 10 => ⟨S4x256x2048, .f32⟩
  | 11 => ⟨S4x2048x2048, .f32⟩
  | 12 => ⟨S4x2304x2048, .f32⟩
  | 13 => ⟨S4x256x2048, .f32⟩
  | 14 => ⟨S4x2048x2048, .f32⟩
  | 15 => ⟨S1x2048, .f32⟩
  | 16 => ⟨S2048, .f32⟩
  | 17 => ⟨S1x2048, .f32⟩
  | 18 => ⟨S2048, .f32⟩
  | 19 => ⟨S1x2048, .f32⟩
  | 20 => ⟨S2048, .f32⟩
  | 21 => ⟨S1x2048, .f32⟩
  | 22 => ⟨S2048, .f32⟩
  | 23 => ⟨S4x256x2048, .f32⟩
  | 24 => ⟨S_, .f32⟩
  | 25 => ⟨S4x256, .f32⟩
  | 26 => ⟨S4x256x1, .f32⟩
  | 27 => ⟨S_, .f32⟩
  | 28 => ⟨S4x256x1, .f32⟩
  | 29 => ⟨S4x256x1, .f32⟩
  | 30 => ⟨S_, .f32⟩
  | 31 => ⟨S4x256x1, .f32⟩
  | 32 => ⟨S4x256x1, .f32⟩
  | 33 => ⟨S4x256x1, .f32⟩
  | 34 => ⟨S4x256x2048, .f32⟩
  | 35 => ⟨S4x256x2048, .f32⟩
  | 36 => ⟨S1x1x2048, .f32⟩
  | 37 => ⟨S4x256x2048, .f32⟩
  | 38 => ⟨S4x256x2048, .f32⟩
  | 39 => ⟨S1x1x2048, .f32⟩
  | 40 => ⟨S4x256x2048, .f32⟩
  | 41 => ⟨S4x256x2048, .f32⟩
  | 42 => ⟨S4x256x2048, .f32⟩
  | 43 => ⟨S1x2048, .f32⟩
  | 44 => ⟨S2048, .f32⟩
  | 45 => ⟨S4x256x2048, .f32⟩
  | 46 => ⟨S_, .f32⟩
  | 47 => ⟨S4x256, .f32⟩
  | 48 => ⟨S4x256x1, .f32⟩
  | 49 => ⟨S_, .f32⟩
  | 50 => ⟨S4x256x1, .f32⟩
  | 51 => ⟨S4x256x1, .f32⟩
  | 52 => ⟨S_, .f32⟩
  | 53 => ⟨S4x256x1, .f32⟩
  | 54 => ⟨S4x256x1, .f32⟩
  | 55 => ⟨S4x256x1, .f32⟩
  | 56 => ⟨S4x256x2048, .f32⟩
  | 57 => ⟨S4x256x2048, .f32⟩
  | 58 => ⟨S1x1x2048, .f32⟩
  | 59 => ⟨S4x256x2048, .f32⟩
  | 60 => ⟨S4x256x2048, .f32⟩
  | 61 => ⟨S_, .f32⟩
  | 62 => ⟨S2048, .f32⟩
  | 63 => ⟨S2048, .f32⟩
  | 64 => ⟨S1x1x2048, .f32⟩
  | 65 => ⟨S4x256x2048, .f32⟩
  | 66 => ⟨S4x256x2048, .f32⟩
  | 67 => ⟨S1x1x2048, .f32⟩
  | 68 => ⟨S4x256x2048, .f32⟩
  | 69 => ⟨S4x256x2048, .f32⟩
  | 70 => ⟨S4x1x2048, .f32⟩
  | 71 => ⟨S4x2048, .f32⟩
  | 72 => ⟨S4x1x2048, .f32⟩
  | 73 => ⟨S4x1x2048, .f32⟩
  | 74 => ⟨S4x2048, .f32⟩
  | 75 => ⟨S4x1x2048, .f32⟩
  | 76 => ⟨S4x1x2048, .f32⟩
  | 77 => ⟨S4x2048, .f32⟩
  | 78 => ⟨S4x1x2048, .f32⟩
  | 79 => ⟨S1x2048, .f32⟩
  | 80 => ⟨S2048, .f32⟩
  | 81 => ⟨S4x2048x2048, .f32⟩
  | 82 => ⟨S_, .f32⟩
  | 83 => ⟨S4x2048, .f32⟩
  | 84 => ⟨S4x2048x1, .f32⟩
  | 85 => ⟨S_, .f32⟩
  | 86 => ⟨S4x2048x1, .f32⟩
  | 87 => ⟨S4x2048x1, .f32⟩
  | 88 => ⟨S_, .f32⟩
  | 89 => ⟨S4x2048x1, .f32⟩
  | 90 => ⟨S4x2048x1, .f32⟩
  | 91 => ⟨S4x2048x1, .f32⟩
  | 92 => ⟨S4x2048x2048, .f32⟩
  | 93 => ⟨S4x2048x2048, .f32⟩
  | 94 => ⟨S1x1x2048, .f32⟩
  | 95 => ⟨S4x2048x2048, .f32⟩
  | 96 => ⟨S4x2048x2048, .f32⟩
  | 97 => ⟨S4x2048x2048, .f32⟩
  | 98 => ⟨S4x2048x2048, .f32⟩
  | 99 => ⟨S4x2048x2048, .f32⟩
  | 100 => ⟨S1x2048, .f32⟩
  | 101 => ⟨S2048, .f32⟩
  | 102 => ⟨S4x2048x2048, .f32⟩
  | 103 => ⟨S_, .f32⟩
  | 104 => ⟨S4x2048, .f32⟩
  | 105 => ⟨S4x2048x1, .f32⟩
  | 106 => ⟨S_, .f32⟩
  | 107 => ⟨S4x2048x1, .f32⟩
  | 108 => ⟨S4x2048x1, .f32⟩
  | 109 => ⟨S_, .f32⟩
  | 110 => ⟨S4x2048x1, .f32⟩
  | 111 => ⟨S4x2048x1, .f32⟩
  | 112 => ⟨S4x2048x1, .f32⟩
  | 113 => ⟨S4x2048x2048, .f32⟩
  | 114 => ⟨S4x2048x2048, .f32⟩
  | 115 => ⟨S1x1x2048, .f32⟩
  | 116 => ⟨S4x2048x2048, .f32⟩
  | 117 => ⟨S4x2048x2048, .f32⟩
  | 118 => ⟨S_, .f32⟩
  | 119 => ⟨S4x1x2048, .f32⟩
  | 120 => ⟨S4x1x2048, .f32⟩
  | 121 => ⟨S4x2048x2048, .f32⟩
  | 122 => ⟨S4x2048x2048, .f32⟩
  | 123 => ⟨S4x2048x2048, .f32⟩
  | 124 => ⟨S4x2048x2048, .f32⟩
  | 125 => ⟨S4x2304x2048, .f32⟩
  | 126 => ⟨S9216x2048, .f32⟩
  | 127 => ⟨S4x2304x2048, .f32⟩
  | _ => ⟨S9216x5632, .bf16⟩

abbrev hbmTy0_1 (i : Nat) : BufTy := match i % 128 with
  | 0 => ⟨S9216x2048, .f32⟩
  | 1 => ⟨S9216x2048, .bf16⟩
  | _ => ⟨S9216x5632, .bf16⟩

abbrev hbmTy (i : Nat) : BufTy := match i / 128 with
  | 0 => hbmTy0_0 i
  | 1 => hbmTy0_1 i
  | _ => ⟨S9216x5632, .bf16⟩

abbrev bufTy : (tb : Table) → Fin (tcTables nBuf tb) → BufTy
  | .hbm, ⟨i, _⟩ => hbmTy i
  | _, _ => ⟨S9216x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_6 : Ref sig .tc := ⟨.hbm, 82, rfl⟩
abbrev main_v69 : Ref sig .tc := ⟨.hbm, 83, rfl⟩
abbrev main_v70 : Ref sig .tc := ⟨.hbm, 84, rfl⟩
abbrev main_cst_7 : Ref sig .tc := ⟨.hbm, 85, rfl⟩
abbrev main_v71 : Ref sig .tc := ⟨.hbm, 86, rfl⟩
abbrev main_v72 : Ref sig .tc := ⟨.hbm, 87, rfl⟩
abbrev main_cst_8 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_9 : Ref sig .tc := ⟨.hbm, 103, rfl⟩
abbrev main_v87 : Ref sig .tc := ⟨.hbm, 104, rfl⟩
abbrev main_v88 : Ref sig .tc := ⟨.hbm, 105, rfl⟩
abbrev main_cst_10 : Ref sig .tc := ⟨.hbm, 106, rfl⟩
abbrev main_v89 : Ref sig .tc := ⟨.hbm, 107, rfl⟩
abbrev main_v90 : Ref sig .tc := ⟨.hbm, 108, rfl⟩
abbrev main_cst_11 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_cst_12 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩

abbrev nD : Nat := 1
abbrev τ : Topo := Topo.v7x

variable {F : FTy → Type} [FloatOps F]
-- ==== OutProj.lean ====
abbrev S9216x512 : Shape := ⟨2, ![9216, 512]⟩
abbrev S2048x2048 : Shape := ⟨2, ![2048, 2048]⟩
abbrev S9216x2048 : Shape := ⟨2, ![9216, 2048]⟩
abbrev S3x2048 : Shape := ⟨2, ![3, 2048]⟩
abbrev S4x3x2048 : Shape := ⟨3, ![4, 3, 2048]⟩
abbrev S2x2048 : Shape := ⟨2, ![2, 2048]⟩
abbrev S768x512 : Shape := ⟨2, ![768, 512]⟩
abbrev S768x2048 : Shape := ⟨2, ![768, 2048]⟩
abbrev S1x3x2048 : Shape := ⟨3, ![1, 3, 2048]⟩
abbrev S512x2048 : Shape := ⟨2, ![512, 2048]⟩
abbrev S768x1 : Shape := ⟨2, ![768, 1]⟩
abbrev S768 : Shape := ⟨1, ![768]⟩
abbrev S1x2048 : Shape := ⟨2, ![1, 2048]⟩
abbrev S1x1x2048 : Shape := ⟨3, ![1, 1, 2048]⟩

abbrev nBuf : Space → Nat
  | .hbm => 11
  | .vmem => 19
  | .smem => 0
  | _ => 0

abbrev bufTy : (tb : Table) → Fin (tcTables nBuf tb) → BufTy
  | .hbm, ⟨0, _⟩ => ⟨S9216x512, .bf16⟩
  | .hbm, ⟨1, _⟩ => ⟨S9216x512, .bf16⟩
  | .hbm, ⟨2, _⟩ => ⟨S9216x512, .bf16⟩
  | .hbm, ⟨3, _⟩ => ⟨S9216x512, .bf16⟩
  | .hbm, ⟨4, _⟩ => ⟨S2048x2048, .bf16⟩
  | .hbm, ⟨5, _⟩ => ⟨S9216x2048, .f32⟩
  | .hbm, ⟨6, _⟩ => ⟨S3x2048, .f32⟩
  | .hbm, ⟨7, _⟩ => ⟨S4x3x2048, .f32⟩
  | .hbm, ⟨8, _⟩ => ⟨S2x2048, .f32⟩
  | .hbm, ⟨9, _⟩ => ⟨S9216x2048, .f32⟩
  | .hbm, ⟨10, _⟩ => ⟨S9216x2048, .bf16⟩
  | .local _ .vmem, ⟨0, _⟩ => ⟨S768x512, .bf16⟩
  | .local _ .vmem, ⟨1, _⟩ => ⟨S768x512, .bf16⟩
  | .local _ .vmem, ⟨2, _⟩ => ⟨S768x512, .bf16⟩
  | .local _ .vmem, ⟨3, _⟩ => ⟨S768x512, .bf16⟩
  | .local _ .vmem, ⟨4, _⟩ => ⟨S768x512, .bf16⟩
  | .local _ .vmem, ⟨5, _⟩ => ⟨S768x512, .bf16⟩
  | .local _ .vmem, ⟨6, _⟩ => ⟨S768x512, .bf16⟩
  | .local _ .vmem, ⟨7, _⟩ => ⟨S768x512, .bf16⟩
  | .local _ .vmem, ⟨8, _⟩ => ⟨S2048x2048, .bf16⟩
  | .local _ .vmem, ⟨9, _⟩ => ⟨S768x2048, .f32⟩
  | .local _ .vmem, ⟨10, _⟩ => ⟨S768x2048, .f32⟩
  | .local _ .vmem, ⟨11, _⟩ => ⟨S3x2048, .f32⟩
  | .local _ .vmem, ⟨12, _⟩ => ⟨S1x3x2048, .f32⟩
  | .local _ .vmem, ⟨13, _⟩ => ⟨S1x3x2048, .f32⟩
  | .local _ .vmem, ⟨14, _⟩ => ⟨S2x2048, .f32⟩
  | .local _ .vmem, ⟨15, _⟩ => ⟨S768x2048, .f32⟩
  | .local _ .vmem, ⟨16, _⟩ => ⟨S768x2048, .f32⟩
  | .local _ .vmem, ⟨17, _⟩ => ⟨S768x2048, .bf16⟩
  | .local _ .vmem, ⟨18, _⟩ => ⟨S768x2048, .bf16⟩
  | _, _ => ⟨S9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S768x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S3x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x3x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S2x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S768x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S768x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutProjRefIdeal.lean ====
abbrev S9216x512 : Shape := ⟨2, ![9216, 512]⟩
abbrev S2048x2048 : Shape := ⟨2, ![2048, 2048]⟩
abbrev S9216x2048 : Shape := ⟨2, ![9216, 2048]⟩
abbrev S3x2048 : Shape := ⟨2, ![3, 2048]⟩
abbrev S4x3x2048 : Shape := ⟨3, ![4, 3, 2048]⟩
abbrev S2x2048 : Shape := ⟨2, ![2, 2048]⟩
abbrev S4x2304x2048 : Shape := ⟨3, ![4, 2304, 2048]⟩
abbrev S4x256x2048 : Shape := ⟨3, ![4, 256, 2048]⟩
abbrev S4x2048x2048 : Shape := ⟨3, ![4, 2048, 2048]⟩
abbrev S1x2048 : Shape := ⟨2, ![1, 2048]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S4x1x2048 : Shape := ⟨3, ![4, 1, 2048]⟩
abbrev S4x2048 : Shape := ⟨2, ![4, 2048]⟩
abbrev S4x2048x1 : Shape := ⟨3, ![4, 2048, 1]⟩

abbrev nBuf : Space → Nat
  | .hbm => 134
  | .vmem => 0
  | .smem => 0
  | _ => 0

abbrev hbmTy0_0 (i : Nat) : BufTy := match i % 128 with
  | 0 => ⟨S9216x512, .bf16⟩
  | 1 => ⟨S9216x512, .bf16⟩
  | 2 => ⟨S9216x512, .bf16⟩
  | 3 => ⟨S9216x512, .bf16⟩
  | 4 => ⟨S2048x2048, .bf16⟩
  | 5 => ⟨S9216x2048, .f32⟩
  | 6 => ⟨S3x2048, .f32⟩
  | 7 => ⟨S4x3x2048, .f32⟩
  | 8 => ⟨S2x2048, .f32⟩
  | 9 => ⟨S9216x2048, .bf16⟩
  | 10 => ⟨S9216x2048, .f32⟩
  | 11 => ⟨S2048x2048, .f32⟩
  | 12 => ⟨S9216x2048, .f32⟩
  | 13 => ⟨S4x2304x2048, .f32⟩
  | 14 => ⟨S4x256x2048, .f32⟩
  | 15 => ⟨S4x2048x2048, .f32⟩
  | 16 => ⟨S4x2304x2048, .f32⟩
  | 17 => ⟨S4x256x2048, .f32⟩
  | 18 => ⟨S4x2048x2048, .f32⟩
  | 19 => ⟨S1x2048, .f32⟩
  | 20 => ⟨S2048, .f32⟩
  | 21 => ⟨S1x2048, .f32⟩
  | 22 => ⟨S2048, .f32⟩
  | 23 => ⟨S1x2048, .f32⟩
  | 24 => ⟨S2048, .f32⟩
  | 25 => ⟨S1x2048, .f32⟩
  | 26 => ⟨S2048, .f32⟩
  | 27 => ⟨S4x256x2048, .f32⟩
  | 28 => ⟨S_, .f32⟩
  | 29 => ⟨S4x256, .f32⟩
  | 30 => ⟨S4x256x1, .f32⟩
  | 31 => ⟨S_, .f32⟩
  | 32 => ⟨S4x256x1, .f32⟩
  | 33 => ⟨S4x256x1, .f32⟩
  | 34 => ⟨S_, .f32⟩
  | 35 => ⟨S4x256x1, .f32⟩
  | 36 => ⟨S4x256x1, .f32⟩
  | 37 => ⟨S4x256x1, .f32⟩
  | 38 => ⟨S4x256x2048, .f32⟩
  | 39 => ⟨S4x256x2048, .f32⟩
  | 40 => ⟨S1x1x2048, .f32⟩
  | 41 => ⟨S4x256x2048, .f32⟩
  | 42 => ⟨S4x256x2048, .f32⟩
  | 43 => ⟨S1x1x2048, .f32⟩
  | 44 => ⟨S4x256x2048, .f32⟩
  | 45 => ⟨S4x256x2048, .f32⟩
  | 46 => ⟨S4x256x2048, .f32⟩
  | 47 => ⟨S1x2048, .f32⟩
  | 48 => ⟨S2048, .f32⟩
  | 49 => ⟨S4x256x2048, .f32⟩
  | 50 => ⟨S_, .f32⟩
  | 51 => ⟨S4x256, .f32⟩
  | 52 => ⟨S4x256x1, .f32⟩
  | 53 => ⟨S_, .f32⟩
  | 54 => ⟨S4x256x1, .f32⟩
  | 55 => ⟨S4x256x1, .f32⟩
  | 56 => ⟨S_, .f32⟩
  | 57 => ⟨S4x256x1, .f32⟩
  | 58 => ⟨S4x256x1, .f32⟩
  | 59 => ⟨S4x256x1, .f32⟩
  | 60 => ⟨S4x256x2048, .f32⟩
  | 61 => ⟨S4x256x2048, .f32⟩
  | 62 => ⟨S1x1x2048, .f32⟩
  | 63 => ⟨S4x256x2048, .f32⟩
  | 64 => ⟨S4x256x2048, .f32⟩
  | 65 => ⟨S_, .f32⟩
  | 66 => ⟨S2048, .f32⟩
  | 67 => ⟨S2048, .f32⟩
  | 68 => ⟨S1x1x2048, .f32⟩
  | 69 => ⟨S4x256x2048, .f32⟩
  | 70 => ⟨S4x256x2048, .f32⟩
  | 71 => ⟨S1x1x2048, .f32⟩
  | 72 => ⟨S4x256x2048, .f32⟩
  | 73 => ⟨S4x256x2048, .f32⟩
  | 74 => ⟨S4x1x2048, .f32⟩
  | 75 => ⟨S4x2048, .f32⟩
  | 76 => ⟨S4x1x2048, .f32⟩
  | 77 => ⟨S4x1x2048, .f32⟩
  | 78 => ⟨S4x2048, .f32⟩
  | 79 => ⟨S4x1x2048, .f32⟩
  | 80 => ⟨S4x1x2048, .f32⟩
  | 81 => ⟨S4x2048, .f32⟩
  | 82 => ⟨S4x1x2048, .f32⟩
  | 83 => ⟨S1x2048, .f32⟩
  | 84 => ⟨S2048, .f32⟩
  | 85 => ⟨S4x2048x2048, .f32⟩
  | 86 => ⟨S_, .f32⟩
  | 87 => ⟨S4x2048, .f32⟩
  | 88 => ⟨S4x2048x1, .f32⟩
  | 89 => ⟨S_, .f32⟩
  | 90 => ⟨S4x2048x1, .f32⟩
  | 91 => ⟨S4x2048x1, .f32⟩
  | 92 => ⟨S_, .f32⟩
  | 93 => ⟨S4x2048x1, .f32⟩
  | 94 => ⟨S4x2048x1, .f32⟩
  | 95 => ⟨S4x2048x1, .f32⟩
  | 96 => ⟨S4x2048x2048, .f32⟩
  | 97 => ⟨S4x2048x2048, .f32⟩
  | 98 => ⟨S1x1x2048, .f32⟩
  | 99 => ⟨S4x2048x2048, .f32⟩
  | 100 => ⟨S4x2048x2048, .f32⟩
  | 101 => ⟨S4x2048x2048, .f32⟩
  | 102 => ⟨S4x2048x2048, .f32⟩
  | 103 => ⟨S4x2048x2048, .f32⟩
  | 104 => ⟨S1x2048, .f32⟩
  | 105 => ⟨S2048, .f32⟩
  | 106 => ⟨S4x2048x2048, .f32⟩
  | 107 => ⟨S_, .f32⟩
  | 108 => ⟨S4x2048, .f32⟩
  | 109 => ⟨S4x2048x1, .f32⟩
  | 110 => ⟨S_, .f32⟩
  | 111 => ⟨S4x2048x1, .f32⟩
  | 112 => ⟨S4x2048x1, .f32⟩
  | 113 => ⟨S_, .f32⟩
  | 114 => ⟨S4x2048x1, .f32⟩
  | 115 => ⟨S4x2048x1, .f32⟩
  | 116 => ⟨S4x2048x1, .f32⟩
  | 117 => ⟨S4x2048x2048, .f32⟩
  | 118 => ⟨S4x2048x2048, .f32⟩
  | 119 => ⟨S1x1x2048, .f32⟩
  | 120 => ⟨S4x2048x2048, .f32⟩
  | 121 => ⟨S4x2048x2048, .f32⟩
  | 122 => ⟨S_, .f32⟩
  | 123 => ⟨S4x1x2048, .f32⟩
  | 124 => ⟨S4x1x2048, .f32⟩
  | 125 => ⟨S4x2048x2048, .f32⟩
  | 126 => ⟨S4x2048x2048, .f32⟩
  | 127 => ⟨S4x2048x2048, .f32⟩
  | _ => ⟨S9216x512, .bf16⟩

abbrev hbmTy0_1 (i : Nat) : BufTy := match i % 128 with
  | 0 => ⟨S4x2048x2048, .f32⟩
  | 1 => ⟨S4x2304x2048, .f32⟩
  | 2 => ⟨S9216x2048, .f32⟩
  | 3 => ⟨S4x2304x2048, .f32⟩
  | 4 => ⟨S9216x2048, .f32⟩
  | 5 => ⟨S9216x2048, .bf16⟩
  | _ => ⟨S9216x512, .bf16⟩

abbrev hbmTy (i : Nat) : BufTy := match i / 128 with
  | 0 => hbmTy0_0 i
  | 1 => hbmTy0_1 i
  | _ => ⟨S9216x512, .bf16⟩

abbrev bufTy : (tb : Table) → Fin (tcTables nBuf tb) → BufTy
  | .hbm, ⟨i, _⟩ => hbmTy i
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_6 : Ref sig .tc := ⟨.hbm, 86, rfl⟩
abbrev main_v70 : Ref sig .tc := ⟨.hbm, 87, rfl⟩
abbrev main_v71 : Ref sig .tc := ⟨.hbm, 88, rfl⟩
abbrev main_cst_7 : Ref sig .tc := ⟨.hbm, 89, rfl⟩
abbrev main_v72 : Ref sig .tc := ⟨.hbm, 90, rfl⟩
abbrev main_v73 : Ref sig .tc := ⟨.hbm, 91, rfl⟩
abbrev main_cst_8 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_9 : Ref sig .tc := ⟨.hbm, 107, rfl⟩
abbrev main_v88 : Ref sig .tc := ⟨.hbm, 108, rfl⟩
abbrev main_v89 : Ref sig .tc := ⟨.hbm, 109, rfl⟩
abbrev main_cst_10 : Ref sig .tc := ⟨.hbm, 110, rfl⟩
abbrev main_v90 : Ref sig .tc := ⟨.hbm, 111, rfl⟩
abbrev main_v91 : Ref sig .tc := ⟨.hbm, 112, rfl⟩
abbrev main_cst_11 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_cst_12 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩

abbrev nD : Nat := 1
abbrev τ : Topo := Topo.v7x

variable {F : FTy → Type} [FloatOps F]
-- ==== InProj.lean ====
abbrev S9216x2048 : Shape := ⟨2, ![9216, 2048]⟩
abbrev S2048x6400 : Shape := ⟨2, ![2048, 6400]⟩
abbrev S9216x6400 : Shape := ⟨2, ![9216, 6400]⟩
abbrev S2304x2048 : Shape := ⟨2, ![2304, 2048]⟩
abbrev S2048x1280 : Shape := ⟨2, ![2048, 1280]⟩
abbrev S2304x1280 : Shape := ⟨2, ![2304, 1280]⟩

abbrev nBuf : Space → Nat
  | .hbm => 3
  | .vmem => 6
  | .smem => 0
  | _ => 0

abbrev bufTy : (tb : Table) → Fin (tcTables nBuf tb) → BufTy
  | .hbm, ⟨0, _⟩ => ⟨S9216x2048, .bf16⟩
  | .hbm, ⟨1, _⟩ => ⟨S2048x6400, .bf16⟩
  | .hbm, ⟨2, _⟩ => ⟨S9216x6400, .bf16⟩
  | .local _ .vmem, ⟨0, _⟩ => ⟨S2304x2048, .bf16⟩
  | .local _ .vmem, ⟨1, _⟩ => ⟨S2304x2048, .bf16⟩
  | .local _ .vmem, ⟨2, _⟩ => ⟨S2048x1280, .bf16⟩
  | .local _ .vmem, ⟨3, _⟩ => ⟨S2048x1280, .bf16⟩
  | .local _ .vmem, ⟨4, _⟩ => ⟨S2304x1280, .bf16⟩
  | .local _ .vmem, ⟨5, _⟩ => ⟨S2304x1280, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2304x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2304x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S9216x2048 : Shape := ⟨2, ![9216, 2048]⟩
abbrev S2048x6400 : Shape := ⟨2, ![2048, 6400]⟩
abbrev S9216x6400 : Shape := ⟨2, ![9216, 6400]⟩

abbrev nBuf : Space → Nat
  | .hbm => 6
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x6400, .bf16⟩
  | .hbm, ⟨2, _⟩ => ⟨S9216x2048, .f32⟩
  | .hbm, ⟨3, _⟩ => ⟨S2048x6400, .f32⟩
  | .hbm, ⟨4, _⟩ => ⟨S9216x6400, .f32⟩
  | .hbm, ⟨5, _⟩ => ⟨S9216x6400, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MlaProj.lean ====
abbrev S9216x6400 : Shape := ⟨2, ![9216, 6400]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S384x192 : Shape := ⟨2, ![384, 192]⟩
abbrev S_ : Shape := ⟨0, ![]⟩
abbrev S384x256 : Shape := ⟨2, ![384, 256]⟩
abbrev S384x1024 : Shape := ⟨2, ![384, 1024]⟩
abbrev S256x128 : Shape := ⟨2, ![256, 128]⟩
abbrev S256x256 : Shape := ⟨2, ![256, 256]⟩
abbrev S256x512 : Shape := ⟨2, ![256, 512]⟩
abbrev S16 : Shape := ⟨1, ![16]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x16 : Shape := ⟨2, ![2048, 16]⟩
abbrev S2048x1 : Shape := ⟨2, ![2048, 1]⟩
abbrev S1x16 : Shape := ⟨2, ![1, 16]⟩
abbrev S2048x64 : Shape := ⟨2, ![2048, 64]⟩
abbrev S2048x128 : Shape := ⟨2, ![2048, 128]⟩
abbrev S2048x256 : Shape := ⟨2, ![2048, 256]⟩
abbrev S2304x256 : Shape := ⟨2, ![2304, 256]⟩
abbrev S1x384 : Shape := ⟨2, ![1, 384]⟩
abbrev S1x256 : Shape := ⟨2, ![1, 256]⟩
abbrev S9216x1024 : Shape := ⟨2, ![9216, 1024]⟩
abbrev S9216x512 : Shape := ⟨2, ![9216, 512]⟩
abbrev S768x768 : Shape := ⟨2, ![768, 768]⟩
abbrev S768x256 : Shape := ⟨2, ![768, 256]⟩
abbrev S768x1024 : Shape := ⟨2, ![768, 1024]⟩
abbrev S768x512 : Shape := ⟨2, ![768, 512]⟩
abbrev S768x384 : Shape := ⟨2, ![768, 384]⟩
abbrev S768x128 : Shape := ⟨2, ![768, 128]⟩
abbrev S768 : Shape := ⟨1, ![768]⟩
abbrev S768x1 : Shape := ⟨2, ![768, 1]⟩

abbrev nBuf : Space → Nat
  | .hbm => 118
  | .vmem => 19
  | .smem => 0
  | _ => 0

abbrev bufTy : (tb : Table) → Fin (tcTables nBuf tb) → BufTy
  | .hbm, ⟨0, _⟩ => ⟨S9216x6400, .bf16⟩
  | .hbm, ⟨1, _⟩ => ⟨S384, .f32⟩
  | .hbm, ⟨2, _⟩ => ⟨S256, .f32⟩
  | .hbm, ⟨3, _⟩ => ⟨S384x768, .f32⟩
  | .hbm, ⟨4, _⟩ => ⟨S256x1024, .f32⟩
  | .hbm, ⟨5, _⟩ => ⟨S384x192, .f32⟩
  | .hbm, ⟨6, _⟩ => ⟨S_, .i32⟩
  | .hbm, ⟨7, _⟩ => ⟨S_, .f32⟩
  | .hbm, ⟨8, _⟩ => ⟨S384x256, .f32⟩
  | .hbm, ⟨9, _⟩ => ⟨S384x192, .f32⟩
  | .hbm, ⟨10, _⟩ => ⟨S_, .i32⟩
  | .hbm, ⟨11, _⟩ => ⟨S_, .f32⟩
  | .hbm, ⟨12, _⟩ => ⟨S384x256, .f32⟩
  | .hbm, ⟨13, _⟩ => ⟨S384x192, .f32⟩
  | .hbm, ⟨14, _⟩ => ⟨S_, .i32⟩
  | .hbm, ⟨15, _⟩ => ⟨S_, .f32⟩
  | .hbm, ⟨16, _⟩ => ⟨S384x256, .f32⟩
  | .hbm, ⟨17, _⟩ => ⟨S384x192, .f32⟩
  | .hbm, ⟨18, _⟩ => ⟨S_, .i32⟩
  | .hbm, ⟨19, _⟩ => ⟨S_, .f32⟩
  | .hbm, ⟨20, _⟩ => ⟨S384x256, .f32⟩
  | .hbm, ⟨21, _⟩ => ⟨S384x1024, .f32⟩
  | .hbm, ⟨22, _⟩ => ⟨S256x128, .f32⟩
  | .hbm, ⟨23, _⟩ => ⟨S_, .i32⟩
  | .hbm, ⟨24, _⟩ => ⟨S_, .f32⟩
  | .hbm, ⟨25, _⟩ => ⟨S256x256, .f32⟩
  | .hbm, ⟨26, _⟩ => ⟨S256x128, .f32⟩
  | .hbm, ⟨27, _⟩ => ⟨S_, .i32⟩
  | .hbm, ⟨28, _⟩ => ⟨S_, .f32⟩
  | .hbm, ⟨29, _⟩ => ⟨S256x256, .f32⟩
  | .hbm, ⟨30, _⟩ => ⟨S256x128, .f32⟩
  | .hbm, ⟨31, _⟩ => ⟨S_, .i32⟩
  | .hbm, ⟨32, _⟩ => ⟨S_, .f32⟩
  | .hbm, ⟨33, _⟩ => ⟨S256x256, .f32⟩
  | .hbm, ⟨34, _⟩ => ⟨S256x128, .f32⟩
  | .hbm, ⟨35, _⟩ => ⟨S_, .i32⟩
  | .hbm, ⟨36, _⟩ => ⟨S_, .f32⟩
  | .hbm, ⟨37, _⟩ => ⟨S256x256, .f32⟩
  | .hbm, ⟨38, _⟩ => ⟨S256x1024, .f32⟩
  | .hbm, ⟨39, _⟩ => ⟨S256x128, .f32⟩
  | .hbm, ⟨40, _⟩ => ⟨S256x128, .f32⟩
  | .hbm, ⟨41, _⟩ => ⟨S256x128, .f32⟩
  | .hbm, ⟨42, _⟩ => ⟨S256x128, .f32⟩
  | .hbm, ⟨43, _⟩ => ⟨S256x512, .f32⟩
  | .hbm, ⟨44, _⟩ => ⟨S384x1024, .bf16⟩
  | .hbm, ⟨45, _⟩ => ⟨S256x1024, .bf16⟩
  | .hbm, ⟨46, _⟩ => ⟨S256x512, .bf16⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S32, .f32⟩
  | .hbm, ⟨62, _⟩ => ⟨S32x64, .f32⟩
  | .hbm, ⟨63, _⟩ => ⟨S2048, .f32⟩
  | .hbm, ⟨64, _⟩ => ⟨S64, .f32⟩
  | .hbm, ⟨65, _⟩ => ⟨S1x64, .f32⟩
  | .hbm, ⟨66, _⟩ => ⟨S32x64, .f32⟩
  | .hbm, ⟨67, _⟩ => ⟨S2048, .f32⟩
  | .hbm, ⟨68, _⟩ => ⟨S_, .f32⟩
  | .hbm, ⟨69, _⟩ => ⟨S2048x16, .f32⟩
  | .hbm, ⟨70, _⟩ => ⟨S2048x1, .f32⟩
  | .hbm, ⟨71, _⟩ => ⟨S1x16, .f32⟩
  | .hbm, ⟨72, _⟩ => ⟨S2048x16, .f32⟩
  | .hbm, ⟨73, _⟩ => ⟨S2048x16, .f32⟩
  | .hbm, ⟨74, _⟩ => ⟨S2048x16, .f32⟩
  | .hbm, ⟨75, _⟩ => ⟨S2048x16, .f32⟩
  | .hbm, ⟨76, _⟩ => ⟨S2048x16, .f32⟩
  | .hbm, ⟨77, _⟩ => ⟨S2048x16, .f32⟩
  | .hbm, ⟨78, _⟩ => ⟨S2048x1, .f32⟩
  | .hbm, ⟨79, _⟩ => ⟨S1x16, .f32⟩
  | .hbm, ⟨80, _⟩ => ⟨S2048x16, .f32⟩
  | .hbm, ⟨81, _⟩ => ⟨S2048x16, .f32⟩
  | .hbm, ⟨82, _⟩ => ⟨S2048x16, .f32⟩
  | .hbm, ⟨83, _⟩ => ⟨S2048x16, .f32⟩
  | .hbm, ⟨84, _⟩ => ⟨S2048x16, .f32⟩
  | .hbm, ⟨85, _⟩ => ⟨S2048x16, .f32⟩
  | .hbm, ⟨86, _⟩ => ⟨S2048x64, .f32⟩
  | .hbm, ⟨87, _⟩ => ⟨S_, .f32⟩
  | .hbm, ⟨88, _⟩ => ⟨S2048x128, .f32⟩
  | .hbm, ⟨89, _⟩ => ⟨S_, .f32⟩
  | .hbm, ⟨90, _⟩ => ⟨S2048x64, .f32⟩
  | .hbm, ⟨91, _⟩ => ⟨S2048x256, .f32⟩
  | .hbm, ⟨92, _⟩ => ⟨S_, .f32⟩
  | .hbm, ⟨93, _⟩ => ⟨S256x256, .f32⟩
  | .hbm, ⟨94, _⟩ => ⟨S2304x256, .f32⟩
  | .hbm, ⟨95, _⟩ => ⟨S2048x64, .f32⟩
  | .hbm, ⟨96, _⟩ => ⟨S_, .f32⟩
  | .hbm, ⟨97, _⟩ => ⟨S2048x128, .f32⟩
  | .hbm, ⟨98, _⟩ => ⟨S_, .f32⟩
  | .hbm, ⟨99, _⟩ => ⟨S2048x64, .f32⟩
  | .hbm, ⟨100, _⟩ => ⟨S2048x256, .f32⟩
  | .hbm, ⟨101, _⟩ => ⟨S_, .f32⟩
  | .hbm, ⟨102, _⟩ => ⟨S256x256, .f32⟩
  | .hbm, ⟨103, _⟩ => ⟨S2304x256, .f32⟩
  | .hbm, ⟨104, _⟩ => ⟨S2048x64, .f32⟩
  | .hbm, ⟨105, _⟩ => ⟨S_, .f32⟩
  | .hbm, ⟨106, _⟩ => ⟨S2048x128, .f32⟩
  | .hbm, ⟨107, _⟩ => ⟨S_, .f32⟩
  | .hbm, ⟨108, _⟩ => ⟨S2048x64, .f32⟩
  | .hbm, ⟨109, _⟩ => ⟨S2048x256, .f32⟩
  | .hbm, ⟨110, _⟩ => ⟨S_, .f32⟩
  | .hbm, ⟨111, _⟩ => ⟨S256x256, .f32⟩
  | .hbm, ⟨112, _⟩ => ⟨S2304x256, .f32⟩
  | .hbm, ⟨113, _⟩ => ⟨S1x384, .f32⟩
  | .hbm, ⟨114, _⟩ => ⟨S1x256, .f32⟩
  | .hbm, ⟨115, _⟩ => ⟨S9216x1024, .bf16⟩
  | .hbm, ⟨116, _⟩ => ⟨S9216x1024, .bf16⟩
  | .hbm, ⟨117, _⟩ => ⟨S9216x512, .bf16⟩
  | .local _ .vmem, ⟨0, _⟩ => ⟨S768x768, .bf16⟩
  | .local _ .vmem, ⟨1, _⟩ => ⟨S768x768, .bf16⟩
  | .local _ .vmem, ⟨2, _⟩ => ⟨S1x384, .f32⟩
  | .local _ .vmem, ⟨3, _⟩ => ⟨S1x256, .f32⟩
  | .local _ .vmem, ⟨4, _⟩ => ⟨S384x1024, .bf16⟩
  | .local _ .vmem, ⟨5, _⟩ => ⟨S256x1024, .bf16⟩
  | .local _ .vmem, ⟨6, _⟩ => ⟨S256x512, .bf16⟩
  | .local _ .vmem, ⟨7, _⟩ => ⟨S768x256, .f32⟩
  | .local _ .vmem, ⟨8, _⟩ => ⟨S768x256, .f32⟩
  | .local _ .vmem, ⟨9, _⟩ => ⟨S768x256, .f32⟩
  | .local _ .vmem, ⟨10, _⟩ => ⟨S768x256, .f32⟩
  | .local _ .vmem, ⟨11, _⟩ => ⟨S768x256, .f32⟩
  | .local _ .vmem, ⟨12, _⟩ => ⟨S768x256, .f32⟩
  | .local _ .vmem, ⟨13, _⟩ => ⟨S768x1024, .bf16⟩
  | .local _ .vmem, ⟨14, _⟩ => ⟨S768x1024, .bf16⟩
  | .local _ .vmem, ⟨15, _⟩ => ⟨S768x1024, .bf16⟩
  | .local _ .vmem, ⟨16, _⟩ => ⟨S768x1024, .bf16⟩
  | .local _ .vmem, ⟨17, _⟩ => ⟨S768x512, .bf16⟩
  | .local _ .vmem, ⟨18, _⟩ => ⟨S768x512, .bf16⟩
  | _, _ => ⟨S9216x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_call3_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_call4_v0 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_call5_v0 : Ref sig .tc := ⟨.hbm, 28, rfl⟩
abbrev main_v12 : Ref sig .tc := ⟨.hbm, 29, rfl⟩
abbrev main_v13 : Ref sig .tc := ⟨.hbm, 30, rfl⟩
abbrev main_c_5 : Ref sig .tc := ⟨.hbm, 31, rfl⟩
abbrev main_call6_v0 : Ref sig .tc := ⟨.hbm, 32, rfl⟩
abbrev main_v14 : Ref sig .tc := ⟨.hbm, 33, rfl⟩
abbrev main_v15 : Ref sig .tc := ⟨.hbm, 34, rfl⟩
abbrev main_c_6 : Ref sig .tc := ⟨.hbm, 35, rfl⟩
abbrev main_call7_v0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_cst_9 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_cst_15 : Ref sig .tc := ⟨.hbm, 98, rfl⟩
abbrev main_v68 : Ref sig .tc := ⟨.hbm, 99, rfl⟩
abbrev main_v69 : Ref sig .tc := ⟨.hbm, 100, rfl⟩
abbrev main_cst_16 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_17 : Ref sig .tc := ⟨.hbm, 105, rfl⟩
abbrev main_v73 : Ref sig .tc := ⟨.hbm, 106, rfl⟩
abbrev main_cst_18 : Ref sig .tc := ⟨.hbm, 107, rfl⟩
abbrev main_v74 : Ref sig .tc := ⟨.hbm, 108, rfl⟩
abbrev main_v75 : Ref sig .tc := ⟨.hbm, 109, rfl⟩
abbrev main_cst_19 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80_0 : Ref sig .tc := ⟨.hbm, 115, rfl⟩
abbrev main_v80_1 : Ref sig .tc := ⟨.hbm, 116, rfl⟩
abbrev main_v80_2 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S768x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S768x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S768x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S768x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S768x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S768x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S768x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MlaProjIdeal.lean ====
variable {F : FTy → Type} [FloatOps F] [Named F]
def κ : String → Option EReal := fun
  | "logit_scale" => some ((((Real.sqrt 192) * (Real.log 2))⁻¹ : ℝ) : EReal)
  | _ => none
-- ==== MlaProjRefIdeal.lean ====
abbrev S9216x6400 : Shape := ⟨2, ![9216, 6400]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S9216x768 : Shape := ⟨2, ![9216, 768]⟩
abbrev S4x2304x768 : Shape := ⟨3, ![4, 2304, 768]⟩
abbrev S4x256x768 : Shape := ⟨3, ![4, 256, 768]⟩
abbrev S4x2048x768 : Shape := ⟨3, ![4, 2048, 768]⟩
abbrev S16 : Shape := ⟨1, ![16]⟩
abbrev S_ : Shape := ⟨0, ![]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x16 : Shape := ⟨2, ![1, 16]⟩
abbrev S2048x16 : Shape := ⟨2, ![2048, 16]⟩
abbrev S4x256x384 : Shape := ⟨3, ![4, 256, 384]⟩
abbrev S4x256x256 : Shape := ⟨3, ![4, 256, 256]⟩
abbrev S4x256x64 : Shape := ⟨3, ![4, 256, 64]⟩
abbrev S4x256 : Shape := ⟨2, ![4, 256]⟩
abbrev S4x256x1 : Shape := ⟨3, ![4, 256, 1]⟩
abbrev S1x1x384 : Shape := ⟨3, ![1, 1, 384]⟩
abbrev S4x256x4x192 : Shape := ⟨4, ![4, 256, 4, 192]⟩
abbrev S1x1x256 : Shape := ⟨3, ![1, 1, 256]⟩
abbrev S4x256x1024 : Shape := ⟨3, ![4, 256, 1024]⟩
abbrev S4x256x4x256 : Shape := ⟨4, ![4, 256, 4, 256]⟩
abbrev S4x256x4x128 : Shape := ⟨4, ![4, 256, 4, 128]⟩
abbrev S4x256x4x64 : Shape := ⟨4, ![4, 256, 4, 64]⟩
abbrev S4x256x1x64 : Shape := ⟨4, ![4, 256, 1, 64]⟩
abbrev S4x256x512 : Shape := ⟨3, ![4, 256, 512]⟩
abbrev S4x2048x384 : Shape := ⟨3, ![4, 2048, 384]⟩
abbrev S4x2048x256 : Shape := ⟨3, ![4, 2048, 256]⟩
abbrev S4x2048x64 : Shape := ⟨3, ![4, 2048, 64]⟩
abbrev S4x2048 : Shape := ⟨2, ![4, 2048]⟩
abbrev S4x2048x1 : Shape := ⟨3, ![4, 2048, 1]⟩
abbrev S4x2048x4x192 : Shape := ⟨4, ![4, 2048, 4, 192]⟩
abbrev S4x2048x1024 : Shape := ⟨3, ![4, 2048, 1024]⟩
abbrev S4x2048x4x256 : Shape := ⟨4, ![4, 2048, 4, 256]⟩
abbrev S4x2048x4x128 : Shape := ⟨4, ![4, 2048, 4, 128]⟩
abbrev S4x2048x4x64 : Shape := ⟨4, ![4, 2048, 4, 64]⟩
abbrev S4x2048x1x64 : Shape := ⟨4, ![4, 2048, 1, 64]⟩
abbrev S4x2048x4x32 : Shape := ⟨4, ![4, 2048, 4, 32]⟩
abbrev S4x2048x4x16 : Shape := ⟨4, ![4, 2048, 4, 16]⟩
abbrev S1x2048x1x16 : Shape := ⟨4, ![1, 2048, 1, 16]⟩
abbrev S4x2048x1x32 : Shape := ⟨4, ![4, 2048, 1, 32]⟩
abbrev S4x2048x1x16 : Shape := ⟨4, ![4, 2048, 1, 16]⟩
abbrev S4x2048x512 : Shape := ⟨3, ![4, 2048, 512]⟩
abbrev S4x2304x1024 : Shape := ⟨3, ![4, 2304, 1024]⟩
abbrev S9216x1024 : Shape := ⟨2, ![9216, 1024]⟩
abbrev S4x2304x512 : Shape := ⟨3, ![4, 2304, 512]⟩
abbrev S9216x512 : Shape := ⟨2, ![9216, 512]⟩

abbrev nBuf : Space → Nat
  | .hbm => 250
  | .vmem => 0
  | .smem => 0
  | _ => 0

abbrev hbmTy0_0 (i : Nat) : BufTy := match i % 128 with
  | 0 => ⟨S9216x6400, .bf16⟩
  | 1 => ⟨S384, .f32⟩
  | 2 => ⟨S256, .f32⟩
  | 3 => ⟨S384x768, .f32⟩
  | 4 => ⟨S256x1024, .f32⟩
  | 5 => ⟨S9216x768, .bf16⟩
  | 6 => ⟨S9216x768, .f32⟩
  | 7 => ⟨S4x2304x768, .f32⟩
  | 8 => ⟨S4x256x768, .f32⟩
  | 9 => ⟨S4x2048x768, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S32, .f32⟩
  | 25 => ⟨S32x64, .f32⟩
  | 26 => ⟨S2048, .f32⟩
  | 27 => ⟨S64, .f32⟩
  | 28 => ⟨S1x64, .f32⟩
  | 29 => ⟨S32x64, .f32⟩
  | 30 => ⟨S2048, .f32⟩
  | 31 => ⟨S2048x1, .f32⟩
  | 32 => ⟨S1x16, .f32⟩
  | 33 => ⟨S2048x16, .f32⟩
  | 34 => ⟨S2048x16, .f32⟩
  | 35 => ⟨S2048x16, .f32⟩
  | 36 => ⟨S2048x1, .f32⟩
  | 37 => ⟨S1x16, .f32⟩
  | 38 => ⟨S2048x16, .f32⟩
  | 39 => ⟨S2048x16, .f32⟩
  | 40 => ⟨S2048x16, .f32⟩
  | 41 => ⟨S4x256x384, .f32⟩
  | 42 => ⟨S4x256x256, .f32⟩
  | 43 => ⟨S4x256x64, .f32⟩
  | 44 => ⟨S4x256x64, .f32⟩
  | 45 => ⟨S4x256x384, .f32⟩
  | 46 => ⟨S_, .f32⟩
  | 47 => ⟨S4x256, .f32⟩
  | 48 => ⟨S4x256x1, .f32⟩
  | 49 => ⟨S_, .f32⟩
  | 50 => ⟨S4x256x1, .f32⟩
  | 51 => ⟨S4x256x1, .f32⟩
  | 52 => ⟨S_, .f32⟩
  | 53 => ⟨S4x256x1, .f32⟩
  | 54 => ⟨S4x256x1, .f32⟩
  | 55 => ⟨S4x256x1, .f32⟩
  | 56 => ⟨S4x256x384, .f32⟩
  | 57 => ⟨S4x256x384, .f32⟩
  | 58 => ⟨S1x1x384, .f32⟩
  | 59 => ⟨S4x256x384, .f32⟩
  | 60 => ⟨S4x256x384, .f32⟩
  | 61 => ⟨S4x256x768, .f32⟩
  | 62 => ⟨S4x256x4x192, .f32⟩
  | 63 => ⟨S4x256x256, .f32⟩
  | 64 => ⟨S_, .f32⟩
  | 65 => ⟨S4x256, .f32⟩
  | 66 => ⟨S4x256x1, .f32⟩
  | 67 => ⟨S_, .f32⟩
  | 68 => ⟨S4x256x1, .f32⟩
  | 69 => ⟨S4x256x1, .f32⟩
  | 70 => ⟨S_, .f32⟩
  | 71 => ⟨S4x256x1, .f32⟩
  | 72 => ⟨S4x256x1, .f32⟩
  | 73 => ⟨S4x256x1, .f32⟩
  | 74 => ⟨S4x256x256, .f32⟩
  | 75 => ⟨S4x256x256, .f32⟩
  | 76 => ⟨S1x1x256, .f32⟩
  | 77 => ⟨S4x256x256, .f32⟩
  | 78 => ⟨S4x256x256, .f32⟩
  | 79 => ⟨S4x256x1024, .f32⟩
  | 80 => ⟨S4x256x4x256, .f32⟩
  | 81 => ⟨S4x256x4x128, .f32⟩
  | 82 => ⟨S4x256x4x64, .f32⟩
  | 83 => ⟨S4x256x4x128, .f32⟩
  | 84 => ⟨S4x256x4x128, .f32⟩
  | 85 => ⟨S4x256x1x64, .f32⟩
  | 86 => ⟨S4x256x1x64, .f32⟩
  | 87 => ⟨S4x256x4x192, .f32⟩
  | 88 => ⟨S_, .f32⟩
  | 89 => ⟨S_, .f32⟩
  | 90 => ⟨S_, .f32⟩
  | 91 => ⟨S_, .f32⟩
  | 92 => ⟨S_, .f32⟩
  | 93 => ⟨S4x256x4x192, .f32⟩
  | 94 => ⟨S4x256x4x192, .f32⟩
  | 95 => ⟨S_, .i32⟩
  | 96 => ⟨S_, .f32⟩
  | 97 => ⟨S4x256x4x256, .f32⟩
  | 98 => ⟨S4x256x4x64, .f32⟩
  | 99 => ⟨S4x256x4x64, .f32⟩
  | 100 => ⟨S4x256x4x256, .f32⟩
  | 101 => ⟨S4x256x1024, .f32⟩
  | 102 => ⟨S4x256x1024, .f32⟩
  | 103 => ⟨S4x256x512, .f32⟩
  | 104 => ⟨S4x2048x384, .f32⟩
  | 105 => ⟨S4x2048x256, .f32⟩
  | 106 => ⟨S4x2048x64, .f32⟩
  | 107 => ⟨S4x2048x64, .f32⟩
  | 108 => ⟨S4x2048x384, .f32⟩
  | 109 => ⟨S_, .f32⟩
  | 110 => ⟨S4x2048, .f32⟩
  | 111 => ⟨S4x2048x1, .f32⟩
  | 112 => ⟨S_, .f32⟩
  | 113 => ⟨S4x2048x1, .f32⟩
  | 114 => ⟨S4x2048x1, .f32⟩
  | 115 => ⟨S_, .f32⟩
  | 116 => ⟨S4x2048x1, .f32⟩
  | 117 => ⟨S4x2048x1, .f32⟩
  | 118 => ⟨S4x2048x1, .f32⟩
  | 119 => ⟨S4x2048x384, .f32⟩
  | 120 => ⟨S4x2048x384, .f32⟩
  | 121 => ⟨S1x1x384, .f32⟩
  | 122 => ⟨S4x2048x384, .f32⟩
  | 123 => ⟨S4x2048x384, .f32⟩
  | 124 => ⟨S4x2048x768, .f32⟩
  | 125 => ⟨S4x2048x4x192, .f32⟩
  | 126 => ⟨S4x2048x256, .f32⟩
  | 127 => ⟨S_, .f32⟩
  | _ => ⟨S9216x6400, .bf16⟩

abbrev hbmTy0_1 (i : Nat) : BufTy := match i % 128 with
  | 0 => ⟨S4x2048, .f32⟩
  | 1 => ⟨S4x2048x1, .f32⟩
  | 2 => ⟨S_, .f32⟩
  | 3 => ⟨S4x2048x1, .f32⟩
  | 4 => ⟨S4x2048x1, .f32⟩
  | 5 => ⟨S_, .f32⟩
  | 6 => ⟨S4x2048x1, .f32⟩
  | 7 => ⟨S4x2048x1, .f32⟩
  | 8 => ⟨S4x2048x1, .f32⟩
  | 9 => ⟨S4x2048x256, .f32⟩
  | 10 => ⟨S4x2048x256, .f32⟩
  | 11 => ⟨S1x1x256, .f32⟩
  | 12 => ⟨S4x2048x256, .f32⟩
  | 13 => ⟨S4x2048x256, .f32⟩
  | 14 => ⟨S4x2048x1024, .f32⟩
  | 15 => ⟨S4x2048x4x256, .f32⟩
  | 16 => ⟨S4x2048x4x128, .f32⟩
  | 17 => ⟨S4x2048x4x64, .f32⟩
  | 18 => ⟨S4x2048x4x128, .f32⟩
  | 19 => ⟨S4x2048x4x128, .f32⟩
  | 20 => ⟨S4x2048x1x64, .f32⟩
  | 21 => ⟨S4x2048x1x64, .f32⟩
  | 22 => ⟨S4x2048x4x32, .f32⟩
  | 23 => ⟨S4x2048x4x16, .f32⟩
  | 24 => ⟨S4x2048x4x16, .f32⟩
  | 25 => ⟨S2048x16, .f32⟩
  | 26 => ⟨S1x2048x1x16, .f32⟩
  | 27 => ⟨S2048x16, .f32⟩
  | 28 => ⟨S1x2048x1x16, .f32⟩
  | 29 => ⟨S4x2048x4x16, .f32⟩
  | 30 => ⟨S4x2048x4x16, .f32⟩
  | 31 => ⟨S4x2048x4x16, .f32⟩
  | 32 => ⟨S4x2048x4x16, .f32⟩
  | 33 => ⟨S4x2048x4x16, .f32⟩
  | 34 => ⟨S4x2048x4x16, .f32⟩
  | 35 => ⟨S4x2048x4x16, .f32⟩
  | 36 => ⟨S4x2048x4x16, .f32⟩
  | 37 => ⟨S4x2048x4x16, .f32⟩
  | 38 => ⟨S4x2048x4x16, .f32⟩
  | 39 => ⟨S4x2048x4x32, .f32⟩
  | 40 => ⟨S4x2048x4x32, .f32⟩
  | 41 => ⟨S4x2048x4x16, .f32⟩
  | 42 => ⟨S4x2048x4x16, .f32⟩
  | 43 => ⟨S2048x16, .f32⟩
  | 44 => ⟨S1x2048x1x16, .f32⟩
  | 45 => ⟨S2048x16, .f32⟩
  | 46 => ⟨S1x2048x1x16, .f32⟩
  | 47 => ⟨S4x2048x4x16, .f32⟩
  | 48 => ⟨S4x2048x4x16, .f32⟩
  | 49 => ⟨S4x2048x4x16, .f32⟩
  | 50 => ⟨S4x2048x4x16, .f32⟩
  | 51 => ⟨S4x2048x4x16, .f32⟩
  | 52 => ⟨S4x2048x4x16, .f32⟩
  | 53 => ⟨S4x2048x4x16, .f32⟩
  | 54 => ⟨S4x2048x4x16, .f32⟩
  | 55 => ⟨S4x2048x4x16, .f32⟩
  | 56 => ⟨S4x2048x4x16, .f32⟩
  | 57 => ⟨S4x2048x4x32, .f32⟩
  | 58 => ⟨S4x2048x4x64, .f32⟩
  | 59 => ⟨S4x2048x1x32, .f32⟩
  | 60 => ⟨S4x2048x1x16, .f32⟩
  | 61 => ⟨S4x2048x1x16, .f32⟩
  | 62 => ⟨S2048x16, .f32⟩
  | 63 => ⟨S1x2048x1x16, .f32⟩
  | 64 => ⟨S2048x16, .f32⟩
  | 65 => ⟨S1x2048x1x16, .f32⟩
  | 66 => ⟨S4x2048x1x16, .f32⟩
  | 67 => ⟨S4x2048x1x16, .f32⟩
  | 68 => ⟨S4x2048x1x16, .f32⟩
  | 69 => ⟨S4x2048x1x16, .f32⟩
  | 70 => ⟨S4x2048x1x16, .f32⟩
  | 71 => ⟨S4x2048x1x16, .f32⟩
  | 72 => ⟨S4x2048x1x16, .f32⟩
  | 73 => ⟨S4x2048x1x16, .f32⟩
  | 74 => ⟨S4x2048x1x16, .f32⟩
  | 75 => ⟨S4x2048x1x16, .f32⟩
  | 76 => ⟨S4x2048x1x32, .f32⟩
  | 77 => ⟨S4x2048x1x32, .f32⟩
  | 78 => ⟨S4x2048x1x16, .f32⟩
  | 79 => ⟨S4x2048x1x16, .f32⟩
  | 80 => ⟨S2048x16, .f32⟩
  | 81 => ⟨S1x2048x1x16, .f32⟩
  | 82 => ⟨S2048x16, .f32⟩
  | 83 => ⟨S1x2048x1x16, .f32⟩
  | 84 => ⟨S4x2048x1x16, .f32⟩
  | 85 => ⟨S4x2048x1x16, .f32⟩
  | 86 => ⟨S4x2048x1x16, .f32⟩
  | 87 => ⟨S4x2048x1x16, .f32⟩
  | 88 => ⟨S4x2048x1x16, .f32⟩
  | 89 => ⟨S4x2048x1x16, .f32⟩
  | 90 => ⟨S4x2048x1x16, .f32⟩
  | 91 => ⟨S4x2048x1x16, .f32⟩
  | 92 => ⟨S4x2048x1x16, .f32⟩
  | 93 => ⟨S4x2048x1x16, .f32⟩
  | 94 => ⟨S4x2048x1x32, .f32⟩
  | 95 => ⟨S4x2048x1x64, .f32⟩
  | 96 => ⟨S4x2048x4x192, .f32⟩
  | 97 => ⟨S_, .f32⟩
  | 98 => ⟨S_, .f32⟩
  | 99 => ⟨S_, .f32⟩
  | 100 => ⟨S_, .f32⟩
  | 101 => ⟨S_, .f32⟩
  | 102 => ⟨S4x2048x4x192, .f32⟩
  | 103 => ⟨S4x2048x4x192, .f32⟩
  | 104 => ⟨S_, .i32⟩
  | 105 => ⟨S_, .f32⟩
  | 106 => ⟨S4x2048x4x256, .f32⟩
  | 107 => ⟨S4x2048x4x64, .f32⟩
  | 108 => ⟨S4x2048x4x64, .f32⟩
  | 109 => ⟨S4x2048x4x256, .f32⟩
  | 110 => ⟨S4x2048x1024, .f32⟩
  | 111 => ⟨S4x2048x1024, .f32⟩
  | 112 => ⟨S4x2048x512, .f32⟩
  | 113 => ⟨S4x2304x1024, .f32⟩
  | 114 => ⟨S9216x1024, .f32⟩
  | 115 => ⟨S9216x1024, .bf16⟩
  | 116 => ⟨S4x2304x1024, .f32⟩
  | 117 => ⟨S9216x1024, .f32⟩
  | 118 => ⟨S9216x1024, .bf16⟩
  | 119 => ⟨S4x2304x512, .f32⟩
  | 120 => ⟨S9216x512, .f32⟩
  | 121 => ⟨S9216x512, .bf16⟩
  | _ => ⟨S9216x6400, .bf16⟩

abbrev hbmTy (i : Nat) : BufTy := match i / 128 with
  | 0 => hbmTy0_0 i
  | 1 => hbmTy0_1 i
  | _ => ⟨S9216x6400, .bf16⟩

abbrev bufTy : (tb : Table) → Fin (tcTables nBuf tb) → BufTy
  | .hbm, ⟨i, _⟩ => hbmTy i
  | _, _ => ⟨S9216x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_6 : Ref sig .tc := ⟨.hbm, 64, rfl⟩
abbrev main_v52 : Ref sig .tc := ⟨.hbm, 65, rfl⟩
abbrev main_v53 : Ref sig .tc := ⟨.hbm, 66, rfl⟩
abbrev main_cst_7 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_9 : Ref sig .tc := ⟨.hbm, 88, rfl⟩
abbrev main_v73 : Ref sig .tc := ⟨.hbm, 89, rfl⟩
abbrev main_cst_10 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_c : Ref sig .tc := ⟨.hbm, 95, rfl⟩
abbrev main_call0_v0 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_11 : Ref sig .tc := ⟨.hbm, 109, rfl⟩
abbrev main_v90 : Ref sig .tc := ⟨.hbm, 110, rfl⟩
abbrev main_v91 : Ref sig .tc := ⟨.hbm, 111, rfl⟩
abbrev main_cst_12 : Ref sig .tc := ⟨.hbm, 112, rfl⟩
abbrev main_v92 : Ref sig .tc := ⟨.hbm, 113, rfl⟩
abbrev main_v93 : Ref sig .tc := ⟨.hbm, 114, rfl⟩
abbrev main_cst_13 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_cst_14 : Ref sig .tc := ⟨.hbm, 127, rfl⟩
abbrev main_v105 : Ref sig .tc := ⟨.hbm, 128, rfl⟩
abbrev main_v106 : Ref sig .tc := ⟨.hbm, 129, rfl⟩
abbrev main_cst_15 : Ref sig .tc := ⟨.hbm, 130, rfl⟩
abbrev main_v107 : Ref sig .tc := ⟨.hbm, 131, rfl⟩
abbrev main_v108 : Ref sig .tc := ⟨.hbm, 132, rfl⟩
abbrev main_cst_16 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_cst_17 : Ref sig .tc := ⟨.hbm, 225, rfl⟩
abbrev main_v200 : Ref sig .tc := ⟨.hbm, 226, rfl⟩
abbrev main_cst_18 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_c_19 : Ref sig .tc := ⟨.hbm, 232, rfl⟩
abbrev main_call1_v0 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩

abbrev nD : Nat := 1
abbrev τ : Topo := Topo.v7x

variable {F : FTy → Type} [FloatOps F]
-- ==== ConvMix.lean ====
abbrev S9216x6400 : Shape := ⟨2, ![9216, 6400]⟩
abbrev S3x512 : Shape := ⟨2, ![3, 512]⟩
abbrev S9216x512 : Shape := ⟨2, ![9216, 512]⟩
abbrev S2304x256 : Shape := ⟨2, ![2304, 256]⟩
abbrev S3x256 : Shape := ⟨2, ![3, 256]⟩
abbrev S2304x1 : Shape := ⟨2, ![2304, 1]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S9216x6400, .bf16⟩
  | .hbm, ⟨1, _⟩ => ⟨S3x512, .f32⟩
  | .hbm, ⟨2, _⟩ => ⟨S9216x512, .bf16⟩
  | .local _ .vmem, ⟨0, _⟩ => ⟨S2304x256, .bf16⟩
  | .local _ .vmem, ⟨1, _⟩ => ⟨S2304x256, .bf16⟩
  | .local _ .vmem, ⟨2, _⟩ => ⟨S2304x256, .bf16⟩
  | .local _ .vmem, ⟨3, _⟩ => ⟨S2304x256, .bf16⟩
  | .local _ .vmem, ⟨4, _⟩ => ⟨S2304x256, .bf16⟩
  | .local _ .vmem, ⟨5, _⟩ => ⟨S2304x256, .bf16⟩
  | .local _ .vmem, ⟨6, _⟩ => ⟨S3x256, .f32⟩
  | .local _ .vmem, ⟨7, _⟩ => ⟨S3x256, .f32⟩
  | .local _ .vmem, ⟨8, _⟩ => ⟨S2304x256, .bf16⟩
  | .local _ .vmem, ⟨9, _⟩ => ⟨S2304x256, .bf16⟩
  | _, _ => ⟨S9216x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2304x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2304x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvMixRefIdeal.lean ====
abbrev S9216x6400 : Shape := ⟨2, ![9216, 6400]⟩
abbrev S3x512 : Shape := ⟨2, ![3, 512]⟩
abbrev S4x2304x6400 : Shape := ⟨3, ![4, 2304, 6400]⟩
abbrev S4x256x6400 : Shape := ⟨3, ![4, 256, 6400]⟩
abbrev S4x2048x6400 : Shape := ⟨3, ![4, 2048, 6400]⟩
abbrev S4x256x512 : Shape := ⟨3, ![4, 256, 512]⟩
abbrev S_ : Shape := ⟨0, ![]⟩
abbrev S4x258x512 : Shape := ⟨3, ![4, 258, 512]⟩
abbrev S1x512 : Shape := ⟨2, ![1, 512]⟩
abbrev S512 : Shape := ⟨1, ![512]⟩
abbrev S1x1x512 : Shape := ⟨3, ![1, 1, 512]⟩
abbrev S4x2048x512 : Shape := ⟨3, ![4, 2048, 512]⟩
abbrev S4x2050x512 : Shape := ⟨3, ![4, 2050, 512]⟩
abbrev S4x2304x512 : Shape := ⟨3, ![4, 2304, 512]⟩
abbrev S9216x512 : Shape := ⟨2, ![9216, 512]⟩

abbrev nBuf : Space → Nat
  | .hbm => 65
  | .vmem => 0
  | .smem => 0
  | _ => 0

abbrev bufTy : (tb : Table) → Fin (tcTables nBuf tb) → BufTy
  | .hbm, ⟨0, _⟩ => ⟨S9216x6400, .bf16⟩
  | .hbm, ⟨1, _⟩ => ⟨S3x512, .f32⟩
  | .hbm, ⟨2, _⟩ => ⟨S9216x6400, .f32⟩
  | .hbm, ⟨3, _⟩ => ⟨S4x2304x6400, .f32⟩
  | .hbm, ⟨4, _⟩ => ⟨S4x256x6400, .f32⟩
  | .hbm, ⟨5, _⟩ => ⟨S4x2048x6400, .f32⟩
  | .hbm, ⟨6, _⟩ => ⟨S4x256x512, .f32⟩
  | .hbm, ⟨7, _⟩ => ⟨S4x256x512, .f32⟩
  | .hbm, ⟨8, _⟩ => ⟨S4x256x512, .f32⟩
  | .hbm, ⟨9, _⟩ => ⟨S4x256x512, .f32⟩
  | .hbm, ⟨10, _⟩ => ⟨S_, .i32⟩
  | .hbm, ⟨11, _⟩ => ⟨S_, .f32⟩
  | .hbm, ⟨12, _⟩ => ⟨S4x258x512, .f32⟩
  | .hbm, ⟨13, _⟩ => ⟨S4x256x512, .f32⟩
  | .hbm, ⟨14, _⟩ => ⟨S1x512, .f32⟩
  | .hbm, ⟨15, _⟩ => ⟨S512, .f32⟩
  | .hbm, ⟨16, _⟩ => ⟨S1x1x512, .f32⟩
  | .hbm, ⟨17, _⟩ => ⟨S4x256x512, .f32⟩
  | .hbm, ⟨18, _⟩ => ⟨S4x256x512, .f32⟩
  | .hbm, ⟨19, _⟩ => ⟨S4x256x512, .f32⟩
  | .hbm, ⟨20, _⟩ => ⟨S1x512, .f32⟩
  | .hbm, ⟨21, _⟩ => ⟨S512, .f32⟩
  | .hbm, ⟨22, _⟩ => ⟨S1x1x512, .f32⟩
  | .hbm, ⟨23, _⟩ => ⟨S4x256x512, .f32⟩
  | .hbm, ⟨24, _⟩ => ⟨S4x256x512, .f32⟩
  | .hbm, ⟨25, _⟩ => ⟨S4x256x512, .f32⟩
  | .hbm, ⟨26, _⟩ => ⟨S4x256x512, .f32⟩
  | .hbm, ⟨27, _⟩ => ⟨S1x512, .f32⟩
  | .hbm, ⟨28, _⟩ => ⟨S512, .f32⟩
  | .hbm, ⟨29, _⟩ => ⟨S1x1x512, .f32⟩
  | .hbm, ⟨30, _⟩ => ⟨S4x256x512, .f32⟩
  | .hbm, ⟨31, _⟩ => ⟨S4x256x512, .f32⟩
  | .hbm, ⟨32, _⟩ => ⟨S4x256x512, .f32⟩
  | .hbm, ⟨33, _⟩ => ⟨S4x256x512, .f32⟩
  | .hbm, ⟨34, _⟩ => ⟨S4x2048x512, .f32⟩
  | .hbm, ⟨35, _⟩ => ⟨S4x2048x512, .f32⟩
  | .hbm, ⟨36, _⟩ => ⟨S4x2048x512, .f32⟩
  | .hbm, ⟨37, _⟩ => ⟨S4x2048x512, .f32⟩
  | .hbm, ⟨38, _⟩ => ⟨S_, .i32⟩
  | .hbm, ⟨39, _⟩ => ⟨S_, .f32⟩
  | .hbm, ⟨40, _⟩ => ⟨S4x2050x512, .f32⟩
  | .hbm, ⟨41, _⟩ => ⟨S4x2048x512, .f32⟩
  | .hbm, ⟨42, _⟩ => ⟨S1x512, .f32⟩
  | .hbm, ⟨43, _⟩ => ⟨S512, .f32⟩
  | .hbm, ⟨44, _⟩ => ⟨S1x1x512, .f32⟩
  | .hbm, ⟨45, _⟩ => ⟨S4x2048x512, .f32⟩
  | .hbm, ⟨46, _⟩ => ⟨S4x2048x512, .f32⟩
  | .hbm, ⟨47, _⟩ => ⟨S4x2048x512, .f32⟩
  | .hbm, ⟨48, _⟩ => ⟨S1x512, .f32⟩
  | .hbm, ⟨49, _⟩ => ⟨S512, .f32⟩
  | .hbm, ⟨50, _⟩ => ⟨S1x1x512, .f32⟩
  | .hbm, ⟨51, _⟩ => ⟨S4x2048x512, .f32⟩
  | .hbm, ⟨52, _⟩ => ⟨S4x2048x512, .f32⟩
  | .hbm, ⟨53, _⟩ => ⟨S4x2048x512, .f32⟩
  | .hbm, ⟨54, _⟩ => ⟨S4x2048x512, .f32⟩
  | .hbm, ⟨55, _⟩ => ⟨S1x512, .f32⟩
  | .hbm, ⟨56, _⟩ => ⟨S512, .f32⟩
  | .hbm, ⟨57, _⟩ => ⟨S1x1x512, .f32⟩
  | .hbm, ⟨58, _⟩ => ⟨S4x2048x512, .f32⟩
  | .hbm, ⟨59, _⟩ => ⟨S4x2048x512, .f32⟩
  | .hbm, ⟨60, _⟩ => ⟨S4x2048x512, .f32⟩
  | .hbm, ⟨61, _⟩ => ⟨S4x2048x512, .f32⟩
  | .hbm, ⟨62, _⟩ => ⟨S4x2304x512, .f32⟩
  | .hbm, ⟨63, _⟩ => ⟨S9216x512, .f32⟩
  | .hbm, ⟨64, _⟩ => ⟨S9216x512, .bf16⟩
  | _, _ => ⟨S9216x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_c_0 : Ref sig .tc := ⟨.hbm, 38, rfl⟩
abbrev main_call1_v0 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩

abbrev nD : Nat := 1
abbrev τ : Topo := Topo.v7x

variable {F : FTy → Type} [FloatOps F]
-- ==== Retain.lean ====
abbrev S9216x6400 : Shape := ⟨2, ![9216, 6400]⟩
abbrev S2x4 : Shape := ⟨2, ![2, 4]⟩
abbrev S512 : Shape := ⟨1, ![512]⟩
abbrev S4x2 : Shape := ⟨2, ![4, 2]⟩
abbrev S_ : Shape := ⟨0, ![]⟩
abbrev S4x8 : Shape := ⟨2, ![4, 8]⟩
abbrev S4x8x1 : Shape := ⟨3, ![4, 8, 1]⟩
abbrev S4x8x128 : Shape := ⟨3, ![4, 8, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x32 : Shape := ⟨2, ![2048, 32]⟩
abbrev S2048x1 : Shape := ⟨2, ![2048, 1]⟩
abbrev S1x32 : Shape := ⟨2, ![1, 32]⟩
abbrev S2048x128 : Shape := ⟨2, ![2048, 128]⟩
abbrev S2048x0 : Shape := ⟨2, ![2048, 0]⟩
abbrev S256x128 : Shape := ⟨2, ![256, 128]⟩
abbrev S2304x128 : Shape := ⟨2, ![2304, 128]⟩
abbrev S1x512 : Shape := ⟨2, ![1, 512]⟩
abbrev S9216x512 : Shape := ⟨2, ![9216, 512]⟩
abbrev S1x8x128 : Shape := ⟨3, ![1, 8, 128]⟩
abbrev S1x128 : Shape := ⟨2, ![1, 128]⟩
abbrev S2560x128 : Shape := ⟨2, ![2560, 128]⟩
abbrev S17x256x256 : Shape := ⟨3, ![17, 256, 256]⟩
abbrev S1x1x1 : Shape := ⟨3, ![1, 1, 1]⟩
abbrev S1x1 : Shape := ⟨2, ![1, 1]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S256x2560 : Shape := ⟨2, ![256, 2560]⟩

abbrev nBuf : Space → Nat
  | .hbm => 77
  | .vmem => 21
  | .smem => 0
  | _ => 0

abbrev bufTy : (tb : Table) → Fin (tcTables nBuf tb) → BufTy
  | .hbm, ⟨0, _⟩ => ⟨S9216x6400, .bf16⟩
  | .hbm, ⟨1, _⟩ => ⟨S2x4, .f32⟩
  | .hbm, ⟨2, _⟩ => ⟨S512, .f32⟩
  | .hbm, ⟨3, _⟩ => ⟨S4x2, .f32⟩
  | .hbm, ⟨4, _⟩ => ⟨S_, .i32⟩
  | .hbm, ⟨5, _⟩ => ⟨S_, .f32⟩
  | .hbm, ⟨6, _⟩ => ⟨S4x8, .f32⟩
  | .hbm, ⟨7, _⟩ => ⟨S4x8x1, .f32⟩
  | .hbm, ⟨8, _⟩ => ⟨S4x8x128, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S32x64, .f32⟩
  | .hbm, ⟨25, _⟩ => ⟨S2048, .f32⟩
  | .hbm, ⟨26, _⟩ => ⟨S64, .f32⟩
  | .hbm, ⟨27, _⟩ => ⟨S1x64, .f32⟩
  | .hbm, ⟨28, _⟩ => ⟨S32x64, .f32⟩
  | .hbm, ⟨29, _⟩ => ⟨S2048, .f32⟩
  | .hbm, ⟨30, _⟩ => ⟨S_, .f32⟩
  | .hbm, ⟨31, _⟩ => ⟨S2048x32, .f32⟩
  | .hbm, ⟨32, _⟩ => ⟨S2048x1, .f32⟩
  | .hbm, ⟨33, _⟩ => ⟨S1x32, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S2048x1, .f32⟩
  | .hbm, ⟨41, _⟩ => ⟨S1x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x32, .f32⟩
  | .hbm, ⟨46, _⟩ => ⟨S2048x32, .f32⟩
  | .hbm, ⟨47, _⟩ => ⟨S2048x32, .f32⟩
  | .hbm, ⟨48, _⟩ => ⟨S2048x128, .f32⟩
  | .hbm, ⟨49, _⟩ => ⟨S_, .f32⟩
  | .hbm, ⟨50, _⟩ => ⟨S2048x0, .f32⟩
  | .hbm, ⟨51, _⟩ => ⟨S_, .f32⟩
  | .hbm, ⟨52, _⟩ => ⟨S2048x0, .f32⟩
  | .hbm, ⟨53, _⟩ => ⟨S2048x128, .f32⟩
  | .hbm, ⟨54, _⟩ => ⟨S_, .f32⟩
  | .hbm, ⟨55, _⟩ => ⟨S256x128, .f32⟩
  | .hbm, ⟨56, _⟩ => ⟨S2304x128, .f32⟩
  | .hbm, ⟨57, _⟩ => ⟨S2048x128, .f32⟩
  | .hbm, ⟨58, _⟩ => ⟨S_, .f32⟩
  | .hbm, ⟨59, _⟩ => ⟨S2048x0, .f32⟩
  | .hbm, ⟨60, _⟩ => ⟨S_, .f32⟩
  | .hbm, ⟨61, _⟩ => ⟨S2048x0, .f32⟩
  | .hbm, ⟨62, _⟩ => ⟨S2048x128, .f32⟩
  | .hbm, ⟨63, _⟩ => ⟨S_, .f32⟩
  | .hbm, ⟨64, _⟩ => ⟨S256x128, .f32⟩
  | .hbm, ⟨65, _⟩ => ⟨S2304x128, .f32⟩
  | .hbm, ⟨66, _⟩ => ⟨S2048x128, .f32⟩
  | .hbm, ⟨67, _⟩ => ⟨S_, .f32⟩
  | .hbm, ⟨68, _⟩ => ⟨S2048x0, .f32⟩
  | .hbm, ⟨69, _⟩ => ⟨S_, .f32⟩
  | .hbm, ⟨70, _⟩ => ⟨S2048x0, .f32⟩
  | .hbm, ⟨71, _⟩ => ⟨S2048x128, .f32⟩
  | .hbm, ⟨72, _⟩ => ⟨S_, .f32⟩
  | .hbm, ⟨73, _⟩ => ⟨S256x128, .f32⟩
  | .hbm, ⟨74, _⟩ => ⟨S2304x128, .f32⟩
  | .hbm, ⟨75, _⟩ => ⟨S1x512, .f32⟩
  | .hbm, ⟨76, _⟩ => ⟨S9216x512, .bf16⟩
  | .local _ .vmem, ⟨0, _⟩ => ⟨S2304x128, .bf16⟩
  | .local _ .vmem, ⟨1, _⟩ => ⟨S2304x128, .bf16⟩
  | .local _ .vmem, ⟨2, _⟩ => ⟨S2304x128, .bf16⟩
  | .local _ .vmem, ⟨3, _⟩ => ⟨S2304x128, .bf16⟩
  | .local _ .vmem, ⟨4, _⟩ => ⟨S2304x128, .bf16⟩
  | .local _ .vmem, ⟨5, _⟩ => ⟨S2304x128, .bf16⟩
  | .local _ .vmem, ⟨6, _⟩ => ⟨S2304x128, .bf16⟩
  | .local _ .vmem, ⟨7, _⟩ => ⟨S2304x128, .bf16⟩
  | .local _ .vmem, ⟨8, _⟩ => ⟨S1x8x128, .f32⟩
  | .local _ .vmem, ⟨9, _⟩ => ⟨S1x8x128, .f32⟩
  | .local _ .vmem, ⟨10, _⟩ => ⟨S1x128, .f32⟩
  | .local _ .vmem, ⟨11, _⟩ => ⟨S1x128, .f32⟩
  | .local _ .vmem, ⟨12, _⟩ => ⟨S2304x128, .f32⟩
  | .local _ .vmem, ⟨13, _⟩ => ⟨S2304x128, .f32⟩
  | .local _ .vmem, ⟨14, _⟩ => ⟨S2304x128, .f32⟩
  | .local _ .vmem, ⟨15, _⟩ => ⟨S2304x128, .bf16⟩
  | .local _ .vmem, ⟨16, _⟩ => ⟨S2304x128, .bf16⟩
  | .local _ .vmem, ⟨17, _⟩ => ⟨S2304x128, .bf16⟩
  | .local _ .vmem, ⟨18, _⟩ => ⟨S2560x128, .bf16⟩
  | .local _ .vmem, ⟨19, _⟩ => ⟨S2560x128, .bf16⟩
  | .local _ .vmem, ⟨20, _⟩ => ⟨S17x256x256, .f32⟩
  | _, _ => ⟨S9216x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2304x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2304x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2304x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2304x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2304x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2304x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RetainRefIdeal.lean ====
abbrev S9216x6400 : Shape := ⟨2, ![9216, 6400]⟩
abbrev S2x4 : Shape := ⟨2, ![2, 4]⟩
abbrev S512 : Shape := ⟨1, ![512]⟩
abbrev S9216x2048 : Shape := ⟨2, ![9216, 2048]⟩
abbrev S4x2304x2048 : Shape := ⟨3, ![4, 2304, 2048]⟩
abbrev S4x256x2048 : Shape := ⟨3, ![4, 256, 2048]⟩
abbrev S4x2048x2048 : Shape := ⟨3, ![4, 2048, 2048]⟩
abbrev S32 : Shape := ⟨1, ![32]⟩
abbrev S_ : Shape := ⟨0, ![]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S4x2048x512 : Shape := ⟨3, ![4, 2048, 512]⟩
abbrev S4x2048x4x128 : Shape := ⟨4, ![4, 2048, 4, 128]⟩
abbrev S4x2048x4x64 : Shape := ⟨4, ![4, 2048, 4, 64]⟩
abbrev S4x2048x4x32 : Shape := ⟨4, ![4, 2048, 4, 32]⟩
abbrev S1x2048x1x32 : Shape := ⟨4, ![1, 2048, 1, 32]⟩
abbrev S4x256x512 : Shape := ⟨3, ![4, 256, 512]⟩
abbrev S4x256x4x128 : Shape := ⟨4, ![4, 256, 4, 128]⟩
abbrev S4x4x128x128 : Shape := ⟨4, ![4, 4, 128, 128]⟩
abbrev S1x4 : Shape := ⟨2, ![1, 4]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S256x4 : Shape := ⟨2, ![256, 4]⟩
abbrev S4x4x256x256 : Shape := ⟨4, ![4, 4, 256, 256]⟩
abbrev S1x4x256x256 : Shape := ⟨4, ![1, 4, 256, 256]⟩
abbrev S4x4x128x256 : Shape := ⟨4, ![4, 4, 128, 256]⟩
abbrev S1x256x4x1 : Shape := ⟨4, ![1, 256, 4, 1]⟩
abbrev S1x4x1x1 : Shape := ⟨4, ![1, 4, 1, 1]⟩
abbrev S1x2048 : Shape := ⟨2, ![1, 2048]⟩
abbrev S2048x2048 : Shape := ⟨2, ![2048, 2048]⟩
abbrev S1x2048x2048 : Shape := ⟨3, ![1, 2048, 2048]⟩
abbrev S2048x4 : Shape := ⟨2, ![2048, 4]⟩
abbrev S4x4x2048x2048 : Shape := ⟨4, ![4, 4, 2048, 2048]⟩
abbrev S1x4x2048x2048 : Shape := ⟨4, ![1, 4, 2048, 2048]⟩
abbrev S4x4x128x2048 : Shape := ⟨4, ![4, 4, 128, 2048]⟩
abbrev S1x2048x4x1 : Shape := ⟨4, ![1, 2048, 4, 1]⟩
abbrev S4x128 : Shape := ⟨2, ![4, 128]⟩
abbrev S4x256x4 : Shape := ⟨3, ![4, 256, 4]⟩
abbrev S4x256x4x1 : Shape := ⟨4, ![4, 256, 4, 1]⟩
abbrev S1x1x4x128 : Shape := ⟨4, ![1, 1, 4, 128]⟩
abbrev S4x2048x4 : Shape := ⟨3, ![4, 2048, 4]⟩
abbrev S4x2048x4x1 : Shape := ⟨4, ![4, 2048, 4, 1]⟩
abbrev S4x2304x512 : Shape := ⟨3, ![4, 2304, 512]⟩
abbrev S9216x512 : Shape := ⟨2, ![9216, 512]⟩

abbrev nBuf : Space → Nat
  | .hbm => 501
  | .vmem => 0
  | .smem => 0
  | _ => 0

abbrev hbmTy0_0 (i : Nat) : BufTy := match i % 128 with
  | 0 => ⟨S9216x6400, .bf16⟩
  | 1 => ⟨S2x4, .f32⟩
  | 2 => ⟨S512, .f32⟩
  | 3 => ⟨S2x4, .f32⟩
  | 4 => ⟨S2x4, .f32⟩
  | 5 => ⟨S9216x2048, .bf16⟩
  | 6 => ⟨S9216x2048, .f32⟩
  | 7 => ⟨S4x2304x2048, .f32⟩
  | 8 => ⟨S4x256x2048, .f32⟩
  | 9 => ⟨S4x2048x2048, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S32, .f32⟩
  | 25 => ⟨S32x64, .f32⟩
  | 26 => ⟨S2048, .f32⟩
  | 27 => ⟨S64, .f32⟩
  | 28 => ⟨S1x64, .f32⟩
  | 29 => ⟨S32x64, .f32⟩
  | 30 => ⟨S2048, .f32⟩
  | 31 => ⟨S2048x1, .f32⟩
  | 32 => ⟨S1x32, .f32⟩
  | 33 => ⟨S2048x32, .f32⟩
  | 34 => ⟨S2048x32, .f32⟩
  | 35 => ⟨S2048x32, .f32⟩
  | 36 => ⟨S2048x1, .f32⟩
  | 37 => ⟨S1x32, .f32⟩
  | 38 => ⟨S2048x32, .f32⟩
  | 39 => ⟨S2048x32, .f32⟩
  | 40 => ⟨S2048x32, .f32⟩
  | 41 => ⟨S4x2048x512, .f32⟩
  | 42 => ⟨S4x2048x512, .f32⟩
  | 43 => ⟨S4x2048x512, .f32⟩
  | 44 => ⟨S4x2048x512, .f32⟩
  | 45 => ⟨S4x2048x4x128, .f32⟩
  | 46 => ⟨S4x2048x4x128, .f32⟩
  | 47 => ⟨S4x2048x4x128, .f32⟩
  | 48 => ⟨S4x2048x4x64, .f32⟩
  | 49 => ⟨S4x2048x4x32, .f32⟩
  | 50 => ⟨S4x2048x4x32, .f32⟩
  | 51 => ⟨S2048x32, .f32⟩
  | 52 => ⟨S1x2048x1x32, .f32⟩
  | 53 => ⟨S2048x32, .f32⟩
  | 54 => ⟨S1x2048x1x32, .f32⟩
  | 55 => ⟨S4x2048x4x32, .f32⟩
  | 56 => ⟨S4x2048x4x32, .f32⟩
  | 57 => ⟨S4x2048x4x32, .f32⟩
  | 58 => ⟨S4x2048x4x32, .f32⟩
  | 59 => ⟨S4x2048x4x32, .f32⟩
  | 60 => ⟨S4x2048x4x32, .f32⟩
  | 61 => ⟨S4x2048x4x32, .f32⟩
  | 62 => ⟨S4x2048x4x32, .f32⟩
  | 63 => ⟨S4x2048x4x32, .f32⟩
  | 64 => ⟨S4x2048x4x32, .f32⟩
  | 65 => ⟨S4x2048x4x64, .f32⟩
  | 66 => ⟨S4x2048x4x64, .f32⟩
  | 67 => ⟨S4x2048x4x32, .f32⟩
  | 68 => ⟨S4x2048x4x32, .f32⟩
  | 69 => ⟨S2048x32, .f32⟩
  | 70 => ⟨S1x2048x1x32, .f32⟩
  | 71 => ⟨S2048x32, .f32⟩
  | 72 => ⟨S1x2048x1x32, .f32⟩
  | 73 => ⟨S4x2048x4x32, .f32⟩
  | 74 => ⟨S4x2048x4x32, .f32⟩
  | 75 => ⟨S4x2048x4x32, .f32⟩
  | 76 => ⟨S4x2048x4x32, .f32⟩
  | 77 => ⟨S4x2048x4x32, .f32⟩
  | 78 => ⟨S4x2048x4x32, .f32⟩
  | 79 => ⟨S4x2048x4x32, .f32⟩
  | 80 => ⟨S4x2048x4x32, .f32⟩
  | 81 => ⟨S4x2048x4x32, .f32⟩
  | 82 => ⟨S4x2048x4x32, .f32⟩
  | 83 => ⟨S4x2048x4x64, .f32⟩
  | 84 => ⟨S4x2048x4x128, .f32⟩
  | 85 => ⟨S4x2048x4x64, .f32⟩
  | 86 => ⟨S4x2048x4x32, .f32⟩
  | 87 => ⟨S4x2048x4x32, .f32⟩
  | 88 => ⟨S2048x32, .f32⟩
  | 89 => ⟨S1x2048x1x32, .f32⟩
  | 90 => ⟨S2048x32, .f32⟩
  | 91 => ⟨S1x2048x1x32, .f32⟩
  | 92 => ⟨S4x2048x4x32, .f32⟩
  | 93 => ⟨S4x2048x4x32, .f32⟩
  | 94 => ⟨S4x2048x4x32, .f32⟩
  | 95 => ⟨S4x2048x4x32, .f32⟩
  | 96 => ⟨S4x2048x4x32, .f32⟩
  | 97 => ⟨S4x2048x4x32, .f32⟩
  | 98 => ⟨S4x2048x4x32, .f32⟩
  | 99 => ⟨S4x2048x4x32, .f32⟩
  | 100 => ⟨S4x2048x4x32, .f32⟩
  | 101 => ⟨S4x2048x4x32, .f32⟩
  | 102 => ⟨S4x2048x4x64, .f32⟩
  | 103 => ⟨S4x2048x4x64, .f32⟩
  | 104 => ⟨S4x2048x4x32, .f32⟩
  | 105 => ⟨S4x2048x4x32, .f32⟩
  | 106 => ⟨S2048x32, .f32⟩
  | 107 => ⟨S1x2048x1x32, .f32⟩
  | 108 => ⟨S2048x32, .f32⟩
  | 109 => ⟨S1x2048x1x32, .f32⟩
  | 110 => ⟨S4x2048x4x32, .f32⟩
  | 111 => ⟨S4x2048x4x32, .f32⟩
  | 112 => ⟨S4x2048x4x32, .f32⟩
  | 113 => ⟨S4x2048x4x32, .f32⟩
  | 114 => ⟨S4x2048x4x32, .f32⟩
  | 115 => ⟨S4x2048x4x32, .f32⟩
  | 116 => ⟨S4x2048x4x32, .f32⟩
  | 117 => ⟨S4x2048x4x32, .f32⟩
  | 118 => ⟨S4x2048x4x32, .f32⟩
  | 119 => ⟨S4x2048x4x32, .f32⟩
  | 120 => ⟨S4x2048x4x64, .f32⟩
  | 121 => ⟨S4x2048x4x128, .f32⟩
  | 122 => ⟨S_, .f32⟩
  | 123 => ⟨S4x2048x4x128, .f32⟩
  | 124 => ⟨S4x2048x4x128, .f32⟩
  | 125 => ⟨S4x256x512, .f32⟩
  | 126 => ⟨S4x256x512, .f32⟩
  | 127 => ⟨S4x256x512, .f32⟩
  | _ => ⟨S9216x6400, .bf16⟩

abbrev hbmTy0_1 (i : Nat) : BufTy := match i % 128 with
  | 0 => ⟨S4x256x512, .f32⟩
  | 1 => ⟨S4x256x4x128, .f32⟩
  | 2 => ⟨S4x256x4x128, .f32⟩
  | 3 => ⟨S4x256x4x128, .f32⟩
  | 4 => ⟨S_, .f32⟩
  | 5 => ⟨S4x256x4x128, .f32⟩
  | 6 => ⟨S4x256x4x128, .f32⟩
  | 7 => ⟨S_, .f32⟩
  | 8 => ⟨S4x4x128x128, .f32⟩
  | 9 => ⟨S1x4, .f32⟩
  | 10 => ⟨S4, .f32⟩
  | 11 => ⟨S256, .f32⟩
  | 12 => ⟨S256x1, .f32⟩
  | 13 => ⟨S1x256, .f32⟩
  | 14 => ⟨S256x256, .f32⟩
  | 15 => ⟨S256x256, .f32⟩
  | 16 => ⟨S256x256, .f32⟩
  | 17 => ⟨S_, .f32⟩
  | 18 => ⟨S256x256, .f32⟩
  | 19 => ⟨S256x256, .i1⟩
  | 20 => ⟨S1x256x256, .i1⟩
  | 21 => ⟨S_, .f32⟩
  | 22 => ⟨S_, .f32⟩
  | 23 => ⟨S256x256, .f32⟩
  | 24 => ⟨S256x256, .f32⟩
  | 25 => ⟨S1x256x256, .f32⟩
  | 26 => ⟨S4x1x1, .f32⟩
  | 27 => ⟨S4x256x256, .f32⟩
  | 28 => ⟨S4x256x256, .f32⟩
  | 29 => ⟨S4x256x256, .f32⟩
  | 30 => ⟨S4x256x256, .f32⟩
  | 31 => ⟨S_, .f32⟩
  | 32 => ⟨S_, .f32⟩
  | 33 => ⟨S4x256x256, .i1⟩
  | 34 => ⟨S4x256x256, .f32⟩
  | 35 => ⟨S4x256x256, .f32⟩
  | 36 => ⟨S_, .f32⟩
  | 37 => ⟨S256, .f32⟩
  | 38 => ⟨S256, .f32⟩
  | 39 => ⟨S256x1, .f32⟩
  | 40 => ⟨S1x4, .f32⟩
  | 41 => ⟨S256x4, .f32⟩
  | 42 => ⟨S256x4, .f32⟩
  | 43 => ⟨S256x4, .f32⟩
  | 44 => ⟨S256x4, .f32⟩
  | 45 => ⟨S_, .f32⟩
  | 46 => ⟨S256, .f32⟩
  | 47 => ⟨S256, .f32⟩
  | 48 => ⟨S256x1, .f32⟩
  | 49 => ⟨S1x4, .f32⟩
  | 50 => ⟨S256x4, .f32⟩
  | 51 => ⟨S256x4, .f32⟩
  | 52 => ⟨S256x4, .f32⟩
  | 53 => ⟨S256x4, .f32⟩
  | 54 => ⟨S_, .f32⟩
  | 55 => ⟨S4, .f32⟩
  | 56 => ⟨S4, .f32⟩
  | 57 => ⟨S4, .f32⟩
  | 58 => ⟨S4x4x256x256, .f32⟩
  | 59 => ⟨S1x4x256x256, .f32⟩
  | 60 => ⟨S4x4x256x256, .f32⟩
  | 61 => ⟨S4x4x256x256, .f32⟩
  | 62 => ⟨S4x4x128x256, .f32⟩
  | 63 => ⟨S4x256x4x128, .f32⟩
  | 64 => ⟨S4x4x128x256, .f32⟩
  | 65 => ⟨S4x256x4x128, .f32⟩
  | 66 => ⟨S1x256x4x1, .f32⟩
  | 67 => ⟨S4x256x4x128, .f32⟩
  | 68 => ⟨S4x256x4x128, .f32⟩
  | 69 => ⟨S1x4x1x1, .f32⟩
  | 70 => ⟨S4x4x128x128, .f32⟩
  | 71 => ⟨S4x4x128x128, .f32⟩
  | 72 => ⟨S1x256x4x1, .f32⟩
  | 73 => ⟨S4x256x4x128, .f32⟩
  | 74 => ⟨S4x256x4x128, .f32⟩
  | 75 => ⟨S4x4x128x128, .f32⟩
  | 76 => ⟨S4x4x128x128, .f32⟩
  | 77 => ⟨S4x256x4x128, .f32⟩
  | 78 => ⟨S1x4, .f32⟩
  | 79 => ⟨S4, .f32⟩
  | 80 => ⟨S2048, .f32⟩
  | 81 => ⟨S2048x1, .f32⟩
  | 82 => ⟨S1x2048, .f32⟩
  | 83 => ⟨S2048x2048, .f32⟩
  | 84 => ⟨S2048x2048, .f32⟩
  | 85 => ⟨S2048x2048, .f32⟩
  | 86 => ⟨S_, .f32⟩
  | 87 => ⟨S2048x2048, .f32⟩
  | 88 => ⟨S2048x2048, .i1⟩
  | 89 => ⟨S1x2048x2048, .i1⟩
  | 90 => ⟨S_, .f32⟩
  | 91 => ⟨S_, .f32⟩
  | 92 => ⟨S2048x2048, .f32⟩
  | 93 => ⟨S2048x2048, .f32⟩
  | 94 => ⟨S1x2048x2048, .f32⟩
  | 95 => ⟨S4x1x1, .f32⟩
  | 96 => ⟨S4x2048x2048, .f32⟩
  | 97 => ⟨S4x2048x2048, .f32⟩
  | 98 => ⟨S4x2048x2048, .f32⟩
  | 99 => ⟨S4x2048x2048, .f32⟩
  | 100 => ⟨S_, .f32⟩
  | 101 => ⟨S_, .f32⟩
  | 102 => ⟨S4x2048x2048, .i1⟩
  | 103 => ⟨S4x2048x2048, .f32⟩
  | 104 => ⟨S4x2048x2048, .f32⟩
  | 105 => ⟨S_, .f32⟩
  | 106 => ⟨S2048, .f32⟩
  | 107 => ⟨S2048, .f32⟩
  | 108 => ⟨S2048x1, .f32⟩
  | 109 => ⟨S1x4, .f32⟩
  | 110 => ⟨S2048x4, .f32⟩
  | 111 => ⟨S2048x4, .f32⟩
  | 112 => ⟨S2048x4, .f32⟩
  | 113 => ⟨S2048x4, .f32⟩
  | 114 => ⟨S_, .f32⟩
  | 115 => ⟨S2048, .f32⟩
  | 116 => ⟨S2048, .f32⟩
  | 117 => ⟨S2048x1, .f32⟩
  | 118 => ⟨S1x4, .f32⟩
  | 119 => ⟨S2048x4, .f32⟩
  | 120 => ⟨S2048x4, .f32⟩
  | 121 => ⟨S2048x4, .f32⟩
  | 122 => ⟨S2048x4, .f32⟩
  | 123 => ⟨S_, .f32⟩
  | 124 => ⟨S4, .f32⟩
  | 125 => ⟨S4, .f32⟩
  | 126 => ⟨S4, .f32⟩
  | 127 => ⟨S4x4x2048x2048, .f32⟩
  | _ => ⟨S9216x6400, .bf16⟩

abbrev hbmTy0_2 (i : Nat) : BufTy := match i % 128 with
  | 0 => ⟨S1x4x2048x2048, .f32⟩
  | 1 => ⟨S4x4x2048x2048, .f32⟩
  | 2 => ⟨S4x4x2048x2048, .f32⟩
  | 3 => ⟨S4x4x128x2048, .f32⟩
  | 4 => ⟨S4x2048x4x128, .f32⟩
  | 5 => ⟨S4x4x128x2048, .f32⟩
  | 6 => ⟨S4x2048x4x128, .f32⟩
  | 7 => ⟨S1x2048x4x1, .f32⟩
  | 8 => ⟨S4x2048x4x128, .f32⟩
  | 9 => ⟨S4x2048x4x128, .f32⟩
  | 10 => ⟨S1x4x1x1, .f32⟩
  | 11 => ⟨S4x4x128x128, .f32⟩
  | 12 => ⟨S4x4x128x128, .f32⟩
  | 13 => ⟨S1x2048x4x1, .f32⟩
  | 14 => ⟨S4x2048x4x128, .f32⟩
  | 15 => ⟨S4x2048x4x128, .f32⟩
  | 16 => ⟨S4x4x128x128, .f32⟩
  | 17 => ⟨S4x4x128x128, .f32⟩
  | 18 => ⟨S4x2048x4x128, .f32⟩
  | 19 => ⟨S4x256x4x128, .f32⟩
  | 20 => ⟨S4x256x4x128, .f32⟩
  | 21 => ⟨S4x256x4x128, .f32⟩
  | 22 => ⟨S1x4, .f32⟩
  | 23 => ⟨S4, .f32⟩
  | 24 => ⟨S256, .f32⟩
  | 25 => ⟨S256x1, .f32⟩
  | 26 => ⟨S1x256, .f32⟩
  | 27 => ⟨S256x256, .f32⟩
  | 28 => ⟨S256x256, .f32⟩
  | 29 => ⟨S256x256, .f32⟩
  | 30 => ⟨S_, .f32⟩
  | 31 => ⟨S256x256, .f32⟩
  | 32 => ⟨S256x256, .i1⟩
  | 33 => ⟨S1x256x256, .i1⟩
  | 34 => ⟨S_, .f32⟩
  | 35 => ⟨S_, .f32⟩
  | 36 => ⟨S256x256, .f32⟩
  | 37 => ⟨S256x256, .f32⟩
  | 38 => ⟨S1x256x256, .f32⟩
  | 39 => ⟨S4x1x1, .f32⟩
  | 40 => ⟨S4x256x256, .f32⟩
  | 41 => ⟨S4x256x256, .f32⟩
  | 42 => ⟨S4x256x256, .f32⟩
  | 43 => ⟨S4x256x256, .f32⟩
  | 44 => ⟨S_, .f32⟩
  | 45 => ⟨S_, .f32⟩
  | 46 => ⟨S4x256x256, .i1⟩
  | 47 => ⟨S4x256x256, .f32⟩
  | 48 => ⟨S4x256x256, .f32⟩
  | 49 => ⟨S_, .f32⟩
  | 50 => ⟨S256, .f32⟩
  | 51 => ⟨S256, .f32⟩
  | 52 => ⟨S256x1, .f32⟩
  | 53 => ⟨S1x4, .f32⟩
  | 54 => ⟨S256x4, .f32⟩
  | 55 => ⟨S256x4, .f32⟩
  | 56 => ⟨S256x4, .f32⟩
  | 57 => ⟨S256x4, .f32⟩
  | 58 => ⟨S_, .f32⟩
  | 59 => ⟨S256, .f32⟩
  | 60 => ⟨S256, .f32⟩
  | 61 => ⟨S256x1, .f32⟩
  | 62 => ⟨S1x4, .f32⟩
  | 63 => ⟨S256x4, .f32⟩
  | 64 => ⟨S256x4, .f32⟩
  | 65 => ⟨S256x4, .f32⟩
  | 66 => ⟨S256x4, .f32⟩
  | 67 => ⟨S_, .f32⟩
  | 68 => ⟨S4, .f32⟩
  | 69 => ⟨S4, .f32⟩
  | 70 => ⟨S4, .f32⟩
  | 71 => ⟨S4x4x256x256, .f32⟩
  | 72 => ⟨S1x4x256x256, .f32⟩
  | 73 => ⟨S4x4x256x256, .f32⟩
  | 74 => ⟨S4x4x256x256, .f32⟩
  | 75 => ⟨S4x4x128x256, .f32⟩
  | 76 => ⟨S4x256x4x128, .f32⟩
  | 77 => ⟨S4x4x128x256, .f32⟩
  | 78 => ⟨S4x256x4x128, .f32⟩
  | 79 => ⟨S1x256x4x1, .f32⟩
  | 80 => ⟨S4x256x4x128, .f32⟩
  | 81 => ⟨S4x256x4x128, .f32⟩
  | 82 => ⟨S1x4x1x1, .f32⟩
  | 83 => ⟨S4x4x128x128, .f32⟩
  | 84 => ⟨S4x4x128x128, .f32⟩
  | 85 => ⟨S1x256x4x1, .f32⟩
  | 86 => ⟨S4x256x4x128, .f32⟩
  | 87 => ⟨S4x256x4x128, .f32⟩
  | 88 => ⟨S4x4x128x128, .f32⟩
  | 89 => ⟨S4x4x128x128, .f32⟩
  | 90 => ⟨S4x256x4x128, .f32⟩
  | 91 => ⟨S4x2048x4x128, .f32⟩
  | 92 => ⟨S4x2048x4x128, .f32⟩
  | 93 => ⟨S4x2048x4x128, .f32⟩
  | 94 => ⟨S1x4, .f32⟩
  | 95 => ⟨S4, .f32⟩
  | 96 => ⟨S2048, .f32⟩
  | 97 => ⟨S2048x1, .f32⟩
  | 98 => ⟨S1x2048, .f32⟩
  | 99 => ⟨S2048x2048, .f32⟩
  | 100 => ⟨S2048x2048, .f32⟩
  | 101 => ⟨S2048x2048, .f32⟩
  | 102 => ⟨S_, .f32⟩
  | 103 => ⟨S2048x2048, .f32⟩
  | 104 => ⟨S2048x2048, .i1⟩
  | 105 => ⟨S1x2048x2048, .i1⟩
  | 106 => ⟨S_, .f32⟩
  | 107 => ⟨S_, .f32⟩
  | 108 => ⟨S2048x2048, .f32⟩
  | 109 => ⟨S2048x2048, .f32⟩
  | 110 => ⟨S1x2048x2048, .f32⟩
  | 111 => ⟨S4x1x1, .f32⟩
  | 112 => ⟨S4x2048x2048, .f32⟩
  | 113 => ⟨S4x2048x2048, .f32⟩
  | 114 => ⟨S4x2048x2048, .f32⟩
  | 115 => ⟨S4x2048x2048, .f32⟩
  | 116 => ⟨S_, .f32⟩
  | 117 => ⟨S_, .f32⟩
  | 118 => ⟨S4x2048x2048, .i1⟩
  | 119 => ⟨S4x2048x2048, .f32⟩
  | 120 => ⟨S4x2048x2048, .f32⟩
  | 121 => ⟨S_, .f32⟩
  | 122 => ⟨S2048, .f32⟩
  | 123 => ⟨S2048, .f32⟩
  | 124 => ⟨S2048x1, .f32⟩
  | 125 => ⟨S1x4, .f32⟩
  | 126 => ⟨S2048x4, .f32⟩
  | 127 => ⟨S2048x4, .f32⟩
  | _ => ⟨S9216x6400, .bf16⟩

abbrev hbmTy0_3 (i : Nat) : BufTy := match i % 128 with
  | 0 => ⟨S2048x4, .f32⟩
  | 1 => ⟨S2048x4, .f32⟩
  | 2 => ⟨S_, .f32⟩
  | 3 => ⟨S2048, .f32⟩
  | 4 => ⟨S2048, .f32⟩
  | 5 => ⟨S2048x1, .f32⟩
  | 6 => ⟨S1x4, .f32⟩
  | 7 => ⟨S2048x4, .f32⟩
  | 8 => ⟨S2048x4, .f32⟩
  | 9 => ⟨S2048x4, .f32⟩
  | 10 => ⟨S2048x4, .f32⟩
  | 11 => ⟨S_, .f32⟩
  | 12 => ⟨S4, .f32⟩
  | 13 => ⟨S4, .f32⟩
  | 14 => ⟨S4, .f32⟩
  | 15 => ⟨S4x4x2048x2048, .f32⟩
  | 16 => ⟨S1x4x2048x2048, .f32⟩
  | 17 => ⟨S4x4x2048x2048, .f32⟩
  | 18 => ⟨S4x4x2048x2048, .f32⟩
  | 19 => ⟨S4x4x128x2048, .f32⟩
  | 20 => ⟨S4x2048x4x128, .f32⟩
  | 21 => ⟨S4x4x128x2048, .f32⟩
  | 22 => ⟨S4x2048x4x128, .f32⟩
  | 23 => ⟨S1x2048x4x1, .f32⟩
  | 24 => ⟨S4x2048x4x128, .f32⟩
  | 25 => ⟨S4x2048x4x128, .f32⟩
  | 26 => ⟨S1x4x1x1, .f32⟩
  | 27 => ⟨S4x4x128x128, .f32⟩
  | 28 => ⟨S4x4x128x128, .f32⟩
  | 29 => ⟨S1x2048x4x1, .f32⟩
  | 30 => ⟨S4x2048x4x128, .f32⟩
  | 31 => ⟨S4x2048x4x128, .f32⟩
  | 32 => ⟨S4x4x128x128, .f32⟩
  | 33 => ⟨S4x4x128x128, .f32⟩
  | 34 => ⟨S4x2048x4x128, .f32⟩
  | 35 => ⟨S4x128, .f32⟩
  | 36 => ⟨S4x256x4x128, .f32⟩
  | 37 => ⟨S4x256x4x128, .f32⟩
  | 38 => ⟨S_, .f32⟩
  | 39 => ⟨S4x256x4, .f32⟩
  | 40 => ⟨S4x256x4x1, .f32⟩
  | 41 => ⟨S_, .f32⟩
  | 42 => ⟨S4x256x4x1, .f32⟩
  | 43 => ⟨S4x256x4x1, .f32⟩
  | 44 => ⟨S4x256x4x128, .f32⟩
  | 45 => ⟨S4x256x4x128, .f32⟩
  | 46 => ⟨S4x256x4x128, .f32⟩
  | 47 => ⟨S_, .f32⟩
  | 48 => ⟨S4x256x4, .f32⟩
  | 49 => ⟨S4x256x4x1, .f32⟩
  | 50 => ⟨S_, .f32⟩
  | 51 => ⟨S4x256x4x1, .f32⟩
  | 52 => ⟨S4x256x4x1, .f32⟩
  | 53 => ⟨S4x256x4x128, .f32⟩
  | 54 => ⟨S4x256x4x128, .f32⟩
  | 55 => ⟨S_, .f32⟩
  | 56 => ⟨S4x256x4x1, .f32⟩
  | 57 => ⟨S4x256x4x1, .f32⟩
  | 58 => ⟨S4x256x4x1, .f32⟩
  | 59 => ⟨S4x256x4x128, .f32⟩
  | 60 => ⟨S4x256x4x128, .f32⟩
  | 61 => ⟨S1x1x4x128, .f32⟩
  | 62 => ⟨S4x256x4x128, .f32⟩
  | 63 => ⟨S4x256x4x128, .f32⟩
  | 64 => ⟨S4x256x512, .f32⟩
  | 65 => ⟨S4x256x512, .f32⟩
  | 66 => ⟨S_, .f32⟩
  | 67 => ⟨S4x256x512, .f32⟩
  | 68 => ⟨S4x256x512, .f32⟩
  | 69 => ⟨S_, .f32⟩
  | 70 => ⟨S4x256x512, .f32⟩
  | 71 => ⟨S4x256x512, .f32⟩
  | 72 => ⟨S4x256x512, .f32⟩
  | 73 => ⟨S4x256x512, .f32⟩
  | 74 => ⟨S4x256x512, .f32⟩
  | 75 => ⟨S4x2048x4x128, .f32⟩
  | 76 => ⟨S4x2048x4x128, .f32⟩
  | 77 => ⟨S_, .f32⟩
  | 78 => ⟨S4x2048x4, .f32⟩
  | 79 => ⟨S4x2048x4x1, .f32⟩
  | 80 => ⟨S_, .f32⟩
  | 81 => ⟨S4x2048x4x1, .f32⟩
  | 82 => ⟨S4x2048x4x1, .f32⟩
  | 83 => ⟨S4x2048x4x128, .f32⟩
  | 84 => ⟨S4x2048x4x128, .f32⟩
  | 85 => ⟨S4x2048x4x128, .f32⟩
  | 86 => ⟨S_, .f32⟩
  | 87 => ⟨S4x2048x4, .f32⟩
  | 88 => ⟨S4x2048x4x1, .f32⟩
  | 89 => ⟨S_, .f32⟩
  | 90 => ⟨S4x2048x4x1, .f32⟩
  | 91 => ⟨S4x2048x4x1, .f32⟩
  | 92 => ⟨S4x2048x4x128, .f32⟩
  | 93 => ⟨S4x2048x4x128, .f32⟩
  | 94 => ⟨S_, .f32⟩
  | 95 => ⟨S4x2048x4x1, .f32⟩
  | 96 => ⟨S4x2048x4x1, .f32⟩
  | 97 => ⟨S4x2048x4x1, .f32⟩
  | 98 => ⟨S4x2048x4x128, .f32⟩
  | 99 => ⟨S4x2048x4x128, .f32⟩
  | 100 => ⟨S1x1x4x128, .f32⟩
  | 101 => ⟨S4x2048x4x128, .f32⟩
  | 102 => ⟨S4x2048x4x128, .f32⟩
  | 103 => ⟨S4x2048x512, .f32⟩
  | 104 => ⟨S4x2048x512, .f32⟩
  | 105 => ⟨S_, .f32⟩
  | 106 => ⟨S4x2048x512, .f32⟩
  | 107 => ⟨S4x2048x512, .f32⟩
  | 108 => ⟨S_, .f32⟩
  | 109 => ⟨S4x2048x512, .f32⟩
  | 110 => ⟨S4x2048x512, .f32⟩
  | 111 => ⟨S4x2048x512, .f32⟩
  | 112 => ⟨S4x2048x512, .f32⟩
  | 113 => ⟨S4x2048x512, .f32⟩
  | 114 => ⟨S4x2304x512, .f32⟩
  | 115 => ⟨S9216x512, .f32⟩
  | 116 => ⟨S9216x512, .bf16⟩
  | _ => ⟨S9216x6400, .bf16⟩

abbrev hbmTy (i : Nat) : BufTy := match i / 128 with
  | 0 => hbmTy0_0 i
  | 1 => hbmTy0_1 i
  | 2 => hbmTy0_2 i
  | 3 => hbmTy0_3 i
  | _ => ⟨S9216x6400, .bf16⟩

abbrev bufTy : (tb : Table) → Fin (tcTables nBuf tb) → BufTy
  | .hbm, ⟨i, _⟩ => hbmTy i
  | _, _ => ⟨S9216x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_cst_3 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_cst_4 : Ref sig .tc := ⟨.hbm, 132, rfl⟩
abbrev main_v124 : Ref sig .tc := ⟨.hbm, 133, rfl⟩
abbrev main_v125 : Ref sig .tc := ⟨.hbm, 134, rfl⟩
abbrev main_cst_5 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_cst_6 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_cst_7 : Ref sig .tc := ⟨.hbm, 149, rfl⟩
abbrev main_call0_v0 : Ref sig .tc := ⟨.hbm, 150, rfl⟩
abbrev main_call0_v1 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_cst_8 : Ref sig .tc := ⟨.hbm, 159, rfl⟩
abbrev main_call1_v0 : Ref sig .tc := ⟨.hbm, 160, rfl⟩
abbrev main_call1_v1 : Ref sig .tc := ⟨.hbm, 161, rfl⟩
abbrev main_call1_v2 : Ref sig .tc := ⟨.hbm, 162, rfl⟩
abbrev main_v145 : Ref sig .tc := ⟨.hbm, 163, rfl⟩
abbrev main_cst_9 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_cst_10 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_cst_11 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_cst_12 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_cst_13 : Ref sig .tc := ⟨.hbm, 218, rfl⟩
abbrev main_call2_v0 : Ref sig .tc := ⟨.hbm, 219, rfl⟩
abbrev main_call2_v1 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_cst_14 : Ref sig .tc := ⟨.hbm, 228, rfl⟩
abbrev main_call3_v0 : Ref sig .tc := ⟨.hbm, 229, rfl⟩
abbrev main_call3_v1 : Ref sig .tc := ⟨.hbm, 230, rfl⟩
abbrev main_call3_v2 : Ref sig .tc := ⟨.hbm, 231, rfl⟩
abbrev main_v203 : Ref sig .tc := ⟨.hbm, 232, rfl⟩
abbrev main_cst_15 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_cst_16 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_cst_17 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩
abbrev main_v233 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_v246 : Ref sig .tc := ⟨.hbm, 278, rfl⟩
abbrev main_v247 : Ref sig .tc := ⟨.hbm, 279, rfl⟩
abbrev main_v248 : Ref sig .tc := ⟨.hbm, 280, rfl⟩
abbrev main_v249 : Ref sig .tc := ⟨.hbm, 281, rfl⟩
abbrev main_v250 : Ref sig .tc := ⟨.hbm, 282, rfl⟩
abbrev main_v251 : Ref sig .tc := ⟨.hbm, 283, rfl⟩
abbrev main_v252 : Ref sig .tc := ⟨.hbm, 284, rfl⟩
abbrev main_v253 : Ref sig .tc := ⟨.hbm, 285, rfl⟩
abbrev main_cst_18 : Ref sig .tc := ⟨.hbm, 286, rfl⟩
abbrev main_v254 : Ref sig .tc := ⟨.hbm, 287, rfl⟩
abbrev main_v255 : Ref sig .tc := ⟨.hbm, 288, rfl⟩
abbrev main_v256 : Ref sig .tc := ⟨.hbm, 289, rfl⟩
abbrev main_cst_19 : Ref sig .tc := ⟨.hbm, 290, rfl⟩
abbrev main_call7_v0 : Ref sig .tc := ⟨.hbm, 291, rfl⟩
abbrev main_call7_v1 : Ref sig .tc := ⟨.hbm, 292, rfl⟩
abbrev main_v257 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_v261 : Ref sig .tc := ⟨.hbm, 297, rfl⟩
abbrev main_v262 : Ref sig .tc := ⟨.hbm, 298, rfl⟩
abbrev main_v263 : Ref sig .tc := ⟨.hbm, 299, rfl⟩
abbrev main_cst_20 : Ref sig .tc := ⟨.hbm, 300, rfl⟩
abbrev main_call8_v0 : Ref sig .tc := ⟨.hbm, 301, rfl⟩
abbrev main_call8_v1 : Ref sig .tc := ⟨.hbm, 302, rfl⟩
abbrev main_call8_v2 : Ref sig .tc := ⟨.hbm, 303, rfl⟩
abbrev main_v264 : Ref sig .tc := ⟨.hbm, 304, rfl⟩
abbrev main_cst_21 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_cst_22 : Ref sig .tc := ⟨.hbm, 314, rfl⟩
abbrev main_v273 : Ref sig .tc := ⟨.hbm, 315, rfl⟩
abbrev main_v274 : Ref sig .tc := ⟨.hbm, 316, rfl⟩
abbrev main_v275 : Ref sig .tc := ⟨.hbm, 317, rfl⟩
abbrev main_v276 : Ref sig .tc := ⟨.hbm, 318, rfl⟩
abbrev main_v277 : Ref sig .tc := ⟨.hbm, 319, rfl⟩
abbrev main_v278 : Ref sig .tc := ⟨.hbm, 320, rfl⟩
abbrev main_v279 : Ref sig .tc := ⟨.hbm, 321, rfl⟩
abbrev main_v280 : Ref sig .tc := ⟨.hbm, 322, rfl⟩
abbrev main_cst_23 : Ref sig .tc := ⟨.hbm, 323, rfl⟩
abbrev main_v281 : Ref sig .tc := ⟨.hbm, 324, rfl⟩
abbrev main_v282 : Ref sig .tc := ⟨.hbm, 325, rfl⟩
abbrev main_v283 : Ref sig .tc := ⟨.hbm, 326, rfl⟩
abbrev main_v284 : Ref sig .tc := ⟨.hbm, 327, rfl⟩
abbrev main_v285 : Ref sig .tc := ⟨.hbm, 328, rfl⟩
abbrev main_v286 : Ref sig .tc := ⟨.hbm, 329, rfl⟩
abbrev main_v287 : Ref sig .tc := ⟨.hbm, 330, rfl⟩
abbrev main_v288 : Ref sig .tc := ⟨.hbm, 331, rfl⟩
abbrev main_v289 : Ref sig .tc := ⟨.hbm, 332, rfl⟩
abbrev main_v290 : Ref sig .tc := ⟨.hbm, 333, rfl⟩
abbrev main_v291 : Ref sig .tc := ⟨.hbm, 334, rfl⟩
abbrev main_v292 : Ref sig .tc := ⟨.hbm, 335, rfl⟩
abbrev main_v293 : Ref sig .tc := ⟨.hbm, 336, rfl⟩
abbrev main_v294 : Ref sig .tc := ⟨.hbm, 337, rfl⟩
abbrev main_v295 : Ref sig .tc := ⟨.hbm, 338, rfl⟩
abbrev main_v296 : Ref sig .tc := ⟨.hbm, 339, rfl⟩
abbrev main_v297 : Ref sig .tc := ⟨.hbm, 340, rfl⟩
abbrev main_v298 : Ref sig .tc := ⟨.hbm, 341, rfl⟩
abbrev main_v299 : Ref sig .tc := ⟨.hbm, 342, rfl⟩
abbrev main_v300 : Ref sig .tc := ⟨.hbm, 343, rfl⟩
abbrev main_v301 : Ref sig .tc := ⟨.hbm, 344, rfl⟩
abbrev main_v302 : Ref sig .tc := ⟨.hbm, 345, rfl⟩
abbrev main_v303 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_v307 : Ref sig .tc := ⟨.hbm, 350, rfl⟩
abbrev main_v308 : Ref sig .tc := ⟨.hbm, 351, rfl⟩
abbrev main_v309 : Ref sig .tc := ⟨.hbm, 352, rfl⟩
abbrev main_v310 : Ref sig .tc := ⟨.hbm, 353, rfl⟩
abbrev main_v311 : Ref sig .tc := ⟨.hbm, 354, rfl⟩
abbrev main_v312 : Ref sig .tc := ⟨.hbm, 355, rfl⟩
abbrev main_v313 : Ref sig .tc := ⟨.hbm, 356, rfl⟩
abbrev main_v314 : Ref sig .tc := ⟨.hbm, 357, rfl⟩
abbrev main_cst_24 : Ref sig .tc := ⟨.hbm, 358, rfl⟩
abbrev main_v315 : Ref sig .tc := ⟨.hbm, 359, rfl⟩
abbrev main_v316 : Ref sig .tc := ⟨.hbm, 360, rfl⟩
abbrev main_v317 : Ref sig .tc := ⟨.hbm, 361, rfl⟩
abbrev main_cst_25 : Ref sig .tc := ⟨.hbm, 362, rfl⟩
abbrev main_call12_v0 : Ref sig .tc := ⟨.hbm, 363, rfl⟩
abbrev main_call12_v1 : Ref sig .tc := ⟨.hbm, 364, rfl⟩
abbrev main_v318 : Ref sig .tc := ⟨.hbm, 365, rfl⟩
abbrev main_v319 : Ref sig .tc := ⟨.hbm, 366, rfl⟩
abbrev main_v320 : Ref sig .tc := ⟨.hbm, 367, rfl⟩
abbrev main_v321 : Ref sig .tc := ⟨.hbm, 368, rfl⟩
abbrev main_v322 : Ref sig .tc := ⟨.hbm, 369, rfl⟩
abbrev main_v323 : Ref sig .tc := ⟨.hbm, 370, rfl⟩
abbrev main_v324 : Ref sig .tc := ⟨.hbm, 371, rfl⟩
abbrev main_cst_26 : Ref sig .tc := ⟨.hbm, 372, rfl⟩
abbrev main_call13_v0 : Ref sig .tc := ⟨.hbm, 373, rfl⟩
abbrev main_call13_v1 : Ref sig .tc := ⟨.hbm, 374, rfl⟩
abbrev main_call13_v2 : Ref sig .tc := ⟨.hbm, 375, rfl⟩
abbrev main_v325 : Ref sig .tc := ⟨.hbm, 376, rfl⟩
abbrev main_cst_27 : Ref sig .tc := ⟨.hbm, 377, rfl⟩
abbrev main_v326 : Ref sig .tc := ⟨.hbm, 378, rfl⟩
abbrev main_v327 : Ref sig .tc := ⟨.hbm, 379, rfl⟩
abbrev main_v328 : Ref sig .tc := ⟨.hbm, 380, rfl⟩
abbrev main_v329 : Ref sig .tc := ⟨.hbm, 381, rfl⟩
abbrev main_v330 : Ref sig .tc := ⟨.hbm, 382, rfl⟩
abbrev main_v331 : Ref sig .tc := ⟨.hbm, 383, rfl⟩
abbrev main_v332 : Ref sig .tc := ⟨.hbm, 384, rfl⟩
abbrev main_v333 : Ref sig .tc := ⟨.hbm, 385, rfl⟩
abbrev main_cst_28 : Ref sig .tc := ⟨.hbm, 386, rfl⟩
abbrev main_v334 : Ref sig .tc := ⟨.hbm, 387, rfl⟩
abbrev main_v335 : Ref sig .tc := ⟨.hbm, 388, rfl⟩
abbrev main_v336 : Ref sig .tc := ⟨.hbm, 389, rfl⟩
abbrev main_v337 : Ref sig .tc := ⟨.hbm, 390, rfl⟩
abbrev main_v338 : Ref sig .tc := ⟨.hbm, 391, rfl⟩
abbrev main_v339 : Ref sig .tc := ⟨.hbm, 392, rfl⟩
abbrev main_v340 : Ref sig .tc := ⟨.hbm, 393, rfl⟩
abbrev main_v341 : Ref sig .tc := ⟨.hbm, 394, rfl⟩
abbrev main_cst_29 : Ref sig .tc := ⟨.hbm, 395, rfl⟩
abbrev main_v342 : Ref sig .tc := ⟨.hbm, 396, rfl⟩
abbrev main_v343 : Ref sig .tc := ⟨.hbm, 397, rfl⟩
abbrev main_v344 : Ref sig .tc := ⟨.hbm, 398, rfl⟩
abbrev main_v345 : Ref sig .tc := ⟨.hbm, 399, rfl⟩
abbrev main_v346 : Ref sig .tc := ⟨.hbm, 400, rfl⟩
abbrev main_v347 : Ref sig .tc := ⟨.hbm, 401, rfl⟩
abbrev main_v348 : Ref sig .tc := ⟨.hbm, 402, rfl⟩
abbrev main_v349 : Ref sig .tc := ⟨.hbm, 403, rfl⟩
abbrev main_v350 : Ref sig .tc := ⟨.hbm, 404, rfl⟩
abbrev main_v351 : Ref sig .tc := ⟨.hbm, 405, rfl⟩
abbrev main_v352 : Ref sig .tc := ⟨.hbm, 406, rfl⟩
abbrev main_v353 : Ref sig .tc := ⟨.hbm, 407, rfl⟩
abbrev main_v354 : Ref sig .tc := ⟨.hbm, 408, rfl⟩
abbrev main_v355 : Ref sig .tc := ⟨.hbm, 409, rfl⟩
abbrev main_v356 : Ref sig .tc := ⟨.hbm, 410, rfl⟩
abbrev main_v357 : Ref sig .tc := ⟨.hbm, 411, rfl⟩
abbrev main_v358 : Ref sig .tc := ⟨.hbm, 412, rfl⟩
abbrev main_v359 : Ref sig .tc := ⟨.hbm, 413, rfl⟩
abbrev main_v360 : Ref sig .tc := ⟨.hbm, 414, rfl⟩
abbrev main_v361 : Ref sig .tc := ⟨.hbm, 415, rfl⟩
abbrev main_v362 : Ref sig .tc := ⟨.hbm, 416, rfl⟩
abbrev main_v363 : Ref sig .tc := ⟨.hbm, 417, rfl⟩
abbrev main_v364 : Ref sig .tc := ⟨.hbm, 418, rfl⟩
abbrev main_v365 : Ref sig .tc := ⟨.hbm, 419, rfl⟩
abbrev main_v366 : Ref sig .tc := ⟨.hbm, 420, rfl⟩
abbrev main_v367 : Ref sig .tc := ⟨.hbm, 421, rfl⟩
abbrev main_cst_30 : Ref sig .tc := ⟨.hbm, 422, rfl⟩
abbrev main_v368 : Ref sig .tc := ⟨.hbm, 423, rfl⟩
abbrev main_v369 : Ref sig .tc := ⟨.hbm, 424, rfl⟩
abbrev main_cst_31 : Ref sig .tc := ⟨.hbm, 425, rfl⟩
abbrev main_v370 : Ref sig .tc := ⟨.hbm, 426, rfl⟩
abbrev main_v371 : Ref sig .tc := ⟨.hbm, 427, rfl⟩
abbrev main_v372 : Ref sig .tc := ⟨.hbm, 428, rfl⟩
abbrev main_v373 : Ref sig .tc := ⟨.hbm, 429, rfl⟩
abbrev main_v374 : Ref sig .tc := ⟨.hbm, 430, rfl⟩
abbrev main_cst_32 : Ref sig .tc := ⟨.hbm, 431, rfl⟩
abbrev main_v375 : Ref sig .tc := ⟨.hbm, 432, rfl⟩
abbrev main_v376 : Ref sig .tc := ⟨.hbm, 433, rfl⟩
abbrev main_cst_33 : Ref sig .tc := ⟨.hbm, 434, rfl⟩
abbrev main_v377 : Ref sig .tc := ⟨.hbm, 435, rfl⟩
abbrev main_v378 : Ref sig .tc := ⟨.hbm, 436, rfl⟩
abbrev main_v379 : Ref sig .tc := ⟨.hbm, 437, rfl⟩
abbrev main_v380 : Ref sig .tc := ⟨.hbm, 438, rfl⟩
abbrev main_cst_34 : Ref sig .tc := ⟨.hbm, 439, rfl⟩
abbrev main_v381 : Ref sig .tc := ⟨.hbm, 440, rfl⟩
abbrev main_v382 : Ref sig .tc := ⟨.hbm, 441, rfl⟩
abbrev main_v383 : Ref sig .tc := ⟨.hbm, 442, rfl⟩
abbrev main_v384 : Ref sig .tc := ⟨.hbm, 443, rfl⟩
abbrev main_v385 : Ref sig .tc := ⟨.hbm, 444, rfl⟩
abbrev main_v386 : Ref sig .tc := ⟨.hbm, 445, rfl⟩
abbrev main_v387 : Ref sig .tc := ⟨.hbm, 446, rfl⟩
abbrev main_v388 : Ref sig .tc := ⟨.hbm, 447, rfl⟩
abbrev main_call15_v0 : Ref sig .tc := ⟨.hbm, 448, rfl⟩
abbrev main_call15_v1 : Ref sig .tc := ⟨.hbm, 449, rfl⟩
abbrev main_call15_cst : Ref sig .tc := ⟨.hbm, 450, rfl⟩
abbrev main_call15_v2 : Ref sig .tc := ⟨.hbm, 451, rfl⟩
abbrev main_call15_v3 : Ref sig .tc := ⟨.hbm, 452, rfl⟩
abbrev main_call15_cst_0 : Ref sig .tc := ⟨.hbm, 453, rfl⟩
abbrev main_call15_v4 : Ref sig .tc := ⟨.hbm, 454, rfl⟩
abbrev main_call15_v5 : Ref sig .tc := ⟨.hbm, 455, rfl⟩
abbrev main_v389 : Ref sig .tc := ⟨.hbm, 456, rfl⟩
abbrev main_v390 : Ref sig .tc := ⟨.hbm, 457, rfl⟩
abbrev main_v391 : Ref sig .tc := ⟨.hbm, 458, rfl⟩
abbrev main_v392 : Ref sig .tc := ⟨.hbm, 459, rfl⟩
abbrev main_v393 : Ref sig .tc := ⟨.hbm, 460, rfl⟩
abbrev main_cst_35 : Ref sig .tc := ⟨.hbm, 461, rfl⟩
abbrev main_v394 : Ref sig .tc := ⟨.hbm, 462, rfl⟩
abbrev main_v395 : Ref sig .tc := ⟨.hbm, 463, rfl⟩
abbrev main_cst_36 : Ref sig .tc := ⟨.hbm, 464, rfl⟩
abbrev main_v396 : Ref sig .tc := ⟨.hbm, 465, rfl⟩
abbrev main_v397 : Ref sig .tc := ⟨.hbm, 466, rfl⟩
abbrev main_v398 : Ref sig .tc := ⟨.hbm, 467, rfl⟩
abbrev main_v399 : Ref sig .tc := ⟨.hbm, 468, rfl⟩
abbrev main_v400 : Ref sig .tc := ⟨.hbm, 469, rfl⟩
abbrev main_cst_37 : Ref sig .tc := ⟨.hbm, 470, rfl⟩
abbrev main_v401 : Ref sig .tc := ⟨.hbm, 471, rfl⟩
abbrev main_v402 : Ref sig .tc := ⟨.hbm, 472, rfl⟩
abbrev main_cst_38 : Ref sig .tc := ⟨.hbm, 473, rfl⟩
abbrev main_v403 : Ref sig .tc := ⟨.hbm, 474, rfl⟩
abbrev main_v404 : Ref sig .tc := ⟨.hbm, 475, rfl⟩
abbrev main_v405 : Ref sig .tc := ⟨.hbm, 476, rfl⟩
abbrev main_v406 : Ref sig .tc := ⟨.hbm, 477, rfl⟩
abbrev main_cst_39 : Ref sig .tc := ⟨.hbm, 478, rfl⟩
abbrev main_v407 : Ref sig .tc := ⟨.hbm, 479, rfl⟩
abbrev main_v408 : Ref sig .tc := ⟨.hbm, 480, rfl⟩
abbrev main_v409 : Ref sig .tc := ⟨.hbm, 481, rfl⟩
abbrev main_v410 : Ref sig .tc := ⟨.hbm, 482, rfl⟩
abbrev main_v411 : Ref sig .tc := ⟨.hbm, 483, rfl⟩
abbrev main_v412 : Ref sig .tc := ⟨.hbm, 484, rfl⟩
abbrev main_v413 : Ref sig .tc := ⟨.hbm, 485, rfl⟩
abbrev main_v414 : Ref sig .tc := ⟨.hbm, 486, rfl⟩
abbrev main_call17_v0 : Ref sig .tc := ⟨.hbm, 487, rfl⟩
abbrev main_call17_v1 : Ref sig .tc := ⟨.hbm, 488, rfl⟩
abbrev main_call17_cst : Ref sig .tc := ⟨.hbm, 489, rfl⟩
abbrev main_call17_v2 : Ref sig .tc := ⟨.hbm, 490, rfl⟩
abbrev main_call17_v3 : Ref sig .tc := ⟨.hbm, 491, rfl⟩
abbrev main_call17_cst_0 : Ref sig .tc := ⟨.hbm, 492, rfl⟩
abbrev main_call17_v4 : Ref sig .tc := ⟨.hbm, 493, rfl⟩
abbrev main_call17_v5 : Ref sig .tc := ⟨.hbm, 494, rfl⟩
abbrev main_v415 : Ref sig .tc := ⟨.hbm, 495, rfl⟩
abbrev main_v416 : Ref sig .tc := ⟨.hbm, 496, rfl⟩
abbrev main_v417 : Ref sig .tc := ⟨.hbm, 497, rfl⟩
abbrev main_v418 : Ref sig .tc := ⟨.hbm, 498, rfl⟩
abbrev main_v419 : Ref sig .tc := ⟨.hbm, 499, rfl⟩
abbrev main_v420 : Ref sig .tc := ⟨.hbm, 500, rfl⟩

abbrev nD : Nat := 1
abbrev τ : Topo := Topo.v7x

variable {F : FTy → Type} [FloatOps F]
-- ==== Modul.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S4x1x12288, .f32⟩
  | .hbm, ⟨9, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulRefIdeal.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 22
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S4x12288x8, .f32⟩
  | .hbm, ⟨18, _⟩ => ⟨S4x8x12288, .f32⟩
  | .hbm, ⟨19, _⟩ => ⟨S4x1x12288, .f32⟩
  | .hbm, ⟨20, _⟩ => ⟨S4x8x12288, .f32⟩
  | .hbm, ⟨21, _⟩ => ⟨S4x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Prolog.lean ====
abbrev S4x256x2048 : Shape := ⟨3, ![4, 256, 2048]⟩
abbrev S4x2048x2048 : Shape := ⟨3, ![4, 2048, 2048]⟩
abbrev S6x2048 : Shape := ⟨2, ![6, 2048]⟩
abbrev S4x6x2048 : Shape := ⟨3, ![4, 6, 2048]⟩
abbrev S1x2048 : Shape := ⟨2, ![1, 2048]⟩
abbrev S9216x2048 : Shape := ⟨2, ![9216, 2048]⟩
abbrev S1x256x2048 : Shape := ⟨3, ![1, 256, 2048]⟩
abbrev S1x6x2048 : Shape := ⟨3, ![1, 6, 2048]⟩
abbrev S256x2048 : Shape := ⟨2, ![256, 2048]⟩
abbrev S256x1 : Shape := ⟨2, ![256, 1]⟩
abbrev S256 : Shape := ⟨1, ![256]⟩
abbrev S1x1x2048 : Shape := ⟨3, ![1, 1, 2048]⟩

abbrev nBuf : Space → Nat
  | .hbm => 7
  | .vmem => 12
  | .smem => 0
  | _ => 0

abbrev bufTy : (tb : Table) → Fin (tcTables nBuf tb) → BufTy
  | .hbm, ⟨0, _⟩ => ⟨S4x256x2048, .f32⟩
  | .hbm, ⟨1, _⟩ => ⟨S4x2048x2048, .f32⟩
  | .hbm, ⟨2, _⟩ => ⟨S6x2048, .f32⟩
  | .hbm, ⟨3, _⟩ => ⟨S4x6x2048, .f32⟩
  | .hbm, ⟨4, _⟩ => ⟨S1x2048, .f32⟩
  | .hbm, ⟨5, _⟩ => ⟨S9216x2048, .f32⟩
  | .hbm, ⟨6, _⟩ => ⟨S9216x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S6x2048, .f32⟩
  | .local _ .vmem, ⟨5, _⟩ => ⟨S1x6x2048, .f32⟩
  | .local _ .vmem, ⟨6, _⟩ => ⟨S1x6x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PrologRefIdeal.lean ====
abbrev S4x256x2048 : Shape := ⟨3, ![4, 256, 2048]⟩
abbrev S4x2048x2048 : Shape := ⟨3, ![4, 2048, 2048]⟩
abbrev S6x2048 : Shape := ⟨2, ![6, 2048]⟩
abbrev S4x6x2048 : Shape := ⟨3, ![4, 6, 2048]⟩
abbrev S1x2048 : Shape := ⟨2, ![1, 2048]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S4x2048 : Shape := ⟨2, ![4, 2048]⟩
abbrev S4x2048x1 : Shape := ⟨3, ![4, 2048, 1]⟩
abbrev S4x1x2048 : Shape := ⟨3, ![4, 1, 2048]⟩
abbrev S4x2304x2048 : Shape := ⟨3, ![4, 2304, 2048]⟩
abbrev S9216x2048 : Shape := ⟨2, ![9216, 2048]⟩

abbrev nBuf : Space → Nat
  | .hbm => 70
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S4x2048x2048, .f32⟩
  | .hbm, ⟨2, _⟩ => ⟨S6x2048, .f32⟩
  | .hbm, ⟨3, _⟩ => ⟨S4x6x2048, .f32⟩
  | .hbm, ⟨4, _⟩ => ⟨S1x2048, .f32⟩
  | .hbm, ⟨5, _⟩ => ⟨S2048, .f32⟩
  | .hbm, ⟨6, _⟩ => ⟨S4x256x2048, .f32⟩
  | .hbm, ⟨7, _⟩ => ⟨S_, .f32⟩
  | .hbm, ⟨8, _⟩ => ⟨S4x256, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S_, .f32⟩
  | .hbm, ⟨14, _⟩ => ⟨S4x256x1, .f32⟩
  | .hbm, ⟨15, _⟩ => ⟨S4x256x1, .f32⟩
  | .hbm, ⟨16, _⟩ => ⟨S4x256x1, .f32⟩
  | .hbm, ⟨17, _⟩ => ⟨S4x256x2048, .f32⟩
  | .hbm, ⟨18, _⟩ => ⟨S4x256x2048, .f32⟩
  | .hbm, ⟨19, _⟩ => ⟨S1x1x2048, .f32⟩
  | .hbm, ⟨20, _⟩ => ⟨S4x256x2048, .f32⟩
  | .hbm, ⟨21, _⟩ => ⟨S4x256x2048, .f32⟩
  | .hbm, ⟨22, _⟩ => ⟨S1x2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S1x1x2048, .f32⟩
  | .hbm, ⟨28, _⟩ => ⟨S4x256x2048, .f32⟩
  | .hbm, ⟨29, _⟩ => ⟨S4x256x2048, .f32⟩
  | .hbm, ⟨30, _⟩ => ⟨S1x2048, .f32⟩
  | .hbm, ⟨31, _⟩ => ⟨S2048, .f32⟩
  | .hbm, ⟨32, _⟩ => ⟨S1x1x2048, .f32⟩
  | .hbm, ⟨33, _⟩ => ⟨S4x256x2048, .f32⟩
  | .hbm, ⟨34, _⟩ => ⟨S4x256x2048, .f32⟩
  | .hbm, ⟨35, _⟩ => ⟨S2048, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S4x2048x1, .f32⟩
  | .hbm, ⟨47, _⟩ => ⟨S4x2048x2048, .f32⟩
  | .hbm, ⟨48, _⟩ => ⟨S4x2048x2048, .f32⟩
  | .hbm, ⟨49, _⟩ => ⟨S1x1x2048, .f32⟩
  | .hbm, ⟨50, _⟩ => ⟨S4x2048x2048, .f32⟩
  | .hbm, ⟨51, _⟩ => ⟨S4x2048x2048, .f32⟩
  | .hbm, ⟨52, _⟩ => ⟨S4x1x2048, .f32⟩
  | .hbm, ⟨53, _⟩ => ⟨S4x2048, .f32⟩
  | .hbm, ⟨54, _⟩ => ⟨S4x1x2048, .f32⟩
  | .hbm, ⟨55, _⟩ => ⟨S_, .f32⟩
  | .hbm, ⟨56, _⟩ => ⟨S4x1x2048, .f32⟩
  | .hbm, ⟨57, _⟩ => ⟨S4x1x2048, .f32⟩
  | .hbm, ⟨58, _⟩ => ⟨S4x2048x2048, .f32⟩
  | .hbm, ⟨59, _⟩ => ⟨S4x2048x2048, .f32⟩
  | .hbm, ⟨60, _⟩ => ⟨S4x1x2048, .f32⟩
  | .hbm, ⟨61, _⟩ => ⟨S4x2048, .f32⟩
  | .hbm, ⟨62, _⟩ => ⟨S4x1x2048, .f32⟩
  | .hbm, ⟨63, _⟩ => ⟨S4x2048x2048, .f32⟩
  | .hbm, ⟨64, _⟩ => ⟨S4x2048x2048, .f32⟩
  | .hbm, ⟨65, _⟩ => ⟨S4x2304x2048, .f32⟩
  | .hbm, ⟨66, _⟩ => ⟨S9216x2048, .f32⟩
  | .hbm, ⟨67, _⟩ => ⟨S4x2304x2048, .f32⟩
  | .hbm, ⟨68, _⟩ => ⟨S9216x2048, .f32⟩
  | .hbm, ⟨69, _⟩ => ⟨S9216x2048, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩

abbrev nD : Nat := 1
abbrev τ : Topo := Topo.v7x

variable {F : FTy → Type} [FloatOps F]
-- ==== Finish.lean ====
abbrev S9216x512 : Shape := ⟨2, ![9216, 512]⟩
abbrev S5x512 : Shape := ⟨2, ![5, 512]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S768x512 : Shape := ⟨2, ![768, 512]⟩

abbrev nBuf : Space → Nat
  | .hbm => 31
  | .vmem => 12
  | .smem => 0
  | _ => 0

abbrev bufTy : (tb : Table) → Fin (tcTables nBuf tb) → BufTy
  | .hbm, ⟨0, _⟩ => ⟨S9216x512, .f32⟩
  | .hbm, ⟨1, _⟩ => ⟨S9216x512, .f32⟩
  | .hbm, ⟨2, _⟩ => ⟨S9216x512, .f32⟩
  | .hbm, ⟨3, _⟩ => ⟨S9216x512, .f32⟩
  | .hbm, ⟨4, _⟩ => ⟨S5x512, .f32⟩
  | .hbm, ⟨5, _⟩ => ⟨S512, .i32⟩
  | .hbm, ⟨6, _⟩ => ⟨S_, .i32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S1x512, .i32⟩
  | .hbm, ⟨26, _⟩ => ⟨S512x512, .i32⟩
  | .hbm, ⟨27, _⟩ => ⟨S512x512, .i32⟩
  | .hbm, ⟨28, _⟩ => ⟨S512x512, .i1⟩
  | .hbm, ⟨29, _⟩ => ⟨S512x512, .bf16⟩
  | .hbm, ⟨30, _⟩ => ⟨S9216x512, .bf16⟩
  | .local _ .vmem, ⟨0, _⟩ => ⟨S768x512, .f32⟩
  | .local _ .vmem, ⟨1, _⟩ => ⟨S768x512, .f32⟩
  | .local _ .vmem, ⟨2, _⟩ => ⟨S768x512, .f32⟩
  | .local _ .vmem, ⟨3, _⟩ => ⟨S768x512, .f32⟩
  | .local _ .vmem, ⟨4, _⟩ => ⟨S768x512, .f32⟩
  | .local _ .vmem, ⟨5, _⟩ => ⟨S768x512, .f32⟩
  | .local _ .vmem, ⟨6, _⟩ => ⟨S768x512, .f32⟩
  | .local _ .vmem, ⟨7, _⟩ => ⟨S768x512, .f32⟩
  | .local _ .vmem, ⟨8, _⟩ => ⟨S5x512, .f32⟩
  | .local _ .vmem, ⟨9, _⟩ => ⟨S512x512, .bf16⟩
  | .local _ .vmem, ⟨10, _⟩ => ⟨S768x512, .bf16⟩
  | .local _ .vmem, ⟨11, _⟩ => ⟨S768x512, .bf16⟩
  | _, _ => ⟨S9216x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S5x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S768x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FinishRefIdeal.lean ====
abbrev S9216x512 : Shape := ⟨2, ![9216, 512]⟩
abbrev S5x512 : Shape := ⟨2, ![5, 512]⟩
abbrev S9216x8x64 : Shape := ⟨3, ![9216, 8, 64]⟩
abbrev S_ : Shape := ⟨0, ![]⟩
abbrev S9216x8 : Shape := ⟨2, ![9216, 8]⟩
abbrev S9216x8x1 : Shape := ⟨3, ![9216, 8, 1]⟩
abbrev S1x512 : Shape := ⟨2, ![1, 512]⟩
abbrev S512 : Shape := ⟨1, ![512]⟩
abbrev S8x64 : Shape := ⟨2, ![8, 64]⟩
abbrev S1x8x64 : Shape := ⟨3, ![1, 8, 64]⟩

abbrev nBuf : Space → Nat
  | .hbm => 47
  | .vmem => 0
  | .smem => 0
  | _ => 0

abbrev bufTy : (tb : Table) → Fin (tcTables nBuf tb) → BufTy
  | .hbm, ⟨0, _⟩ => ⟨S9216x512, .f32⟩
  | .hbm, ⟨1, _⟩ => ⟨S9216x512, .f32⟩
  | .hbm, ⟨2, _⟩ => ⟨S9216x512, .f32⟩
  | .hbm, ⟨3, _⟩ => ⟨S9216x512, .f32⟩
  | .hbm, ⟨4, _⟩ => ⟨S5x512, .f32⟩
  | .hbm, ⟨5, _⟩ => ⟨S9216x512, .f32⟩
  | .hbm, ⟨6, _⟩ => ⟨S9216x8x64, .f32⟩
  | .hbm, ⟨7, _⟩ => ⟨S_, .f32⟩
  | .hbm, ⟨8, _⟩ => ⟨S9216x8, .f32⟩
  | .hbm, ⟨9, _⟩ => ⟨S9216x8x1, .f32⟩
  | .hbm, ⟨10, _⟩ => ⟨S_, .f32⟩
  | .hbm, ⟨11, _⟩ => ⟨S9216x8x1, .f32⟩
  | .hbm, ⟨12, _⟩ => ⟨S9216x8x1, .f32⟩
  | .hbm, ⟨13, _⟩ => ⟨S9216x8x64, .f32⟩
  | .hbm, ⟨14, _⟩ => ⟨S9216x8x64, .f32⟩
  | .hbm, ⟨15, _⟩ => ⟨S9216x8x64, .f32⟩
  | .hbm, ⟨16, _⟩ => ⟨S_, .f32⟩
  | .hbm, ⟨17, _⟩ => ⟨S9216x8, .f32⟩
  | .hbm, ⟨18, _⟩ => ⟨S9216x8x1, .f32⟩
  | .hbm, ⟨19, _⟩ => ⟨S_, .f32⟩
  | .hbm, ⟨20, _⟩ => ⟨S9216x8x1, .f32⟩
  | .hbm, ⟨21, _⟩ => ⟨S9216x8x1, .f32⟩
  | .hbm, ⟨22, _⟩ => ⟨S9216x8x64, .f32⟩
  | .hbm, ⟨23, _⟩ => ⟨S9216x8x64, .f32⟩
  | .hbm, ⟨24, _⟩ => ⟨S_, .f32⟩
  | .hbm, ⟨25, _⟩ => ⟨S9216x8x1, .f32⟩
  | .hbm, ⟨26, _⟩ => ⟨S9216x8x1, .f32⟩
  | .hbm, ⟨27, _⟩ => ⟨S9216x8x1, .f32⟩
  | .hbm, ⟨28, _⟩ => ⟨S9216x8x64, .f32⟩
  | .hbm, ⟨29, _⟩ => ⟨S9216x8x64, .f32⟩
  | .hbm, ⟨30, _⟩ => ⟨S1x512, .f32⟩
  | .hbm, ⟨31, _⟩ => ⟨S512, .f32⟩
  | .hbm, ⟨32, _⟩ => ⟨S8x64, .f32⟩
  | .hbm, ⟨33, _⟩ => ⟨S1x8x64, .f32⟩
  | .hbm, ⟨34, _⟩ => ⟨S9216x8x64, .f32⟩
  | .hbm, ⟨35, _⟩ => ⟨S9216x8x64, .f32⟩
  | .hbm, ⟨36, _⟩ => ⟨S1x512, .f32⟩
  | .hbm, ⟨37, _⟩ => ⟨S512, .f32⟩
  | .hbm, ⟨38, _⟩ => ⟨S8x64, .f32⟩
  | .hbm, ⟨39, _⟩ => ⟨S1x8x64, .f32⟩
  | .hbm, ⟨40, _⟩ => ⟨S9216x8x64, .f32⟩
  | .hbm, ⟨41, _⟩ => ⟨S9216x8x64, .f32⟩
  | .hbm, ⟨42, _⟩ => ⟨S9216x8x64, .f32⟩
  | .hbm, ⟨43, _⟩ => ⟨S9216x8x64, .f32⟩
  | .hbm, ⟨44, _⟩ => ⟨S9216x512, .f32⟩
  | .hbm, ⟨45, _⟩ => ⟨S9216x512, .f32⟩
  | .hbm, ⟨46, _⟩ => ⟨S9216x512, .bf16⟩
  | _, _ => ⟨S9216x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Proof.AttnMath.lean ====
/- Softmax in base two against softmax in base e, over the extended reals: the scores are real, the values are anything. -/
module

public import Idealize.ShloMosaic.PureOps.Ideal
public import Idealize.ShloMosaic.PureOps.Ideal.Laws

@[expose] public section

noncomputable section

namespace Cert.AttnMath

open Idealize.ShloMosaic

/-- The pattern of minus infinity, from which both programs start a maximum. -/
abbrev ninf : EReal := Ideal.ofBits .f32 0xFF800000#32

theorem ninf_eq : ninf = ⊥ := by
  simp [ninf, Ideal.ofBits, Ideal.ieee]

/-- The kernel's form: powers of two of the scores below their maximum, the weighted sum divided by the sum of weights. -/
def soft2 {n : ℕ} (s v : Fin n → EReal) : EReal :=
  Ideal.div (∑ j, Ideal.exp2 (s j - Finset.univ.fold max ninf s) * v j)
    (∑ j, Ideal.exp2 (s j - Finset.univ.fold max ninf s))

/-- The reference's form: the softmax of the scores times `c`, each weight divided, and then the weighted sum. -/
def soft (c : EReal) {n : ℕ} (s v : Fin n → EReal) : EReal :=
  ∑ j, v j * Ideal.div (Ideal.exp (s j * c - max ninf (Finset.univ.fold max ninf fun x => s x * c)))
    (∑ x, Ideal.exp (s x * c - max ninf (Finset.univ.fold max ninf fun x => s x * c)))

theorem sum_coe {n : ℕ} (f : Fin n → ℝ) : ∑ j, ((f j : ℝ) : EReal) = ((∑ j, f j : ℝ) : EReal) := by
  induction n with
  | zero => simp
  | succ n ih => rw [Fin.sum_univ_succ, Fin.sum_univ_succ, ih, EReal.coe_add]

/-- A nonnegative real distributes over any sum of extended reals. -/
theorem sum_mul_coe {n : ℕ} (f : Fin n → EReal) {t : ℝ} (ht : 0 ≤ t) : (∑ j, f j) * (t : EReal) = ∑ j, f j * (t : EReal) := by
  induction n with
  | zero => simp
  | succ n ih =>
    rw [Fin.sum_univ_succ, Fin.sum_univ_succ, ← ih,
      EReal.right_distrib_of_nonneg_of_ne_top (by exact_mod_cast ht) (EReal.coe_ne_top t)]

theorem fold_eq_sup {n : ℕ} (f : Fin n → EReal) : Finset.univ.fold max ninf f = Finset.univ.sup f := by
  rw [ninf_eq]; rfl

/-- The softmax does not depend on the order in which the keys are listed. -/
theorem soft_perm (c : EReal) {n : ℕ} (s v : Fin n → EReal) (σ : Fin n ≃ Fin n) :
    soft c (fun j => s (σ j)) (fun j => v (σ j)) = soft c s v := by
  have hM : (Finset.univ.fold max ninf fun x => s (σ x) * c) = Finset.univ.fold max ninf fun x => s x * c := by
    rw [fold_eq_sup, fold_eq_sup, Finset.sup_univ_eq_iSup, Finset.sup_univ_eq_iSup]
    exact σ.iSup_comp (g := fun x => s x * c)
  unfold soft
  rw [hM]
  generalize (Finset.univ.fold max ninf fun x => s x * c) = M
  have hL : (∑ x, Ideal.exp (s (σ x) * c - max ninf M)) = ∑ x, Ideal.exp (s x * c - max ninf M) :=
    Equiv.sum_comp σ fun x => Ideal.exp (s x * c - max ninf M)
  rw [hL]
  exact Equiv.sum_comp σ fun j => v j * Ideal.div (Ideal.exp (s j * c - max ninf M)) (∑ x, Ideal.exp (s x * c - max ninf M))

/-- Where the scores are real the two forms agree, whatever the values are. -/
theorem soft2_eq_soft {n : ℕ} (hn : 0 < n) (r : Fin n → ℝ) (v : Fin n → EReal) :
    soft2 (fun j => (r j : EReal)) v = soft ((Real.log 2 : ℝ) : EReal) (fun j => (r j : EReal)) v := by
  have hl : (0 : ℝ) < Real.log 2 := Real.log_pos (by norm_num)
  haveI : Nonempty (Fin n) := ⟨⟨0, hn⟩⟩
  obtain ⟨j0, hj⟩ : ∃ j0, ∀ j, r j ≤ r j0 := Finite.exists_max r
  have hM : Finset.univ.fold max ninf (fun j => (r j : EReal)) = (r j0 : EReal) := by
    rw [fold_eq_sup]
    exact le_antisymm (Finset.sup_le fun j _ => by exact_mod_cast hj j) (Finset.le_sup (f := fun j => (r j : EReal)) (Finset.mem_univ j0))
  have hM' : max ninf (Finset.univ.fold max ninf fun j => (r j : EReal) * ((Real.log 2 : ℝ) : EReal)) = ((r j0 * Real.log 2 : ℝ) : EReal) := by
    rw [fold_eq_sup, ninf_eq, max_eq_right bot_le]
    refine le_antisymm (Finset.sup_le fun j _ => ?_) ?_
    · rw [← EReal.coe_mul]
      exact_mod_cast mul_le_mul_of_nonneg_right (hj j) hl.le
    · rw [EReal.coe_mul]
      exact Finset.le_sup (f := fun j => (r j : EReal) * ((Real.log 2 : ℝ) : EReal)) (Finset.mem_univ j0)
  have e2 : ∀ j, Ideal.exp2 ((r j : EReal) - (r j0 : EReal)) = ((Real.exp ((r j - r j0) * Real.log 2) : ℝ) : EReal) := fun j => by
    rw [← EReal.coe_sub, Ideal.exp2_coe]
    congr 1
    show (2 : ℝ) ^ (r j - r j0) = _
    rw [Real.rpow_def_of_pos (by norm_num), mul_comm]
  have e1 : ∀ j, Ideal.exp ((r j : EReal) * ((Real.log 2 : ℝ) : EReal) - ((r j0 * Real.log 2 : ℝ) : EReal))
      = ((Real.exp ((r j - r j0) * Real.log 2) : ℝ) : EReal) := fun j => by
    rw [← EReal.coe_mul, ← EReal.coe_sub, Ideal.exp_coe, sub_mul]
  unfold soft2 soft
  simp only [hM, hM', e1, e2]
  have hL : (0 : ℝ) < ∑ j, Real.exp ((r j - r j0) * Real.log 2) := Finset.sum_pos (fun j _ => Real.exp_pos _) Finset.univ_nonempty
  rw [sum_coe]
  simp only [Ideal.div_coe hL.ne']
  rw [sum_mul_coe _ (one_div_pos.mpr hL).le]
  refine Finset.sum_congr rfl fun j _ => ?_
  rw [mul_comm (v j), mul_right_comm]

/-- A finite sum of products of reals is real. -/
theorem sum_mul_real {n : ℕ} (a b : Fin n → EReal) (ha : ∀ j, ∃ x : ℝ, a j = x) (hb : ∀ j, ∃ x : ℝ, b j = x) :
    ∃ x : ℝ, ∑ j, a j * b j = x := by
  choose x hx using ha
  choose y hy using hb
  refine ⟨∑ j, x j * y j, ?_⟩
  rw [← sum_coe]
  exact Finset.sum_congr rfl fun j _ => by rw [hx, hy, EReal.coe_mul]

/-- The factor the reference takes as the logarithm of the pattern of two. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]
    norm_num
  rw [h, Ideal.log_coe, if_neg (by norm_num)]

end Cert.AttnMath

end
-- ==== Proof.AttnKernel.lean ====
/- The latent attention: what the kernel leaves in its result array, element by element. -/
module

public import proofs.«01_k».proof.Proof.AttnMath
public import proofs.«01_k».proof.Proof.Gen.AttnIdeal.Value
public import Idealize.ShloMosaic.Lib.Pipeline.ValueKit
public import Idealize.ShloMosaic.Lib.Pointwise

@[expose] public section

set_option maxRecDepth 16384

noncomputable section

namespace Cert.AttnIdeal.Val

open Cert.AttnIdeal Cert.AttnIdeal.Gen Idealize.ShloMosaic Idealize.ShloMosaic.TcCoe Idealize.SL.Sem
open Cert.AttnMath

variable (m : (ℓ : Loc nD τ sig) → Buf (Elt Ideal) ℓ)

/-- Row `j` of sample `b`. -/
def row (b : Fin 4) (j : Fin 2304) : Fin 9216 := ⟨b.val * 2304 + j.val, by omega⟩
/-- Channel `d` of head `h`, of the queries and keys, -/
def colQ (h : Fin 4) (d : Fin 256) : Fin 1024 := ⟨h.val * 256 + d.val, by omega⟩
/-- and of the values. -/
def colV (h : Fin 4) (d : Fin 128) : Fin 512 := ⟨h.val * 128 + d.val, by omega⟩

/-- The score of row `i` of sample `b` against key `j`, in head `h`. -/
def score (q k : FVec Ideal S9216x1024 .bf16) (b h : Fin 4) (i j : Fin 2304) : EReal :=
  ∑ d : Fin 256, q (ix2 (row b i) (colQ h d)) * k (ix2 (row b j) (colQ h d))

/-- The same within one block. -/
def bscore (q k : Vec Ideal S2304x256 .bf16) (i j : Fin 2304) : EReal :=
  ∑ d : Fin 256, q (ix2 i d) * k (ix2 j d)

/-- A context key is one of the first 256 rows of its sample. -/
def ctxKey (j : Fin 256) : Fin 2304 := ⟨j.val, by omega⟩

/-- What a block's result holds at row `i`, column `l`. -/
def blockOut (q k : Vec Ideal S2304x256 .bf16) (v : Vec Ideal S2304x128 .bf16) (i : Fin 2304) (l : Fin 128) : EReal :=
  if i.val < 256 then soft2 (fun j : Fin 256 => bscore q k i (ctxKey j)) (fun j => v (ix2 (ctxKey j) l))
  else soft2 (fun j => bscore q k i j) (fun j => v (ix2 j l))

/-- The context rows' payload. -/
theorem context (q k : Vec Ideal S2304x256 .bf16) (v : Vec Ideal S2304x128 .bf16) (x : S256x128.Idx) (i : Fin 2304) (l : Fin 128)
    (hi : i.val = (x 0).val) (hl : l.val = (x 1).val) :
    k0_pay3 (View.ld k r0_0) (View.ld v r0_1) (View.ld q r0_2) x = blockOut q k v i l := by
  idx_vars x
  obtain rfl : l = x1 := Fin.ext hl
  obtain rfl : i = ctxKey x0 := Fin.ext hi
  unfold blockOut
  rw [if_pos (show (ctxKey x0).val < 256 from x0.isLt)]
  pointwise [k0_pay3, soft2, bscore]
  rfl

/-- A latent tile's payload, for the tile of queries `q'` that holds row `i` of the block. -/
theorem latent (q k : Vec Ideal S2304x256 .bf16) (v : Vec Ideal S2304x128 .bf16) (q' : Vec Ideal S256x256 .bf16) (x : S256x128.Idx)
    (i : Fin 2304) (l : Fin 128) (hi : 256 ≤ i.val) (hl : l.val = (x 1).val) (hq : ∀ d : Fin 256, q' (ix2 (x 0) d) = q (ix2 i d)) :
    k0_pay1 (View.ld k r0_0) (View.ld v r0_1) q' x = blockOut q k v i l := by
  idx_vars x
  obtain rfl : l = x1 := Fin.ext hl
  unfold blockOut
  rw [if_neg (by omega)]
  have hq' : ∀ d : Fin 256, q (ix2 i d) = q' (ix2 x0 d) := fun d => (hq d).symm
  pointwise [k0_pay1, soft2, bscore]
  simp only [hq']
  rfl

theorem out_eq (q k : Vec Ideal S2304x256 .bf16) (v : Vec Ideal S2304x128 .bf16) (i : Fin 2304) (l : Fin 128) :
    out0_3 q k v (ix2 i l) = blockOut q k v i l := by
  unfold out0_3
  canon_tiles x h
  case piece8 => exact context q k v x i l h0 h1
  all_goals
    refine latent q k v _ x i l ?_ h1 fun d => ?_
    · have : i.val = _ + (x 0).val := h0
      omega
    · pointwise
      blk_ext
      exact h0.symm

theorem idx : ∀ t : Fin cfg0.N, win0_0.index t = ![(grid0.coords t 0).val, (grid0.coords t 1).val]
    ∧ win0_1.index t = ![(grid0.coords t 0).val, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

/-- The attention of the whole arrays, element by element. -/
def attnAt (q k : FVec Ideal S9216x1024 .bf16) (v : FVec Ideal S9216x512 .bf16) (b h : Fin 4) (i : Fin 2304) (l : Fin 128) : EReal :=
  if i.val < 256 then soft2 (fun j : Fin 256 => score q k b h i (ctxKey j)) (fun j => v (ix2 (row b (ctxKey j)) (colV h l)))
  else soft2 (fun j => score q k b h i j) (fun j => v (ix2 (row b j) (colV h l)))

/-- The same as one array. -/
def attn (q k : FVec Ideal S9216x1024 .bf16) (v : FVec Ideal S9216x512 .bf16) : FVec Ideal S9216x512 .bf16 := fun i =>
  attnAt q k v ⟨(i 0).val / 2304, by have := (i 0).isLt; simp at this; omega⟩ ⟨(i 1).val / 128, by have := (i 1).isLt; simp at this; omega⟩
    ⟨(i 0).val % 2304, by omega⟩ ⟨(i 1).val % 128, by omega⟩

theorem attn_apply (q k : FVec Ideal S9216x1024 .bf16) (v : FVec Ideal S9216x512 .bf16) (b h : Fin 4) (i : Fin 2304) (l : Fin 128)
    (y : S9216x512.Idx) (h0 : (y 0).val = b.val * 2304 + i.val) (h1 : (y 1).val = h.val * 128 + l.val) :
    attn q k v y = attnAt q k v b h i l := by
  unfold attn
  congr 1 <;> apply Fin.ext <;> simp only [h0, h1] <;> omega

/-- A block of the result, from the blocks of the arguments at one point, is that block of the whole arrays' attention. -/
theorem block_eq (c : Dev nD) (t : Fin cfg0.N) (i : Fin 2304) (l : Fin 128) :
    blockOut (iblk m c 0 t) (iblk m c 1 t) (iblk m c 2 t) i l
      = attnAt (V m c main_arg0) (V m c main_arg1) (V m c main_arg2) (grid0.coords t 0) (grid0.coords t 1) i l := by
  obtain ⟨e0, e1, e2, e3⟩ := idx t
  have hq : ∀ (i : Fin 2304) (d : Fin 256), iblk m c 0 t (ix2 i d) = V m c main_arg0 (ix2 (row (grid0.coords t 0) i) (colQ (grid0.coords t 1) d)) :=
    fun i d => by blk_ext [iblk, V, e0, row, colQ]
  have hk : ∀ (i : Fin 2304) (d : Fin 256), iblk m c 1 t (ix2 i d) = V m c main_arg1 (ix2 (row (grid0.coords t 0) i) (colQ (grid0.coords t 1) d)) :=
    fun i d => by blk_ext [iblk, V, e1, row, colQ]
  have hv : ∀ (i : Fin 2304) (l : Fin 128), iblk m c 2 t (ix2 i l) = V m c main_arg2 (ix2 (row (grid0.coords t 0) i) (colV (grid0.coords t 1) l)) :=
    fun i l => by blk_ext [iblk, V, e2, row, colV]
  unfold blockOut attnAt bscore score
  simp only [hq, hk, hv]

/-- The array the kernel leaves is the attention of its arguments. -/
theorem final (c : Dev nD) : (dats m 0 c).arrAt 3 cfg0.N = attn (V m c main_arg0) (V m c main_arg1) (V m c main_arg2) := by
  refine (dats m 0 c).arrAt_eq_of_covers 3 _ (by decide +kernel) fun t hf y => ?_
  blk_simp
  rw [after0_3]
  obtain ⟨e0, e1, e2, e3⟩ := idx t
  rw [attn_apply _ _ _ (grid0.coords t 0) (grid0.coords t 1) (y 0) (y 1) _ (by blk_simp [e3]) (by blk_simp [e3])]
  exact (congrArg _ (eq_ix2 y)).trans ((out_eq (iblk m c 0 t) (iblk m c 1 t) (iblk m c 2 t) (y 0) (y 1)).trans (block_eq m c t (y 0) (y 1)))

end Cert.AttnIdeal.Val

end
-- ==== Proof.AttnRef.lean ====
/- The latent attention: what the reference computes, element by element. -/
module

public import proofs.«01_k».proof.Proof.AttnKernel
public import proofs.«01_k».proof.Proof.Gen.AttnRefIdeal.Read

@[expose] public section

set_option maxRecDepth 16384

noncomputable section

namespace Cert.AttnRefIdeal.Val

open Cert.AttnRefIdeal Cert.AttnRefIdeal.Gen Cert.AttnRefIdeal.Read Idealize.ShloMosaic Idealize.ShloMosaic.TcCoe Idealize.SL.Sem
open Cert.AttnMath
open Cert.AttnIdeal.Val (row colQ colV score ctxKey)

variable (q k : FVec Ideal S9216x1024 .bf16) (v : FVec Ideal S9216x512 .bf16)

/-- A latent query is one of the last 2048 rows of its sample. -/
def latKey (i : Fin 2048) : Fin 2304 := ⟨256 + i.val, by omega⟩

/-- The reference lists a sample's keys with the latent rows first. -/
def latFirst : Fin 2304 ≃ Fin 2304 where
  toFun j := if h : j.val < 2048 then ⟨256 + j.val, by omega⟩ else ⟨j.val - 2048, by omega⟩
  invFun j := if h : j.val < 256 then ⟨2048 + j.val, by omega⟩ else ⟨j.val - 256, by omega⟩
  left_inv j := by
    by_cases h : j.val < 2048
    · simp [h]
    · have h2 : j.val - 2048 < 256 := by omega
      simp only [h, h2, dif_pos, dif_neg, not_false_eq_true]
      apply Fin.ext; simp; omega
  right_inv j := by
    by_cases h : j.val < 256
    · simp [h]
    · have h2 : j.val - 256 < 2048 := by omega
      simp only [h, h2, dif_pos, dif_neg, not_false_eq_true]
      apply Fin.ext; simp; omega

/-- The factor of the exponent. -/
abbrev c2 : EReal := Ideal.log (Ideal.ofBits .f32 0x40000000#32)

/-! ## The context rows -/

theorem ctx_score (b h : Fin 4) (i j : Fin 256) :
    val_main_v18 (F := Ideal) q k (ix4 b h i j) = score q k b h (ctxKey i) (ctxKey j) := by
  pointwise [val_main_v18, val_main_v4, val_main_v10, val_main_v8, val_main_v7, val_main_v2, val_main_v1, val_main_v0, val_main_v6]
  rfl

theorem ctx_value (b h : Fin 4) (j : Fin 256) (l : Fin 128) :
    val_main_v16 (F := Ideal) v (ix4 b j h l) = v (ix2 (row b (ctxKey j)) (colV h l)) := by
  pointwise [val_main_v16, val_main_v14, val_main_v13, val_main_v12]
  rfl

theorem ctx_out (b h : Fin 4) (i : Fin 256) (l : Fin 128) :
    val_main_v34 (F := Ideal) q k v (ix4 b i h l)
      = soft c2 (fun j : Fin 256 => score q k b h (ctxKey i) (ctxKey j)) (fun j => v (ix2 (row b (ctxKey j)) (colV h l))) := by
  pointwise [val_main_v34, val_main_v33, val_main_v32, val_main_v31, val_main_v30, val_main_v29, val_main_v28, val_main_v27, val_main_v26,
    val_main_v25, val_main_v24, val_main_v23, val_main_v22, val_main_v21, val_main_v20, val_main_v19, val_main_cst, val_main_cst_0, val_main_cst_1, val_main_cst_2]
  simp only [ctx_score, ctx_value]
  unfold soft
  rfl

/-! ## The latent rows -/

theorem latFirst_val (j : Fin 2304) : (latFirst j).val = if j.val < 2048 then 256 + j.val else j.val - 2048 := by
  unfold latFirst
  rw [Equiv.coe_fn_mk]
  split_ifs <;> rfl

theorem lat_key (b h : Fin 4) (j : Fin 2304) (d : Fin 256) :
    val_main_v35 (F := Ideal) k (ix4 b j h d) = k (ix2 (row b (latFirst j)) (colQ h d)) := by
  have hj := latFirst_val j
  pointwise [val_main_v35, val_main_v11, val_main_v10, val_main_v9, val_main_v8, val_main_v7, val_main_v6]
  split_ifs at hj ⊢
  all_goals exact congrArg _ (congrArg (ix2 · _) (Fin.ext (congrArg (_ + ·) hj.symm)))

theorem lat_value (b h : Fin 4) (j : Fin 2304) (l : Fin 128) :
    val_main_v36 (F := Ideal) v (ix4 b j h l) = v (ix2 (row b (latFirst j)) (colV h l)) := by
  have hj := latFirst_val j
  pointwise [val_main_v36, val_main_v17, val_main_v16, val_main_v15, val_main_v14, val_main_v13, val_main_v12]
  split_ifs at hj ⊢
  all_goals exact congrArg _ (congrArg (ix2 · _) (Fin.ext (congrArg (_ + ·) hj.symm)))

theorem lat_score (b h : Fin 4) (i : Fin 2048) (j : Fin 2304) :
    val_main_v37 (F := Ideal) q k (ix4 b h i j) = score q k b h (latKey i) (latFirst j) := by
  unfold val_main_v37
  pointwise
  simp only [lat_key]
  pointwise [val_main_v5, val_main_v3, val_main_v1, val_main_v0]
  rfl

theorem lat_scaled (b h : Fin 4) (i : Fin 2048) (j : Fin 2304) :
    val_main_v40 (F := Ideal) q k (ix4 b h i j) = score q k b h (latKey i) (latFirst j) * c2 := by
  rw [val_main_v40_apply, lat_score]
  rfl

theorem lat_fold (A : FVec Ideal S4x4x2048x2304 .f32) (c : FVec Ideal S_ .f32) (b h : Fin 4) (i : Fin 2048) :
    Host.reduce FloatOps.maximumf A c reducesTo_S4x4x2048x2304_S4x4x2048_d3 h_S_ (ix3 b h i)
      = Finset.univ.fold max (c (Shape.Idx.first h_S_)) fun x : Fin 2304 => A (ix4 b h i x) := by
  pointwise

theorem lat_max (b h : Fin 4) (i : Fin 2048) :
    val_main_v43 (F := Ideal) q k (ix3 b h i)
      = max ninf (Finset.univ.fold max ninf fun x : Fin 2304 => score q k b h (latKey i) (latFirst x) * c2) := by
  rw [val_main_v43_apply]
  refine congrArg (max ninf) ?_
  unfold val_main_v41
  refine (lat_fold _ _ b h i).trans ?_
  simp only [lat_scaled]
  rfl

theorem lat_exp (b h : Fin 4) (i : Fin 2048) (j : Fin 2304) :
    val_main_v47 (F := Ideal) q k (ix4 b h i j)
      = Ideal.exp (score q k b h (latKey i) (latFirst j) * c2
          - max ninf (Finset.univ.fold max ninf fun x : Fin 2304 => score q k b h (latKey i) (latFirst x) * c2)) := by
  pointwise [val_main_v47, val_main_v46, val_main_v45, val_main_v44]
  rw [lat_scaled, lat_max]

theorem lat_out (b h : Fin 4) (i : Fin 2048) (l : Fin 128) :
    val_main_v53 (F := Ideal) q k v (ix4 b i h l)
      = soft c2 (fun j => score q k b h (latKey i) (latFirst j)) (fun j => v (ix2 (row b (latFirst j)) (colV h l))) := by
  pointwise [val_main_v53, val_main_v52, val_main_v51, val_main_v50, val_main_v49, val_main_v48, val_main_cst_6]
  simp only [lat_exp, lat_value]
  rfl

end Cert.AttnRefIdeal.Val

end
-- ==== Proof.AttnValue.lean ====
/- The latent attention: with finite queries and keys, kernel and reference compute the same array. -/
module

public import proofs.«01_k».proof.Defs
public import proofs.«01_k».proof.Proof.AttnRef
public import proofs.«01_k».proof.Proof.Gen.AttnIdeal.Value
public import proofs.«01_k».proof.Proof.Gen.Pre_finite_qk
public import Idealize.ShloMosaic.Lib.ReduceAll
public import Idealize.ShloMosaic.Lib.KernelVsHost

@[expose] public section

set_option maxRecDepth 16384

noncomputable section

namespace Cert.AttnRefIdeal.Val

open Cert.AttnRefIdeal Cert.AttnRefIdeal.Gen Cert.AttnRefIdeal.Read Idealize.ShloMosaic Idealize.ShloMosaic.TcCoe Idealize.SL.Sem
open Cert.AttnMath
open Cert.AttnIdeal.Val (row colQ colV score ctxKey attnAt attn attn_apply)

variable (q k : FVec Ideal S9216x1024 .bf16) (v : FVec Ideal S9216x512 .bf16)

/-- Every element is a real number. -/
def AllReal {s : Shape} {φ : FTy} (x : FVec Ideal s φ) : Prop := ∀ i, ∃ r : ℝ, x i = r

/-- An absolute value below plus infinity is that of a real number. -/
theorem real_of_cmp (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- What the precondition says. -/
theorem real_of_pre (h : Cert.Pre_finite_qk.fn (F := Ideal) q k v = fun _ => 1#1) : AllReal q ∧ AllReal k := by
  have h0 := congrFun h ix0
  unfold Cert.Pre_finite_qk.fn at h0
  simp only [] at h0
  obtain ⟨hq, hk⟩ := IntOp.andi_eq_one.1 h0
  haveI : Subsingleton Cert.Pre_finite_qk.S_.Idx := ⟨fun a b => funext fun i => i.elim0⟩
  exact ⟨fun i => real_of_cmp _ (Host.reduce_andi_all _ _ _ _ _ hq i), fun i => real_of_cmp _ (Host.reduce_andi_all _ _ _ _ _ hk i)⟩

theorem score_real (hq : AllReal q) (hk : AllReal k) (b h : Fin 4) (i j : Fin 2304) : ∃ r : ℝ, score q k b h i j = r :=
  sum_mul_real _ _ (fun _ => hq _) (fun _ => hk _)

/-- The kernel's form of one row is the reference's. -/
theorem soft2_score (hq : AllReal q) (hk : AllReal k) (b h : Fin 4) (i : Fin 2304) {n : ℕ} (hn : 0 < n) (key : Fin n → Fin 2304)
    (w : Fin n → EReal) : soft2 (fun j => score q k b h i (key j)) w = soft c2 (fun j => score q k b h i (key j)) w := by
  choose r hr using fun j => score_real q k hq hk b h i (key j)
  simp only [hr]
  rw [soft2_eq_soft hn, ← log_two]

/-- The reference's array. -/
theorem ref_eq (hq : AllReal q) (hk : AllReal k) : val_main_v58 (F := Ideal) q k v = attn q k v := by
  funext y
  idx_vars y
  pointwise [val_main_v58, val_main_v57, val_main_v56, val_main_v55, val_main_v54]
  rw [attn_apply q k v ⟨y0.val / 2304, by omega⟩ ⟨y1.val / 128, by omega⟩ ⟨y0.val % 2304, by omega⟩ ⟨y1.val % 128, by omega⟩ (ix2 y0 y1)
    (by show y0.val = _; simp only []; omega) (by show y1.val = _; simp only []; omega)]
  unfold attnAt
  by_cases h : y0.val % 2304 < 256
  · rw [dif_pos h, if_pos h, ctx_out, soft2_score q k hq hk _ _ _ (by norm_num)]
    rfl
  · rw [dif_neg h, if_neg h, lat_out]
    refine (soft_perm c2 (fun j => score q k _ _ _ j) (fun j => v (ix2 (row _ j) (colV _ _))) latFirst).trans ?_
    rw [soft2_score q k hq hk _ _ _ (by norm_num) (fun j => j)]
    have hi : latKey ⟨y0.val % 2304 - 256, by omega⟩ = ⟨y0.val % 2304, by omega⟩ := Fin.ext (by show 256 + (y0.val % 2304 - 256) = y0.val % 2304; omega)
    rw [hi]

end Cert.AttnRefIdeal.Val

namespace Cert.Proof

open Idealize.ShloMosaic Idealize.ShloMosaic.TcCoe Idealize.SL.Sem

theorem algebraic_attn : Cert.algebraic_AttnIdeal_AttnRefIdeal_pre_finite_qk := fun m ρ m' ρ' hpre hagree => by
  refine ⟨fun c => Cert.AttnIdeal.Val.attn (m ((c.tc : Thread Cert.AttnIdeal.nD Cert.AttnIdeal.τ).loc Cert.AttnIdeal.main_arg0))
      (m ((c.tc : Thread Cert.AttnIdeal.nD Cert.AttnIdeal.τ).loc Cert.AttnIdeal.main_arg1))
      (m ((c.tc : Thread Cert.AttnIdeal.nD Cert.AttnIdeal.τ).loc Cert.AttnIdeal.main_arg2)),
    (θ_run Cert.AttnIdeal.defs _ _).mono (fun r h c => ⟨(h c).1.trans (Cert.AttnIdeal.Val.final m c), (h c).2⟩)
      (Cert.AttnIdeal.Value.run_blocks m ρ),
    (θ_run Cert.AttnRefIdeal.defs _ _).mono (fun r h c => ⟨(h c).1.trans ?_, (h c).2⟩)
      (Cert.AttnRefIdeal.Value.run (F := Ideal) m' ρ')⟩
  rw [Cert.AttnRefIdeal.Read.val_main_v58_eq, (hagree c).1, (hagree c).2.1, (hagree c).2.2]
  obtain ⟨hq, hk⟩ := Cert.AttnRefIdeal.Val.real_of_pre _ _ _ (hpre c)
  exact Cert.AttnRefIdeal.Val.ref_eq _ _ _ hq hk

end Cert.Proof

end
-- ==== Proof.FfnUpKernel.lean ====
/- The FFN's up projection: its padded scratch read back, the convolution over each segment, and the gate. -/
module

public import proofs.«01_k».proof.Defs
public import proofs.«01_k».proof.Proof.Gen.FfnUpIdeal.Value
public import Idealize.ShloMosaic.Lib.Pipeline.ValueKit
public import Idealize.ShloMosaic.Lib.Pipeline.ReadBack
public import Idealize.ShloMosaic.Lib.WordCmp
public import Idealize.ShloMosaic.Lib.Pointwise

@[expose] public section

set_option maxRecDepth 16384

noncomputable section

namespace Cert.FfnUpIdeal.Val

open Cert.FfnUpIdeal Cert.FfnUpIdeal.Gen Idealize.ShloMosaic Idealize.ShloMosaic.TcCoe Idealize.SL.Sem

variable (m : (ℓ : Loc nD τ sig) → Buf (Elt Ideal) ℓ)

/-- A column of a sample's rows as the scratch holds it: row `r` at `8 + r`, and zero above and below. -/
def padded (u : Fin 2304 → EReal) (n : ℕ) : EReal :=
  if h : 8 ≤ n ∧ n < 2312 then u ⟨n - 8, by omega⟩ else 0

theorem padded_out (u : Fin 2304 → EReal) (n : ℕ) (h : ¬ (8 ≤ n ∧ n < 2312)) : padded u n = 0 := dif_neg h

/-- A block of the product, padded. -/
def scr (h : FVec Ideal S2304x2048 .bf16) (w : FVec Ideal S1x2048x512 .f32) : FVec Ideal S2320x512 .f32 :=
  fun i => padded (fun r => ∑ k : Fin 2048, h (ix2 r k) * w (ix3 0 k (i 1))) (i 0).val

theorem scr_row (h : FVec Ideal S2304x2048 .bf16) (w : FVec Ideal S1x2048x512 .f32) (o : ℕ) (r : Fin 768) (d : Fin 512) (i : S2320x512.Idx)
    (ho : o + 768 ≤ 2304) (h0 : (i 0).val = o + 8 + r.val) (h1 : i 1 = d) :
    scr h w i = ∑ k : Fin 2048, h (ix2 ⟨o + r.val, by omega⟩ k) * w (ix3 0 k d) := by
  subst h1
  unfold scr padded
  rw [dif_pos (by omega)]
  have e : (⟨(i 0).val - 8, by omega⟩ : Fin 2304) = ⟨o + r.val, by omega⟩ := Fin.ext (by show (i 0).val - 8 = o + r.val; omega)
  rw [e]

theorem pay8 (w : FVec Ideal S1x2048x512 .f32) (v : FVec Ideal S768x2048 .bf16) (r : Fin 768) (d : Fin 512) :
    k0_pay8 (F := Ideal) w v (ix2 r d) = (∑ k : Fin 2048, v (ix2 r k) * w (ix3 0 k d) : EReal) := by
  pointwise [k0_pay8, k0_pay2]

theorem pay11 (w : FVec Ideal S1x2048x512 .f32) (v : FVec Ideal S768x2048 .bf16) (r : Fin 768) (d : Fin 512) :
    k0_pay11 (F := Ideal) (k0_pay2 w) v (ix2 r d) = (∑ k : Fin 2048, v (ix2 r k) * w (ix3 0 k d) : EReal) := by
  pointwise [k0_pay11, k0_pay2]

/-- The five stores of a scratch: the three chunks of rows, the last first, and the zeros around them. -/
abbrev stores (p0 p1 p2 : FVec Ideal S768x512 .f32) (z0 z1 : FVec Ideal S8x512 .f32) : List (View.Piece (Elt Ideal) S2320x512 .f32) :=
  [⟨Rect.unit (s := S2320x512) ![1544, 0] S768x512.size inb_S2320x512_S768x512_1544_0, p2⟩,
    ⟨Rect.unit (s := S2320x512) ![776, 0] S768x512.size inb_S2320x512_S768x512_776_0, p1⟩,
    ⟨Rect.unit (s := S2320x512) ![8, 0] S768x512.size inb_S2320x512_S768x512_8_0, p0⟩,
    ⟨Rect.unit (s := S2320x512) ![2312, 0] S8x512.size inb_S2320x512_S8x512_2312_0, z1⟩,
    ⟨Rect.unit (s := S2320x512) ![0, 0] S8x512.size inb_S2320x512_S8x512_0_0, z0⟩]

/-- The stores' rectangles leave no row out. -/
theorem stores_cover (p0 p1 p2 : FVec Ideal S768x512 .f32) (z0 z1 : FVec Ideal S8x512 .f32) (y : S2320x512.Idx) :
    ∃ p ∈ stores p0 p1 p2 z0 z1, y ∈ p.1.set := by
  have hr : (y 0).val < 2320 := (y 0).isLt
  have hd : (y 1).val < 512 := (y 1).isLt
  have hit : ∀ (o n : ℕ) (inb : ∀ a, (![o, 0] : Fin 2 → ℕ) a + (![n, 512] : Fin 2 → ℕ) a ≤ S2320x512.size a), o ≤ (y 0).val → (y 0).val < o + n →
      y ∈ (Rect.unit (s := S2320x512) ![o, 0] ![n, 512] inb).set := fun o n inb h0 h1 =>
    Rect.mem_set_unit.mpr (Fin.forall_fin_two.mpr ⟨⟨h0, h1⟩, ⟨Nat.zero_le _, by show (y 1).val < 0 + 512; omega⟩⟩)
  rcases Nat.lt_or_ge (y 0).val 8 with h | h
  · exact ⟨_, .tail _ (.tail _ (.tail _ (.tail _ (.head _)))), hit 0 8 inb_S2320x512_S8x512_0_0 (by omega) (by omega)⟩
  rcases Nat.lt_or_ge (y 0).val 776 with h' | h'
  · exact ⟨_, .tail _ (.tail _ (.head _)), hit 8 768 inb_S2320x512_S768x512_8_0 (by omega) (by omega)⟩
  rcases Nat.lt_or_ge (y 0).val 1544 with h2 | h2
  · exact ⟨_, .tail _ (.head _), hit 776 768 inb_S2320x512_S768x512_776_0 (by omega) (by omega)⟩
  rcases Nat.lt_or_ge (y 0).val 2312 with h3 | h3
  · exact ⟨_, .head _, hit 1544 768 inb_S2320x512_S768x512_1544_0 (by omega) (by omega)⟩
  · exact ⟨_, .tail _ (.tail _ (.tail _ (.head _))), hit 2312 8 inb_S2320x512_S8x512_2312_0 (by omega) (by omega)⟩

/-- A load of the scratch is a load of any array the five stores are blocks of. -/
theorem load_stores {sp : Space} (v : View sig .tc sp S2320x512 .f32) (p0 p1 p2 : FVec Ideal S768x512 .f32) (z0 z1 : FVec Ideal S8x512 .f32)
    (G : FVec Ideal S2320x512 .f32) (hG : View.PiecesOf G (stores p0 p1 p2 z0 z1)) (B : LoadRect S2320x512) :
    v.readCov (stores p0 p1 p2 z0 z1) B = fun j => G (B.idx j) := by
  rw [View.readCov_eq_canon']
  funext j
  exact View.canon_append_of_piecesOf G [] _ hG _ (stores_cover p0 p1 p2 z0 z1 _)

/-- The rows of a block that one chunk of the product reads. -/
abbrev rows (h : FVec Ideal S2304x2048 .bf16) (o : ℕ) (inb : ∀ a, (![o, 0] : Fin 2 → ℕ) a + S768x2048.size a ≤ S2304x2048.size a) :
    FVec Ideal S768x2048 .bf16 :=
  View.ld (Val := Elt Ideal) (e' := .bf16) h (Rect.unit (s := S2304x2048) ![o, 0] S768x2048.size inb)

theorem rows_at (h : FVec Ideal S2304x2048 .bf16) (o : ℕ) (inb : ∀ a, (![o, 0] : Fin 2 → ℕ) a + S768x2048.size a ≤ S2304x2048.size a)
    (ho : o + 768 ≤ 2304) (r : Fin 768) (k : Fin 2048) : rows h o inb (ix2 r k) = h (ix2 ⟨o + r.val, by omega⟩ k) := by
  refine congrArg h (funext fun a => Fin.ext ?_)
  revert a
  refine Fin.forall_fin_two.mpr ⟨?_, ?_⟩
  · show o + 1 * r.val = o + r.val
    omega
  · show 0 + 1 * k.val = k.val
    omega

theorem chunk (h : FVec Ideal S2304x2048 .bf16) (w : FVec Ideal S1x2048x512 .f32) (o : ℕ)
    (inb' : ∀ a, (![o, 0] : Fin 2 → ℕ) a + S768x2048.size a ≤ S2304x2048.size a) (p : FVec Ideal S768x512 .f32)
    (inb : ∀ a, (![o + 8, 0] : Fin 2 → ℕ) a + S768x512.size a ≤ S2320x512.size a) (ho : o + 768 ≤ 2304)
    (hp : ∀ r d, p (ix2 r d) = (∑ k : Fin 2048, rows h o inb' (ix2 r k) * w (ix3 0 k d) : EReal)) (x : S768x512.Idx) :
    p x = scr h w ((Rect.unit (s := S2320x512) ![o + 8, 0] S768x512.size inb).emb x) := by
  refine (congrArg _ (eq_ix2 x)).trans ((hp (x 0) (x 1)).trans ?_)
  refine Eq.trans ?_ (scr_row h w o (x 0) (x 1) _ ho ?_ ?_).symm
  · exact Finset.sum_congr rfl fun k _ => congrArg (· * _) (rows_at h o inb' ho _ _)
  · show o + 8 + 1 * (x 0).val = _
    omega
  · exact Fin.ext (by show 0 + 1 * (x 1).val = _; omega)

theorem zeros (h : FVec Ideal S2304x2048 .bf16) (w : FVec Ideal S1x2048x512 .f32) (o : ℕ) (p : FVec Ideal S8x512 .f32)
    (inb : ∀ a, (![o, 0] : Fin 2 → ℕ) a + S8x512.size a ≤ S2320x512.size a) (ho : o = 0 ∨ o = 2312)
    (hp : ∀ r d, p (ix2 r d) = (0 : EReal)) (x : S8x512.Idx) :
    p x = scr h w ((Rect.unit (s := S2320x512) ![o, 0] S8x512.size inb).emb x) := by
  refine (congrArg _ (eq_ix2 x)).trans ((hp (x 0) (x 1)).trans ?_)
  have hx : (x 0).val < 8 := (x 0).isLt
  unfold scr
  refine (padded_out _ _ ?_).symm
  show ¬ (8 ≤ o + 1 * (x 0).val ∧ o + 1 * (x 0).val < 2312)
  omega

/-- The three products and the zeros are the blocks of the padded product. -/
theorem stores_of (h : FVec Ideal S2304x2048 .bf16) (w : FVec Ideal S1x2048x512 .f32) (p0 p1 p2 : FVec Ideal S768x512 .f32) (z0 z1 : FVec Ideal S8x512 .f32)
    (h0 : ∀ r d, p0 (ix2 r d) = (∑ k : Fin 2048, rows h 0 inb_S2304x2048_S768x2048_0_0 (ix2 r k) * w (ix3 0 k d) : EReal))
    (h1 : ∀ r d, p1 (ix2 r d) = (∑ k : Fin 2048, rows h 768 inb_S2304x2048_S768x2048_768_0 (ix2 r k) * w (ix3 0 k d) : EReal))
    (h2 : ∀ r d, p2 (ix2 r d) = (∑ k : Fin 2048, rows h 1536 inb_S2304x2048_S768x2048_1536_0 (ix2 r k) * w (ix3 0 k d) : EReal))
    (hz0 : ∀ r d, z0 (ix2 r d) = (0 : EReal)) (hz1 : ∀ r d, z1 (ix2 r d) = (0 : EReal)) :
    View.PiecesOf (scr h w) (stores p0 p1 p2 z0 z1) :=
  ⟨chunk h w 1536 _ _ inb_S2320x512_S768x512_1544_0 (by omega) h2, chunk h w 768 _ _ inb_S2320x512_S768x512_776_0 (by omega) h1,
    chunk h w 0 _ _ inb_S2320x512_S768x512_8_0 (by omega) h0, zeros h w 2312 _ inb_S2320x512_S8x512_2312_0 (.inr rfl) hz1,
    zeros h w 0 _ inb_S2320x512_S8x512_0_0 (.inl rfl) hz0, trivial⟩

/-- The gate's scratch. -/
theorem load_gate {sp : Space} (v : View sig .tc sp S2320x512 .f32) (h : FVec Ideal S2304x2048 .bf16) (w : FVec Ideal S1x2048x512 .f32) (B : LoadRect S2320x512) :
    v.readCov (stores (k0_pay8 w (rows h 0 inb_S2304x2048_S768x2048_0_0)) (k0_pay11 (k0_pay2 w) (rows h 768 inb_S2304x2048_S768x2048_768_0))
      (k0_pay13 (k0_pay2 w) (rows h 1536 inb_S2304x2048_S768x2048_1536_0)) k0_pay4 k0_pay5) B = fun j => scr h w (B.idx j) :=
  load_stores v _ _ _ _ _ _ (stores_of h w _ _ _ _ _ (pay8 w _) (pay11 w _) (pay11 w _)
    (fun r d => by pointwise [k0_pay4]) (fun r d => by pointwise [k0_pay5])) B

/-- The value's scratch. -/
theorem load_value {sp : Space} (v : View sig .tc sp S2320x512 .f32) (h : FVec Ideal S2304x2048 .bf16) (w : FVec Ideal S1x2048x512 .f32) (B : LoadRect S2320x512) :
    v.readCov (stores (k0_pay10 (k0_pay9 w (rows h 0 inb_S2304x2048_S768x2048_0_0))) (k0_pay12 (k0_pay3 w) (rows h 768 inb_S2304x2048_S768x2048_768_0))
      (k0_pay14 (k0_pay3 w) (rows h 1536 inb_S2304x2048_S768x2048_1536_0)) k0_pay6 k0_pay7) B = fun j => scr h w (B.idx j) :=
  load_stores v _ _ _ _ _ _ (stores_of h w _ _ _ _ _ (fun r d => by pointwise [k0_pay10, k0_pay9, k0_pay3]) (pay11 w _) (pay11 w _)
    (fun r d => by pointwise [k0_pay6]) (fun r d => by pointwise [k0_pay7])) B

/-- The gate's sigmoid times the gate, times the value. -/
def act (g v : EReal) : EReal := g * Ideal.div 1 (1 + Ideal.exp (0 - g)) * v

/-- Three taps on a row of a sample and its neighbours; a row at the edge of its segment has zero beyond it. -/
def conv (u : Fin 2304 → EReal) (w : Fin 3 → EReal) (r : Fin 2304) : EReal :=
  (if r.val = 0 ∨ r.val = 256 then 0 else u ⟨r.val - 1, by omega⟩) * w 0 + u r * w 1
    + (if h : r.val = 255 ∨ r.val = 2303 then 0 else u ⟨r.val + 1, by omega⟩) * w 2

theorem padded_in (u : Fin 2304 → EReal) (n : ℕ) (r : Fin 2304) (h : n = 8 + r.val) : padded u n = u r := by
  unfold padded
  rw [dif_pos (by omega)]
  exact congrArg u (Fin.ext (by show n - 8 = r.val; omega))

/-- The taps from the padded column, the neighbours across the segments' border taken as zero. -/
theorem conv_padded (u : Fin 2304 → EReal) (w : Fin 3 → EReal) (r : Fin 2304) :
    (if r.val = 256 then 0 else padded u (7 + r.val)) * w 0 + padded u (8 + r.val) * w 1 + (if r.val = 255 then 0 else padded u (9 + r.val)) * w 2
      = conv u w r := by
  unfold conv
  rw [padded_in u (8 + r.val) r rfl]
  refine congrArg₂ (· * w 0 + _ + · * w 2) ?_ ?_
  · by_cases h : r.val = 256
    · rw [if_pos h, if_pos (.inr h)]
    rw [if_neg h]
    by_cases h0 : r.val = 0
    · rw [if_pos (.inl h0), padded_out u _ (by omega)]
    · rw [if_neg (by omega), padded_in u _ ⟨r.val - 1, by omega⟩ (by show 7 + r.val = 8 + (r.val - 1); omega)]
  · by_cases h : r.val = 255
    · rw [if_pos h, dif_pos (.inl h)]
    rw [if_neg h]
    by_cases h0 : r.val = 2303
    · rw [dif_pos (.inr h0), padded_out u _ (by omega)]
    · rw [dif_neg (by omega), padded_in u _ ⟨r.val + 1, by omega⟩ (by show 9 + r.val = 8 + (r.val + 1); omega)]

theorem tile0 (a b c a' b' c' : FVec Ideal S768x512 .f32) (p q s p' q' s' : FVec Ideal S1x1x512 .f32) (r : Fin 768) (d : Fin 512) :
    k0_pay20 (F := Ideal) (k0_pay17 (iota Kind.tc S768x1 32 [0] iota_S768x1_d0_w32) a b c (k0_pay15 (iota Kind.tc S768x1 32 [0] iota_S768x1_d0_w32)) k0_pay16 p q s)
        b' (k0_pay18 (iota Kind.tc S768x1 32 [0] iota_S768x1_d0_w32) a') (k0_pay19 (iota Kind.tc S768x1 32 [0] iota_S768x1_d0_w32) c') p' q' s' (ix2 r d)
      = act ((if r.val = 256 then 0 else a (ix2 r d)) * p (ix3 0 0 d) + b (ix2 r d) * q (ix3 0 0 d) + (if r.val = 255 then 0 else c (ix2 r d)) * s (ix3 0 0 d))
          ((if r.val = 256 then 0 else a' (ix2 r d)) * p' (ix3 0 0 d) + b' (ix2 r d) * q' (ix3 0 0 d) + (if r.val = 255 then 0 else c' (ix2 r d)) * s' (ix3 0 0 d)) := by
  unfold act
  pointwise [k0_pay20, k0_pay17, k0_pay15, k0_pay16, k0_pay18, k0_pay19]
  have sel : ∀ (n : ℕ), n < 2 ^ 32 → ∀ z : EReal, Scalar.select (IntOp.cmpi CmpIPredicate.eq (BitVec.ofNat 32 r.val) (BitVec.ofNat 32 n)) 0 z
      = if r.val = n then 0 else z := fun n hn z => by
    rw [WordCmp.cmpi_eq_ofNat (by omega) hn, WordCmp.select_decide]
  rw [sel 256 (by omega), sel 255 (by omega), sel 256 (by omega), sel 255 (by omega)]
  simp only [ite_mul, zero_mul]

theorem tile1 (a b c a' b' c' : FVec Ideal S768x512 .f32) (p q s p' q' s' : FVec Ideal S1x1x512 .f32) (r : Fin 768) (d : Fin 512) :
    k0_pay23 (F := Ideal) c (k0_pay21 a p) (k0_pay22 b q) s a' b' c' p' q' s' (ix2 r d)
      = act (a (ix2 r d) * p (ix3 0 0 d) + b (ix2 r d) * q (ix3 0 0 d) + c (ix2 r d) * s (ix3 0 0 d))
          (a' (ix2 r d) * p' (ix3 0 0 d) + b' (ix2 r d) * q' (ix3 0 0 d) + c' (ix2 r d) * s' (ix3 0 0 d)) := by
  unfold act
  pointwise [k0_pay23, k0_pay22, k0_pay21]

theorem tile2 (a b c a' b' c' : FVec Ideal S768x512 .f32) (p q s p' q' s' : FVec Ideal S1x1x512 .f32) (r : Fin 768) (d : Fin 512) :
    k0_pay1 (F := Ideal) (k0_pay24 a b c p q s) c' (k0_pay25 a' b' p' q') (k0_pay26 s') (ix2 r d)
      = act (a (ix2 r d) * p (ix3 0 0 d) + b (ix2 r d) * q (ix3 0 0 d) + c (ix2 r d) * s (ix3 0 0 d))
          (a' (ix2 r d) * p' (ix3 0 0 d) + b' (ix2 r d) * q' (ix3 0 0 d) + c' (ix2 r d) * s' (ix3 0 0 d)) := by
  unfold act
  pointwise [k0_pay1, k0_pay24, k0_pay25, k0_pay26]

/-- Column `d` of a block's product. -/
def col (h : FVec Ideal S2304x2048 .bf16) (w : FVec Ideal S1x2048x512 .f32) (d : Fin 512) : Fin 2304 → EReal :=
  fun r => ∑ k : Fin 2048, h (ix2 r k) * w (ix3 0 k d)

/-- Column `d` of a block's taps. -/
def tap (f : FVec Ideal S1x3x512 .f32) (d : Fin 512) : Fin 3 → EReal := fun k => f (ix3 0 k d)

theorem scr_idx (h : FVec Ideal S2304x2048 .bf16) (w : FVec Ideal S1x2048x512 .f32) (o : ℕ)
    (inb : ∀ a, (![o, 0] : Fin 2 → ℕ) a + S768x512.size a ≤ S2320x512.size a) (r : Fin 768) (d : Fin 512) :
    scr h w ((Rect.unit (s := S2320x512) ![o, 0] S768x512.size inb).idx (ix2 r d)) = padded (col h w d) (o + r.val) := by
  have e0 : (((Rect.unit (s := S2320x512) ![o, 0] S768x512.size inb).idx (ix2 r d)) 0).val = o + r.val := by
    show o + 1 * r.val = _
    omega
  have e1 : ((Rect.unit (s := S2320x512) ![o, 0] S768x512.size inb).idx (ix2 r d)) 1 = d := Fin.ext (by show 0 + 1 * d.val = _; omega)
  unfold scr col
  rw [e0, e1]

theorem tap_idx (f : FVec Ideal S1x3x512 .f32) (k : Fin 3) (n : ℕ) (hn : n = k.val)
    (inb : ∀ a, (![0, n, 0] : Fin 3 → ℕ) a + S1x1x512.size a ≤ S1x3x512.size a) (d : Fin 512) :
    View.ld (Val := Elt Ideal) (e' := .f32) f (Rect.unit (s := S1x3x512) ![0, n, 0] S1x1x512.size inb) (ix3 0 0 d) = tap f d k := by
  subst hn
  refine congrArg f (funext fun a => Fin.ext ?_)
  fin_cases a
  · rfl
  · show k.val + 1 * 0 = k.val
    omega
  · show 0 + 1 * d.val = d.val
    omega

theorem taps (h : FVec Ideal S2304x2048 .bf16) (w : FVec Ideal S1x2048x512 .f32) (f : FVec Ideal S1x3x512 .f32) (o : ℕ) (ho : o + 768 ≤ 2304) (h1 : 768 ≤ o)
    (inb0 : ∀ a, (![o + 7, 0] : Fin 2 → ℕ) a + S768x512.size a ≤ S2320x512.size a)
    (inb1 : ∀ a, (![o + 8, 0] : Fin 2 → ℕ) a + S768x512.size a ≤ S2320x512.size a)
    (inb2 : ∀ a, (![o + 9, 0] : Fin 2 → ℕ) a + S768x512.size a ≤ S2320x512.size a) (r : Fin 768) (d : Fin 512) :
    scr h w ((Rect.unit (s := S2320x512) ![o + 7, 0] S768x512.size inb0).idx (ix2 r d)) * View.ld (Val := Elt Ideal) (e' := .f32) f (Rect.unit (s := S1x3x512) ![0, 0, 0] S1x1x512.size inb_S1x3x512_S1x1x512_0_0_0) (ix3 0 0 d)
      + scr h w ((Rect.unit (s := S2320x512) ![o + 8, 0] S768x512.size inb1).idx (ix2 r d)) * View.ld (Val := Elt Ideal) (e' := .f32) f (Rect.unit (s := S1x3x512) ![0, 1, 0] S1x1x512.size inb_S1x3x512_S1x1x512_0_1_0) (ix3 0 0 d)
      + scr h w ((Rect.unit (s := S2320x512) ![o + 9, 0] S768x512.size inb2).idx (ix2 r d)) * View.ld (Val := Elt Ideal) (e' := .f32) f (Rect.unit (s := S1x3x512) ![0, 2, 0] S1x1x512.size inb_S1x3x512_S1x1x512_0_2_0) (ix3 0 0 d)
      = conv (col h w d) (tap f d) ⟨o + r.val, by omega⟩ := by
  rw [← conv_padded, if_neg (by show ¬ o + r.val = 256; omega), if_neg (by show ¬ o + r.val = 255; omega), scr_idx, scr_idx, scr_idx,
    tap_idx f 0 0 rfl, tap_idx f 1 1 rfl, tap_idx f 2 2 rfl]
  have e : ∀ n, o + n + r.val = n + (o + r.val) := fun n => by omega
  rw [e, e, e]

theorem taps0 (h : FVec Ideal S2304x2048 .bf16) (w : FVec Ideal S1x2048x512 .f32) (f : FVec Ideal S1x3x512 .f32) (r : Fin 768) (d : Fin 512) :
    (if r.val = 256 then 0 else scr h w ((Rect.unit (s := S2320x512) ![7, 0] S768x512.size inb_S2320x512_S768x512_7_0).idx (ix2 r d))) * View.ld (Val := Elt Ideal) (e' := .f32) f (Rect.unit (s := S1x3x512) ![0, 0, 0] S1x1x512.size inb_S1x3x512_S1x1x512_0_0_0) (ix3 0 0 d)
      + scr h w ((Rect.unit (s := S2320x512) ![8, 0] S768x512.size inb_S2320x512_S768x512_8_0).idx (ix2 r d)) * View.ld (Val := Elt Ideal) (e' := .f32) f (Rect.unit (s := S1x3x512) ![0, 1, 0] S1x1x512.size inb_S1x3x512_S1x1x512_0_1_0) (ix3 0 0 d)
      + (if r.val = 255 then 0 else scr h w ((Rect.unit (s := S2320x512) ![9, 0] S768x512.size inb_S2320x512_S768x512_9_0).idx (ix2 r d))) * View.ld (Val := Elt Ideal) (e' := .f32) f (Rect.unit (s := S1x3x512) ![0, 2, 0] S1x1x512.size inb_S1x3x512_S1x1x512_0_2_0) (ix3 0 0 d)
      = conv (col h w d) (tap f d) ⟨r.val, by omega⟩ := by
  rw [← conv_padded, scr_idx, scr_idx, scr_idx, tap_idx f 0 0 rfl, tap_idx f 1 1 rfl, tap_idx f 2 2 rfl]

/-- The block a grid point writes, from the blocks it reads. -/
def blockOut (x0 : FVec Ideal S2304x2048 .bf16) (x1 x2 : FVec Ideal S1x2048x512 .f32) (x3 x4 : FVec Ideal S1x3x512 .f32) (r : Fin 2304) (d : Fin 512) : EReal :=
  act (conv (col x0 x1 d) (tap x3 d) r) (conv (col x0 x2 d) (tap x4 d) r)

theorem out5 (c : Dev nD) (t : Fin cfg0.N) (x0 : FVec Ideal S2304x2048 .bf16) (x1 x2 : FVec Ideal S1x2048x512 .f32) (x3 x4 : FVec Ideal S1x3x512 .f32) (r : Fin 2304) (d : Fin 512) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
      x0 x1 x2 x3 x4 (ix2 r d) = blockOut x0 x1 x2 x3 x4 r d := by
  have tile : ∀ (o : ℕ) (ho : o + 768 ≤ 2304) (p : FVec Ideal S768x512 .bf16) (x : S768x512.Idx),
      (∀ (r : Fin 768) (d : Fin 512), p (ix2 r d) = blockOut x0 x1 x2 x3 x4 ⟨o + r.val, by omega⟩ d) →
      r.val = o + (x 0).val → d.val = (x 1).val → p x = blockOut x0 x1 x2 x3 x4 r d := fun o ho p x hp h0 h1 =>
    (congrArg _ (eq_ix2 x)).trans ((hp (x 0) (x 1)).trans (congrArg₂ (blockOut x0 x1 x2 x3 x4) (Fin.ext h0.symm) (Fin.ext h1.symm)))
  frame_out
  simp only [load_gate _ x0 x1, load_value _ x0 x2]
  canon_tiles x h
  · exact tile 1536 (by omega) _ x (fun r d => (tile2 _ _ _ _ _ _ _ _ _ _ _ _ r d).trans
      (congrArg₂ act (taps x0 x1 x3 1536 (by omega) (by omega) _ _ _ r d) (taps x0 x2 x4 1536 (by omega) (by omega) _ _ _ r d))) h0 h1
  · exact tile 768 (by omega) _ x (fun r d => (tile1 _ _ _ _ _ _ _ _ _ _ _ _ r d).trans
      (congrArg₂ act (taps x0 x1 x3 768 (by omega) (by omega) _ _ _ r d) (taps x0 x2 x4 768 (by omega) (by omega) _ _ _ r d))) h0 h1
  · refine tile 0 (by omega) _ x (fun r d => (tile0 _ _ _ _ _ _ _ _ _ _ _ _ r d).trans
      ((congrArg₂ act (taps0 x0 x1 x3 r d) (taps0 x0 x2 x4 r d)).trans ?_)) (h0.trans (Nat.zero_add _).symm) h1
    exact congrArg (fun r => blockOut x0 x1 x2 x3 x4 r d) (Fin.ext (Nat.zero_add _).symm)

/-- Column `j` of the product of a sample's rows with the first layer's weights. -/
def colOf (h : FVec Ideal S9216x2048 .bf16) (w : FVec Ideal S4x2048x11264 .f32) (b : Fin 4) (j : Fin 11264) : Fin 2304 → EReal :=
  fun l => ∑ k : Fin 2048, h (ix2 ⟨b.val * 2304 + l.val, by omega⟩ k) * w (ix3 0 k j)

/-- The first layer's taps of column `j`. -/
def tapOf (f : FVec Ideal S4x3x11264 .f32) (j : Fin 11264) : Fin 3 → EReal := fun k => f (ix3 0 k j)

/-- Row `l` of sample `b`, channel `j`: the gate comes from column `j`, the value from column `5632 + j`. -/
def out (h : FVec Ideal S9216x2048 .bf16) (w : FVec Ideal S4x2048x11264 .f32) (f : FVec Ideal S4x3x11264 .f32) (b : Fin 4) (l : Fin 2304) (j : Fin 5632) : EReal :=
  act (conv (colOf h w b ⟨j.val, by omega⟩) (tapOf f ⟨j.val, by omega⟩) l) (conv (colOf h w b ⟨5632 + j.val, by omega⟩) (tapOf f ⟨5632 + j.val, by omega⟩) l)

/-- The whole array. -/
def res (h : FVec Ideal S9216x2048 .bf16) (w : FVec Ideal S4x2048x11264 .f32) (f : FVec Ideal S4x3x11264 .f32) : FVec Ideal S9216x5632 .bf16 :=
  fun i => out h w f ⟨(i 0).val / 2304, by have h : (i 0).val < 9216 := (i 0).isLt; omega⟩ ⟨(i 0).val % 2304, Nat.mod_lt _ (by omega)⟩ (i 1)

theorem res_row (h : FVec Ideal S9216x2048 .bf16) (w : FVec Ideal S4x2048x11264 .f32) (f : FVec Ideal S4x3x11264 .f32) (b : Fin 4) (l : Fin 2304) (r : Fin 9216)
    (hr : r.val = b.val * 2304 + l.val) (j : Fin 5632) : res h w f (ix2 r j) = out h w f b l j := by
  have e0 : (⟨r.val / 2304, by omega⟩ : Fin 4) = b := Fin.ext (by show r.val / 2304 = b.val; omega)
  have e1 : (⟨r.val % 2304, by omega⟩ : Fin 2304) = l := Fin.ext (by show r.val % 2304 = l.val; omega)
  show out h w f ⟨r.val / 2304, _⟩ ⟨r.val % 2304, _⟩ j = _
  rw [e0, e1]

theorem idx : ∀ t : Fin cfg0.N, win0_0.index t = ![(grid0.coords t 0).val, 0]
    ∧ win0_1.index t = ![0, 0, (grid0.coords t 1).val]
    ∧ win0_2.index t = ![0, 0, 11 + (grid0.coords t 1).val]
    ∧ win0_3.index t = ![0, 0, (grid0.coords t 1).val]
    ∧ win0_4.index t = ![0, 0, 11 + (grid0.coords t 1).val]
    ∧ win0_5.index t = ![(grid0.coords t 0).val, (grid0.coords t 1).val] :=
  (by decide +kernel : ∀ t : Fin grid0.N, _)

/-- The sample a grid point works on. -/
def smp (t : Fin cfg0.N) : Fin 4 := ⟨(grid0.coords t 0).val, (grid0.coords t 0).isLt⟩

/-- The channel of column `d` of a grid point's block. -/
def chan (t : Fin cfg0.N) (d : Fin 512) : Fin 5632 :=
  ⟨(grid0.coords t 1).val * 512 + d.val, by have h : (grid0.coords t 1).val < 11 := (grid0.coords t 1).isLt; omega⟩

theorem blk5 (c : Dev nD) (t : Fin cfg0.N) (r : Fin 2304) (d : Fin 512) :
    outsAt0 m c t (ix2 r d) = res (V m c main_arg0) (V m c main_arg1) (V m c main_arg2) (ix2 ⟨(smp t).val * 2304 + r.val, by omega⟩ (chan t d)) := by
  obtain ⟨e0, e1, e2, e3, e4, _⟩ := idx t
  have b0 : ∀ (r : Fin 2304) (k : Fin 2048), iblk m c 0 t (ix2 r k) = V m c main_arg0 (ix2 ⟨(smp t).val * 2304 + r.val, by omega⟩ k) := fun r k => by
    blk_ext [iblk, V, e0, smp]
  have b1 : ∀ (k : Fin 2048), iblk m c 1 t (ix3 0 k d) = V m c main_arg1 (ix3 0 k ⟨(chan t d).val, by omega⟩) := fun k => by blk_ext [iblk, V, e1, chan]
  have b2 : ∀ (k : Fin 2048), iblk m c 2 t (ix3 0 k d) = V m c main_arg1 (ix3 0 k ⟨5632 + (chan t d).val, by omega⟩) := fun k => by blk_ext [iblk, V, e2, chan]
  have b3 : ∀ (k : Fin 3), iblk m c 3 t (ix3 0 k d) = V m c main_arg2 (ix3 0 k ⟨(chan t d).val, by omega⟩) := fun k => by blk_ext [iblk, V, e3, chan]
  have b4 : ∀ (k : Fin 3), iblk m c 4 t (ix3 0 k d) = V m c main_arg2 (ix3 0 k ⟨5632 + (chan t d).val, by omega⟩) := fun k => by blk_ext [iblk, V, e4, chan]
  have c1 : col (iblk m c 0 t) (iblk m c 1 t) d = colOf (V m c main_arg0) (V m c main_arg1) (smp t) ⟨(chan t d).val, by omega⟩ :=
    funext fun l => Finset.sum_congr rfl fun k _ => congrArg₂ (· * ·) (b0 l k) (b1 k)
  have c2 : col (iblk m c 0 t) (iblk m c 2 t) d = colOf (V m c main_arg0) (V m c main_arg1) (smp t) ⟨5632 + (chan t d).val, by omega⟩ :=
    funext fun l => Finset.sum_congr rfl fun k _ => congrArg₂ (· * ·) (b0 l k) (b2 k)
  rw [res_row _ _ _ (smp t) r _ rfl]
  refine (out5 c t _ _ _ _ _ r d).trans ?_
  unfold blockOut out
  refine congrArg₂ act (congrArg₂ (conv · · r) c1 (funext b3)) (congrArg₂ (conv · · r) c2 (funext b4))

theorem final (c : Dev nD) : (dats m 0 c).arrAt 5 cfg0.N = res (V m c main_arg0) (V m c main_arg1) (V m c main_arg2) := by
  refine (dats m 0 c).arrAt_eq_of_covers 5 _ (by decide +kernel) fun t hf y => ?_
  blk_simp
  rw [after0_5]
  obtain ⟨_, _, _, _, _, e5⟩ := idx t
  refine (congrArg _ (eq_ix2 y)).trans ((blk5 m c t (y 0) (y 1)).trans (congrArg _ ?_))
  blk_ext [e5, smp, chan]

end Cert.FfnUpIdeal.Val

end
-- ==== Proof.Residual.lean ====
/- The end that two of the calls share: a row is added to the residual stream after a root-mean-square norm and a gate, and
the new row is normed once more, scaled and shifted.  Rows below 256 of each batch element take the context stream's
modulation, the others the batch element's own. -/
module

public import Idealize.ShloMosaic.Lib.Pipeline.ValueKit
public import Idealize.ShloMosaic.Lib.Pointwise
public import Idealize.ShloMosaic.Lib.WordCmp

@[expose] public section

noncomputable section

namespace Cert.Residual

open Idealize.ShloMosaic

/-- The reciprocal root of the mean square of a row, with the small constant `1e-6` under the root. -/
def rms (f : Fin 2048 → EReal) : EReal :=
  Ideal.rsqrt (Ideal.div (∑ x, f x * f x) (Ideal.ofBits .f32 1157627904#32) + Ideal.ofBits .f32 897988541#32)

/-- The new residual row: `x + (y / rms y) · (gate · g)`. -/
def step (x y gate g : Fin 2048 → EReal) (d : Fin 2048) : EReal := x d + y d * rms y * (gate d * g d)

/-- The normed, scaled and shifted row: `(x / rms x) · ((1 + scale) · g) + shift`. -/
def scaled (x scale g shift : Fin 2048 → EReal) (d : Fin 2048) : EReal := x d * rms x * ((1 + scale d) * g d) + shift d

/-- Row `k` of the modulation that array row `r` sees. -/
def modRow (mc : FVec Ideal ⟨2, ![3, 2048]⟩ .f32) (mb : FVec Ideal ⟨3, ![4, 3, 2048]⟩ .f32) (r : Fin 9216) (k : Fin 3) (d : Fin 2048) : EReal :=
  if r.val % 2304 < 256 then mc (ix2 k d) else mb (ix3 (⟨r.val / 2304, by omega⟩ : Fin 4) k d)

/-- The new residual stream of the whole array, with `y` the call's own product. -/
def stream (x : FVec Ideal ⟨2, ![9216, 2048]⟩ .f32) (y : Fin 9216 → Fin 2048 → EReal) (mc : FVec Ideal ⟨2, ![3, 2048]⟩ .f32)
    (mb : FVec Ideal ⟨3, ![4, 3, 2048]⟩ .f32) (g : FVec Ideal ⟨2, ![2, 2048]⟩ .f32) (r : Fin 9216) : Fin 2048 → EReal :=
  step (fun d => x (ix2 r d)) (y r) (modRow mc mb r 0) (fun d => g (ix2 0 d))

/-- The normed stream of the whole array. -/
def normed (x : FVec Ideal ⟨2, ![9216, 2048]⟩ .f32) (y : Fin 9216 → Fin 2048 → EReal) (mc : FVec Ideal ⟨2, ![3, 2048]⟩ .f32)
    (mb : FVec Ideal ⟨3, ![4, 3, 2048]⟩ .f32) (g : FVec Ideal ⟨2, ![2, 2048]⟩ .f32) (r : Fin 9216) : Fin 2048 → EReal :=
  scaled (stream x y mc mb g r) (modRow mc mb r 2) (fun d => g (ix2 1 d)) (modRow mc mb r 1)

/-- The reference multiplies in another order: the weight first, the gate last. -/
theorem step_comm (x y gate g : Fin 2048 → EReal) (d : Fin 2048) : x d + gate d * (y d * rms y * g d) = step x y gate g d := by
  unfold step
  rw [mul_comm (gate d), mul_assoc, mul_comm (g d)]

theorem scaled_comm (x scale g shift : Fin 2048 → EReal) (d : Fin 2048) :
    x d * rms x * g d * (1 + scale d) + shift d = scaled x scale g shift d := by
  unfold scaled
  rw [mul_assoc, mul_comm (g d)]

/-- The kernel's row mask: row `k` of tile `t` of a batch element is a context row when `t · n + k < 256`. -/
theorem select_row {α : Type} (t n k : Nat) (h : t * n + k < 2147483648) (a b : α) :
    Scalar.select (IntOp.cmpi .slt (IntOp.addi (Scalar.muli (BitVec.ofNat 32 t) (BitVec.ofNat 32 n)) (BitVec.ofNat 32 k)) 256#32) a b
      = if t * n + k < 256 then a else b := by
  have e : IntOp.addi (Scalar.muli (BitVec.ofNat 32 t) (BitVec.ofNat 32 n)) (BitVec.ofNat 32 k) = BitVec.ofNat 32 (t * n + k) := by
    rw [BitVec.ofNat_add, BitVec.ofNat_mul]; rfl
  rw [e, WordCmp.cmpi_slt_ofNat (by omega) (by omega), WordCmp.select_ofBool]
  simp only [decide_eq_true_eq]

/-- Row `k` of tile `t` of batch element `b`, as a row of the array, sees the modulation of that row. -/
theorem modRow_tile (mc : FVec Ideal ⟨2, ![3, 2048]⟩ .f32) (mb : FVec Ideal ⟨3, ![4, 3, 2048]⟩ .f32) (r : Fin 9216) (k : Fin 3) (d : Fin 2048)
    (b : Fin 4) (l : Nat) (hl : l < 2304) (h : r.val = b.val * 2304 + l) :
    modRow mc mb r k d = if l < 256 then mc (ix2 k d) else mb (ix3 b k d) := by
  have e1 : r.val % 2304 = l := by omega
  have e2 : (⟨r.val / 2304, by omega⟩ : Fin 4) = b := Fin.ext (by show r.val / 2304 = b.val; omega)
  unfold modRow
  rw [e1, e2]

/-- The array row of context row `l` of batch element `b`. -/
def rowC (b : Fin 4) (l : Fin 256) : Fin 9216 := ⟨b.val * 2304 + l.val, by omega⟩

/-- The array row of latent row `l` of batch element `b`: the context's 256 rows stand before it. -/
def rowL (b : Fin 4) (l : Fin 2048) : Fin 9216 := ⟨b.val * 2304 + (256 + l.val), by omega⟩

theorem modRow_ctx (mc : FVec Ideal ⟨2, ![3, 2048]⟩ .f32) (mb : FVec Ideal ⟨3, ![4, 3, 2048]⟩ .f32) (b : Fin 4) (l : Fin 256) (k : Fin 3) :
    modRow mc mb (rowC b l) k = fun d => mc (ix2 k d) := by
  funext d
  rw [modRow_tile mc mb (rowC b l) k d b l.val (by omega) rfl, if_pos l.isLt]

theorem modRow_lat (mc : FVec Ideal ⟨2, ![3, 2048]⟩ .f32) (mb : FVec Ideal ⟨3, ![4, 3, 2048]⟩ .f32) (b : Fin 4) (l : Fin 2048) (k : Fin 3) :
    modRow mc mb (rowL b l) k = fun d => mb (ix3 b k d) := by
  funext d
  rw [modRow_tile mc mb (rowL b l) k d b (256 + l.val) (by omega) rfl, if_neg (by omega)]

/-- Every array row is a context row or a latent row of a batch element. -/
theorem row_cases {P : Fin 9216 → Prop} (hc : ∀ b l, P (rowC b l)) (hl : ∀ b l, P (rowL b l)) (r : Fin 9216) : P r := by
  by_cases h : r.val % 2304 < 256
  · have e : rowC ⟨r.val / 2304, by omega⟩ ⟨r.val % 2304, h⟩ = r := Fin.ext (by show r.val / 2304 * 2304 + r.val % 2304 = r.val; omega)
    exact e ▸ hc _ _
  · have e : rowL ⟨r.val / 2304, by omega⟩ ⟨r.val % 2304 - 256, by omega⟩ = r :=
      Fin.ext (by show r.val / 2304 * 2304 + (256 + (r.val % 2304 - 256)) = r.val; omega)
    exact e ▸ hl _ _

/-- Context rows joined to latent rows: which of the two an array row reads. -/
theorem pick_ctx (f : Fin 256 → EReal) (g : Fin 2048 → EReal) (b : Fin 4) (l : Fin 256) :
    (if h : (b.val * 2304 + l.val) % 2304 < 256 then f ⟨(b.val * 2304 + l.val) % 2304, h⟩
      else g ⟨(b.val * 2304 + l.val) % 2304 - 256, by omega⟩) = f l := by
  rw [dif_pos (by omega)]
  exact congrArg f (Fin.ext (by show (b.val * 2304 + l.val) % 2304 = l.val; omega))

theorem pick_lat (f : Fin 256 → EReal) (g : Fin 2048 → EReal) (b : Fin 4) (l : Fin 2048) :
    (if h : (b.val * 2304 + (256 + l.val)) % 2304 < 256 then f ⟨(b.val * 2304 + (256 + l.val)) % 2304, h⟩
      else g ⟨(b.val * 2304 + (256 + l.val)) % 2304 - 256, by omega⟩) = g l := by
  rw [dif_neg (by omega)]
  exact congrArg g (Fin.ext (by show (b.val * 2304 + (256 + l.val)) % 2304 - 256 = l.val; omega))

end Cert.Residual

end
-- ==== Proof.FfnUpRef.lean ====
/- The reference of the FFN's up projection: the convolution of the padded segments, the gate, and the two segments joined. -/
module

public import proofs.«01_k».proof.Proof.Gen.FfnUpRefIdeal.Read
public import proofs.«01_k».proof.Proof.FfnUpKernel
public import proofs.«01_k».proof.Proof.Residual

@[expose] public section

set_option maxRecDepth 16384

noncomputable section

namespace Cert.FfnUpRefIdeal.Val

open Cert.FfnUpRefIdeal Cert.FfnUpRefIdeal.Gen Cert.FfnUpRefIdeal.Read Cert.Residual Cert.FfnUpIdeal.Val
  Idealize.ShloMosaic Idealize.ShloMosaic.TcCoe Idealize.SL.Sem

variable (x0 : FVec Ideal S9216x2048 .bf16) (x1 : FVec Ideal S4x2048x11264 .f32) (x2 : FVec Ideal S4x3x11264 .f32)

/-- A context row among its sample's rows. -/
def segC (l : Fin 256) : Fin 2304 := ⟨l.val, by omega⟩

/-- A latent row among its sample's rows. -/
def segL (l : Fin 2048) : Fin 2304 := ⟨256 + l.val, by omega⟩

theorem u_ctx (b : Fin 4) (l : Fin 256) (j : Fin 11264) : val_main_v6 (F := Ideal) x0 x1 (ix3 b l j) = colOf x0 x1 b j (segC l) := by
  pointwise [val_main_v6, val_main_v5, val_main_v4, val_main_v2, val_main_v1, val_main_v0, colOf, segC]

theorem u_lat (b : Fin 4) (l : Fin 2048) (j : Fin 11264) : val_main_v36 (F := Ideal) x0 x1 (ix3 b l j) = colOf x0 x1 b j (segL l) := by
  pointwise [val_main_v36, val_main_v35, val_main_v34, val_main_v3, val_main_v1, val_main_v0, colOf, segL]

/-- The padding value, a zero word made a float. -/
theorem sitofp_zero : FloatOps.sitofp (F := Ideal) FTy.f32 0#32 = (0 : EReal) := by
  show (((0#32).toInt : ℝ) : EReal) = 0
  simp

theorem conv_ctx (b : Fin 4) (l : Fin 256) (j : Fin 11264) :
    val_main_v29 (F := Ideal) x0 x1 x2 (ix3 b l j) = conv (colOf x0 x1 b j) (tapOf x2 j) (segC l) := by
  unfold conv tapOf
  pointwise [val_main_v29, val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11, val_main_v10, val_main_v9,
    val_main_call0_v0, val_main_c, val_main_v8, val_main_v7, segC]
  simp only [u_ctx, sitofp_zero]
  refine congrArg₂ (· * x2 (ix3 0 0 j) + _ + · * x2 (ix3 0 2 j)) ?_ ?_
  · by_cases h : l.val = 0
    · rw [dif_neg (by omega), if_pos (by omega)]
    · rw [dif_pos (by omega), if_neg (by omega)]
      exact congrArg (colOf x0 x1 b j) (Fin.ext (by simp only [segC] <;> omega))
  · by_cases h : l.val = 255
    · rw [dif_neg (by omega), dif_pos (by omega)]
    · rw [dif_pos (by omega), dif_neg (by omega)]
      exact congrArg (colOf x0 x1 b j) (Fin.ext (by simp only [segC] <;> omega))

theorem conv_lat (b : Fin 4) (l : Fin 2048) (j : Fin 11264) :
    val_main_v59 (F := Ideal) x0 x1 x2 (ix3 b l j) = conv (colOf x0 x1 b j) (tapOf x2 j) (segL l) := by
  unfold conv tapOf
  pointwise [val_main_v59, val_main_v58, val_main_v57, val_main_v56, val_main_v55, val_main_v54, val_main_v53, val_main_v52, val_main_v51, val_main_v50,
    val_main_v49, val_main_v48, val_main_v47, val_main_v46, val_main_v45, val_main_v44, val_main_v43, val_main_v42, val_main_v41, val_main_v40, val_main_v39,
    val_main_call2_v0, val_main_c_0, val_main_v38, val_main_v37, segL]
  simp only [u_lat, sitofp_zero]
  refine congrArg₂ (· * x2 (ix3 0 0 j) + _ + · * x2 (ix3 0 2 j)) ?_ ?_
  · by_cases h : l.val = 0
    · rw [dif_neg (by omega), if_pos (by omega)]
    · rw [dif_pos (by omega), if_neg (by omega)]
      exact congrArg (colOf x0 x1 b j) (Fin.ext (by simp only [segL] <;> omega))
  · by_cases h : l.val = 2047
    · rw [dif_neg (by omega), dif_pos (by omega)]
    · rw [dif_pos (by omega), dif_neg (by omega)]
      exact congrArg (colOf x0 x1 b j) (Fin.ext (by simp only [segL] <;> omega))

theorem half_ctx (b : Fin 4) (l : Fin 256) (j : Fin 5632) : val_main_v33 (F := Ideal) x0 x1 x2 (ix3 b l j) = out x0 x1 x2 b (segC l) j := by
  unfold out act
  rw [← conv_ctx, ← conv_ctx]
  pointwise [val_main_v33, val_main_v32, val_main_call1_v0, val_main_call1_v1, val_main_call1_v2, val_main_call1_v3, val_main_call1_v4, val_main_call1_v5,
    val_main_call1_cst, val_main_call1_cst_0, val_main_v31, val_main_v30]
  rw [zero_sub]

theorem half_lat (b : Fin 4) (l : Fin 2048) (j : Fin 5632) : val_main_v63 (F := Ideal) x0 x1 x2 (ix3 b l j) = out x0 x1 x2 b (segL l) j := by
  unfold out act
  rw [← conv_lat, ← conv_lat]
  pointwise [val_main_v63, val_main_v62, val_main_call3_v0, val_main_call3_v1, val_main_call3_v2, val_main_call3_v3, val_main_call3_v4, val_main_call3_v5,
    val_main_call3_cst, val_main_call3_cst_0, val_main_v61, val_main_v60]
  rw [zero_sub]

theorem at_res (r : Fin 9216) (d : Fin 5632) : val_main_v66 (F := Ideal) x0 x1 x2 (ix2 r d) = res x0 x1 x2 (ix2 r d) := by
  refine row_cases (P := fun r => val_main_v66 (F := Ideal) x0 x1 x2 (ix2 r d) = res x0 x1 x2 (ix2 r d)) (fun b l => ?_) (fun b l => ?_) r
  · rw [res_row x0 x1 x2 b (segC l) (rowC b l) rfl, ← half_ctx]
    pointwise [val_main_v66, val_main_v65, val_main_v64, rowC]
    exact pick_ctx (fun l => val_main_v33 (F := Ideal) x0 x1 x2 (ix3 b l d)) (fun l => val_main_v63 (F := Ideal) x0 x1 x2 (ix3 b l d)) b l
  · rw [res_row x0 x1 x2 b (segL l) (rowL b l) rfl, ← half_lat]
    pointwise [val_main_v66, val_main_v65, val_main_v64, rowL]
    exact pick_lat (fun l => val_main_v33 (F := Ideal) x0 x1 x2 (ix3 b l d)) (fun l => val_main_v63 (F := Ideal) x0 x1 x2 (ix3 b l d)) b l

theorem ref_eq : val_main_v66 (F := Ideal) x0 x1 x2 = res x0 x1 x2 :=
  funext fun i => (congrArg _ (eq_ix2 i)).trans ((at_res x0 x1 x2 (i 0) (i 1)).trans (congrArg _ (eq_ix2 i).symm))

end Cert.FfnUpRefIdeal.Val

end
-- ==== Proof.FfnUpValue.lean ====
/- The claim of the FFN's up projection: the kernel's array and the reference's are one function of the arguments. -/
module

public import proofs.«01_k».proof.Proof.FfnUpKernel
public import proofs.«01_k».proof.Proof.FfnUpRef

@[expose] public section

noncomputable section

namespace Cert.Proof

open Idealize.ShloMosaic Idealize.ShloMosaic.TcCoe Idealize.SL.Sem

/-- The gated convolution of the up projection, on both sides. -/
theorem algebraic_ffnUp : Cert.algebraic_FfnUpIdeal_FfnUpRefIdeal := fun m ρ m' ρ' _ hagree => by
  refine ⟨fun c => Cert.FfnUpIdeal.Val.res (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1))
      (m ((c.tc : Thread Cert.FfnUpIdeal.nD Cert.FfnUpIdeal.τ).loc Cert.FfnUpIdeal.main_arg2)),
    (θ_run Cert.FfnUpIdeal.defs _ _).mono (fun r h c => ⟨(h c).1.trans (Cert.FfnUpIdeal.Val.final m c), (h c).2⟩)
      (Cert.FfnUpIdeal.Value.run_blocks m ρ),
    (θ_run Cert.FfnUpRefIdeal.defs _ _).mono (fun r h c => ⟨(h c).1.trans ?_, (h c).2⟩) (Cert.FfnUpRefIdeal.Value.run (F := Ideal) m' ρ')⟩
  rw [Cert.FfnUpRefIdeal.Read.val_main_v66_eq, (hagree c).1, (hagree c).2.1, (hagree c).2.2]
  exact Cert.FfnUpRefIdeal.Val.ref_eq _ _ _

end Cert.Proof

end
-- ==== Proof.FfnDownKernel.lean ====
/- The FFN's second product with the residual step and the norm: the two arrays the kernel writes, element by element. -/
module

public import proofs.«01_k».proof.Proof.Gen.FfnDownIdeal.Value
public import proofs.«01_k».proof.Proof.Residual

@[expose] public section

set_option maxRecDepth 16384

noncomputable section

namespace Cert.FfnDownIdeal.Val

open Cert.FfnDownIdeal Cert.FfnDownIdeal.Gen Cert.Residual Idealize.ShloMosaic Idealize.ShloMosaic.TcCoe Idealize.SL.Sem

variable (m : (ℓ : Loc nD τ sig) → Buf (Elt Ideal) ℓ)

/-- The call's product at row `r`, column `d`. -/
def prod (a : FVec Ideal S9216x5632 .bf16) (w : FVec Ideal S5632x2048 .bf16) (r : Fin 9216) (d : Fin 2048) : EReal :=
  ∑ k : Fin 5632, a (ix2 r k) * w (ix2 k d)

/-- The modulation a block's row `r` sees in grid step `i`. -/
def rowMod (i : grid0.Coords) (x3 : Vec Ideal S3x2048 .f32) (x4 : Vec Ideal S1x3x2048 .f32) (r : Fin 384) (k : Fin 3) (d : Fin 2048) : EReal :=
  if (i 1).val * 384 + r.val < 256 then x3 (ix2 k d) else x4 (ix3 0 k d)

/-- A block's new residual row. -/
def rowStep (i : grid0.Coords) (x0 : Vec Ideal S384x5632 .bf16) (x1 : Vec Ideal S5632x2048 .bf16) (x2 : Vec Ideal S384x2048 .f32)
    (x3 : Vec Ideal S3x2048 .f32) (x4 : Vec Ideal S1x3x2048 .f32) (x5 : Vec Ideal S2x2048 .f32) (r : Fin 384) : Fin 2048 → EReal :=
  step (fun d => x2 (ix2 r d)) (fun d => ∑ k : Fin 5632, x0 (ix2 r k) * x1 (ix2 k d)) (rowMod i x3 x4 r 0) (fun d => x5 (ix2 0 d))

theorem small (i : grid0.Coords) (r : Fin 384) : (i 1).val * 384 + r.val < 2147483648 := by
  have h : (i 1).val < 6 := (i 1).isLt
  omega

theorem pay2 (i : grid0.Coords) (x0 : Vec Ideal S384x5632 .bf16) (x1 : Vec Ideal S5632x2048 .bf16) (x2 : Vec Ideal S384x2048 .f32)
    (x3 : Vec Ideal S3x2048 .f32) (x4 : Vec Ideal S1x3x2048 .f32) (x5 : Vec Ideal S2x2048 .f32) (r : Fin 384) (d : Fin 2048) :
    k0_pay2 i x0 x1 x2 (View.ld x5 r0_3) (View.ld x3 r0_4) (View.ld x4 r0_5) (ix2 r d) = rowStep i x0 x1 x2 x3 x4 x5 r d := by
  pointwise [k0_pay2, k0_pay1]
  rw [select_row _ _ _ (small i r)]
  unfold rowStep step rowMod rms
  split_ifs <;> rfl

theorem out6 (i : grid0.Coords) (x0 : Vec Ideal S384x5632 .bf16) (x1 : Vec Ideal S5632x2048 .bf16) (x2 : Vec Ideal S384x2048 .f32)
    (x3 : Vec Ideal S3x2048 .f32) (x4 : Vec Ideal S1x3x2048 .f32) (x5 : Vec Ideal S2x2048 .f32) (r : Fin 384) (d : Fin 2048) :
    out0_6 i x0 x1 x2 x3 x4 x5 (ix2 r d) = rowStep i x0 x1 x2 x3 x4 x5 r d := by
  unfold out0_6
  frame_out
  exact pay2 i x0 x1 x2 x3 x4 x5 r d

theorem pay3 (i : grid0.Coords) (X : FVec Ideal S384x2048 .f32)
    (x3 : Vec Ideal S3x2048 .f32) (x4 : Vec Ideal S1x3x2048 .f32) (x5 : Vec Ideal S2x2048 .f32) (r : Fin 384) (d : Fin 2048) :
    k0_pay3 (k0_pay1 i) X (View.ld x5 r0_6) (View.ld x3 r0_7) (View.ld x4 r0_8) (View.ld x3 r0_9) (View.ld x4 r0_10) (ix2 r d)
      = scaled (fun d => X (ix2 r d)) (rowMod i x3 x4 r 2) (fun d => x5 (ix2 1 d)) (rowMod i x3 x4 r 1) d := by
  pointwise [k0_pay3, k0_pay1]
  rw [select_row _ _ _ (small i r), select_row _ _ _ (small i r)]
  unfold scaled rowMod rms
  split_ifs <;> rfl

theorem out7 (i : grid0.Coords) (x0 : Vec Ideal S384x5632 .bf16) (x1 : Vec Ideal S5632x2048 .bf16) (x2 : Vec Ideal S384x2048 .f32)
    (x3 : Vec Ideal S3x2048 .f32) (x4 : Vec Ideal S1x3x2048 .f32) (x5 : Vec Ideal S2x2048 .f32) (r : Fin 384) (d : Fin 2048) :
    out0_7 i x0 x1 x2 x3 x4 x5 (ix2 r d)
      = scaled (rowStep i x0 x1 x2 x3 x4 x5 r) (rowMod i x3 x4 r 2) (fun d => x5 (ix2 1 d)) (rowMod i x3 x4 r 1) d := by
  unfold out0_7
  frame_out
  rw [pay3]
  exact congrArg (fun f => scaled f (rowMod i x3 x4 r 2) (fun d => x5 (ix2 1 d)) (rowMod i x3 x4 r 1) d)
    (funext fun d => pay2 i x0 x1 x2 x3 x4 x5 r d)

theorem idx : ∀ t : Fin cfg0.N, win0_0.index t = ![(grid0.coords t 0).val * 6 + (grid0.coords t 1).val, 0]
    ∧ win0_1.index t = ![0, 0]
    ∧ win0_2.index t = ![(grid0.coords t 0).val * 6 + (grid0.coords t 1).val, 0]
    ∧ win0_3.index t = ![0, 0] ∧ win0_4.index t = ![(grid0.coords t 0).val, 0, 0] ∧ win0_5.index t = ![0, 0]
    ∧ win0_6.index t = ![(grid0.coords t 0).val * 6 + (grid0.coords t 1).val, 0]
    ∧ win0_7.index t = ![(grid0.coords t 0).val * 6 + (grid0.coords t 1).val, 0] :=
  (by decide +kernel : ∀ t : Fin grid0.N, _)

/-- The array row that row `r` of the block of grid step `t` is. -/
def row (t : Fin cfg0.N) (r : Fin 384) : Fin 9216 :=
  ⟨((grid0.coords t 0).val * 6 + (grid0.coords t 1).val) * 384 + r.val, by
    have h0 : (grid0.coords t 0).val < 4 := (grid0.coords t 0).isLt
    have h1 : (grid0.coords t 1).val < 6 := (grid0.coords t 1).isLt
    omega⟩

theorem blk_mod (c : Dev nD) (t : Fin cfg0.N) (r : Fin 384) (k : Fin 3) (d : Fin 2048) :
    rowMod (grid0.coords t) (iblk m c 3 t) (iblk m c 4 t) r k d = modRow (V m c main_arg3) (V m c main_arg4) (row t r) k d := by
  obtain ⟨_, _, _, e3, e4, _⟩ := idx t
  have h1 : (grid0.coords t 1).val < 6 := (grid0.coords t 1).isLt
  rw [modRow_tile _ _ (row t r) k d (grid0.coords t 0) ((grid0.coords t 1).val * 384 + r.val) (by omega) (by show _ * 384 + r.val = _; omega)]
  unfold rowMod
  rw [show iblk m c 3 t (ix2 k d) = V m c main_arg3 (ix2 k d) by blk_ext [iblk, V, e3],
    show iblk m c 4 t (ix3 0 k d) = V m c main_arg4 (ix3 (grid0.coords t 0) k d) by blk_ext [iblk, V, e4]]

theorem blk_step (c : Dev nD) (t : Fin cfg0.N) (r : Fin 384) :
    rowStep (grid0.coords t) (iblk m c 0 t) (iblk m c 1 t) (iblk m c 2 t) (iblk m c 3 t) (iblk m c 4 t) (iblk m c 5 t) r
      = stream (V m c main_arg2) (prod (V m c main_arg0) (V m c main_arg1)) (V m c main_arg3) (V m c main_arg4) (V m c main_arg5) (row t r) := by
  obtain ⟨e0, e1, e2, _, _, e5, _⟩ := idx t
  have b0 : ∀ k : Fin 5632, iblk m c 0 t (ix2 r k) = V m c main_arg0 (ix2 (row t r) k) := fun k => by blk_ext [iblk, V, e0, row]
  have b1 : ∀ (k : Fin 5632) (d : Fin 2048), iblk m c 1 t (ix2 k d) = V m c main_arg1 (ix2 k d) := fun k d => by blk_ext [iblk, V, e1]
  have b2 : ∀ d : Fin 2048, iblk m c 2 t (ix2 r d) = V m c main_arg2 (ix2 (row t r) d) := fun d => by blk_ext [iblk, V, e2, row]
  have b5 : ∀ d : Fin 2048, iblk m c 5 t (ix2 0 d) = V m c main_arg5 (ix2 0 d) := fun d => by blk_ext [iblk, V, e5]
  have b3 : rowMod (grid0.coords t) (iblk m c 3 t) (iblk m c 4 t) r 0 = modRow (V m c main_arg3) (V m c main_arg4) (row t r) 0 :=
    funext fun d => blk_mod m c t r 0 d
  unfold rowStep stream prod
  simp only [b0, b1, b2, b3, b5]

/-- The first array: the new residual stream. -/
def res6 (a : FVec Ideal S9216x5632 .bf16) (w : FVec Ideal S5632x2048 .bf16) (x : FVec Ideal S9216x2048 .f32) (mc : FVec Ideal S3x2048 .f32)
    (mb : FVec Ideal S4x3x2048 .f32) (g : FVec Ideal S2x2048 .f32) : FVec Ideal S9216x2048 .f32 :=
  fun i => stream x (prod a w) mc mb g (i 0) (i 1)

/-- The second array: the normed stream. -/
def res7 (a : FVec Ideal S9216x5632 .bf16) (w : FVec Ideal S5632x2048 .bf16) (x : FVec Ideal S9216x2048 .f32) (mc : FVec Ideal S3x2048 .f32)
    (mb : FVec Ideal S4x3x2048 .f32) (g : FVec Ideal S2x2048 .f32) : FVec Ideal S9216x2048 .bf16 :=
  fun i => normed x (prod a w) mc mb g (i 0) (i 1)

theorem blk6 (c : Dev nD) (t : Fin cfg0.N) (r : Fin 384) (d : Fin 2048) :
    out0_6 (grid0.coords t) (iblk m c 0 t) (iblk m c 1 t) (iblk m c 2 t) (iblk m c 3 t) (iblk m c 4 t) (iblk m c 5 t) (ix2 r d)
      = res6 (V m c main_arg0) (V m c main_arg1) (V m c main_arg2) (V m c main_arg3) (V m c main_arg4) (V m c main_arg5) (ix2 (row t r) d) := by
  rw [out6, blk_step]
  rfl

theorem blk7 (c : Dev nD) (t : Fin cfg0.N) (r : Fin 384) (d : Fin 2048) :
    out0_7 (grid0.coords t) (iblk m c 0 t) (iblk m c 1 t) (iblk m c 2 t) (iblk m c 3 t) (iblk m c 4 t) (iblk m c 5 t) (ix2 r d)
      = res7 (V m c main_arg0) (V m c main_arg1) (V m c main_arg2) (V m c main_arg3) (V m c main_arg4) (V m c main_arg5) (ix2 (row t r) d) := by
  obtain ⟨_, _, _, _, _, e5, _⟩ := idx t
  have b5 : ∀ d : Fin 2048, iblk m c 5 t (ix2 1 d) = V m c main_arg5 (ix2 1 d) := fun d => by blk_ext [iblk, V, e5]
  have b3 : ∀ k, rowMod (grid0.coords t) (iblk m c 3 t) (iblk m c 4 t) r k = modRow (V m c main_arg3) (V m c main_arg4) (row t r) k :=
    fun k => funext fun d => blk_mod m c t r k d
  rw [out7, blk_step]
  simp only [b5, b3]
  rfl

theorem final6 (c : Dev nD) : (dats m 0 c).arrAt 6 cfg0.N
    = res6 (V m c main_arg0) (V m c main_arg1) (V m c main_arg2) (V m c main_arg3) (V m c main_arg4) (V m c main_arg5) := by
  refine (dats m 0 c).arrAt_eq_of_covers 6 _ (by decide +kernel) fun t hf y => ?_
  blk_simp
  rw [after0_6]
  obtain ⟨_, _, _, _, _, _, e6, _⟩ := idx t
  refine (congrArg _ (eq_ix2 y)).trans ((blk6 m c t (y 0) (y 1)).trans (congrArg _ ?_))
  blk_ext [e6, row]

theorem final7 (c : Dev nD) : (dats m 0 c).arrAt 7 cfg0.N
    = res7 (V m c main_arg0) (V m c main_arg1) (V m c main_arg2) (V m c main_arg3) (V m c main_arg4) (V m c main_arg5) := by
  refine (dats m 0 c).arrAt_eq_of_covers 7 _ (by decide +kernel) fun t hf y => ?_
  blk_simp
  rw [after0_7]
  obtain ⟨_, _, _, _, _, _, _, e7⟩ := idx t
  refine (congrArg _ (eq_ix2 y)).trans ((blk7 m c t (y 0) (y 1)).trans (congrArg _ ?_))
  blk_ext [e7, row]

end Cert.FfnDownIdeal.Val

end
-- ==== Proof.FfnDownRef.lean ====
/- The reference of the FFN's second product: its two arrays are the same residual step and norm. -/
module

public import proofs.«01_k».proof.Proof.Gen.FfnDownRefIdeal.Read
public import proofs.«01_k».proof.Proof.FfnDownKernel

@[expose] public section

set_option maxRecDepth 16384

noncomputable section

namespace Cert.FfnDownRefIdeal.Val

open Cert.FfnDownRefIdeal Cert.FfnDownRefIdeal.Gen Cert.FfnDownRefIdeal.Read Cert.Residual Idealize.ShloMosaic Idealize.ShloMosaic.TcCoe Idealize.SL.Sem

variable (x0 : FVec Ideal S9216x5632 .bf16) (x1 : FVec Ideal S5632x2048 .bf16) (x2 : FVec Ideal S9216x2048 .f32) (x3 : FVec Ideal S3x2048 .f32)
  (x4 : FVec Ideal S4x3x2048 .f32) (x5 : FVec Ideal S2x2048 .f32)

theorem y_ctx (b : Fin 4) (l : Fin 256) (d : Fin 2048) : val_main_v4 (F := Ideal) x0 x1 (ix3 b l d) = (Cert.FfnDownIdeal.Val.prod x0 x1) (rowC b l) d := by
  pointwise [val_main_v4, val_main_v3, val_main_v2, val_main_v1, val_main_v0, Cert.FfnDownIdeal.Val.prod, rowC]

theorem y_lat (b : Fin 4) (l : Fin 2048) (d : Fin 2048) : val_main_v5 (F := Ideal) x0 x1 (ix3 b l d) = (Cert.FfnDownIdeal.Val.prod x0 x1) (rowL b l) d := by
  pointwise [val_main_v5, val_main_v3, val_main_v2, val_main_v1, val_main_v0, Cert.FfnDownIdeal.Val.prod, rowL]

theorem x_ctx (b : Fin 4) (l : Fin 256) (d : Fin 2048) : val_main_v7 (F := Ideal) x2 (ix3 b l d) = x2 (ix2 (rowC b l) d) := by
  pointwise [val_main_v7, val_main_v6, rowC]

theorem x_lat (b : Fin 4) (l : Fin 2048) (d : Fin 2048) : val_main_v8 (F := Ideal) x2 (ix3 b l d) = x2 (ix2 (rowL b l) d) := by
  pointwise [val_main_v8, val_main_v6, rowL]

theorem step_ctx (b : Fin 4) (l : Fin 256) (d : Fin 2048) :
    val_main_v33 (F := Ideal) x0 x1 x2 x3 x5 (ix3 b l d) = stream x2 (Cert.FfnDownIdeal.Val.prod x0 x1) x3 x4 x5 (rowC b l) d := by
  unfold stream
  rw [← step_comm, modRow_ctx]
  unfold rms
  pointwise [val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  simp only [y_ctx, x_ctx]

theorem step_lat (b : Fin 4) (l : Fin 2048) (d : Fin 2048) :
    val_main_v83 (F := Ideal) x0 x1 x2 x4 x5 (ix3 b l d) = stream x2 (Cert.FfnDownIdeal.Val.prod x0 x1) x3 x4 x5 (rowL b l) d := by
  unfold stream
  rw [← step_comm, modRow_lat]
  unfold rms
  pointwise [val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  simp only [y_lat, x_lat]

theorem norm_ctx (b : Fin 4) (l : Fin 256) (d : Fin 2048) :
    val_main_v56 (F := Ideal) x0 x1 x2 x3 x5 (ix3 b l d) = normed x2 (Cert.FfnDownIdeal.Val.prod x0 x1) x3 x4 x5 (rowC b l) d := by
  unfold normed
  rw [← scaled_comm, modRow_ctx, modRow_ctx]
  unfold rms
  pointwise [val_main_v11, val_main_v12, val_main_v13, val_main_v14, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  simp only [step_ctx (x4 := x4)]

theorem norm_lat (b : Fin 4) (l : Fin 2048) (d : Fin 2048) :
    val_main_v104 (F := Ideal) x0 x1 x2 x4 x5 (ix3 b l d) = normed x2 (Cert.FfnDownIdeal.Val.prod x0 x1) x3 x4 x5 (rowL b l) d := by
  unfold normed
  rw [← scaled_comm, modRow_lat, modRow_lat]
  unfold rms
  pointwise [val_main_v60, val_main_v61, val_main_v62, val_main_v63, val_main_v64, val_main_v65, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  simp only [step_lat (x3 := x3)]

/-- The first array: the new residual stream. -/
theorem at_step (r : Fin 9216) (d : Fin 2048) : val_main_v106 (F := Ideal) x0 x1 x2 x3 x4 x5 (ix2 r d) = stream x2 (Cert.FfnDownIdeal.Val.prod x0 x1) x3 x4 x5 r d := by
  refine row_cases (P := fun r => val_main_v106 (F := Ideal) x0 x1 x2 x3 x4 x5 (ix2 r d) = stream x2 (Cert.FfnDownIdeal.Val.prod x0 x1) x3 x4 x5 r d)
    (fun b l => ?_) (fun b l => ?_) r
  · rw [← step_ctx]
    pointwise [val_main_v106, val_main_v105, rowC]
    exact pick_ctx (fun l => val_main_v33 (F := Ideal) x0 x1 x2 x3 x5 (ix3 b l d)) (fun l => val_main_v83 (F := Ideal) x0 x1 x2 x4 x5 (ix3 b l d)) b l
  · rw [← step_lat]
    pointwise [val_main_v106, val_main_v105, rowL]
    exact pick_lat (fun l => val_main_v33 (F := Ideal) x0 x1 x2 x3 x5 (ix3 b l d)) (fun l => val_main_v83 (F := Ideal) x0 x1 x2 x4 x5 (ix3 b l d)) b l

/-- The second array: the normed stream. -/
theorem at_norm (r : Fin 9216) (d : Fin 2048) : val_main_v109 (F := Ideal) x0 x1 x2 x3 x4 x5 (ix2 r d) = normed x2 (Cert.FfnDownIdeal.Val.prod x0 x1) x3 x4 x5 r d := by
  refine row_cases (P := fun r => val_main_v109 (F := Ideal) x0 x1 x2 x3 x4 x5 (ix2 r d) = normed x2 (Cert.FfnDownIdeal.Val.prod x0 x1) x3 x4 x5 r d)
    (fun b l => ?_) (fun b l => ?_) r
  · rw [← norm_ctx]
    pointwise [val_main_v109, val_main_v108, val_main_v107, rowC]
    exact pick_ctx (fun l => val_main_v56 (F := Ideal) x0 x1 x2 x3 x5 (ix3 b l d)) (fun l => val_main_v104 (F := Ideal) x0 x1 x2 x4 x5 (ix3 b l d)) b l
  · rw [← norm_lat]
    pointwise [val_main_v109, val_main_v108, val_main_v107, rowL]
    exact pick_lat (fun l => val_main_v56 (F := Ideal) x0 x1 x2 x3 x5 (ix3 b l d)) (fun l => val_main_v104 (F := Ideal) x0 x1 x2 x4 x5 (ix3 b l d)) b l

theorem ref_step : val_main_v106 (F := Ideal) x0 x1 x2 x3 x4 x5 = Cert.FfnDownIdeal.Val.res6 x0 x1 x2 x3 x4 x5 :=
  funext fun i => (congrArg _ (eq_ix2 i)).trans (at_step x0 x1 x2 x3 x4 x5 (i 0) (i 1))

theorem ref_norm : val_main_v109 (F := Ideal) x0 x1 x2 x3 x4 x5 = Cert.FfnDownIdeal.Val.res7 x0 x1 x2 x3 x4 x5 :=
  funext fun i => (congrArg _ (eq_ix2 i)).trans (at_norm x0 x1 x2 x3 x4 x5 (i 0) (i 1))

end Cert.FfnDownRefIdeal.Val

end
-- ==== Proof.FfnDownValue.lean ====
/- The FFN's second product with the residual step and the norm: the kernel's two arrays and the reference's are one function of the arguments. -/
module

public import proofs.«01_k».proof.Defs
public import proofs.«01_k».proof.Proof.FfnDownKernel
public import proofs.«01_k».proof.Proof.FfnDownRef

@[expose] public section

set_option maxRecDepth 16384

noncomputable section

namespace Cert.Proof

open Idealize.ShloMosaic Idealize.ShloMosaic.TcCoe Idealize.SL.Sem

theorem algebraic_ffnDown : Cert.algebraic_FfnDownIdeal_FfnDownRefIdeal := fun m ρ m' ρ' _ hagree => by
  refine ⟨fun c => Cert.FfnDownIdeal.Val.res6 (m ((c.tc : Thread Cert.FfnDownIdeal.nD Cert.FfnDownIdeal.τ).loc Cert.FfnDownIdeal.main_arg0))
      (m ((c.tc : Thread Cert.FfnDownIdeal.nD Cert.FfnDownIdeal.τ).loc Cert.FfnDownIdeal.main_arg1))
      (m ((c.tc : Thread Cert.FfnDownIdeal.nD Cert.FfnDownIdeal.τ).loc Cert.FfnDownIdeal.main_arg2))
      (m ((c.tc : Thread Cert.FfnDownIdeal.nD Cert.FfnDownIdeal.τ).loc Cert.FfnDownIdeal.main_arg3))
      (m ((c.tc : Thread Cert.FfnDownIdeal.nD Cert.FfnDownIdeal.τ).loc Cert.FfnDownIdeal.main_arg4))
      (m ((c.tc : Thread Cert.FfnDownIdeal.nD Cert.FfnDownIdeal.τ).loc Cert.FfnDownIdeal.main_arg5)),
    fun c => Cert.FfnDownIdeal.Val.res7 (m ((c.tc : Thread Cert.FfnDownIdeal.nD Cert.FfnDownIdeal.τ).loc Cert.FfnDownIdeal.main_arg0))
      (m ((c.tc : Thread Cert.FfnDownIdeal.nD Cert.FfnDownIdeal.τ).loc Cert.FfnDownIdeal.main_arg1))
      (m ((c.tc : Thread Cert.FfnDownIdeal.nD Cert.FfnDownIdeal.τ).loc Cert.FfnDownIdeal.main_arg2))
      (m ((c.tc : Thread Cert.FfnDownIdeal.nD Cert.FfnDownIdeal.τ).loc Cert.FfnDownIdeal.main_arg3))
      (m ((c.tc : Thread Cert.FfnDownIdeal.nD Cert.FfnDownIdeal.τ).loc Cert.FfnDownIdeal.main_arg4))
      (m ((c.tc : Thread Cert.FfnDownIdeal.nD Cert.FfnDownIdeal.τ).loc Cert.FfnDownIdeal.main_arg5)),
    (θ_run Cert.FfnDownIdeal.defs _ _).mono (fun r h c => ⟨(h c).1.trans (Cert.FfnDownIdeal.Val.final6 m c), (h c).2.1.trans (Cert.FfnDownIdeal.Val.final7 m c), (h c).2.2⟩)
      (Cert.FfnDownIdeal.Value.run_blocks m ρ),
    (θ_run Cert.FfnDownRefIdeal.defs _ _).mono (fun r h c => ⟨(h c).1.trans ?_, (h c).2.1.trans ?_, (h c).2.2⟩) (Cert.FfnDownRefIdeal.Value.run (F := Ideal) m' ρ')⟩
  · rw [Cert.FfnDownRefIdeal.Read.val_main_v106_eq, (hagree c).1, (hagree c).2.1, (hagree c).2.2.1, (hagree c).2.2.2.1, (hagree c).2.2.2.2.1, (hagree c).2.2.2.2.2]
    exact Cert.FfnDownRefIdeal.Val.ref_step _ _ _ _ _ _
  · rw [Cert.FfnDownRefIdeal.Read.val_main_v109_eq, (hagree c).1, (hagree c).2.1, (hagree c).2.2.1, (hagree c).2.2.2.1, (hagree c).2.2.2.2.1, (hagree c).2.2.2.2.2]
    exact Cert.FfnDownRefIdeal.Val.ref_norm _ _ _ _ _ _

end Cert.Proof

end
-- ==== Proof.OutProjKernel.lean ====
/- The output projection with the residual step and the norm: the two arrays the kernel writes, element by element. -/
module

public import proofs.«01_k».proof.Proof.Gen.OutProjIdeal.Value
public import proofs.«01_k».proof.Proof.Residual

@[expose] public section

set_option maxRecDepth 16384

noncomputable section

namespace Cert.OutProjIdeal.Val

open Cert.OutProjIdeal Cert.OutProjIdeal.Gen Cert.Residual Idealize.ShloMosaic Idealize.ShloMosaic.TcCoe Idealize.SL.Sem

variable (m : (ℓ : Loc nD τ sig) → Buf (Elt Ideal) ℓ)

/-- Row `q · 512 + k` of the weight: row `k` of the quarter that meets the `q`-th group of features. -/
def quarter (q : Fin 4) (k : Fin 512) : Fin 2048 := ⟨q.val * 512 + k.val, by omega⟩

/-- The call's product of the four feature groups with the weight, at row `r`, column `d`. -/
def prod (a0 a1 a2 a3 : FVec Ideal S9216x512 .bf16) (w : FVec Ideal S2048x2048 .bf16) (r : Fin 9216) (d : Fin 2048) : EReal :=
  ∑ k : Fin 512, a0 (ix2 r k) * w (ix2 (quarter 0 k) d) + ∑ k : Fin 512, a1 (ix2 r k) * w (ix2 (quarter 1 k) d)
    + ∑ k : Fin 512, a2 (ix2 r k) * w (ix2 (quarter 2 k) d) + ∑ k : Fin 512, a3 (ix2 r k) * w (ix2 (quarter 3 k) d)

/-- The same product within a block. -/
def rowProd (x0 x1 x2 x3 : Vec Ideal S768x512 .bf16) (x4 : Vec Ideal S2048x2048 .bf16) (r : Fin 768) (d : Fin 2048) : EReal :=
  ∑ k : Fin 512, x0 (ix2 r k) * x4 (ix2 (quarter 0 k) d) + ∑ k : Fin 512, x1 (ix2 r k) * x4 (ix2 (quarter 1 k) d)
    + ∑ k : Fin 512, x2 (ix2 r k) * x4 (ix2 (quarter 2 k) d) + ∑ k : Fin 512, x3 (ix2 r k) * x4 (ix2 (quarter 3 k) d)

/-- The modulation a block's row `r` sees in grid step `i`. -/
def rowMod (i : grid0.Coords) (x6 : Vec Ideal S3x2048 .f32) (x7 : Vec Ideal S1x3x2048 .f32) (r : Fin 768) (k : Fin 3) (d : Fin 2048) : EReal :=
  if (i 1).val * 768 + r.val < 256 then x6 (ix2 k d) else x7 (ix3 0 k d)

/-- A block's new residual row. -/
def rowStep (i : grid0.Coords) (x0 x1 x2 x3 : Vec Ideal S768x512 .bf16) (x4 : Vec Ideal S2048x2048 .bf16) (x5 : Vec Ideal S768x2048 .f32)
    (x6 : Vec Ideal S3x2048 .f32) (x7 : Vec Ideal S1x3x2048 .f32) (x8 : Vec Ideal S2x2048 .f32) (r : Fin 768) : Fin 2048 → EReal :=
  step (fun d => x5 (ix2 r d)) (rowProd x0 x1 x2 x3 x4 r) (rowMod i x6 x7 r 0) (fun d => x8 (ix2 0 d))

theorem small (i : grid0.Coords) (r : Fin 768) : (i 1).val * 768 + r.val < 2147483648 := by
  have h : (i 1).val < 3 := (i 1).isLt
  omega

theorem pay10 (i : grid0.Coords) (x0 x1 x2 x3 : Vec Ideal S768x512 .bf16) (x4 : Vec Ideal S2048x2048 .bf16) (x5 : Vec Ideal S768x2048 .f32)
    (x6 : Vec Ideal S3x2048 .f32) (x7 : Vec Ideal S1x3x2048 .f32) (x8 : Vec Ideal S2x2048 .f32) (r : Fin 768) (d : Fin 2048) :
    k0_pay10 i x0 x1 x2 x3 x4 x5 x6 x7 x8 (ix2 r d) = rowProd x0 x1 x2 x3 x4 r d := by
  pointwise [k0_pay10, k0_pay2, rowProd, quarter]

theorem pay12 (i : grid0.Coords) (x0 x1 x2 x3 : Vec Ideal S768x512 .bf16) (x4 : Vec Ideal S2048x2048 .bf16) (x5 : Vec Ideal S768x2048 .f32)
    (x6 : Vec Ideal S3x2048 .f32) (x7 : Vec Ideal S1x3x2048 .f32) (x8 : Vec Ideal S2x2048 .f32) (r : Fin 768) (d : Fin 2048) :
    k0_pay12 i x0 x1 x2 x3 x4 x5 x6 x7 x8 (ix2 r d) = rms (rowProd x0 x1 x2 x3 x4 r) := by
  unfold k0_pay12
  have h : ∀ d, _ = rowProd x0 x1 x2 x3 x4 r d := pay10 i x0 x1 x2 x3 x4 x5 x6 x7 x8 r
  unfold k0_pay10 at h
  unfold rms
  pointwise [k0_pay4]
  simp only [h]

theorem pay5 (i : grid0.Coords) (y : FVec Ideal S768x2048 .f32) (u : FVec Ideal S768x2048 .f32) (x5 : Vec Ideal S768x2048 .f32)
    (x6 : Vec Ideal S3x2048 .f32) (x7 : Vec Ideal S1x3x2048 .f32) (x8 : Vec Ideal S2x2048 .f32) (r : Fin 768) (d : Fin 2048) :
    k0_pay5 y (k0_pay3 i) x5 u (View.ld x8 r0_6) (View.ld x6 r0_7) (View.ld x7 r0_8) (ix2 r d)
      = x5 (ix2 r d) + y (ix2 r d) * u (ix2 r d) * (rowMod i x6 x7 r 0 d * x8 (ix2 0 d)) := by
  pointwise [k0_pay5, k0_pay3]
  rw [select_row _ _ _ (small i r)]
  unfold rowMod
  split_ifs <;> rfl

theorem pay5_step (i : grid0.Coords) (x0 x1 x2 x3 : Vec Ideal S768x512 .bf16) (x4 : Vec Ideal S2048x2048 .bf16) (x5 : Vec Ideal S768x2048 .f32)
    (x6 : Vec Ideal S3x2048 .f32) (x7 : Vec Ideal S1x3x2048 .f32) (x8 : Vec Ideal S2x2048 .f32) (r : Fin 768) (d : Fin 2048) :
    k0_pay5 (k0_pay10 i x0 x1 x2 x3 x4 x5 x6 x7 x8) (k0_pay11 i x0 x1 x2 x3 x4 x5 x6 x7 x8) x5
        (k0_pay12 i x0 x1 x2 x3 x4 x5 x6 x7 x8) (View.ld x8 r0_6) (View.ld x6 r0_7) (View.ld x7 r0_8) (ix2 r d)
      = rowStep i x0 x1 x2 x3 x4 x5 x6 x7 x8 r d := by
  unfold k0_pay11
  rw [pay5, pay10, pay12]
  rfl

theorem out9 (i : grid0.Coords) (x0 x1 x2 x3 : Vec Ideal S768x512 .bf16) (x4 : Vec Ideal S2048x2048 .bf16) (x5 : Vec Ideal S768x2048 .f32)
    (x6 : Vec Ideal S3x2048 .f32) (x7 : Vec Ideal S1x3x2048 .f32) (x8 : Vec Ideal S2x2048 .f32) (r : Fin 768) (d : Fin 2048) :
    out0_9 i x0 x1 x2 x3 x4 x5 x6 x7 x8 (ix2 r d) = rowStep i x0 x1 x2 x3 x4 x5 x6 x7 x8 r d := by
  unfold out0_9
  frame_out
  exact pay5_step i x0 x1 x2 x3 x4 x5 x6 x7 x8 r d

theorem pay1 (i : grid0.Coords) (Z : FVec Ideal S768x2048 .f32)
    (x6 : Vec Ideal S3x2048 .f32) (x7 : Vec Ideal S1x3x2048 .f32) (x8 : Vec Ideal S2x2048 .f32) (r : Fin 768) (d : Fin 2048) :
    k0_pay1 (k0_pay3 i) Z (k0_pay7 (View.ld x8 r0_9) (View.ld x6 r0_10)) (k0_pay8 (View.ld x8 r0_9) (View.ld x7 r0_11))
        (k0_pay9 (k0_pay3 i)) (View.ld x6 r0_12) (View.ld x7 r0_13) (ix2 r d)
      = Z (ix2 r d) * ((1 + rowMod i x6 x7 r 2 d) * x8 (ix2 1 d)) + rowMod i x6 x7 r 1 d := by
  pointwise [k0_pay1, k0_pay7, k0_pay8, k0_pay9, k0_pay3]
  rw [select_row _ _ _ (small i r), select_row _ _ _ (small i r)]
  unfold rowMod
  split_ifs <;> rfl

theorem pay6 (y : FVec Ideal S768x2048 .f32) (b : IVec S768x1 1) (v : Vec Ideal S768x2048 .f32) (u : FVec Ideal S768x2048 .f32)
    (p q : Vec Ideal S1x2048 .f32) (s : Vec Ideal S1x1x2048 .f32) (r : Fin 768) (d : Fin 2048) :
    k0_pay6 y b v u p q s (ix2 r d) = k0_pay5 y b v u p q s (ix2 r d) * rms (fun d => k0_pay5 y b v u p q s (ix2 r d)) := by
  unfold rms
  pointwise [k0_pay6]

theorem out10 (i : grid0.Coords) (x0 x1 x2 x3 : Vec Ideal S768x512 .bf16) (x4 : Vec Ideal S2048x2048 .bf16) (x5 : Vec Ideal S768x2048 .f32)
    (x6 : Vec Ideal S3x2048 .f32) (x7 : Vec Ideal S1x3x2048 .f32) (x8 : Vec Ideal S2x2048 .f32) (r : Fin 768) (d : Fin 2048) :
    out0_10 i x0 x1 x2 x3 x4 x5 x6 x7 x8 (ix2 r d)
      = scaled (rowStep i x0 x1 x2 x3 x4 x5 x6 x7 x8 r) (rowMod i x6 x7 r 2) (fun d => x8 (ix2 1 d)) (rowMod i x6 x7 r 1) d := by
  have e : (fun d => _) = rowStep i x0 x1 x2 x3 x4 x5 x6 x7 x8 r := funext (pay5_step i x0 x1 x2 x3 x4 x5 x6 x7 x8 r)
  unfold out0_10
  frame_out
  refine (pay1 i _ x6 x7 x8 r d).trans ?_
  rw [pay6, e, pay5_step]
  rfl

theorem idx : ∀ t : Fin cfg0.N, (win0_0.index t = ![(grid0.coords t 0).val * 3 + (grid0.coords t 1).val, 0] ∧ win0_1.index t = ![(grid0.coords t 0).val * 3 + (grid0.coords t 1).val, 0]
      ∧ win0_2.index t = ![(grid0.coords t 0).val * 3 + (grid0.coords t 1).val, 0] ∧ win0_3.index t = ![(grid0.coords t 0).val * 3 + (grid0.coords t 1).val, 0])
    ∧ win0_4.index t = ![0, 0]
    ∧ win0_5.index t = ![(grid0.coords t 0).val * 3 + (grid0.coords t 1).val, 0]
    ∧ win0_6.index t = ![0, 0] ∧ win0_7.index t = ![(grid0.coords t 0).val, 0, 0] ∧ win0_8.index t = ![0, 0]
    ∧ win0_9.index t = ![(grid0.coords t 0).val * 3 + (grid0.coords t 1).val, 0]
    ∧ win0_10.index t = ![(grid0.coords t 0).val * 3 + (grid0.coords t 1).val, 0] :=
  (by decide +kernel : ∀ t : Fin grid0.N, _)

/-- The array row that row `r` of the block of grid step `t` is. -/
def row (t : Fin cfg0.N) (r : Fin 768) : Fin 9216 :=
  ⟨((grid0.coords t 0).val * 3 + (grid0.coords t 1).val) * 768 + r.val, by
    have h0 : (grid0.coords t 0).val < 4 := (grid0.coords t 0).isLt
    have h1 : (grid0.coords t 1).val < 3 := (grid0.coords t 1).isLt
    omega⟩

theorem blk_mod (c : Dev nD) (t : Fin cfg0.N) (r : Fin 768) (k : Fin 3) (d : Fin 2048) :
    rowMod (grid0.coords t) (iblk m c 6 t) (iblk m c 7 t) r k d = modRow (V m c main_arg6) (V m c main_arg7) (row t r) k d := by
  obtain ⟨_, _, _, e6, e7, _⟩ := idx t
  have h1 : (grid0.coords t 1).val < 3 := (grid0.coords t 1).isLt
  rw [modRow_tile _ _ (row t r) k d (grid0.coords t 0) ((grid0.coords t 1).val * 768 + r.val) (by omega) (by show _ * 768 + r.val = _; omega)]
  unfold rowMod
  rw [show iblk m c 6 t (ix2 k d) = V m c main_arg6 (ix2 k d) by blk_ext [iblk, V, e6],
    show iblk m c 7 t (ix3 0 k d) = V m c main_arg7 (ix3 (grid0.coords t 0) k d) by blk_ext [iblk, V, e7]]

theorem blk_prod (c : Dev nD) (t : Fin cfg0.N) (r : Fin 768) :
    rowProd (iblk m c 0 t) (iblk m c 1 t) (iblk m c 2 t) (iblk m c 3 t) (iblk m c 4 t) r
      = prod (V m c main_arg0) (V m c main_arg1) (V m c main_arg2) (V m c main_arg3) (V m c main_arg4) (row t r) := by
  obtain ⟨⟨e0, e1, e2, e3⟩, e4, _⟩ := idx t
  have b0 : ∀ k : Fin 512, iblk m c 0 t (ix2 r k) = V m c main_arg0 (ix2 (row t r) k) := fun k => by blk_ext [iblk, V, e0, row]
  have b1 : ∀ k : Fin 512, iblk m c 1 t (ix2 r k) = V m c main_arg1 (ix2 (row t r) k) := fun k => by blk_ext [iblk, V, e1, row]
  have b2 : ∀ k : Fin 512, iblk m c 2 t (ix2 r k) = V m c main_arg2 (ix2 (row t r) k) := fun k => by blk_ext [iblk, V, e2, row]
  have b3 : ∀ k : Fin 512, iblk m c 3 t (ix2 r k) = V m c main_arg3 (ix2 (row t r) k) := fun k => by blk_ext [iblk, V, e3, row]
  have b4 : ∀ k d : Fin 2048, iblk m c 4 t (ix2 k d) = V m c main_arg4 (ix2 k d) := fun k d => by blk_ext [iblk, V, e4]
  funext d
  unfold rowProd prod
  simp only [b0, b1, b2, b3, b4]

theorem blk_step (c : Dev nD) (t : Fin cfg0.N) (r : Fin 768) :
    rowStep (grid0.coords t) (iblk m c 0 t) (iblk m c 1 t) (iblk m c 2 t) (iblk m c 3 t) (iblk m c 4 t) (iblk m c 5 t) (iblk m c 6 t) (iblk m c 7 t) (iblk m c 8 t) r
      = stream (V m c main_arg5) (prod (V m c main_arg0) (V m c main_arg1) (V m c main_arg2) (V m c main_arg3) (V m c main_arg4))
          (V m c main_arg6) (V m c main_arg7) (V m c main_arg8) (row t r) := by
  obtain ⟨_, _, e5, _, _, e8, _⟩ := idx t
  have b5 : ∀ d : Fin 2048, iblk m c 5 t (ix2 r d) = V m c main_arg5 (ix2 (row t r) d) := fun d => by blk_ext [iblk, V, e5, row]
  have b8 : ∀ d : Fin 2048, iblk m c 8 t (ix2 0 d) = V m c main_arg8 (ix2 0 d) := fun d => by blk_ext [iblk, V, e8]
  have bm : rowMod (grid0.coords t) (iblk m c 6 t) (iblk m c 7 t) r 0 = modRow (V m c main_arg6) (V m c main_arg7) (row t r) 0 :=
    funext fun d => blk_mod m c t r 0 d
  unfold rowStep stream
  simp only [b5, b8, bm, blk_prod]

/-- The first array: the new residual stream. -/
def res9 (a0 a1 a2 a3 : FVec Ideal S9216x512 .bf16) (w : FVec Ideal S2048x2048 .bf16) (x : FVec Ideal S9216x2048 .f32)
    (mc : FVec Ideal S3x2048 .f32) (mb : FVec Ideal S4x3x2048 .f32) (g : FVec Ideal S2x2048 .f32) :
    FVec Ideal S9216x2048 .f32 :=
  fun i => stream x (prod a0 a1 a2 a3 w) mc mb g (i 0) (i 1)

/-- The second array: the normed stream. -/
def res10 (a0 a1 a2 a3 : FVec Ideal S9216x512 .bf16) (w : FVec Ideal S2048x2048 .bf16) (x : FVec Ideal S9216x2048 .f32)
    (mc : FVec Ideal S3x2048 .f32) (mb : FVec Ideal S4x3x2048 .f32) (g : FVec Ideal S2x2048 .f32) :
    FVec Ideal S9216x2048 .bf16 :=
  fun i => normed x (prod a0 a1 a2 a3 w) mc mb g (i 0) (i 1)

theorem blk9 (c : Dev nD) (t : Fin cfg0.N) (r : Fin 768) (d : Fin 2048) :
    out0_9 (grid0.coords t) (iblk m c 0 t) (iblk m c 1 t) (iblk m c 2 t) (iblk m c 3 t) (iblk m c 4 t) (iblk m c 5 t) (iblk m c 6 t) (iblk m c 7 t) (iblk m c 8 t) (ix2 r d)
      = res9 (V m c main_arg0) (V m c main_arg1) (V m c main_arg2) (V m c main_arg3) (V m c main_arg4) (V m c main_arg5) (V m c main_arg6)
        (V m c main_arg7) (V m c main_arg8) (ix2 (row t r) d) := by
  rw [out9, blk_step]
  rfl

theorem blk10 (c : Dev nD) (t : Fin cfg0.N) (r : Fin 768) (d : Fin 2048) :
    out0_10 (grid0.coords t) (iblk m c 0 t) (iblk m c 1 t) (iblk m c 2 t) (iblk m c 3 t) (iblk m c 4 t) (iblk m c 5 t) (iblk m c 6 t) (iblk m c 7 t) (iblk m c 8 t) (ix2 r d)
      = res10 (V m c main_arg0) (V m c main_arg1) (V m c main_arg2) (V m c main_arg3) (V m c main_arg4) (V m c main_arg5) (V m c main_arg6)
        (V m c main_arg7) (V m c main_arg8) (ix2 (row t r) d) := by
  obtain ⟨_, _, _, _, _, e8, _⟩ := idx t
  have b8 : ∀ d : Fin 2048, iblk m c 8 t (ix2 1 d) = V m c main_arg8 (ix2 1 d) := fun d => by blk_ext [iblk, V, e8]
  have bm : ∀ k, rowMod (grid0.coords t) (iblk m c 6 t) (iblk m c 7 t) r k = modRow (V m c main_arg6) (V m c main_arg7) (row t r) k :=
    fun k => funext fun d => blk_mod m c t r k d
  rw [out10, blk_step]
  simp only [b8, bm]
  rfl

theorem final9 (c : Dev nD) : (dats m 0 c).arrAt 9 cfg0.N
    = res9 (V m c main_arg0) (V m c main_arg1) (V m c main_arg2) (V m c main_arg3) (V m c main_arg4) (V m c main_arg5) (V m c main_arg6)
        (V m c main_arg7) (V m c main_arg8) := by
  refine (dats m 0 c).arrAt_eq_of_covers 9 _ (by decide +kernel) fun t hf y => ?_
  blk_simp
  rw [after0_9]
  obtain ⟨_, _, _, _, _, _, e9, _⟩ := idx t
  refine (congrArg _ (eq_ix2 y)).trans ((blk9 m c t (y 0) (y 1)).trans (congrArg _ ?_))
  blk_ext [e9, row]

theorem final10 (c : Dev nD) : (dats m 0 c).arrAt 10 cfg0.N
    = res10 (V m c main_arg0) (V m c main_arg1) (V m c main_arg2) (V m c main_arg3) (V m c main_arg4) (V m c main_arg5) (V m c main_arg6)
        (V m c main_arg7) (V m c main_arg8) := by
  refine (dats m 0 c).arrAt_eq_of_covers 10 _ (by decide +kernel) fun t hf y => ?_
  blk_simp
  rw [after0_10]
  obtain ⟨_, _, _, _, _, _, _, e10⟩ := idx t
  refine (congrArg _ (eq_ix2 y)).trans ((blk10 m c t (y 0) (y 1)).trans (congrArg _ ?_))
  blk_ext [e10, row]

end Cert.OutProjIdeal.Val

end
-- ==== Proof.OutProjRef.lean ====
/- The reference of the output projection: its two arrays are the same residual step and norm. -/
module

public import proofs.«01_k».proof.Proof.Gen.OutProjRefIdeal.Read
public import proofs.«01_k».proof.Proof.OutProjKernel

@[expose] public section

set_option maxRecDepth 16384

noncomputable section

namespace Cert.OutProjRefIdeal.Val

open Cert.OutProjRefIdeal Cert.OutProjRefIdeal.Gen Cert.OutProjRefIdeal.Read Cert.Residual Idealize.ShloMosaic Idealize.ShloMosaic.TcCoe Idealize.SL.Sem

variable (x0 x1 x2 x3 : FVec Ideal S9216x512 .bf16) (x4 : FVec Ideal S2048x2048 .bf16) (x5 : FVec Ideal S9216x2048 .f32)
  (x6 : FVec Ideal S3x2048 .f32) (x7 : FVec Ideal S4x3x2048 .f32) (x8 : FVec Ideal S2x2048 .f32)

/-- A sum over four joined groups of features is the four groups' sums. -/
theorem sum_groups (f0 f1 f2 f3 : Fin 512 → EReal) (w : Fin 2048 → EReal) :
    ∑ x : Fin 2048, (if h : x.val < 512 then f0 ⟨x.val, h⟩ else if h : x.val - 512 < 512 then f1 ⟨x.val - 512, h⟩
        else if h : x.val - 512 - 512 < 512 then f2 ⟨x.val - 512 - 512, h⟩ else f3 ⟨x.val - 512 - 512 - 512, by omega⟩) * w x
      = ∑ k : Fin 512, f0 k * w ⟨k.val, by omega⟩ + ∑ k : Fin 512, f1 k * w ⟨512 + k.val, by omega⟩
        + ∑ k : Fin 512, f2 k * w ⟨1024 + k.val, by omega⟩ + ∑ k : Fin 512, f3 k * w ⟨1536 + k.val, by omega⟩ := by
  refine (Fin.sum_univ_add (a := 1536) (b := 512) _).trans (congrArg₂ _ ?_ ?_)
  · refine (Fin.sum_univ_add (a := 1024) (b := 512) _).trans (congrArg₂ _ ?_ ?_)
    · refine (Fin.sum_univ_add (a := 512) (b := 512) _).trans (congrArg₂ _ ?_ ?_)
      · refine Finset.sum_congr rfl fun k _ => ?_
        simp only [Fin.val_castAdd, Fin.val_natAdd]
        rw [dif_pos (show _ < 512 from k.isLt)]
        rfl
      · refine Finset.sum_congr rfl fun k _ => ?_
        simp only [Fin.val_castAdd, Fin.val_natAdd]
        rw [dif_neg (show ¬512 + k.val < 512 by omega), dif_pos (show 512 + k.val - 512 < 512 by omega)]
        exact congrArg₂ _ (congrArg f1 (Fin.ext (by show 512 + k.val - 512 = k.val; omega))) rfl
    · refine Finset.sum_congr rfl fun k _ => ?_
      simp only [Fin.val_castAdd, Fin.val_natAdd]
      rw [dif_neg (show ¬1024 + k.val < 512 by omega), dif_neg (show ¬1024 + k.val - 512 < 512 by omega),
        dif_pos (show 1024 + k.val - 512 - 512 < 512 by omega)]
      exact congrArg₂ _ (congrArg f2 (Fin.ext (by show 1024 + k.val - 512 - 512 = k.val; omega))) rfl
  · refine Finset.sum_congr rfl fun k _ => ?_
    simp only [Fin.val_castAdd, Fin.val_natAdd]
    rw [dif_neg (show ¬1536 + k.val < 512 by omega), dif_neg (show ¬1536 + k.val - 512 < 512 by omega),
      dif_neg (show ¬1536 + k.val - 512 - 512 < 512 by omega)]
    exact congrArg₂ _ (congrArg f3 (Fin.ext (by show 1536 + k.val - 512 - 512 - 512 = k.val; omega))) rfl

theorem y_ctx (b : Fin 4) (l : Fin 256) (d : Fin 2048) : val_main_v5 (F := Ideal) x0 x1 x2 x3 x4 (ix3 b l d) = (Cert.OutProjIdeal.Val.prod x0 x1 x2 x3 x4) (rowC b l) d := by
  pointwise [val_main_v5, val_main_v4, val_main_v3, val_main_v2, val_main_v1, val_main_v0, Cert.OutProjIdeal.Val.prod, Cert.OutProjIdeal.Val.quarter, rowC]
  exact sum_groups (fun k => x0 (ix2 (rowC b l) k)) (fun k => x1 (ix2 (rowC b l) k)) (fun k => x2 (ix2 (rowC b l) k))
    (fun k => x3 (ix2 (rowC b l) k)) (fun k => x4 (ix2 k d))

theorem y_lat (b : Fin 4) (l : Fin 2048) (d : Fin 2048) : val_main_v6 (F := Ideal) x0 x1 x2 x3 x4 (ix3 b l d) = (Cert.OutProjIdeal.Val.prod x0 x1 x2 x3 x4) (rowL b l) d := by
  pointwise [val_main_v6, val_main_v4, val_main_v3, val_main_v2, val_main_v1, val_main_v0, Cert.OutProjIdeal.Val.prod, Cert.OutProjIdeal.Val.quarter, rowL]
  exact sum_groups (fun k => x0 (ix2 (rowL b l) k)) (fun k => x1 (ix2 (rowL b l) k)) (fun k => x2 (ix2 (rowL b l) k))
    (fun k => x3 (ix2 (rowL b l) k)) (fun k => x4 (ix2 k d))

theorem x_ctx (b : Fin 4) (l : Fin 256) (d : Fin 2048) : val_main_v8 (F := Ideal) x5 (ix3 b l d) = x5 (ix2 (rowC b l) d) := by
  pointwise [val_main_v8, val_main_v7, rowC]

theorem x_lat (b : Fin 4) (l : Fin 2048) (d : Fin 2048) : val_main_v9 (F := Ideal) x5 (ix3 b l d) = x5 (ix2 (rowL b l) d) := by
  pointwise [val_main_v9, val_main_v7, rowL]

theorem step_ctx (b : Fin 4) (l : Fin 256) (d : Fin 2048) :
    val_main_v34 (F := Ideal) x0 x1 x2 x3 x4 x5 x6 x8 (ix3 b l d) = stream x5 (Cert.OutProjIdeal.Val.prod x0 x1 x2 x3 x4) x6 x7 x8 (rowC b l) d := by
  unfold stream
  rw [← step_comm, modRow_ctx]
  unfold rms
  pointwise [val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  simp only [y_ctx, x_ctx]

theorem step_lat (b : Fin 4) (l : Fin 2048) (d : Fin 2048) :
    val_main_v84 (F := Ideal) x0 x1 x2 x3 x4 x5 x7 x8 (ix3 b l d) = stream x5 (Cert.OutProjIdeal.Val.prod x0 x1 x2 x3 x4) x6 x7 x8 (rowL b l) d := by
  unfold stream
  rw [← step_comm, modRow_lat]
  unfold rms
  pointwise [val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  simp only [y_lat, x_lat]

theorem norm_ctx (b : Fin 4) (l : Fin 256) (d : Fin 2048) :
    val_main_v57 (F := Ideal) x0 x1 x2 x3 x4 x5 x6 x8 (ix3 b l d) = normed x5 (Cert.OutProjIdeal.Val.prod x0 x1 x2 x3 x4) x6 x7 x8 (rowC b l) d := by
  unfold normed
  rw [← scaled_comm, modRow_ctx, modRow_ctx]
  unfold rms
  pointwise [val_main_v12, val_main_v13, val_main_v14, val_main_v15, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  simp only [step_ctx (x7 := x7)]

theorem norm_lat (b : Fin 4) (l : Fin 2048) (d : Fin 2048) :
    val_main_v105 (F := Ideal) x0 x1 x2 x3 x4 x5 x7 x8 (ix3 b l d) = normed x5 (Cert.OutProjIdeal.Val.prod x0 x1 x2 x3 x4) x6 x7 x8 (rowL b l) d := by
  unfold normed
  rw [← scaled_comm, modRow_lat, modRow_lat]
  unfold rms
  pointwise [val_main_v61, val_main_v62, val_main_v63, val_main_v64, val_main_v65, val_main_v66, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  simp only [step_lat (x6 := x6)]

/-- The first array: the new residual stream. -/
theorem at_step (r : Fin 9216) (d : Fin 2048) : val_main_v107 (F := Ideal) x0 x1 x2 x3 x4 x5 x6 x7 x8 (ix2 r d) = stream x5 (Cert.OutProjIdeal.Val.prod x0 x1 x2 x3 x4) x6 x7 x8 r d := by
  refine row_cases (P := fun r => val_main_v107 (F := Ideal) x0 x1 x2 x3 x4 x5 x6 x7 x8 (ix2 r d) = stream x5 (Cert.OutProjIdeal.Val.prod x0 x1 x2 x3 x4) x6 x7 x8 r d)
    (fun b l => ?_) (fun b l => ?_) r
  · rw [← step_ctx]
    pointwise [val_main_v107, val_main_v106, rowC]
    exact pick_ctx (fun l => val_main_v34 (F := Ideal) x0 x1 x2 x3 x4 x5 x6 x8 (ix3 b l d)) (fun l => val_main_v84 (F := Ideal) x0 x1 x2 x3 x4 x5 x7 x8 (ix3 b l d)) b l
  · rw [← step_lat]
    pointwise [val_main_v107, val_main_v106, rowL]
    exact pick_lat (fun l => val_main_v34 (F := Ideal) x0 x1 x2 x3 x4 x5 x6 x8 (ix3 b l d)) (fun l => val_main_v84 (F := Ideal) x0 x1 x2 x3 x4 x5 x7 x8 (ix3 b l d)) b l

/-- The second array: the normed stream. -/
theorem at_norm (r : Fin 9216) (d : Fin 2048) : val_main_v110 (F := Ideal) x0 x1 x2 x3 x4 x5 x6 x7 x8 (ix2 r d) = normed x5 (Cert.OutProjIdeal.Val.prod x0 x1 x2 x3 x4) x6 x7 x8 r d := by
  refine row_cases (P := fun r => val_main_v110 (F := Ideal) x0 x1 x2 x3 x4 x5 x6 x7 x8 (ix2 r d) = normed x5 (Cert.OutProjIdeal.Val.prod x0 x1 x2 x3 x4) x6 x7 x8 r d)
    (fun b l => ?_) (fun b l => ?_) r
  · rw [← norm_ctx]
    pointwise [val_main_v110, val_main_v109, val_main_v108, rowC]
    exact pick_ctx (fun l => val_main_v57 (F := Ideal) x0 x1 x2 x3 x4 x5 x6 x8 (ix3 b l d)) (fun l => val_main_v105 (F := Ideal) x0 x1 x2 x3 x4 x5 x7 x8 (ix3 b l d)) b l
  · rw [← norm_lat]
    pointwise [val_main_v110, val_main_v109, val_main_v108, rowL]
    exact pick_lat (fun l => val_main_v57 (F := Ideal) x0 x1 x2 x3 x4 x5 x6 x8 (ix3 b l d)) (fun l => val_main_v105 (F := Ideal) x0 x1 x2 x3 x4 x5 x7 x8 (ix3 b l d)) b l

theorem ref_step : val_main_v107 (F := Ideal) x0 x1 x2 x3 x4 x5 x6 x7 x8 = Cert.OutProjIdeal.Val.res9 x0 x1 x2 x3 x4 x5 x6 x7 x8 :=
  funext fun i => (congrArg _ (eq_ix2 i)).trans (at_step x0 x1 x2 x3 x4 x5 x6 x7 x8 (i 0) (i 1))

theorem ref_norm : val_main_v110 (F := Ideal) x0 x1 x2 x3 x4 x5 x6 x7 x8 = Cert.OutProjIdeal.Val.res10 x0 x1 x2 x3 x4 x5 x6 x7 x8 :=
  funext fun i => (congrArg _ (eq_ix2 i)).trans (at_norm x0 x1 x2 x3 x4 x5 x6 x7 x8 (i 0) (i 1))

end Cert.OutProjRefIdeal.Val

end
-- ==== Proof.OutProjValue.lean ====
/- The output projection with the residual step and the norm: the kernel's two arrays and the reference's are one function of the arguments. -/
module

public import proofs.«01_k».proof.Defs
public import proofs.«01_k».proof.Proof.OutProjKernel
public import proofs.«01_k».proof.Proof.OutProjRef

@[expose] public section

set_option maxRecDepth 16384

noncomputable section

namespace Cert.Proof

open Idealize.ShloMosaic Idealize.ShloMosaic.TcCoe Idealize.SL.Sem

theorem algebraic_outProj : Cert.algebraic_OutProjIdeal_OutProjRefIdeal := fun m ρ m' ρ' _ hagree => by
  refine ⟨fun c => Cert.OutProjIdeal.Val.res9 (m ((c.tc : Thread Cert.OutProjIdeal.nD Cert.OutProjIdeal.τ).loc Cert.OutProjIdeal.main_arg0))
      (m ((c.tc : Thread Cert.OutProjIdeal.nD Cert.OutProjIdeal.τ).loc Cert.OutProjIdeal.main_arg1))
      (m ((c.tc : Thread Cert.OutProjIdeal.nD Cert.OutProjIdeal.τ).loc Cert.OutProjIdeal.main_arg2))
      (m ((c.tc : Thread Cert.OutProjIdeal.nD Cert.OutProjIdeal.τ).loc Cert.OutProjIdeal.main_arg3))
      (m ((c.tc : Thread Cert.OutProjIdeal.nD Cert.OutProjIdeal.τ).loc Cert.OutProjIdeal.main_arg4))
      (m ((c.tc : Thread Cert.OutProjIdeal.nD Cert.OutProjIdeal.τ).loc Cert.OutProjIdeal.main_arg5))
      (m ((c.tc : Thread Cert.OutProjIdeal.nD Cert.OutProjIdeal.τ).loc Cert.OutProjIdeal.main_arg6))
      (m ((c.tc : Thread Cert.OutProjIdeal.nD Cert.OutProjIdeal.τ).loc Cert.OutProjIdeal.main_arg7))
      (m ((c.tc : Thread Cert.OutProjIdeal.nD Cert.OutProjIdeal.τ).loc Cert.OutProjIdeal.main_arg8)),
    fun c => Cert.OutProjIdeal.Val.res10 (m ((c.tc : Thread Cert.OutProjIdeal.nD Cert.OutProjIdeal.τ).loc Cert.OutProjIdeal.main_arg0))
      (m ((c.tc : Thread Cert.OutProjIdeal.nD Cert.OutProjIdeal.τ).loc Cert.OutProjIdeal.main_arg1))
      (m ((c.tc : Thread Cert.OutProjIdeal.nD Cert.OutProjIdeal.τ).loc Cert.OutProjIdeal.main_arg2))
      (m ((c.tc : Thread Cert.OutProjIdeal.nD Cert.OutProjIdeal.τ).loc Cert.OutProjIdeal.main_arg3))
      (m ((c.tc : Thread Cert.OutProjIdeal.nD Cert.OutProjIdeal.τ).loc Cert.OutProjIdeal.main_arg4))
      (m ((c.tc : Thread Cert.OutProjIdeal.nD Cert.OutProjIdeal.τ).loc Cert.OutProjIdeal.main_arg5))
      (m ((c.tc : Thread Cert.OutProjIdeal.nD Cert.OutProjIdeal.τ).loc Cert.OutProjIdeal.main_arg6))
      (m ((c.tc : Thread Cert.OutProjIdeal.nD Cert.OutProjIdeal.τ).loc Cert.OutProjIdeal.main_arg7))
      (m ((c.tc : Thread Cert.OutProjIdeal.nD Cert.OutProjIdeal.τ).loc Cert.OutProjIdeal.main_arg8)),
    (θ_run Cert.OutProjIdeal.defs _ _).mono (fun r h c => ⟨(h c).1.trans (Cert.OutProjIdeal.Val.final9 m c), (h c).2.1.trans (Cert.OutProjIdeal.Val.final10 m c), (h c).2.2⟩)
      (Cert.OutProjIdeal.Value.run_blocks m ρ),
    (θ_run Cert.OutProjRefIdeal.defs _ _).mono (fun r h c => ⟨(h c).1.trans ?_, (h c).2.1.trans ?_, (h c).2.2⟩) (Cert.OutProjRefIdeal.Value.run (F := Ideal) m' ρ')⟩
  · rw [Cert.OutProjRefIdeal.Read.val_main_v107_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact Cert.OutProjRefIdeal.Val.ref_step _ _ _ _ _ _ _ _ _
  · rw [Cert.OutProjRefIdeal.Read.val_main_v110_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact Cert.OutProjRefIdeal.Val.ref_norm _ _ _ _ _ _ _ _ _

end Cert.Proof

end
-- ==== Proof.InProjValue.lean ====
/- The input projection `h @ w`: the array the kernel writes, element by element, and the reference's array. -/
module

public import proofs.«01_k».proof.Defs
public import proofs.«01_k».proof.Proof.Gen.InProjIdeal.Value
public import proofs.«01_k».proof.Proof.Gen.InProjRefIdeal.Read
public import Idealize.ShloMosaic.Lib.Pipeline.ValueKit
public import Idealize.ShloMosaic.Lib.Pointwise

@[expose] public section

set_option maxRecDepth 16384

noncomputable section

namespace Cert.InProjIdeal.Val

open Cert.InProjIdeal Cert.InProjIdeal.Gen Idealize.ShloMosaic Idealize.ShloMosaic.TcCoe Idealize.SL.Sem

variable (m : (ℓ : Loc nD τ sig) → Buf (Elt Ideal) ℓ)

/-- The product at row `r`, column `j`. -/
def prod (h : FVec Ideal S9216x2048 .bf16) (w : FVec Ideal S2048x6400 .bf16) : FVec Ideal S9216x6400 .bf16 :=
  fun i => ∑ k : Fin 2048, h (ix2 (i 0) k) * w (ix2 k (i 1))

theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

theorem final (c : Dev nD) : (dats m 0 c).arrAt 2 cfg0.N = prod (V m c main_arg0) (V m c main_arg1) := by
  refine (dats m 0 c).arrAt_eq_of_covers 2 _ (by decide +kernel) fun t hf y => ?_
  blk_simp
  rw [after0_2]
  frame_out
  obtain ⟨e0, e1, e2⟩ := idx t
  pointwise [k0_pay1, prod]
  blk_point [iblk, V, e0, e1, e2]

end Cert.InProjIdeal.Val

namespace Cert.InProjRefIdeal.Val

open Cert.InProjRefIdeal Cert.InProjRefIdeal.Gen Idealize.ShloMosaic Idealize.ShloMosaic.TcCoe Idealize.SL.Sem

/-- The reference's result is the same product. -/
theorem ref_eq (h : FVec Ideal S9216x2048 .bf16) (w : FVec Ideal S2048x6400 .bf16) :
    Read.val_main_v3 (F := Ideal) h w = Cert.InProjIdeal.Val.prod h w := by
  funext i
  unfold Read.val_main_v3 Read.val_main_v2 Read.val_main_v0 Read.val_main_v1 Cert.InProjIdeal.Val.prod
  pointwise

end Cert.InProjRefIdeal.Val

namespace Cert.Proof

open Idealize.ShloMosaic Idealize.ShloMosaic.TcCoe Idealize.SL.Sem

/-- The kernel's product and the reference's are one function of the arguments. -/
theorem algebraic_inProj : Cert.algebraic_InProjIdeal_InProjRefIdeal := fun m ρ m' ρ' _ hagree => by
  refine ⟨fun c => Cert.InProjIdeal.Val.prod (m ((c.tc : Thread Cert.InProjIdeal.nD Cert.InProjIdeal.τ).loc Cert.InProjIdeal.main_arg0)) (m ((c.tc : Thread Cert.InProjIdeal.nD Cert.InProjIdeal.τ).loc Cert.InProjIdeal.main_arg1)),
    (θ_run Cert.InProjIdeal.defs _ _).mono (fun r h c => ⟨(h c).1.trans (Cert.InProjIdeal.Val.final m c), (h c).2⟩)
      (Cert.InProjIdeal.Value.run_blocks m ρ),
    (θ_run Cert.InProjRefIdeal.defs _ _).mono (fun r h c => ⟨(h c).1.trans ?_, (h c).2⟩) (Cert.InProjRefIdeal.Value.run (F := Ideal) m' ρ')⟩
  rw [(hagree c).1, (hagree c).2]
  exact Cert.InProjRefIdeal.Val.ref_eq _ _

end Cert.Proof

end
-- ==== Proof.MlaMath.lean ====
/- The latent attention's projections as one function of a row: the norms, the products of every head, and the rotation by position. -/
module

public import Idealize.ShloMosaic.Lib.Pointwise
public import Idealize.ShloMosaic.PureOps.Ideal

@[expose] public section

noncomputable section

namespace Cert.Mla

open Idealize.ShloMosaic

/-- A row over its root mean square, scaled channel by channel; `cnt` is the number of channels as the programs spell it. -/
def normed {n : ℕ} (cnt : BitVec 32) (x g : Fin n → EReal) (j : Fin n) : EReal :=
  x j * Ideal.rsqrt (Ideal.div (∑ k, x k * x k) (Ideal.ofBits .f32 cnt) + Ideal.ofBits .f32 0x358637BD#32) * g j

/-- The product of a row with column `j` of a matrix. -/
def prod {n k : ℕ} (x : Fin n → EReal) (w : Fin n → Fin k → EReal) (j : Fin k) : EReal := ∑ i, x i * w i j

/-- The angular speed of pair `k`: `10000 ^ (-2k / 32)`. -/
def speed (k : ℕ) : EReal :=
  Ideal.pow (Ideal.ofBits .f32 0x461C4000#32)
    (Ideal.div (-(Ideal.ofBits .f32 0x40000000#32 * FloatOps.sitofp (F := Ideal) .f32 (BitVec.ofNat 32 k))) (Ideal.ofBits .f32 0x42000000#32))

/-- The angle of pair `k` at place `n` of an axis. -/
def angle (n k : ℕ) : EReal := FloatOps.sitofp (F := Ideal) .f32 (BitVec.ofNat 32 n) * speed k

/-- The angle of rotated channel `e` at latent row `l`: the first half of the channels turns with the row of the grid, the second with its column. -/
def turn (l : ℕ) (e : ℕ) : EReal := if e < 32 then angle (l / 64) (e % 16) else angle (l % 64) (e % 16)

/-- The rotation at latent row `l`: channels 16 apart are a pair. -/
def rotate (l : ℕ) (x : Fin 64 → EReal) (e : Fin 64) : EReal :=
  if h : e.val % 32 < 16 then x e * Ideal.cos (turn l e.val) - x ⟨e.val + 16, by omega⟩ * Ideal.sin (turn l e.val)
  else x e * Ideal.cos (turn l e.val) + x ⟨e.val - 16, by omega⟩ * Ideal.sin (turn l e.val)

/-- The rotation of a sample's row: the context rows are left as they are. -/
def rope (l : Fin 2304) (x : Fin 64 → EReal) (e : Fin 64) : EReal := if l.val < 256 then x e else rotate (l.val - 256) x e

/-- A head's query: its channels scaled, the last 64 rotated before that, and 64 zeros. -/
def query (s : EReal) (l : Fin 2304) (y : Fin 192 → EReal) (d : Fin 256) : EReal :=
  if h : d.val < 128 then y ⟨d.val, by omega⟩ * s
  else if h : d.val < 192 then rope l (fun e => y ⟨128 + e.val, by omega⟩) ⟨d.val - 128, by omega⟩ * s else 0

/-- A head's key: its own channels, then the rotated channels every head shares, then the spare ones. -/
def key (l : Fin 2304) (y : Fin 128 → EReal) (z : Fin 128 → EReal) (d : Fin 256) : EReal :=
  if h : d.val < 128 then y ⟨d.val, h⟩
  else if h : d.val < 192 then rope l (fun e => z ⟨e.val, by omega⟩) ⟨d.val - 128, by omega⟩ else z ⟨d.val - 128, by omega⟩

/-- A query channel, case by case. -/
theorem query_cases {s : EReal} {l : Fin 2304} {y : Fin 192 → EReal} {d : Fin 256} {X : EReal} (h0 : ∀ h : d.val < 128, X = y ⟨d.val, by omega⟩ * s)
    (h1 : ∀ h : 128 ≤ d.val ∧ d.val < 192, X = rope l (fun e => y ⟨128 + e.val, by omega⟩) ⟨d.val - 128, by omega⟩ * s)
    (h2 : ¬ d.val < 192 → X = 0) : X = query s l y d := by
  unfold query
  split_ifs with ha hb
  · exact h0 ha
  · exact h1 ⟨by omega, hb⟩
  · exact h2 hb

/-- A key channel, case by case. -/
theorem key_cases {l : Fin 2304} {y z : Fin 128 → EReal} {d : Fin 256} {X : EReal} (h0 : ∀ h : d.val < 128, X = y ⟨d.val, h⟩)
    (h1 : ∀ h : 128 ≤ d.val ∧ d.val < 192, X = rope l (fun e => z ⟨e.val, by omega⟩) ⟨d.val - 128, by omega⟩)
    (h2 : ∀ h : ¬ d.val < 192, X = z ⟨d.val - 128, by omega⟩) : X = key l y z d := by
  unfold key
  split_ifs with ha hb
  · exact h0 ha
  · exact h1 ⟨by omega, hb⟩
  · exact h2 hb

/-- The rotation from its four quarters of channels: the two halves of the pairs that turn with the row of the grid, then those that turn
    with its column. -/
theorem rotate_quarters {l : ℕ} {x : Fin 64 → EReal} {e : Fin 64} {X : EReal}
    (h0 : ∀ h : e.val < 16, X = x e * Ideal.cos (angle (l / 64) e.val) - x ⟨16 + e.val, by omega⟩ * Ideal.sin (angle (l / 64) e.val))
    (h1 : ∀ h : 16 ≤ e.val ∧ e.val < 32, X = x e * Ideal.cos (angle (l / 64) (e.val - 16)) + x ⟨e.val - 16, by omega⟩ * Ideal.sin (angle (l / 64) (e.val - 16)))
    (h2 : ∀ h : 32 ≤ e.val ∧ e.val < 48, X = x e * Ideal.cos (angle (l % 64) (e.val - 32)) - x ⟨16 + e.val, by omega⟩ * Ideal.sin (angle (l % 64) (e.val - 32)))
    (h3 : ∀ h : 48 ≤ e.val, X = x e * Ideal.cos (angle (l % 64) (e.val - 48)) + x ⟨e.val - 16, by omega⟩ * Ideal.sin (angle (l % 64) (e.val - 48))) :
    X = rotate l x e := by
  have low : ∀ n k, k < 16 → e.val % 16 = k → turn l e.val = angle n (e.val % 16) → e.val % 32 < 16 → ∀ hb : 16 + e.val < 64,
      x e * Ideal.cos (angle n k) - x ⟨16 + e.val, hb⟩ * Ideal.sin (angle n k) = rotate l x e := fun n k _ hk ht hl hb => by
    unfold rotate
    rw [dif_pos hl, ht, hk]
    exact congrArg (_ - x · * _) (Fin.ext (Nat.add_comm _ _))
  have high : ∀ n k, k < 16 → e.val % 16 = k → turn l e.val = angle n (e.val % 16) → ¬ e.val % 32 < 16 →
      x e * Ideal.cos (angle n k) + x ⟨e.val - 16, by omega⟩ * Ideal.sin (angle n k) = rotate l x e := fun n k _ hk ht hl => by
    unfold rotate
    rw [dif_neg hl, ht, hk]
  have row : e.val < 32 → turn l e.val = angle (l / 64) (e.val % 16) := fun h => if_pos h
  have col : ¬ e.val < 32 → turn l e.val = angle (l % 64) (e.val % 16) := fun h => if_neg h
  rcases Nat.lt_or_ge e.val 16 with a | a
  · exact (h0 a).trans (low _ _ (by omega) (by omega) (row (by omega)) (by omega) _)
  rcases Nat.lt_or_ge e.val 32 with b | b
  · exact (h1 ⟨a, b⟩).trans (high _ _ (by omega) (by omega) (row b) (by omega))
  rcases Nat.lt_or_ge e.val 48 with c | c
  · exact (h2 ⟨b, c⟩).trans (low _ _ (by omega) (by omega) (col (by omega)) (by omega) _)
  · exact (h3 c).trans (high _ _ (by omega) (by omega) (col (by omega)) (by omega))

/-- The rotation as the reference lays it out: the two halves of the channels apart, each cut into its sixteen pairs. -/
theorem rotate_nested {l : ℕ} (x : Fin 64 → EReal) (A B : Fin 16 → EReal) (hA : ∀ k, A k = angle (l / 64) k.val) (hB : ∀ k, B k = angle (l % 64) k.val)
    (e : Fin 64) :
    (if h1 : e.val < 32 then
      if h2 : e.val < 16 then x e * Ideal.cos (A ⟨e.val, h2⟩) - x ⟨16 + e.val, by omega⟩ * Ideal.sin (A ⟨e.val, h2⟩)
      else x ⟨16 + (e.val - 16), by omega⟩ * Ideal.cos (A ⟨e.val - 16, by omega⟩) + x ⟨e.val - 16, by omega⟩ * Ideal.sin (A ⟨e.val - 16, by omega⟩)
    else
      if h2 : e.val - 32 < 16 then x ⟨32 + (e.val - 32), by omega⟩ * Ideal.cos (B ⟨e.val - 32, h2⟩)
        - x ⟨32 + (16 + (e.val - 32)), by omega⟩ * Ideal.sin (B ⟨e.val - 32, h2⟩)
      else x ⟨32 + (16 + (e.val - 32 - 16)), by omega⟩ * Ideal.cos (B ⟨e.val - 32 - 16, by omega⟩)
        + x ⟨32 + (e.val - 32 - 16), by omega⟩ * Ideal.sin (B ⟨e.val - 32 - 16, by omega⟩))
      = rotate l x e := by
  have pick : ∀ (n : ℕ) (hn : n < 64) (k : Fin 64), n = k.val → x ⟨n, hn⟩ = x k := fun n hn k h => congrArg x (Fin.ext h)
  refine rotate_quarters (fun h => ?_) (fun h => ?_) (fun h => ?_) fun h => ?_
  · rw [dif_pos (by omega), dif_pos h, hA]
  · rw [dif_pos h.2, dif_neg (by omega), hA, pick _ _ e (by omega)]
  · rw [dif_neg (by omega), dif_pos (by omega), hB, pick (32 + (e.val - 32)) _ e (by omega),
      pick (32 + (16 + (e.val - 32))) _ ⟨16 + e.val, by omega⟩ (by dsimp only; omega)]
  · rw [dif_neg (by omega), dif_neg (by omega), hB, pick (32 + (16 + (e.val - 32 - 16))) _ e (by omega),
      pick (32 + (e.val - 32 - 16)) _ ⟨e.val - 16, by omega⟩ (by dsimp only; omega)]
    dsimp only
    rw [show e.val - 32 - 16 = e.val - 48 by omega]

/-! ## The rotation by tables -/

def cosAt (l : Fin 2304) (d : Fin 256) : EReal :=
  if l.val < 256 then 1 else if 128 ≤ d.val ∧ d.val < 192 then Ideal.cos (turn (l.val - 256) (d.val - 128)) else 1

def upAt (l : Fin 2304) (d : Fin 256) : EReal :=
  if l.val < 256 then 0 else if (128 ≤ d.val ∧ d.val < 192) ∧ (d.val - 128) % 32 < 16 then -Ideal.sin (turn (l.val - 256) (d.val - 128)) else 0

def downAt (l : Fin 2304) (d : Fin 256) : EReal :=
  if l.val < 256 then 0 else if (128 ≤ d.val ∧ d.val < 192) ∧ ¬ (d.val - 128) % 32 < 16 then Ideal.sin (turn (l.val - 256) (d.val - 128)) else 0

/-- The channel times the cosine, the one 16 above and the one 16 below times the two sine tables. -/
def byTables (x c u w : Fin 256 → EReal) (d : Fin 256) : EReal :=
  x d * c d + x ⟨(d.val + 256 - 240) % 256, by omega⟩ * u d + x ⟨(d.val + 256 - 16) % 256, by omega⟩ * w d

/-- The rotation by tables turns channels 128 to 191 and keeps the others. -/
theorem byTables_eq (l : Fin 2304) (x : Fin 256 → EReal) (d : Fin 256) :
    byTables x (cosAt l) (upAt l) (downAt l) d
      = if h : 128 ≤ d.val ∧ d.val < 192 then rope l (fun e => x ⟨128 + e.val, by omega⟩) ⟨d.val - 128, by omega⟩ else x d := by
  have keep : x d * 1 + x ⟨(d.val + 256 - 240) % 256, by omega⟩ * 0 + x ⟨(d.val + 256 - 16) % 256, by omega⟩ * 0 = x d := by
    rw [mul_one, mul_zero, mul_zero, add_zero, add_zero]
  unfold byTables cosAt upAt downAt rope
  by_cases hl : l.val < 256
  · simp only [if_pos hl]
    refine keep.trans ?_
    split_ifs with h
    · exact congrArg x (Fin.ext (by show d.val = 128 + (d.val - 128); omega))
    · rfl
  simp only [if_neg hl]
  by_cases hd : 128 ≤ d.val ∧ d.val < 192
  · rw [dif_pos hd, if_pos hd]
    have e0 : x ⟨128 + (d.val - 128), by omega⟩ = x d := congrArg x (Fin.ext (by show 128 + (d.val - 128) = d.val; omega))
    unfold rotate
    by_cases hp : (d.val - 128) % 32 < 16
    · rw [if_pos ⟨hd, hp⟩, if_neg fun h => h.2 hp, dif_pos hp, mul_zero, add_zero, mul_neg, ← sub_eq_add_neg]
      refine congrArg₂ (· - ·) (congrArg (· * _) e0.symm) (congrArg (· * _) (congrArg x (Fin.ext ?_)))
      show (d.val + 256 - 240) % 256 = 128 + (d.val - 128 + 16)
      omega
    · rw [if_neg fun h => hp h.2, if_pos ⟨hd, hp⟩, dif_neg hp, mul_zero, add_zero]
      refine congrArg₂ (· + ·) (congrArg (· * _) e0.symm) (congrArg (· * _) (congrArg x (Fin.ext ?_)))
      show (d.val + 256 - 16) % 256 = 128 + (d.val - 128 - 16)
      omega
  · rw [dif_neg hd, if_neg hd, if_neg fun h => hd h.1, if_neg fun h => hd h.1]
    exact keep

/-- The query by tables, from the head's channels padded with zeros. -/
theorem query_eq (s : EReal) (l : Fin 2304) (y : Fin 192 → EReal) (x : Fin 256 → EReal)
    (hx : ∀ d : Fin 256, x d = if h : d.val < 192 then y ⟨d.val, h⟩ else 0) (d : Fin 256) :
    byTables x (cosAt l) (upAt l) (downAt l) d * s = query s l y d := by
  rw [byTables_eq]
  unfold query
  rcases Nat.lt_or_ge d.val 128 with h | h
  · rw [dif_neg (by omega), dif_pos h, hx, dif_pos (by omega)]
  rcases Nat.lt_or_ge d.val 192 with h' | h'
  · rw [dif_pos ⟨h, h'⟩, dif_neg (by omega), dif_pos h']
    have e : (fun e : Fin 64 => x ⟨128 + e.val, by omega⟩) = fun e => y ⟨128 + e.val, by omega⟩ := funext fun e => by
      rw [hx, dif_pos (by show 128 + e.val < 192; omega)]
    rw [e]
  · rw [dif_neg (by omega), dif_neg (by omega), dif_neg (by omega), hx, dif_neg (by omega), zero_mul]

/-- The key by tables, from the head's own channels beside the shared ones. -/
theorem key_eq (l : Fin 2304) (y z : Fin 128 → EReal) (x : Fin 256 → EReal)
    (hx : ∀ d : Fin 256, x d = if h : d.val < 128 then y ⟨d.val, h⟩ else z ⟨d.val - 128, by omega⟩) (d : Fin 256) :
    byTables x (cosAt l) (upAt l) (downAt l) d = key l y z d := by
  rw [byTables_eq]
  unfold key
  rcases Nat.lt_or_ge d.val 128 with h | h
  · rw [dif_neg (by omega), dif_pos h, hx, dif_pos h]
  rcases Nat.lt_or_ge d.val 192 with h' | h'
  · rw [dif_pos ⟨h, h'⟩, dif_neg (by omega), dif_pos h']
    have e : (fun e : Fin 64 => x ⟨128 + e.val, by omega⟩) = fun e => z ⟨e.val, by omega⟩ := funext fun e => by
      rw [hx, dif_neg (by show ¬ 128 + e.val < 128; omega)]
      exact congrArg z (Fin.ext (by show 128 + e.val - 128 = e.val; omega))
    rw [e]
  · rw [dif_neg (by omega), dif_neg (by omega), dif_neg (by omega), hx, dif_neg (by omega)]

end Cert.Mla

end
-- ==== Proof.MlaProjKernel.lean ====
/- The latent attention's projections: the blocks a grid point writes, from what its inputs hold. -/
module

public import proofs.«01_k».proof.Defs
public import proofs.«01_k».proof.Proof.Gen.MlaProjIdeal.Value
public import proofs.«01_k».proof.Proof.MlaMath
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.MlaProjIdeal.Val

open Cert.MlaProjIdeal Cert.MlaProjIdeal.Gen Cert.Mla Idealize.ShloMosaic Idealize.ShloMosaic.TcCoe Idealize.SL.Sem

variable (m : (ℓ : Loc nD τ sig) → Buf (Elt Ideal) ℓ)

/-- The scale of the queries. -/
def scale : EReal := Named.named (F := Ideal) κ (φ := .f32) "logit_scale" 0x3DD53B95#32

/-- Column `d` of head `h`, of the four heads of 256. -/
def headCol (h : Fin 4) (d : Fin 256) : Fin 1024 := ⟨h.val * 256 + d.val, by omega⟩

/-! ## The payloads -/

/-- Row `r` of a block. -/
def row256 (x : FVec Ideal S768x256 .f32) (r : Fin 768) (d : Fin 256) : EReal := x (ix2 r d)

/-- The normed query channels of a block's row. -/
def nq (x0 : FVec Ideal S768x768 .bf16) (x1 : FVec Ideal S1x384 .f32) (r : Fin 768) : Fin 384 → EReal :=
  normed 0x43C00000#32 (fun j => x0 (ix2 r ⟨j.val, by omega⟩)) (fun j => x1 (ix2 0 j))

/-- The normed key-value channels of a block's row. -/
def nkv (x0 : FVec Ideal S768x768 .bf16) (x2 : FVec Ideal S1x256 .f32) (r : Fin 768) : Fin 256 → EReal :=
  normed 0x43800000#32 (fun j => x0 (ix2 r ⟨384 + j.val, by omega⟩)) (fun j => x2 (ix2 0 j))

theorem pay7 (x0 : FVec Ideal S768x768 .bf16) (x1 : FVec Ideal S1x384 .f32) (x3 : FVec Ideal S384x1024 .bf16) (r : Fin 768) (j : Fin 1024) :
    k0_pay7 (F := Ideal) x0 x1 x3 (ix2 r j) = prod (nq x0 x1 r) (fun k j => x3 (ix2 k j)) j := by
  pointwise [k0_pay7, k0_pay4, prod, nq, normed]

theorem pay6 (x0 : FVec Ideal S768x768 .bf16) (x2 : FVec Ideal S1x256 .f32) (r : Fin 768) (j : Fin 256) :
    k0_pay6 (F := Ideal) x0 x2 (ix2 r j) = nkv x0 x2 r j := by
  pointwise [k0_pay6, k0_pay4, nkv, normed]

theorem pay10 (x0 : FVec Ideal S768x768 .bf16) (x2 : FVec Ideal S1x256 .f32) (x4 : FVec Ideal S256x1024 .bf16) (r : Fin 768) (j : Fin 1024) :
    k0_pay10 (F := Ideal) (k0_pay8 x4) (k0_pay9 x0 x2) (constant S768x1024 FTy.f32 0#32) (ix2 r j) = prod (nkv x0 x2 r) (fun k j => x4 (ix2 k j)) j := by
  pointwise [k0_pay10, k0_pay8, k0_pay9, k0_pay6, k0_pay4, nkv, normed, prod]

theorem pay11 (x0 : FVec Ideal S768x768 .bf16) (x2 : FVec Ideal S1x256 .f32) (x5 : FVec Ideal S256x512 .bf16) (r : Fin 768) (j : Fin 512) :
    k0_pay11 (F := Ideal) (k0_pay6 x0 x2) x5 (ix2 r j) = prod (nkv x0 x2 r) (fun k j => x5 (ix2 k j)) j := by
  pointwise [k0_pay11, k0_pay6, k0_pay4, nkv, normed, prod]

theorem pay15 (x0 : FVec Ideal S768x768 .bf16) (r : Fin 768) (d : Fin 256) :
    k0_pay15 (F := Ideal) (k0_pay5 x0) (ix2 r d) = if h : d.val < 128 then 0 else x0 (ix2 r ⟨640 + (d.val - 128), by omega⟩) := by
  pointwise [k0_pay15, k0_pay5, k0_pay4]

/-- Head `h` of a block's row, by the block's own tables. -/
def headOf (Q : FVec Ideal S768x1024 .f32) (c u w : FVec Ideal S768x256 .f32) (h : Fin 4) (r : Fin 768) : Fin 256 → EReal :=
  byTables (fun d => Q (ix2 r (headCol h d))) (row256 c r) (row256 u r) (row256 w r)

theorem pay16 (Q : FVec Ideal S768x1024 .f32) (c u w : FVec Ideal S768x256 .f32) (r : Fin 768) (d : Fin 256) :
    k0_pay16 (F := Ideal) Q c u w (ix2 r d) = headOf Q c u w 0 r d * scale := by
  pointwise [k0_pay16, k0_pay12, k0_pay13, k0_pay14, headOf, byTables, row256, headCol, scale]

theorem pay18 (Q : FVec Ideal S768x1024 .f32) (c u w : FVec Ideal S768x256 .f32) (r : Fin 768) (d : Fin 256) :
    k0_pay18 (F := Ideal) Q (k0_pay12 c) (k0_pay13 u) (k0_pay14 w) (ix2 r d) = headOf Q c u w 1 r d * scale := by
  pointwise [k0_pay18, k0_pay12, k0_pay13, k0_pay14, headOf, byTables, row256, headCol, scale]

theorem pay20 (Q : FVec Ideal S768x1024 .f32) (c u w : FVec Ideal S768x256 .f32) (r : Fin 768) (d : Fin 256) :
    k0_pay20 (F := Ideal) Q (k0_pay12 c) (k0_pay13 u) (k0_pay14 w) (ix2 r d) = headOf Q c u w 2 r d * scale := by
  pointwise [k0_pay20, k0_pay12, k0_pay13, k0_pay14, headOf, byTables, row256, headCol, scale]

theorem pay2 (Q : FVec Ideal S768x1024 .f32) (c u w : FVec Ideal S768x256 .f32) (r : Fin 768) (d : Fin 256) :
    k0_pay2 (F := Ideal) Q (k0_pay12 c) (k0_pay13 u) (k0_pay14 w) (ix2 r d) = headOf Q c u w 3 r d * scale := by
  pointwise [k0_pay2, k0_pay12, k0_pay13, k0_pay14, headOf, byTables, row256, headCol, scale]

/-- Head `h` of a block's row with the shared channels added, by the block's own tables. -/
def sumOf (K : FVec Ideal S768x1024 .f32) (z c u w : FVec Ideal S768x256 .f32) (h : Fin 4) (r : Fin 768) : Fin 256 → EReal :=
  byTables (fun d => K (ix2 r (headCol h d)) + z (ix2 r d)) (row256 c r) (row256 u r) (row256 w r)

theorem pay17 (y : FVec Ideal S768x128 .f32) (a : FVec Ideal S256x1024 .bf16) (b : FVec Ideal S768x256 .bf16) (e : FVec Ideal S768x1024 .f32)
    (c u w : FVec Ideal S768x256 .f32) (r : Fin 768) (d : Fin 256) :
    k0_pay17 (F := Ideal) y a b e c u w (ix2 r d) = sumOf (k0_pay10 a b e) (k0_pay15 y) c u w 0 r d := by
  unfold k0_pay17
  generalize k0_pay10 a b e = K
  generalize k0_pay15 y = z
  pointwise [k0_pay12, k0_pay13, k0_pay14, sumOf, byTables, row256, headCol]

theorem pay19 (K : FVec Ideal S768x1024 .f32) (z c u w : FVec Ideal S768x256 .f32) (r : Fin 768) (d : Fin 256) :
    k0_pay19 (F := Ideal) K (k0_pay12 c) (k0_pay13 u) (k0_pay14 w) z (ix2 r d) = sumOf K z c u w 1 r d := by
  pointwise [k0_pay19, k0_pay12, k0_pay13, k0_pay14, sumOf, byTables, row256, headCol]

theorem pay1 (K : FVec Ideal S768x1024 .f32) (z c u w : FVec Ideal S768x256 .f32) (r : Fin 768) (d : Fin 256) :
    k0_pay1 (F := Ideal) (k0_pay14 w) (k0_pay21 K z) (k0_pay22 K (k0_pay12 c) z) (k0_pay23 K (k0_pay13 u) z) (ix2 r d) = sumOf K z c u w 2 r d := by
  pointwise [k0_pay1, k0_pay21, k0_pay22, k0_pay23, k0_pay12, k0_pay13, k0_pay14, sumOf, byTables, row256, headCol]

theorem pay3 (K : FVec Ideal S768x1024 .f32) (z c u w : FVec Ideal S768x256 .f32) (r : Fin 768) (d : Fin 256) :
    k0_pay3 (F := Ideal) K (k0_pay12 c) (k0_pay13 u) (k0_pay14 w) z (ix2 r d) = sumOf K z c u w 3 r d := by
  pointwise [k0_pay3, k0_pay12, k0_pay13, k0_pay14, sumOf, byTables, row256, headCol]

/-! ## The blocks a grid point writes -/

/-- Which head and channel an element of a tile of 256 columns is. -/
theorem piece {r : Fin 768} {j : Fin 1024} {h : Fin 4} {d : Fin 256} (hj : j.val = h.val * 256 + d.val) (x : S768x256.Idx) (g : Fin 4)
    (h0 : r.val = (x 0).val) (h1 : j.val = g.val * 256 + (x 1).val) : h = g ∧ x = ix2 r d := by
  have hx : (x 1).val < 256 := (x 1).isLt
  refine ⟨Fin.ext (by omega), (eq_ix2 x).trans (congrArg₂ ix2 (Fin.ext h0.symm) (Fin.ext ?_))⟩
  show (x 1).val = d.val
  omega

theorem out9 (c : Dev nD) (t : Fin cfg0.N) (x0 : FVec Ideal S768x768 .bf16) (x1 : FVec Ideal S1x384 .f32) (x2 : FVec Ideal S1x256 .f32)
    (x3 : FVec Ideal S384x1024 .bf16) (x4 : FVec Ideal S256x1024 .bf16) (x5 : FVec Ideal S256x512 .bf16) (x6 x7 x8 : FVec Ideal S768x256 .f32)
    (r : Fin 768) (j : Fin 1024) (h : Fin 4) (d : Fin 256) (hj : j.val = h.val * 256 + d.val) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) x0 x1 x2 x3 x4 x5 x6 x7 x8
        (ix2 r j) = headOf (k0_pay7 x0 x1 x3) x6 x7 x8 h r d * scale := by
  frame_out
  canon_tiles x hx
  · obtain ⟨rfl, rfl⟩ := piece hj x 3 hx0 hx1
    exact pay2 _ x6 x7 x8 r d
  · obtain ⟨rfl, rfl⟩ := piece hj x 2 hx0 hx1
    exact pay20 _ x6 x7 x8 r d
  · obtain ⟨rfl, rfl⟩ := piece hj x 1 hx0 hx1
    exact pay18 _ x6 x7 x8 r d
  · obtain ⟨rfl, rfl⟩ := piece hj x 0 hx0 (hx1.trans (Nat.zero_add _).symm)
    exact pay16 _ x6 x7 x8 r d

theorem out10 (c : Dev nD) (t : Fin cfg0.N) (x0 : FVec Ideal S768x768 .bf16) (x1 : FVec Ideal S1x384 .f32) (x2 : FVec Ideal S1x256 .f32)
    (x3 : FVec Ideal S384x1024 .bf16) (x4 : FVec Ideal S256x1024 .bf16) (x5 : FVec Ideal S256x512 .bf16) (x6 x7 x8 : FVec Ideal S768x256 .f32)
    (r : Fin 768) (j : Fin 1024) (h : Fin 4) (d : Fin 256) (hj : j.val = h.val * 256 + d.val) :
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) x0 x1 x2 x3 x4 x5 x6 x7 x8
        (ix2 r j) = sumOf (k0_pay10 (k0_pay8 x4) (k0_pay9 x0 x2) (constant S768x1024 FTy.f32 0#32)) (k0_pay15 (k0_pay5 x0)) x6 x7 x8 h r d := by
  frame_out
  canon_tiles x hx
  · obtain ⟨rfl, rfl⟩ := piece hj x 3 hx0 hx1
    exact pay3 _ _ x6 x7 x8 r d
  · obtain ⟨rfl, rfl⟩ := piece hj x 2 hx0 hx1
    exact pay1 _ _ x6 x7 x8 r d
  · obtain ⟨rfl, rfl⟩ := piece hj x 1 hx0 hx1
    exact pay19 _ _ x6 x7 x8 r d
  · obtain ⟨rfl, rfl⟩ := piece hj x 0 hx0 (hx1.trans (Nat.zero_add _).symm)
    exact pay17 _ _ _ _ x6 x7 x8 r d

theorem out11 (c : Dev nD) (t : Fin cfg0.N) (x0 : FVec Ideal S768x768 .bf16) (x1 : FVec Ideal S1x384 .f32) (x2 : FVec Ideal S1x256 .f32)
    (x3 : FVec Ideal S384x1024 .bf16) (x4 : FVec Ideal S256x1024 .bf16) (x5 : FVec Ideal S256x512 .bf16) (x6 x7 x8 : FVec Ideal S768x256 .f32)
    (r : Fin 768) (j : Fin 512) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) x0 x1 x2 x3 x4 x5 x6 x7 x8
        (ix2 r j) = prod (nkv x0 x2 r) (fun k j => x5 (ix2 k j)) j := by
  frame_out
  exact pay11 x0 x2 x5 r j

/-! ## What the host prepares -/

theorem angle_congr {n n' k k' : ℕ} (hn : n = n') (hk : k = k') : angle n k = angle n' k' := by rw [hn, hk]

theorem zero_word : FloatOps.sitofp (F := Ideal) FTy.f32 0#32 = (0 : EReal) := by
  show (((0#32 : BitVec 32).toInt : ℝ) : EReal) = 0
  norm_num

theorem v65 (c : Dev nD) (l : Fin 2304) (d : Fin 256) : V m c main_v65 (ix2 l d) = cosAt l d := by
  unfold V
  after_reads_at
  repeat after_reads_at
  unfold cosAt turn
  split_ifs
  all_goals first
    | (exfalso; omega)
    | exact congrArg Ideal.cos (angle_congr rfl (by omega))
    | rfl

theorem v71 (c : Dev nD) (l : Fin 2304) (d : Fin 256) : V m c main_v71 (ix2 l d) = upAt l d := by
  unfold V
  after_reads_at
  repeat after_reads_at
  unfold upAt turn
  split_ifs
  all_goals first
    | (exfalso; omega)
    | exact congrArg (fun x => -Ideal.sin x) (angle_congr rfl (by omega))
    | rfl

theorem v77 (c : Dev nD) (l : Fin 2304) (d : Fin 256) : V m c main_v77 (ix2 l d) = downAt l d := by
  unfold V
  after_reads_at
  repeat after_reads_at
  unfold downAt turn
  split_ifs
  all_goals first
    | (exfalso; omega)
    | exact congrArg Ideal.sin (angle_congr rfl (by omega))
    | rfl

theorem v78 (c : Dev nD) (j : Fin 384) : V m c main_v78 (ix2 0 j) = m (c, Proc.tc.devRef main_arg1) (ix1 j) := by
  unfold V
  after_reads_at

theorem v79 (c : Dev nD) (j : Fin 256) : V m c main_v79 (ix2 0 j) = m (c, Proc.tc.devRef main_arg2) (ix1 j) := by
  unfold V
  after_reads_at

/-- A row of the padded query weight: each head's 192 columns, then 64 zeros. -/
def padQ (w : Fin 768 → EReal) (j : Fin 1024) : EReal :=
  if j.val < 256 then if h : j.val < 192 then w ⟨j.val, by omega⟩ else 0
  else if j.val - 256 < 256 then if h : j.val - 256 < 192 then w ⟨192 + (j.val - 256), by omega⟩ else 0
  else if j.val - 256 - 256 < 256 then if h : j.val - 256 - 256 < 192 then w ⟨384 + (j.val - 256 - 256), by omega⟩ else 0
  else if h : j.val - 256 - 256 - 256 < 192 then w ⟨576 + (j.val - 256 - 256 - 256), by omega⟩ else 0

/-- A row of the padded key weight: the first 128 of each head's 256 columns, then 128 zeros. -/
def padK (w : Fin 1024 → EReal) (j : Fin 1024) : EReal :=
  if j.val < 256 then if j.val < 128 then w ⟨j.val, by omega⟩ else 0
  else if j.val - 256 < 256 then if j.val - 256 < 128 then w ⟨256 + (j.val - 256), by omega⟩ else 0
  else if j.val - 256 - 256 < 256 then if j.val - 256 - 256 < 128 then w ⟨512 + (j.val - 256 - 256), by omega⟩ else 0
  else if j.val - 256 - 256 - 256 < 128 then w ⟨768 + (j.val - 256 - 256 - 256), by omega⟩ else 0

theorem padQ_head (w : Fin 768 → EReal) (h : Fin 4) (d : Fin 256) :
    padQ w (headCol h d) = if hd : d.val < 192 then w ⟨h.val * 192 + d.val, by omega⟩ else 0 := by
  have e : (headCol h d).val = h.val * 256 + d.val := rfl
  generalize headCol h d = j at e
  unfold padQ
  split_ifs
  all_goals first
    | (exfalso; omega)
    | rfl
    | (refine congrArg w (Fin.ext ?_); dsimp only; omega)

theorem padK_head (w : Fin 1024 → EReal) (h : Fin 4) (d : Fin 256) :
    padK w (headCol h d) = if hd : d.val < 128 then w ⟨h.val * 256 + d.val, by omega⟩ else 0 := by
  have e : (headCol h d).val = h.val * 256 + d.val := rfl
  generalize headCol h d = j at e
  unfold padK
  split_ifs
  all_goals first
    | (exfalso; omega)
    | rfl
    | (refine congrArg w (Fin.ext ?_); dsimp only; omega)

theorem v23 (c : Dev nD) (k : Fin 384) (j : Fin 1024) : V m c main_v23 (ix2 k j) = padQ (fun n => m (c, Proc.tc.devRef main_arg3) (ix2 k n)) j := by
  unfold V
  after_reads_at
  repeat after_reads_at
  simp only [zero_word]
  rfl

theorem v24 (c : Dev nD) (k : Fin 256) (j : Fin 1024) : V m c main_v24 (ix2 k j) = padK (fun n => m (c, Proc.tc.devRef main_arg4) (ix2 k n)) j := by
  unfold V
  after_reads_at
  repeat after_reads_at
  simp only [zero_word]
  rfl

theorem v25 (c : Dev nD) (k : Fin 256) (j : Fin 512) (h : Fin 4) (d : Fin 128) (e : j.val = h.val * 128 + d.val) :
    V m c main_v25 (ix2 k j) = m (c, Proc.tc.devRef main_arg4) (ix2 k ⟨h.val * 256 + (128 + d.val), by omega⟩) := by
  unfold V
  after_reads_at
  repeat after_reads_at
  split_ifs
  all_goals exact congrArg (fun n => m (c, Proc.tc.devRef main_arg4) (ix2 k n)) (Fin.ext (by first | omega | (dsimp only <;> omega)))

/-! ## The arrays -/

theorem idx : ∀ t : Fin cfg0.N, win0_0.index t = ![(grid0.coords t 0).val * 3 + (grid0.coords t 1).val, 6]
    ∧ (win0_1.index t = ![0, 0] ∧ win0_2.index t = ![0, 0] ∧ win0_3.index t = ![0, 0] ∧ win0_4.index t = ![0, 0] ∧ win0_5.index t = ![0, 0])
    ∧ (win0_6.index t = ![(grid0.coords t 1).val, 0] ∧ win0_7.index t = ![(grid0.coords t 1).val, 0] ∧ win0_8.index t = ![(grid0.coords t 1).val, 0])
    ∧ win0_9.index t = ![(grid0.coords t 0).val * 3 + (grid0.coords t 1).val, 0]
    ∧ win0_10.index t = ![(grid0.coords t 0).val * 3 + (grid0.coords t 1).val, 0]
    ∧ win0_11.index t = ![(grid0.coords t 0).val * 3 + (grid0.coords t 1).val, 0] :=
  (by decide +kernel : ∀ t : Fin grid0.N, _)

/-- The sample row that row `r` of a grid point's block is. -/
def tileRow (t : Fin cfg0.N) (r : Fin 768) : Fin 2304 :=
  ⟨(grid0.coords t 1).val * 768 + r.val, by have h1 : (grid0.coords t 1).val < 3 := (grid0.coords t 1).isLt; omega⟩

/-- The array row that row `r` of a grid point's block is. -/
def arrRow (t : Fin cfg0.N) (r : Fin 768) : Fin 9216 :=
  ⟨((grid0.coords t 0).val * 3 + (grid0.coords t 1).val) * 768 + r.val, by
    have h0 : (grid0.coords t 0).val < 4 := (grid0.coords t 0).isLt
    have h1 : (grid0.coords t 1).val < 3 := (grid0.coords t 1).isLt
    omega⟩

theorem row6 (c : Dev nD) (t : Fin cfg0.N) (r : Fin 768) : row256 (iblk m c 6 t) r = cosAt (tileRow t r) := by
  obtain ⟨_, _, ⟨e, _⟩, _⟩ := idx t
  funext d
  refine Eq.trans ?_ (v65 m c (tileRow t r) d)
  unfold row256
  blk_ext [iblk, e, tileRow]

theorem row7 (c : Dev nD) (t : Fin cfg0.N) (r : Fin 768) : row256 (iblk m c 7 t) r = upAt (tileRow t r) := by
  obtain ⟨_, _, ⟨_, e, _⟩, _⟩ := idx t
  funext d
  refine Eq.trans ?_ (v71 m c (tileRow t r) d)
  unfold row256
  blk_ext [iblk, e, tileRow]

theorem row8 (c : Dev nD) (t : Fin cfg0.N) (r : Fin 768) : row256 (iblk m c 8 t) r = downAt (tileRow t r) := by
  obtain ⟨_, _, ⟨_, _, e⟩, _⟩ := idx t
  funext d
  refine Eq.trans ?_ (v77 m c (tileRow t r) d)
  unfold row256
  blk_ext [iblk, e, tileRow]

theorem blkP (c : Dev nD) (t : Fin cfg0.N) (r : Fin 768) (j : Fin 768) :
    X0_0 m c t (ix2 r j) = V m c main_arg0 (ix2 (arrRow t r) ⟨4608 + j.val, by omega⟩) := by
  obtain ⟨e, _⟩ := idx t
  unfold X0_0
  unfold Pipeline.Window.fill
  rw [dif_pos (moved0_0 t _)]
  blk_ext [iblk, e, arrRow]

/-- The normed query channels of an array row. -/
def nqRow (p : FVec Ideal S9216x6400 .bf16) (g : FVec Ideal S384 .f32) (R : Fin 9216) : Fin 384 → EReal :=
  normed 0x43C00000#32 (fun j => p (ix2 R ⟨4608 + j.val, by omega⟩)) (fun j => g (ix1 j))

/-- The normed key-value channels of an array row. -/
def nkvRow (p : FVec Ideal S9216x6400 .bf16) (g : FVec Ideal S256 .f32) (R : Fin 9216) : Fin 256 → EReal :=
  normed 0x43800000#32 (fun j => p (ix2 R ⟨4608 + (384 + j.val), by omega⟩)) (fun j => g (ix1 j))

/-- Query channel `d` of head `h` at array row `R`, which is row `l` of its sample. -/
def qAt (s : EReal) (p : FVec Ideal S9216x6400 .bf16) (g : FVec Ideal S384 .f32) (w : FVec Ideal S384x768 .f32)
    (R : Fin 9216) (l : Fin 2304) (h : Fin 4) (d : Fin 256) : EReal :=
  query s l (fun e => prod (nqRow p g R) (fun k j => w (ix2 k j)) ⟨h.val * 192 + e.val, by omega⟩) d

/-- Key channel `d` of head `h`. -/
def kAt (p : FVec Ideal S9216x6400 .bf16) (g : FVec Ideal S256 .f32) (w : FVec Ideal S256x1024 .f32)
    (R : Fin 9216) (l : Fin 2304) (h : Fin 4) (d : Fin 256) : EReal :=
  key l (fun e => prod (nkvRow p g R) (fun k j => w (ix2 k j)) ⟨h.val * 256 + e.val, by omega⟩)
    (fun e => p (ix2 R ⟨4608 + (640 + e.val), by omega⟩)) d

/-- Value channel `d` of head `h`. -/
def vAt (p : FVec Ideal S9216x6400 .bf16) (g : FVec Ideal S256 .f32) (w : FVec Ideal S256x1024 .f32)
    (R : Fin 9216) (h : Fin 4) (d : Fin 128) : EReal :=
  prod (nkvRow p g R) (fun k j => w (ix2 k j)) ⟨h.val * 256 + (128 + d.val), by omega⟩

/-- The row of its sample that an array row is. -/
def within (R : Fin 9216) : Fin 2304 := ⟨R.val % 2304, by omega⟩

/-- The queries. -/
def resQ (s : EReal) (p : FVec Ideal S9216x6400 .bf16) (g : FVec Ideal S384 .f32) (w : FVec Ideal S384x768 .f32) : FVec Ideal S9216x1024 .bf16 :=
  fun i => qAt s p g w (i 0) (within (i 0)) ⟨(i 1).val / 256, by have h : (i 1).val < 1024 := (i 1).isLt; omega⟩ ⟨(i 1).val % 256, by omega⟩

/-- The keys. -/
def resK (p : FVec Ideal S9216x6400 .bf16) (g : FVec Ideal S256 .f32) (w : FVec Ideal S256x1024 .f32) : FVec Ideal S9216x1024 .bf16 :=
  fun i => kAt p g w (i 0) (within (i 0)) ⟨(i 1).val / 256, by have h : (i 1).val < 1024 := (i 1).isLt; omega⟩ ⟨(i 1).val % 256, by omega⟩

/-- The values. -/
def resV (p : FVec Ideal S9216x6400 .bf16) (g : FVec Ideal S256 .f32) (w : FVec Ideal S256x1024 .f32) : FVec Ideal S9216x512 .bf16 :=
  fun i => vAt p g w (i 0) ⟨(i 1).val / 128, by have h : (i 1).val < 512 := (i 1).isLt; omega⟩ ⟨(i 1).val % 128, by omega⟩

theorem within_arrRow (t : Fin cfg0.N) (r : Fin 768) : within (arrRow t r) = tileRow t r := by
  have h1 : (grid0.coords t 1).val < 3 := (grid0.coords t 1).isLt
  refine Fin.ext ?_
  show (((grid0.coords t 0).val * 3 + (grid0.coords t 1).val) * 768 + r.val) % 2304 = (grid0.coords t 1).val * 768 + r.val
  omega

theorem blk_nq (c : Dev nD) (t : Fin cfg0.N) (r : Fin 768) :
    nq (X0_0 m c t) (iblk m c 1 t) r = nqRow (V m c main_arg0) (m (c, Proc.tc.devRef main_arg1)) (arrRow t r) := by
  obtain ⟨_, ⟨e, _⟩, _⟩ := idx t
  refine congrArg₂ (normed _) (funext fun j => blkP m c t r ⟨j.val, by omega⟩) (funext fun j => Eq.trans ?_ (v78 m c j))
  blk_ext [iblk, e]

theorem blk_nkv (c : Dev nD) (t : Fin cfg0.N) (r : Fin 768) :
    nkv (X0_0 m c t) (iblk m c 2 t) r = nkvRow (V m c main_arg0) (m (c, Proc.tc.devRef main_arg2)) (arrRow t r) := by
  obtain ⟨_, ⟨_, e, _⟩, _⟩ := idx t
  refine congrArg₂ (normed _) (funext fun j => blkP m c t r ⟨384 + j.val, by omega⟩) (funext fun j => Eq.trans ?_ (v79 m c j))
  blk_ext [iblk, e]

/-- A head's padded products: its own columns, then zeros. -/
theorem prod_pad {n N q : ℕ} (x : Fin n → EReal) (w : Fin n → Fin N → EReal) (j : Fin N) (P : Prop) [Decidable P] (u : Fin n → Fin q → EReal)
    (i : P → Fin q) (hw : ∀ k, w k j = if h : P then u k (i h) else 0) : prod x w j = if h : P then prod x u (i h) else 0 := by
  unfold prod
  by_cases h : P
  · simp only [hw, dif_pos h]
  · simp only [hw, dif_neg h, mul_zero, Finset.sum_const_zero]

/-- A block's query channel, from what its inputs hold. -/
theorem headQ (x0 : FVec Ideal S768x768 .bf16) (x1 : FVec Ideal S1x384 .f32) (x3 : FVec Ideal S384x1024 .bf16) (x6 x7 x8 : FVec Ideal S768x256 .f32)
    (r : Fin 768) (h : Fin 4) (d : Fin 256) (l : Fin 2304) (N : Fin 384 → EReal) (w : FVec Ideal S384x768 .f32)
    (hn : nq x0 x1 r = N)
    (hw : ∀ (k : Fin 384) (d : Fin 256), x3 (ix2 k (headCol h d)) = if hd : d.val < 192 then w (ix2 k ⟨h.val * 192 + d.val, by omega⟩) else 0)
    (h6 : row256 x6 r = cosAt l) (h7 : row256 x7 r = upAt l) (h8 : row256 x8 r = downAt l) :
    headOf (k0_pay7 x0 x1 x3) x6 x7 x8 h r d * scale
      = query scale l (fun e => prod N (fun k j => w (ix2 k j)) ⟨h.val * 192 + e.val, by omega⟩) d := by
  unfold headOf
  rw [h6, h7, h8]
  refine query_eq _ _ _ _ (fun d => ?_) d
  rw [pay7, hn]
  exact prod_pad N (fun k j => x3 (ix2 k j)) (headCol h d) (d.val < 192) (fun k j => w (ix2 k j)) (fun hd => ⟨h.val * 192 + d.val, by omega⟩) fun k => hw k d

/-- A block's key channel, from what its inputs hold. -/
theorem headK (x0 : FVec Ideal S768x768 .bf16) (x2 : FVec Ideal S1x256 .f32) (x4 : FVec Ideal S256x1024 .bf16) (x6 x7 x8 : FVec Ideal S768x256 .f32)
    (r : Fin 768) (h : Fin 4) (d : Fin 256) (l : Fin 2304) (N : Fin 256 → EReal) (w : FVec Ideal S256x1024 .f32) (z : Fin 128 → EReal)
    (hn : nkv x0 x2 r = N) (hz : ∀ e : Fin 128, x0 (ix2 r ⟨640 + e.val, by omega⟩) = z e)
    (hw : ∀ (k : Fin 256) (d : Fin 256), x4 (ix2 k (headCol h d)) = if hd : d.val < 128 then w (ix2 k ⟨h.val * 256 + d.val, by omega⟩) else 0)
    (h6 : row256 x6 r = cosAt l) (h7 : row256 x7 r = upAt l) (h8 : row256 x8 r = downAt l) :
    sumOf (k0_pay10 (k0_pay8 x4) (k0_pay9 x0 x2) (constant S768x1024 FTy.f32 0#32)) (k0_pay15 (k0_pay5 x0)) x6 x7 x8 h r d
      = key l (fun e => prod N (fun k j => w (ix2 k j)) ⟨h.val * 256 + e.val, by omega⟩) z d := by
  unfold sumOf
  rw [h6, h7, h8]
  refine key_eq _ _ _ _ (fun d => ?_) d
  have hp := prod_pad N (fun k j => x4 (ix2 k j)) (headCol h d) (d.val < 128) (fun k j => w (ix2 k j))
    (fun hd => ⟨h.val * 256 + d.val, by omega⟩) fun k => hw k d
  rw [pay10, pay15, hn, hp]
  by_cases hd : d.val < 128
  · rw [dif_pos hd, dif_pos hd, dif_pos hd, add_zero]
  · rw [dif_neg hd, dif_neg hd, dif_neg hd, zero_add]
    exact hz ⟨d.val - 128, by omega⟩

end Cert.MlaProjIdeal.Val

end
-- ==== Proof.MlaProjArrays.lean ====
/- The latent attention's projections: the three arrays the kernel leaves. -/
module

public import proofs.«01_k».proof.Proof.MlaProjKernel

@[expose] public section

set_option maxRecDepth 16384

noncomputable section

namespace Cert.MlaProjIdeal.Val

open Cert.MlaProjIdeal Cert.MlaProjIdeal.Gen Cert.Mla Idealize.ShloMosaic Idealize.ShloMosaic.TcCoe Idealize.SL.Sem

variable (m : (ℓ : Loc nD τ sig) → Buf (Elt Ideal) ℓ)

theorem blk9 (c : Dev nD) (t : Fin cfg0.N) (r : Fin 768) (j : Fin 1024) : (outsAt0 m c t).1 (ix2 r j)
    = resQ scale (V m c main_arg0) (m (c, Proc.tc.devRef main_arg1)) (m (c, Proc.tc.devRef main_arg3)) (ix2 (arrRow t r) j) := by
  obtain ⟨_, ⟨_, _, e3, _⟩, _⟩ := idx t
  have b3 : ∀ (k : Fin 384) (j : Fin 1024), iblk m c 3 t (ix2 k j) = V m c main_v23 (ix2 k j) := fun k j => by blk_ext [iblk, e3]
  dsimp only [outsAt0]
  refine (out9 c t (X0_0 m c t) (iblk m c 1 t) (iblk m c 2 t) (iblk m c 3 t) (iblk m c 4 t) (iblk m c 5 t) (iblk m c 6 t) (iblk m c 7 t) (iblk m c 8 t)
    r j ⟨j.val / 256, by omega⟩ ⟨j.val % 256, by omega⟩ (by dsimp only; omega)).trans ?_
  refine (headQ (X0_0 m c t) (iblk m c 1 t) (iblk m c 3 t) (iblk m c 6 t) (iblk m c 7 t) (iblk m c 8 t) r _ _ (tileRow t r) _
    (m (c, Proc.tc.devRef main_arg3)) (blk_nq m c t r) (fun k d => (b3 k _).trans ((v23 m c k _).trans (padQ_head _ _ d))) (row6 m c t r) (row7 m c t r) (row8 m c t r)).trans ?_
  rw [← within_arrRow]
  rfl

theorem blk10 (c : Dev nD) (t : Fin cfg0.N) (r : Fin 768) (j : Fin 1024) : (outsAt0 m c t).2.1 (ix2 r j)
    = resK (V m c main_arg0) (m (c, Proc.tc.devRef main_arg2)) (m (c, Proc.tc.devRef main_arg4)) (ix2 (arrRow t r) j) := by
  obtain ⟨_, ⟨_, _, _, e4, _⟩, _⟩ := idx t
  have b4 : ∀ (k : Fin 256) (j : Fin 1024), iblk m c 4 t (ix2 k j) = V m c main_v24 (ix2 k j) := fun k j => by blk_ext [iblk, e4]
  have hz : ∀ e : Fin 128, X0_0 m c t (ix2 r ⟨640 + e.val, by omega⟩) = V m c main_arg0 (ix2 (arrRow t r) ⟨4608 + (640 + e.val), by omega⟩) := fun e =>
    blkP m c t r ⟨640 + e.val, by omega⟩
  dsimp only [outsAt0]
  refine (out10 c t (X0_0 m c t) (iblk m c 1 t) (iblk m c 2 t) (iblk m c 3 t) (iblk m c 4 t) (iblk m c 5 t) (iblk m c 6 t) (iblk m c 7 t) (iblk m c 8 t)
    r j ⟨j.val / 256, by omega⟩ ⟨j.val % 256, by omega⟩ (by dsimp only; omega)).trans ?_
  refine (headK (X0_0 m c t) (iblk m c 2 t) (iblk m c 4 t) (iblk m c 6 t) (iblk m c 7 t) (iblk m c 8 t) r _ _ (tileRow t r) _
    (m (c, Proc.tc.devRef main_arg4)) _ (blk_nkv m c t r) hz (fun k d => (b4 k _).trans ((v24 m c k _).trans (padK_head _ _ d))) (row6 m c t r) (row7 m c t r) (row8 m c t r)).trans ?_
  rw [← within_arrRow]
  rfl

theorem blk11 (c : Dev nD) (t : Fin cfg0.N) (r : Fin 768) (j : Fin 512) : (outsAt0 m c t).2.2 (ix2 r j)
    = resV (V m c main_arg0) (m (c, Proc.tc.devRef main_arg2)) (m (c, Proc.tc.devRef main_arg4)) (ix2 (arrRow t r) j) := by
  obtain ⟨_, ⟨_, _, _, _, e5⟩, _⟩ := idx t
  have b5 : ∀ (k : Fin 256) (j : Fin 512), iblk m c 5 t (ix2 k j) = V m c main_v25 (ix2 k j) := fun k j => by blk_ext [iblk, e5]
  dsimp only [outsAt0]
  refine (out11 c t (X0_0 m c t) (iblk m c 1 t) (iblk m c 2 t) (iblk m c 3 t) (iblk m c 4 t) (iblk m c 5 t) (iblk m c 6 t) (iblk m c 7 t) (iblk m c 8 t)
    r j).trans ?_
  unfold prod resV vAt
  refine Finset.sum_congr rfl fun k _ => congrArg₂ (· * ·) (congrFun (blk_nkv m c t r) k) ((b5 k j).trans ?_)
  exact v25 m c k j ⟨j.val / 128, by omega⟩ ⟨j.val % 128, by omega⟩ (by show j.val = j.val / 128 * 128 + j.val % 128; omega)

theorem final9 (c : Dev nD) : (dats m 0 c).arrAt 9 cfg0.N
    = resQ scale (V m c main_arg0) (m (c, Proc.tc.devRef main_arg1)) (m (c, Proc.tc.devRef main_arg3)) := by
  refine (dats m 0 c).arrAt_eq_of_covers 9 _ (by decide +kernel) fun t hf y => ?_
  blk_simp
  rw [after0_9]
  obtain ⟨_, _, _, e9, _⟩ := idx t
  refine (congrArg _ (eq_ix2 y)).trans ((blk9 m c t (y 0) (y 1)).trans (congrArg _ ?_))
  blk_ext [e9, arrRow]

theorem final10 (c : Dev nD) : (dats m 0 c).arrAt 10 cfg0.N
    = resK (V m c main_arg0) (m (c, Proc.tc.devRef main_arg2)) (m (c, Proc.tc.devRef main_arg4)) := by
  refine (dats m 0 c).arrAt_eq_of_covers 10 _ (by decide +kernel) fun t hf y => ?_
  blk_simp
  rw [after0_10]
  obtain ⟨_, _, _, _, e10, _⟩ := idx t
  refine (congrArg _ (eq_ix2 y)).trans ((blk10 m c t (y 0) (y 1)).trans (congrArg _ ?_))
  blk_ext [e10, arrRow]

theorem final11 (c : Dev nD) : (dats m 0 c).arrAt 11 cfg0.N
    = resV (V m c main_arg0) (m (c, Proc.tc.devRef main_arg2)) (m (c, Proc.tc.devRef main_arg4)) := by
  refine (dats m 0 c).arrAt_eq_of_covers 11 _ (by decide +kernel) fun t hf y => ?_
  blk_simp
  rw [after0_11]
  obtain ⟨_, _, _, _, _, e11⟩ := idx t
  refine (congrArg _ (eq_ix2 y)).trans ((blk11 m c t (y 0) (y 1)).trans (congrArg _ ?_))
  blk_ext [e11, arrRow]

/-! ## The three arrays, as functions of the call's arguments -/

theorem out9_args (c : Dev nD) : (dats m 0 c).arrAt 9 cfg0.N = resQ scale (m ((c.tc : Thread nD τ).loc main_arg0)) (m ((c.tc : Thread nD τ).loc main_arg1)) (m ((c.tc : Thread nD τ).loc main_arg3)) :=
  (final9 m c).trans (congrArg (resQ scale · _ _) (V_main_arg0 m c))

theorem out10_args (c : Dev nD) : (dats m 0 c).arrAt 10 cfg0.N = resK (m ((c.tc : Thread nD τ).loc main_arg0)) (m ((c.tc : Thread nD τ).loc main_arg2)) (m ((c.tc : Thread nD τ).loc main_arg4)) :=
  (final10 m c).trans (congrArg (resK · _ _) (V_main_arg0 m c))

theorem out11_args (c : Dev nD) : (dats m 0 c).arrAt 11 cfg0.N = resV (m ((c.tc : Thread nD τ).loc main_arg0)) (m ((c.tc : Thread nD τ).loc main_arg2)) (m ((c.tc : Thread nD τ).loc main_arg4)) :=
  (final11 m c).trans (congrArg (resV · _ _) (V_main_arg0 m c))

end Cert.MlaProjIdeal.Val

end
-- ==== Proof.MlaProjRef.lean ====
/- The reference of the latent attention's projections: the three results, context rows and latent rows apart. -/
module

public import proofs.«01_k».proof.Proof.Gen.MlaProjRefIdeal.Read
public import proofs.«01_k».proof.Proof.MlaProjArrays
public import proofs.«01_k».proof.Proof.FfnUpRef

@[expose] public section

set_option maxRecDepth 16384

noncomputable section

namespace Cert.MlaProjRefIdeal.Val

open Cert.MlaProjRefIdeal Cert.MlaProjRefIdeal.Gen Cert.MlaProjRefIdeal.Read Cert.Mla
  Idealize.ShloMosaic Idealize.ShloMosaic.TcCoe Idealize.SL.Sem
open Cert.Residual (rowC rowL row_cases pick_ctx pick_lat)
open Cert.FfnUpRefIdeal.Val (segC segL sitofp_zero)
open Cert.MlaProjIdeal.Val (nqRow nkvRow qAt kAt vAt resQ resK resV scale within)

variable (x0 : FVec Ideal S9216x6400 .bf16) (x1 : FVec Ideal S384 .f32) (x2 : FVec Ideal S256 .f32) (x3 : FVec Ideal S384x768 .f32)
  (x4 : FVec Ideal S256x1024 .f32)

/-! ## The scale -/

theorem word_192 : Ideal.ofBits .f32 0x43400000#32 = ((192 : ℝ) : EReal) := by
  simp [Ideal.ofBits, Ideal.ieee, -EReal.coe_mul]; norm_num

theorem word_2 : Ideal.ofBits .f32 0x40000000#32 = ((2 : ℝ) : EReal) := by
  simp [Ideal.ofBits, Ideal.ieee, -EReal.coe_mul]; norm_num

theorem scale_eq : scale = (((Real.sqrt 192 * Real.log 2)⁻¹ : ℝ) : EReal) :=
  IdealRules.named_const.ideal_named_scalar _ _ _ _ rfl

/-- Dividing by the root of 192 and the logarithm of 2 is multiplying by the kernel's constant. -/
theorem div_scale (x : EReal) :
    Ideal.div x (Ideal.sqrt (Ideal.ofBits .f32 0x43400000#32) * Ideal.log (Ideal.ofBits .f32 0x40000000#32)) = x * scale := by
  have hs : Real.sqrt 192 ≠ 0 := (Real.sqrt_pos.mpr (by norm_num)).ne'
  have hl : Real.log 2 ≠ 0 := (Real.log_pos (by norm_num)).ne'
  rw [word_192, word_2, Ideal.sqrt_coe, Ideal.log_coe, if_neg (by norm_num), if_neg (by norm_num), ← EReal.coe_mul,
    Ideal.div_coe (mul_ne_zero hs hl), scale_eq, one_div]

/-! ## The rotation -/

theorem angle_row (l : Fin 2048) (k : Fin 16) : val_main_v26 (F := Ideal) (ix2 l k) = angle (l.val / 64) k.val := by
  unfold angle speed
  pointwise [val_main_v26, val_main_v25, val_main_v24, val_main_v23, val_main_v22, val_main_v17, val_main_v16, val_main_v15, val_main_v14, val_main_v13, val_main_v12, val_main_v11, val_main_v10, val_main_v9, val_main_v8, val_main_v7, val_main_v6, val_main_v5, val_main_cst, val_main_cst_0, val_main_cst_1, val_main_cst_2]

theorem angle_col (l : Fin 2048) (k : Fin 16) : val_main_v31 (F := Ideal) (ix2 l k) = angle (l.val % 64) k.val := by
  unfold angle speed
  pointwise [val_main_v31, val_main_v30, val_main_v29, val_main_v28, val_main_v27, val_main_v21, val_main_v20, val_main_v19, val_main_v18, val_main_v14, val_main_v13, val_main_v12, val_main_v11, val_main_v10, val_main_v9, val_main_v8, val_main_v7, val_main_v6, val_main_v5, val_main_cst, val_main_cst_0, val_main_cst_1, val_main_cst_2]

theorem within_ctx (b : Fin 4) (l : Fin 256) : within (rowC b l) = segC l :=
  Fin.ext (by show (b.val * 2304 + l.val) % 2304 = l.val; omega)

theorem within_lat (b : Fin 4) (l : Fin 2048) : within (rowL b l) = segL l :=
  Fin.ext (by show (b.val * 2304 + (256 + l.val)) % 2304 = 256 + l.val; omega)

theorem rope_ctx (l : Fin 256) (x : Fin 64 → EReal) (e : Fin 64) : rope (segC l) x e = x e := if_pos l.isLt

theorem rope_lat (l : Fin 2048) (x : Fin 64 → EReal) (e : Fin 64) : rope (segL l) x e = rotate l.val x e := by
  unfold rope
  rw [if_neg (by show ¬ 256 + l.val < 256; omega)]
  exact congrArg (rotate · x e) (by show 256 + l.val - 256 = l.val; omega)

theorem p_ctx (b : Fin 4) (l : Fin 256) (j : Fin 768) : val_main_v3 (F := Ideal) x0 (ix3 b l j) = x0 (ix2 (rowC b l) ⟨4608 + j.val, by omega⟩) := by
  pointwise [val_main_v3, val_main_v2, val_main_v1, val_main_v0, rowC]

theorem nq_ctx (b : Fin 4) (l : Fin 256) (j : Fin 384) : val_main_v48 (F := Ideal) x0 x1 (ix3 b l j) = nqRow x0 x1 (rowC b l) j := by
  unfold nqRow normed
  pointwise [val_main_v48, val_main_v47, val_main_v46, val_main_v45, val_main_v44, val_main_v43, val_main_v42, val_main_v41, val_main_v40, val_main_v39, val_main_v38, val_main_v37, val_main_v36, val_main_cst_3, val_main_cst_4, val_main_cst_5, val_main_v32]
  simp only [p_ctx]

theorem q_ctx (b : Fin 4) (l : Fin 256) (h : Fin 4) (e : Fin 192) : val_main_v50 (F := Ideal) x0 x1 x3 (ix4 b l h e)
    = prod (nqRow x0 x1 (rowC b l)) (fun k j => x3 (ix2 k j)) ⟨h.val * 192 + e.val, by omega⟩ := by
  unfold prod
  pointwise [val_main_v50, val_main_v49]
  simp only [nq_ctx]

theorem nkv_ctx (b : Fin 4) (l : Fin 256) (j : Fin 256) : val_main_v63 (F := Ideal) x0 x2 (ix3 b l j) = nkvRow x0 x2 (rowC b l) j := by
  unfold nkvRow normed
  pointwise [val_main_v63, val_main_v62, val_main_v61, val_main_v60, val_main_v59, val_main_v58, val_main_v57, val_main_v56, val_main_v55, val_main_v54, val_main_v53, val_main_v52, val_main_v51, val_main_cst_6, val_main_cst_7, val_main_cst_8, val_main_v33]
  simp only [p_ctx]

theorem kv_ctx (b : Fin 4) (l : Fin 256) (h : Fin 4) (e : Fin 256) : val_main_v65 (F := Ideal) x0 x2 x4 (ix4 b l h e)
    = prod (nkvRow x0 x2 (rowC b l)) (fun k j => x4 (ix2 k j)) ⟨h.val * 256 + e.val, by omega⟩ := by
  unfold prod
  pointwise [val_main_v65, val_main_v64]
  simp only [nkv_ctx]

theorem query_ctx (b : Fin 4) (l : Fin 256) (h : Fin 4) (d : Fin 256) : val_main_v78 (F := Ideal) x0 x1 x3 (ix4 b l h d)
    = qAt scale x0 x1 x3 (rowC b l) (segC l) h d := by
  unfold qAt
  pointwise [val_main_v78, val_main_v77, val_main_v76, val_main_v75, val_main_v74, val_main_v73, val_main_v72, val_main_call0_v0, val_main_c, val_main_cst_9, val_main_cst_10, val_main_v67, val_main_v66]
  simp only [q_ctx, sitofp_zero, div_scale]
  refine query_cases (fun h => ?_) (fun h => ?_) fun h => ?_
  · rw [dif_pos (by omega), dif_pos h]
  · rw [dif_pos h.2, dif_neg (by omega), rope_ctx]
  · rw [dif_neg h]

theorem key_ctx (b : Fin 4) (l : Fin 256) (h : Fin 4) (d : Fin 256) : val_main_v81 (F := Ideal) x0 x2 x4 (ix4 b l h d)
    = kAt x0 x2 x4 (rowC b l) (segC l) h d := by
  unfold kAt
  pointwise [val_main_v81, val_main_v80, val_main_v79, val_main_v71, val_main_v70, val_main_v68, val_main_v35, val_main_v34]
  simp only [kv_ctx, p_ctx]
  refine key_cases (fun h => ?_) (fun h => ?_) fun h => ?_
  · rw [dif_pos h]
  · rw [dif_neg (by omega), dif_pos (by omega), rope_ctx]
  · rw [dif_neg (by omega), dif_neg (by omega)]
    exact congrArg (fun n => x0 (ix2 (rowC b l) n)) (Fin.ext (by dsimp only; omega))

theorem value_ctx (b : Fin 4) (l : Fin 256) (j : Fin 512) : val_main_v84 (F := Ideal) x0 x2 x4 (ix3 b l j)
    = resV x0 x2 x4 (ix2 (rowC b l) j) := by
  unfold resV vAt
  pointwise [val_main_v84, val_main_v69]
  simp only [kv_ctx]

theorem queries_ctx (b : Fin 4) (l : Fin 256) (j : Fin 1024) : val_main_v82 (F := Ideal) x0 x1 x3 (ix3 b l j)
    = resQ scale x0 x1 x3 (ix2 (rowC b l) j) := by
  unfold resQ
  pointwise [val_main_v82]
  rw [query_ctx]
  exact congrArg (qAt scale x0 x1 x3 (rowC b l) · _ _) (within_ctx b l).symm

theorem keys_ctx (b : Fin 4) (l : Fin 256) (j : Fin 1024) : val_main_v83 (F := Ideal) x0 x2 x4 (ix3 b l j)
    = resK x0 x2 x4 (ix2 (rowC b l) j) := by
  unfold resK
  pointwise [val_main_v83]
  rw [key_ctx]
  exact congrArg (kAt x0 x2 x4 (rowC b l) · _ _) (within_ctx b l).symm

theorem p_lat (b : Fin 4) (l : Fin 2048) (j : Fin 768) : val_main_v4 (F := Ideal) x0 (ix3 b l j) = x0 (ix2 (rowL b l) ⟨4608 + j.val, by omega⟩) := by
  pointwise [val_main_v4, val_main_v2, val_main_v1, val_main_v0, rowL]

theorem nq_lat (b : Fin 4) (l : Fin 2048) (j : Fin 384) : val_main_v101 (F := Ideal) x0 x1 (ix3 b l j) = nqRow x0 x1 (rowL b l) j := by
  unfold nqRow normed
  pointwise [val_main_v101, val_main_v100, val_main_v99, val_main_v98, val_main_v97, val_main_v96, val_main_v95, val_main_v94, val_main_v93, val_main_v92, val_main_v91, val_main_v90, val_main_v89, val_main_cst_11, val_main_cst_12, val_main_cst_13, val_main_v85]
  simp only [p_lat]

theorem q_lat (b : Fin 4) (l : Fin 2048) (h : Fin 4) (e : Fin 192) : val_main_v103 (F := Ideal) x0 x1 x3 (ix4 b l h e)
    = prod (nqRow x0 x1 (rowL b l)) (fun k j => x3 (ix2 k j)) ⟨h.val * 192 + e.val, by omega⟩ := by
  unfold prod
  pointwise [val_main_v103, val_main_v102]
  simp only [nq_lat]

theorem nkv_lat (b : Fin 4) (l : Fin 2048) (j : Fin 256) : val_main_v116 (F := Ideal) x0 x2 (ix3 b l j) = nkvRow x0 x2 (rowL b l) j := by
  unfold nkvRow normed
  pointwise [val_main_v116, val_main_v115, val_main_v114, val_main_v113, val_main_v112, val_main_v111, val_main_v110, val_main_v109, val_main_v108, val_main_v107, val_main_v106, val_main_v105, val_main_v104, val_main_cst_14, val_main_cst_15, val_main_cst_16, val_main_v86]
  simp only [p_lat]

theorem kv_lat (b : Fin 4) (l : Fin 2048) (h : Fin 4) (e : Fin 256) : val_main_v118 (F := Ideal) x0 x2 x4 (ix4 b l h e)
    = prod (nkvRow x0 x2 (rowL b l)) (fun k j => x4 (ix2 k j)) ⟨h.val * 256 + e.val, by omega⟩ := by
  unfold prod
  pointwise [val_main_v118, val_main_v117]
  simp only [nkv_lat]

theorem rot_q (b : Fin 4) (l : Fin 2048) (h : Fin 4) (e : Fin 64) : val_main_v161 (F := Ideal) x0 x1 x3 (ix4 b l h e)
    = rotate l.val (fun e => val_main_v120 (F := Ideal) x0 x1 x3 (ix4 b l h e)) e := by
  pointwise [val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125]
  exact rotate_nested (fun e => val_main_v120 (F := Ideal) x0 x1 x3 (ix4 b l h e)) (fun k => val_main_v26 (F := Ideal) (ix2 l k))
    (fun k => val_main_v31 (F := Ideal) (ix2 l k)) (angle_row l) (angle_col l) e

theorem turned_q (b : Fin 4) (l : Fin 2048) (h : Fin 4) (e : Fin 64) : val_main_v161 (F := Ideal) x0 x1 x3 (ix4 b l h e)
    = rotate l.val (fun e => prod (nqRow x0 x1 (rowL b l)) (fun k j => x3 (ix2 k j)) ⟨h.val * 192 + (128 + e.val), by omega⟩) e := by
  rw [rot_q]
  refine congrArg (rotate l.val · e) (funext fun e => ?_)
  pointwise [val_main_v120]
  exact q_lat ..

theorem rot_k (b : Fin 4) (l : Fin 2048) (e : Fin 64) : val_main_v198 (F := Ideal) x0 (ix4 b l 0 e)
    = rotate l.val (fun e => val_main_v123 (F := Ideal) x0 (ix4 b l 0 e)) e := by
  pointwise [val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162]
  exact rotate_nested (fun e => val_main_v123 (F := Ideal) x0 (ix4 b l 0 e)) (fun k => val_main_v26 (F := Ideal) (ix2 l k))
    (fun k => val_main_v31 (F := Ideal) (ix2 l k)) (angle_row l) (angle_col l) e

theorem turned_k (b : Fin 4) (l : Fin 2048) (e : Fin 64) : val_main_v198 (F := Ideal) x0 (ix4 b l 0 e)
    = rotate l.val (fun e => x0 (ix2 (rowL b l) ⟨4608 + (640 + e.val), by omega⟩)) e := by
  rw [rot_k]
  refine congrArg (rotate l.val · e) (funext fun e => ?_)
  pointwise [val_main_v123, val_main_v87]
  exact p_lat ..

theorem query_lat (b : Fin 4) (l : Fin 2048) (h : Fin 4) (d : Fin 256) : val_main_v205 (F := Ideal) x0 x1 x3 (ix4 b l h d)
    = qAt scale x0 x1 x3 (rowL b l) (segL l) h d := by
  unfold qAt
  pointwise [val_main_v205, val_main_v204, val_main_v203, val_main_v202, val_main_v201, val_main_v200, val_main_v199, val_main_call1_v0, val_main_c_19, val_main_cst_17, val_main_cst_18, val_main_v119]
  simp only [q_lat, sitofp_zero, div_scale, turned_q]
  refine query_cases (fun h => ?_) (fun h => ?_) fun h => ?_
  · rw [dif_pos (by omega), dif_pos h]
  · rw [dif_pos h.2, dif_neg (by omega), rope_lat]
  · rw [dif_neg h]

theorem key_lat (b : Fin 4) (l : Fin 2048) (h : Fin 4) (d : Fin 256) : val_main_v208 (F := Ideal) x0 x2 x4 (ix4 b l h d)
    = kAt x0 x2 x4 (rowL b l) (segL l) h d := by
  unfold kAt
  pointwise [val_main_v208, val_main_v207, val_main_v206, val_main_v124, val_main_v121, val_main_v88]
  simp only [kv_lat, p_lat, turned_k]
  refine key_cases (fun h => ?_) (fun h => ?_) fun h => ?_
  · rw [dif_pos h]
  · rw [dif_neg (by omega), dif_pos (by omega), rope_lat]
  · rw [dif_neg (by omega), dif_neg (by omega)]
    exact congrArg (fun n => x0 (ix2 (rowL b l) n)) (Fin.ext (by dsimp only; omega))

theorem value_lat (b : Fin 4) (l : Fin 2048) (j : Fin 512) : val_main_v211 (F := Ideal) x0 x2 x4 (ix3 b l j)
    = resV x0 x2 x4 (ix2 (rowL b l) j) := by
  unfold resV vAt
  pointwise [val_main_v211, val_main_v122]
  simp only [kv_lat]

theorem queries_lat (b : Fin 4) (l : Fin 2048) (j : Fin 1024) : val_main_v209 (F := Ideal) x0 x1 x3 (ix3 b l j)
    = resQ scale x0 x1 x3 (ix2 (rowL b l) j) := by
  unfold resQ
  pointwise [val_main_v209]
  rw [query_lat]
  exact congrArg (qAt scale x0 x1 x3 (rowL b l) · _ _) (within_lat b l).symm

theorem keys_lat (b : Fin 4) (l : Fin 2048) (j : Fin 1024) : val_main_v210 (F := Ideal) x0 x2 x4 (ix3 b l j)
    = resK x0 x2 x4 (ix2 (rowL b l) j) := by
  unfold resK
  pointwise [val_main_v210]
  rw [key_lat]
  exact congrArg (kAt x0 x2 x4 (rowL b l) · _ _) (within_lat b l).symm

/-! ## The three results: context rows and latent rows are one array -/

theorem at_q (r : Fin 9216) (j : Fin 1024) : val_main_v214 (F := Ideal) x0 x1 x3 (ix2 r j) = resQ scale x0 x1 x3 (ix2 r j) := by
  refine row_cases (P := fun r => val_main_v214 (F := Ideal) x0 x1 x3 (ix2 r j) = resQ scale x0 x1 x3 (ix2 r j)) (fun b l => ?_) (fun b l => ?_) r
  · rw [← queries_ctx]
    pointwise [val_main_v214, val_main_v213, val_main_v212, rowC]
    exact pick_ctx (fun l => val_main_v82 (F := Ideal) x0 x1 x3 (ix3 b l j)) (fun l => val_main_v209 (F := Ideal) x0 x1 x3 (ix3 b l j)) b l
  · rw [← queries_lat]
    pointwise [val_main_v214, val_main_v213, val_main_v212, rowL]
    exact pick_lat (fun l => val_main_v82 (F := Ideal) x0 x1 x3 (ix3 b l j)) (fun l => val_main_v209 (F := Ideal) x0 x1 x3 (ix3 b l j)) b l

/-- The reference's queries. -/
theorem ref_q : val_main_v214 (F := Ideal) x0 x1 x3 = resQ scale x0 x1 x3 :=
  funext fun i => (congrArg _ (eq_ix2 i)).trans ((at_q x0 x1 x3 (i 0) (i 1)).trans (congrArg _ (eq_ix2 i).symm))

theorem ref_q_at {y0 : (⟨S9216x6400, .bf16⟩ : BufTy).Contents (Elt Ideal)} {y1 : (⟨S384, .f32⟩ : BufTy).Contents (Elt Ideal)}
    {y2 : (⟨S384x768, .f32⟩ : BufTy).Contents (Elt Ideal)} {z0 z1 z2} (h0 : y0 = z0) (h1 : y1 = z1) (h2 : y2 = z2) :
    val_main_v214 (F := Ideal) y0 y1 y2 = resQ scale z0 z1 z2 := by
  subst h0 h1 h2
  exact ref_q ..

theorem at_k (r : Fin 9216) (j : Fin 1024) : val_main_v217 (F := Ideal) x0 x2 x4 (ix2 r j) = resK x0 x2 x4 (ix2 r j) := by
  refine row_cases (P := fun r => val_main_v217 (F := Ideal) x0 x2 x4 (ix2 r j) = resK x0 x2 x4 (ix2 r j)) (fun b l => ?_) (fun b l => ?_) r
  · rw [← keys_ctx]
    pointwise [val_main_v217, val_main_v216, val_main_v215, rowC]
    exact pick_ctx (fun l => val_main_v83 (F := Ideal) x0 x2 x4 (ix3 b l j)) (fun l => val_main_v210 (F := Ideal) x0 x2 x4 (ix3 b l j)) b l
  · rw [← keys_lat]
    pointwise [val_main_v217, val_main_v216, val_main_v215, rowL]
    exact pick_lat (fun l => val_main_v83 (F := Ideal) x0 x2 x4 (ix3 b l j)) (fun l => val_main_v210 (F := Ideal) x0 x2 x4 (ix3 b l j)) b l

/-- The reference's keys. -/
theorem ref_k : val_main_v217 (F := Ideal) x0 x2 x4 = resK x0 x2 x4 :=
  funext fun i => (congrArg _ (eq_ix2 i)).trans ((at_k x0 x2 x4 (i 0) (i 1)).trans (congrArg _ (eq_ix2 i).symm))

theorem ref_k_at {y0 : (⟨S9216x6400, .bf16⟩ : BufTy).Contents (Elt Ideal)} {y1 : (⟨S256, .f32⟩ : BufTy).Contents (Elt Ideal)}
    {y2 : (⟨S256x1024, .f32⟩ : BufTy).Contents (Elt Ideal)} {z0 z1 z2} (h0 : y0 = z0) (h1 : y1 = z1) (h2 : y2 = z2) :
    val_main_v217 (F := Ideal) y0 y1 y2 = resK z0 z1 z2 := by
  subst h0 h1 h2
  exact ref_k ..

theorem at_v (r : Fin 9216) (j : Fin 512) : val_main_v220 (F := Ideal) x0 x2 x4 (ix2 r j) = resV x0 x2 x4 (ix2 r j) := by
  refine row_cases (P := fun r => val_main_v220 (F := Ideal) x0 x2 x4 (ix2 r j) = resV x0 x2 x4 (ix2 r j)) (fun b l => ?_) (fun b l => ?_) r
  · rw [← value_ctx]
    pointwise [val_main_v220, val_main_v219, val_main_v218, rowC]
    exact pick_ctx (fun l => val_main_v84 (F := Ideal) x0 x2 x4 (ix3 b l j)) (fun l => val_main_v211 (F := Ideal) x0 x2 x4 (ix3 b l j)) b l
  · rw [← value_lat]
    pointwise [val_main_v220, val_main_v219, val_main_v218, rowL]
    exact pick_lat (fun l => val_main_v84 (F := Ideal) x0 x2 x4 (ix3 b l j)) (fun l => val_main_v211 (F := Ideal) x0 x2 x4 (ix3 b l j)) b l

/-- The reference's values. -/
theorem ref_v : val_main_v220 (F := Ideal) x0 x2 x4 = resV x0 x2 x4 :=
  funext fun i => (congrArg _ (eq_ix2 i)).trans ((at_v x0 x2 x4 (i 0) (i 1)).trans (congrArg _ (eq_ix2 i).symm))

theorem ref_v_at {y0 : (⟨S9216x6400, .bf16⟩ : BufTy).Contents (Elt Ideal)} {y1 : (⟨S256, .f32⟩ : BufTy).Contents (Elt Ideal)}
    {y2 : (⟨S256x1024, .f32⟩ : BufTy).Contents (Elt Ideal)} {z0 z1 z2} (h0 : y0 = z0) (h1 : y1 = z1) (h2 : y2 = z2) :
    val_main_v220 (F := Ideal) y0 y1 y2 = resV z0 z1 z2 := by
  subst h0 h1 h2
  exact ref_v ..

end Cert.MlaProjRefIdeal.Val

end
-- ==== Proof.MlaProjValue.lean ====
/- The latent attention's projections: the kernel's three arrays and the reference's are one function of the arguments. -/
module

public import proofs.«01_k».proof.Defs
public import proofs.«01_k».proof.Proof.MlaProjArrays
public import proofs.«01_k».proof.Proof.MlaProjRef

@[expose] public section

set_option maxRecDepth 16384

noncomputable section

namespace Cert.Proof

open Idealize.ShloMosaic Idealize.ShloMosaic.TcCoe Idealize.SL.Sem

theorem algebraic_mlaProj : Cert.algebraic_MlaProjIdeal_MlaProjRefIdeal := fun m ρ m' ρ' _ hagree => by
  refine ⟨fun c => Cert.MlaProjIdeal.Val.resQ Cert.MlaProjIdeal.Val.scale (m ((c.tc : Thread Cert.MlaProjIdeal.nD Cert.MlaProjIdeal.τ).loc Cert.MlaProjIdeal.main_arg0)) (m ((c.tc : Thread Cert.MlaProjIdeal.nD Cert.MlaProjIdeal.τ).loc Cert.MlaProjIdeal.main_arg1)) (m ((c.tc : Thread Cert.MlaProjIdeal.nD Cert.MlaProjIdeal.τ).loc Cert.MlaProjIdeal.main_arg3)),
    fun c => Cert.MlaProjIdeal.Val.resK (m ((c.tc : Thread Cert.MlaProjIdeal.nD Cert.MlaProjIdeal.τ).loc Cert.MlaProjIdeal.main_arg0)) (m ((c.tc : Thread Cert.MlaProjIdeal.nD Cert.MlaProjIdeal.τ).loc Cert.MlaProjIdeal.main_arg2)) (m ((c.tc : Thread Cert.MlaProjIdeal.nD Cert.MlaProjIdeal.τ).loc Cert.MlaProjIdeal.main_arg4)),
    fun c => Cert.MlaProjIdeal.Val.resV (m ((c.tc : Thread Cert.MlaProjIdeal.nD Cert.MlaProjIdeal.τ).loc Cert.MlaProjIdeal.main_arg0)) (m ((c.tc : Thread Cert.MlaProjIdeal.nD Cert.MlaProjIdeal.τ).loc Cert.MlaProjIdeal.main_arg2)) (m ((c.tc : Thread Cert.MlaProjIdeal.nD Cert.MlaProjIdeal.τ).loc Cert.MlaProjIdeal.main_arg4)),
    (θ_run Cert.MlaProjIdeal.defs _ _).mono (fun r h c => ⟨(h c).1.trans (Cert.MlaProjIdeal.Val.out9_args m c), (h c).2.1.trans (Cert.MlaProjIdeal.Val.out10_args m c),
      (h c).2.2.1.trans (Cert.MlaProjIdeal.Val.out11_args m c), (h c).2.2.2⟩) (Cert.MlaProjIdeal.Value.run_blocks m ρ),
    (θ_run Cert.MlaProjRefIdeal.defs _ _).mono (fun r h c => ⟨(h c).1.trans ((Cert.MlaProjRefIdeal.Read.val_main_v214_eq _).trans ?_), (h c).2.1.trans ((Cert.MlaProjRefIdeal.Read.val_main_v217_eq _).trans ?_),
      (h c).2.2.1.trans ((Cert.MlaProjRefIdeal.Read.val_main_v220_eq _).trans ?_), (h c).2.2.2⟩) (Cert.MlaProjRefIdeal.Value.run (F := Ideal) m' ρ')⟩
  · exact Cert.MlaProjRefIdeal.Val.ref_q_at (hagree c).1 (hagree c).2.1 (hagree c).2.2.2.1
  · exact Cert.MlaProjRefIdeal.Val.ref_k_at (hagree c).1 (hagree c).2.2.1 (hagree c).2.2.2.2
  · exact Cert.MlaProjRefIdeal.Val.ref_v_at (hagree c).1 (hagree c).2.2.1 (hagree c).2.2.2.2

end Cert.Proof

end
-- ==== Proof.ConvMixKernel.lean ====
/- The short gated convolution: the block a grid point writes, and the array the kernel leaves. -/
module

public import proofs.«01_k».proof.Defs
public import proofs.«01_k».proof.Proof.Gen.ConvMixIdeal.Value
public import proofs.«01_k».proof.Proof.FfnUpKernel

@[expose] public section

set_option maxRecDepth 16384

noncomputable section

namespace Cert.ConvMixIdeal.Val

open Cert.ConvMixIdeal Cert.ConvMixIdeal.Gen Cert.FfnUpIdeal.Val Idealize.ShloMosaic Idealize.ShloMosaic.TcCoe Idealize.SL.Sem

variable (m : (ℓ : Loc nD τ sig) → Buf (Elt Ideal) ℓ)

/-- The kernel's edge mask: a row that is one of two given rows. -/
theorem select_edge {α : Type} (n p q : ℕ) (hn : n < 4294967296) (hp : p < 4294967296) (hq : q < 4294967296) (a b : α) :
    Scalar.select (IntOp.ori (IntOp.cmpi .eq (BitVec.ofNat 32 n) (BitVec.ofNat 32 p)) (IntOp.cmpi .eq (BitVec.ofNat 32 n) (BitVec.ofNat 32 q))) a b
      = if n = p ∨ n = q then a else b := by
  rw [WordCmp.cmpi_eq_ofNat hn hp, WordCmp.cmpi_eq_ofNat hn hq]
  rw [WordCmp.ori_ofBool, WordCmp.select_ofBool]
  simp only [Bool.or_eq_true, decide_eq_true_eq]

/-- A block's column of products, one per row of the sample. -/
def col (x1 x2 : FVec Ideal S2304x256 .bf16) (d : Fin 256) (l : Fin 2304) : EReal := x1 (ix2 l d) * x2 (ix2 l d)

/-- A tap left out on a condition, the weight multiplied inside or outside. -/
theorem edge_if {P : Prop} [Decidable P] {a b : EReal} (h : ¬P → a = b) (w : EReal) : (if P then 0 else a * w) = (if P then 0 else b) * w := by
  by_cases hp : P
  · rw [if_pos hp, if_pos hp, zero_mul]
  · rw [if_neg hp, if_neg hp, h hp]

/-- The same where the tap's index needs the condition. -/
theorem edge_dif {P : Prop} [Decidable P] {a : EReal} {b : ¬P → EReal} (h : ∀ n : ¬P, a = b n) (w : EReal) :
    (if P then 0 else a * w) = (if n : P then 0 else b n) * w := by
  by_cases hp : P
  · rw [if_pos hp, dif_pos hp, zero_mul]
  · rw [if_neg hp, dif_neg hp, h hp]

theorem out4 (x0 x1 x2 : FVec Ideal S2304x256 .bf16) (x3 : FVec Ideal S3x256 .f32) (r : Fin 2304) (d : Fin 256) :
    out0_4 (F := Ideal) x0 x1 x2 x3 (ix2 r d) = x0 (ix2 r d) * conv (col x1 x2 d) (fun k => x3 (ix2 k d)) r := by
  unfold out0_4
  frame_out
  pointwise [k0_pay1, k0_pay2, k0_pay3, k0_pay4, k0_pay5]
  rw [select_edge r.val 0 256 (by omega) (by omega) (by omega), select_edge r.val 255 2303 (by omega) (by omega) (by omega)]
  unfold conv
  refine congrArg (x0 (ix2 r d) * ·) (congrArg₂ (· + ·) (congrArg (· + _) ?_) ?_)
  · refine edge_if (fun h => congrArg (fun n => x1 (ix2 n d) * x2 (ix2 n d)) (Fin.ext ?_)) _
    show (r.val + 2304 - 1) % 2304 = r.val - 1
    omega
  · refine edge_dif (fun h => congrArg (fun n => x1 (ix2 n d) * x2 (ix2 n d)) (Fin.ext ?_)) _
    show (r.val + 2304 - 2303) % 2304 = r.val + 1
    omega

theorem idx : ∀ t : Fin cfg0.N, win0_0.index t = ![(grid0.coords t 0).val, 16 + (grid0.coords t 1).val]
    ∧ win0_1.index t = ![(grid0.coords t 0).val, 21 + (grid0.coords t 1).val]
    ∧ win0_2.index t = ![(grid0.coords t 0).val, 23 + (grid0.coords t 1).val]
    ∧ win0_3.index t = ![0, (grid0.coords t 1).val]
    ∧ win0_4.index t = ![(grid0.coords t 0).val, (grid0.coords t 1).val] :=
  (by decide +kernel : ∀ t : Fin grid0.N, _)

/-- The product of two of the gates, for one channel of a sample, row by row. -/
def colOf (p : FVec Ideal S9216x6400 .bf16) (b : Fin 4) (j : Fin 512) (l : Fin 2304) : EReal :=
  p (ix2 ⟨b.val * 2304 + l.val, by omega⟩ ⟨5376 + j.val, by omega⟩) * p (ix2 ⟨b.val * 2304 + l.val, by omega⟩ ⟨5888 + j.val, by omega⟩)

/-- The gated convolution at row `r` of sample `b`, channel `j`. -/
def out (p : FVec Ideal S9216x6400 .bf16) (w : FVec Ideal S3x512 .f32) (b : Fin 4) (r : Fin 2304) (j : Fin 512) : EReal :=
  p (ix2 ⟨b.val * 2304 + r.val, by omega⟩ ⟨4096 + j.val, by omega⟩) * conv (colOf p b j) (fun k => w (ix2 k j)) r

/-- The whole array. -/
def res (p : FVec Ideal S9216x6400 .bf16) (w : FVec Ideal S3x512 .f32) : FVec Ideal S9216x512 .bf16 :=
  fun i => out p w ⟨(i 0).val / 2304, by have h : (i 0).val < 9216 := (i 0).isLt; omega⟩ ⟨(i 0).val % 2304, by omega⟩ (i 1)

theorem res_row (p : FVec Ideal S9216x6400 .bf16) (w : FVec Ideal S3x512 .f32) (b : Fin 4) (l : Fin 2304) (r : Fin 9216) (j : Fin 512)
    (h : r.val = b.val * 2304 + l.val) : res p w (ix2 r j) = out p w b l j := by
  have e0 : (⟨r.val / 2304, by omega⟩ : Fin 4) = b := Fin.ext (by show r.val / 2304 = b.val; omega)
  have e1 : (⟨r.val % 2304, by omega⟩ : Fin 2304) = l := Fin.ext (by show r.val % 2304 = l.val; omega)
  exact congrArg₂ (out p w · · j) e0 e1

/-- The sample a grid point works on. -/
def smp (t : Fin cfg0.N) : Fin 4 := ⟨(grid0.coords t 0).val, (grid0.coords t 0).isLt⟩

/-- The channel of column `d` of a grid point's block. -/
def chan (t : Fin cfg0.N) (d : Fin 256) : Fin 512 :=
  ⟨(grid0.coords t 1).val * 256 + d.val, by have h : (grid0.coords t 1).val < 2 := (grid0.coords t 1).isLt; omega⟩

theorem blk4 (c : Dev nD) (t : Fin cfg0.N) (r : Fin 2304) (d : Fin 256) :
    out0_4 (iblk m c 0 t) (iblk m c 1 t) (iblk m c 2 t) (iblk m c 3 t) (ix2 r d)
      = res (V m c main_arg0) (V m c main_arg1) (ix2 ⟨(smp t).val * 2304 + r.val, by omega⟩ (chan t d)) := by
  obtain ⟨e0, e1, e2, e3, _⟩ := idx t
  have b0 : iblk m c 0 t (ix2 r d) = V m c main_arg0 (ix2 ⟨(smp t).val * 2304 + r.val, by omega⟩ ⟨4096 + (chan t d).val, by omega⟩) := by
    blk_ext [iblk, V, e0, smp, chan]
  have b1 : ∀ l : Fin 2304, iblk m c 1 t (ix2 l d) = V m c main_arg0 (ix2 ⟨(smp t).val * 2304 + l.val, by omega⟩ ⟨5376 + (chan t d).val, by omega⟩) := fun l => by
    blk_ext [iblk, V, e1, smp, chan]
  have b2 : ∀ l : Fin 2304, iblk m c 2 t (ix2 l d) = V m c main_arg0 (ix2 ⟨(smp t).val * 2304 + l.val, by omega⟩ ⟨5888 + (chan t d).val, by omega⟩) := fun l => by
    blk_ext [iblk, V, e2, smp, chan]
  have b3 : ∀ k : Fin 3, iblk m c 3 t (ix2 k d) = V m c main_arg1 (ix2 k (chan t d)) := fun k => by blk_ext [iblk, V, e3, chan]
  rw [res_row _ _ (smp t) r _ _ rfl]
  refine (out4 _ _ _ _ r d).trans ?_
  exact congrArg₂ (· * ·) b0 (congrArg₂ (conv · · r) (funext fun l => congrArg₂ (· * ·) (b1 l) (b2 l)) (funext b3))

theorem final (c : Dev nD) : (dats m 0 c).arrAt 4 cfg0.N = res (V m c main_arg0) (V m c main_arg1) := by
  refine (dats m 0 c).arrAt_eq_of_covers 4 _ (by decide +kernel) fun t hf y => ?_
  blk_simp
  rw [after0_4]
  obtain ⟨_, _, _, _, e4⟩ := idx t
  refine (congrArg _ (eq_ix2 y)).trans ((blk4 m c t (y 0) (y 1)).trans (congrArg _ ?_))
  blk_ext [e4, smp, chan]

end Cert.ConvMixIdeal.Val

end
-- ==== Proof.ConvMixRef.lean ====
/- The reference of the short gated convolution: the convolution of each padded segment, the gate, and the two segments joined. -/
module

public import proofs.«01_k».proof.Proof.Gen.ConvMixRefIdeal.Read
public import proofs.«01_k».proof.Proof.ConvMixKernel
public import proofs.«01_k».proof.Proof.FfnUpRef

@[expose] public section

set_option maxRecDepth 16384

noncomputable section

namespace Cert.ConvMixRefIdeal.Val

open Cert.ConvMixRefIdeal Cert.ConvMixRefIdeal.Gen Cert.ConvMixRefIdeal.Read Cert.Residual Cert.ConvMixIdeal.Val
  Idealize.ShloMosaic Idealize.ShloMosaic.TcCoe Idealize.SL.Sem
open Cert.FfnUpIdeal.Val (conv)
open Cert.FfnUpRefIdeal.Val (segC segL sitofp_zero)

variable (x0 : FVec Ideal S9216x6400 .bf16) (x1 : FVec Ideal S3x512 .f32)

theorem u_ctx (b : Fin 4) (l : Fin 256) (j : Fin 512) : val_main_v7 (F := Ideal) x0 (ix3 b l j) = colOf x0 b j (segC l) := by
  pointwise [val_main_v7, val_main_v6, val_main_v5, val_main_v4, val_main_v2, val_main_v1, val_main_v0, colOf, segC]

theorem mix_ctx (b : Fin 4) (l : Fin 256) (j : Fin 512) : val_main_v29 (F := Ideal) x0 x1 (ix3 b l j) = Cert.ConvMixIdeal.Val.out x0 x1 b (segC l) j := by
  unfold Cert.ConvMixIdeal.Val.out conv
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v4, val_main_call0_v0, val_main_c, val_main_v2, val_main_v1, val_main_v0, segC]
  simp only [u_ctx, sitofp_zero]
  refine congrArg (x0 _ * ·) (congrArg₂ (· * x1 (ix2 0 j) + _ + · * x1 (ix2 2 j)) ?_ ?_)
  · by_cases h : l.val = 0
    · rw [dif_neg (by omega), if_pos (by omega)]
    · rw [dif_pos (by omega), if_neg (by omega)]
      exact congrArg (colOf x0 b j) (Fin.ext (by simp only [segC] <;> omega))
  · by_cases h : l.val = 255
    · rw [dif_neg (by omega), dif_pos (by omega)]
    · rw [dif_pos (by omega), dif_neg (by omega)]
      exact congrArg (colOf x0 b j) (Fin.ext (by simp only [segC] <;> omega))

theorem u_lat (b : Fin 4) (l : Fin 2048) (j : Fin 512) : val_main_v33 (F := Ideal) x0 (ix3 b l j) = colOf x0 b j (segL l) := by
  pointwise [val_main_v33, val_main_v32, val_main_v31, val_main_v30, val_main_v3, val_main_v1, val_main_v0, colOf, segL]

theorem mix_lat (b : Fin 4) (l : Fin 2048) (j : Fin 512) : val_main_v55 (F := Ideal) x0 x1 (ix3 b l j) = Cert.ConvMixIdeal.Val.out x0 x1 b (segL l) j := by
  unfold Cert.ConvMixIdeal.Val.out conv
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v30, val_main_call1_v0, val_main_c_0, val_main_v3, val_main_v1, val_main_v0, segL]
  simp only [u_lat, sitofp_zero]
  refine congrArg (x0 _ * ·) (congrArg₂ (· * x1 (ix2 0 j) + _ + · * x1 (ix2 2 j)) ?_ ?_)
  · by_cases h : l.val = 0
    · rw [dif_neg (by omega), if_pos (by omega)]
    · rw [dif_pos (by omega), if_neg (by omega)]
      exact congrArg (colOf x0 b j) (Fin.ext (by simp only [segL] <;> omega))
  · by_cases h : l.val = 2047
    · rw [dif_neg (by omega), dif_pos (by omega)]
    · rw [dif_pos (by omega), dif_neg (by omega)]
      exact congrArg (colOf x0 b j) (Fin.ext (by simp only [segL] <;> omega))

theorem at_res (r : Fin 9216) (d : Fin 512) : val_main_v58 (F := Ideal) x0 x1 (ix2 r d) = Cert.ConvMixIdeal.Val.res x0 x1 (ix2 r d) := by
  refine row_cases (P := fun r => val_main_v58 (F := Ideal) x0 x1 (ix2 r d) = Cert.ConvMixIdeal.Val.res x0 x1 (ix2 r d)) (fun b l => ?_) (fun b l => ?_) r
  · rw [Cert.ConvMixIdeal.Val.res_row x0 x1 b (segC l) (rowC b l) d rfl, ← mix_ctx]
    pointwise [val_main_v58, val_main_v57, val_main_v56, rowC]
    exact pick_ctx (fun l => val_main_v29 (F := Ideal) x0 x1 (ix3 b l d)) (fun l => val_main_v55 (F := Ideal) x0 x1 (ix3 b l d)) b l
  · rw [Cert.ConvMixIdeal.Val.res_row x0 x1 b (segL l) (rowL b l) d rfl, ← mix_lat]
    pointwise [val_main_v58, val_main_v57, val_main_v56, rowL]
    exact pick_lat (fun l => val_main_v29 (F := Ideal) x0 x1 (ix3 b l d)) (fun l => val_main_v55 (F := Ideal) x0 x1 (ix3 b l d)) b l

theorem ref_eq : val_main_v58 (F := Ideal) x0 x1 = Cert.ConvMixIdeal.Val.res x0 x1 :=
  funext fun i => (congrArg _ (eq_ix2 i)).trans ((at_res x0 x1 (i 0) (i 1)).trans (congrArg _ (eq_ix2 i).symm))

end Cert.ConvMixRefIdeal.Val

end
-- ==== Proof.ConvMixValue.lean ====
/- The claim of the short gated convolution: the kernel's array and the reference's are one function of the arguments. -/
module

public import proofs.«01_k».proof.Proof.ConvMixKernel
public import proofs.«01_k».proof.Proof.ConvMixRef

@[expose] public section

noncomputable section

namespace Cert.Proof

open Idealize.ShloMosaic Idealize.ShloMosaic.TcCoe Idealize.SL.Sem

/-- The gated convolution of three taps, on both sides. -/
theorem algebraic_convMix : Cert.algebraic_ConvMixIdeal_ConvMixRefIdeal := fun m ρ m' ρ' _ hagree => by
  refine ⟨fun c => Cert.ConvMixIdeal.Val.res (m ((c.tc : Thread Cert.ConvMixIdeal.nD Cert.ConvMixIdeal.τ).loc Cert.ConvMixIdeal.main_arg0)) (m ((c.tc : Thread Cert.ConvMixIdeal.nD Cert.ConvMixIdeal.τ).loc Cert.ConvMixIdeal.main_arg1)),
    (θ_run Cert.ConvMixIdeal.defs _ _).mono (fun r h c => ⟨(h c).1.trans (Cert.ConvMixIdeal.Val.final m c), (h c).2⟩)
      (Cert.ConvMixIdeal.Value.run_blocks m ρ),
    (θ_run Cert.ConvMixRefIdeal.defs _ _).mono (fun r h c => ⟨(h c).1.trans ?_, (h c).2⟩) (Cert.ConvMixRefIdeal.Value.run (F := Ideal) m' ρ')⟩
  rw [Cert.ConvMixRefIdeal.Read.val_main_v58_eq, (hagree c).1, (hagree c).2]
  exact Cert.ConvMixRefIdeal.Val.ref_eq _ _

end Cert.Proof

end
-- ==== Proof.RetainMath.lean ====
/- The bidirectional retention, said once by row: weights that decay with the distance, and the norm of each head. -/
module

public import Idealize.ShloMosaic.Lib.Pointwise
public import Idealize.ShloMosaic.Lib.Pipeline.ValueKit

@[expose] public section

noncomputable section

namespace Cert.Retention

open Idealize.ShloMosaic

/-- The decay over `n` rows: `n` times the log of the decay, which is minus the exponential of the argument. -/
def wt (a : EReal) (n : ℕ) : EReal := Ideal.exp (((n : ℝ) : EReal) * (0 - Ideal.exp a))

/-- The weight of column `c` in row `i`: the forward decay for the columns up to the row, the backward decay after it. -/
def weight (a b : EReal) (i c : ℕ) : EReal := if c ≤ i then wt a (i - c) else wt b (c - i)

/-- The weighted sum of the values, the weights being the scores against the keys times `w`. -/
def retained {n : ℕ} (s : EReal) (q : Fin 128 → EReal) (k v : Fin n → Fin 128 → EReal) (w : Fin n → EReal) (e : Fin 128) : EReal :=
  (∑ c, (∑ d, q d * k c d) * w c * v c e) * s

/-- The mean over a head. -/
def mean (o : Fin 128 → EReal) : EReal := Ideal.div (∑ e, o e) (Ideal.ofBits .f32 0x43000000#32)

/-- The normalised head, scaled, behind its gate. -/
def gated (o g n : Fin 128 → EReal) (e : Fin 128) : EReal :=
  g e * Ideal.div 1 (1 + Ideal.exp (0 - g e))
    * ((o e - mean o) * Ideal.rsqrt (mean (fun e => (o e - mean o) * (o e - mean o)) + Ideal.ofBits .f32 0x3727C5AC#32) * n e)

/-- The scale of the scores. -/
abbrev scale : EReal := Ideal.ofBits .f32 0x3DB504F3#32

end Cert.Retention

end
-- ==== Proof.RetainKernel.lean ====
/- The retention kernel: what a grid point writes. -/
module

public import proofs.«01_k».proof.Proof.Gen.RetainIdeal.Value
public import proofs.«01_k».proof.Proof.RetainMath
public import Idealize.ShloMosaic.Lib.Pipeline.ValueKit
public import Idealize.ShloMosaic.Lib.Pipeline.ReadBack
public import Idealize.ShloMosaic.Lib.WordCmp
public import Idealize.ShloMosaic.Lib.Pointwise

@[expose] public section

set_option maxRecDepth 16384

noncomputable section

namespace Cert.RetainIdeal.Val

open Cert.RetainIdeal Cert.RetainIdeal.Gen Idealize.ShloMosaic Idealize.ShloMosaic.TcCoe Idealize.SL.Sem

variable (m : (ℓ : Loc nD τ sig) → Buf (Elt Ideal) ℓ)

open Cert.Retention

/-- One block of the scores times its weights. -/
def part (s : FVec Ideal S256x2560 .f32) (w : FVec Ideal S1x256x256 .f32) (o : Fin 2 → ℕ) (h : S256x2560.Slices o S256x256) : FVec Ideal S256x256 .bf16 :=
  truncf .bf16 (mulf (extractStridedSlice S256x256 o s h) (shapeCast S256x256 w shapeCasts_S1x256x256_S256x256)) bitsLt_bf16_f32

/-- The weighted sum of one block of latent rows over all the columns. -/
def sumV (q : FVec Ideal S256x128 .bf16) (k : FVec Ideal S2560x128 .bf16) (m0 m1 m2 m3 m4 m5 m6 m7 m8 m9 : FVec Ideal S1x256x256 .f32) (v : FVec Ideal S2560x128 .bf16) : FVec Ideal S256x128 .f32 :=
  have s : FVec Ideal S256x2560 .f32 := matmul dot_S256x128_S2560x128_S256x2560_1_1_0_0_n_n none q k (constant S256x2560 .f32 0x00000000#32)
  mulf (matmul dot_S256x2560_S2560x128_S256x128_1_0_0_1_n_n none
    (concatenate S256x2560 1 [⟨S256x256, part s m0 ![0, 0] slices_S256x2560_o0_0_S256x256⟩, ⟨S256x256, part s m1 ![0, 256] slices_S256x2560_o0_256_S256x256⟩, ⟨S256x256, part s m2 ![0, 512] slices_S256x2560_o0_512_S256x256⟩, ⟨S256x256, part s m3 ![0, 768] slices_S256x2560_o0_768_S256x256⟩, ⟨S256x256, part s m4 ![0, 1024] slices_S256x2560_o0_1024_S256x256⟩, ⟨S256x256, part s m5 ![0, 1280] slices_S256x2560_o0_1280_S256x256⟩, ⟨S256x256, part s m6 ![0, 1536] slices_S256x2560_o0_1536_S256x256⟩, ⟨S256x256, part s m7 ![0, 1792] slices_S256x2560_o0_1792_S256x256⟩, ⟨S256x256, part s m8 ![0, 2048] slices_S256x2560_o0_2048_S256x256⟩, ⟨S256x256, part s m9 ![0, 2304] slices_S256x2560_o0_2304_S256x256⟩] concatenates_S256x256_S256x256_S256x256_S256x256_S256x256_S256x256_S256x256_S256x256_S256x256_S256x256_S256x2560_d1)
    v (constant S256x128 .f32 0x00000000#32)) (broadcast S256x128 (Scalar.ofBits .f32 0x3DB504F3#32))

/-- One block of latent rows. -/
def tileV (n : FVec Ideal S1x128 .f32) (q : FVec Ideal S256x128 .bf16) (k : FVec Ideal S2560x128 .bf16) (m0 m1 m2 m3 m4 m5 m6 m7 m8 m9 : FVec Ideal S1x256x256 .f32) (v : FVec Ideal S2560x128 .bf16)
    (g : FVec Ideal S256x128 .bf16) : FVec Ideal S256x128 .bf16 :=
  k0_pay38 (F := Ideal) n (sumV q k m0 m1 m2 m3 m4 m5 m6 m7 m8 m9 v) (k0_pay37 g)

theorem form_256 (n : FVec Ideal S1x128 .f32) (q : FVec Ideal S256x128 .bf16) (k : FVec Ideal S2560x128 .bf16) (m0 m1 m2 m3 m4 m5 m6 m7 m8 m9 : FVec Ideal S1x256x256 .f32) (v : FVec Ideal S2560x128 .bf16) (g : FVec Ideal S256x128 .bf16) :
    k0_pay50 (F := Ideal) n (k0_pay39 (F := Ideal) q k) (k0_pay40 (F := Ideal) q k m0) (k0_pay42 (F := Ideal) (k0_pay39 (F := Ideal) q k) (k0_pay41 (F := Ideal) m1)) (k0_pay43 (F := Ideal) (k0_pay39 (F := Ideal) q k) m2) (k0_pay44 (F := Ideal) (k0_pay39 (F := Ideal) q k) m3) (k0_pay45 (F := Ideal) (k0_pay39 (F := Ideal) q k) m4) (k0_pay46 (F := Ideal) (k0_pay39 (F := Ideal) q k) m5) (k0_pay47 (F := Ideal) (k0_pay39 (F := Ideal) q k) m6) (k0_pay48 (F := Ideal) (k0_pay39 (F := Ideal) q k) m7) (k0_pay49 (F := Ideal) (k0_pay39 (F := Ideal) q k) m8) m9 v g
      = tileV n q k m0 m1 m2 m3 m4 m5 m6 m7 m8 m9 v g := rfl

theorem form_512 (n : FVec Ideal S1x128 .f32) (q : FVec Ideal S256x128 .bf16) (k : FVec Ideal S2560x128 .bf16) (m0 m1 m2 m3 m4 m5 m6 m7 m8 m9 : FVec Ideal S1x256x256 .f32) (v : FVec Ideal S2560x128 .bf16) (g : FVec Ideal S256x128 .bf16) :
    k0_pay62 (F := Ideal) n (k0_pay58 (F := Ideal) g) (k0_pay59 (F := Ideal) (k0_pay51 (F := Ideal) q k) (k0_pay52 (F := Ideal) q k m0) (k0_pay53 (F := Ideal) q k m1) (k0_pay54 (F := Ideal) q k m2) (k0_pay55 (F := Ideal) q k m3) (k0_pay56 (F := Ideal) q k m4) (k0_pay57 (F := Ideal) q k m5) m6 m7 m8 m9 v) (k0_pay60 (F := Ideal) (k0_pay51 (F := Ideal) q k) (k0_pay52 (F := Ideal) q k m0) (k0_pay53 (F := Ideal) q k m1) (k0_pay54 (F := Ideal) q k m2) (k0_pay55 (F := Ideal) q k m3) (k0_pay56 (F := Ideal) q k m4) (k0_pay57 (F := Ideal) q k m5) m6 m7 m8 m9 v) (k0_pay61 (F := Ideal) g)
      = tileV n q k m0 m1 m2 m3 m4 m5 m6 m7 m8 m9 v g := rfl

theorem form_768 (n : FVec Ideal S1x128 .f32) (q : FVec Ideal S256x128 .bf16) (k : FVec Ideal S2560x128 .bf16) (m0 m1 m2 m3 m4 m5 m6 m7 m8 m9 : FVec Ideal S1x256x256 .f32) (v : FVec Ideal S2560x128 .bf16) (g : FVec Ideal S256x128 .bf16) :
    k0_pay69 (F := Ideal) n (k0_pay68 (F := Ideal) (k0_pay63 (F := Ideal) q k) (k0_pay64 (F := Ideal) q k m0) (k0_pay65 (F := Ideal) q k m1) (k0_pay66 (F := Ideal) q k m2) (k0_pay67 (F := Ideal) q k m3) m4 m5 m6 m7 m8 m9 v) g
      = tileV n q k m0 m1 m2 m3 m4 m5 m6 m7 m8 m9 v g := rfl

theorem form_1024 (n : FVec Ideal S1x128 .f32) (q : FVec Ideal S256x128 .bf16) (k : FVec Ideal S2560x128 .bf16) (m0 m1 m2 m3 m4 m5 m6 m7 m8 m9 : FVec Ideal S1x256x256 .f32) (v : FVec Ideal S2560x128 .bf16) (g : FVec Ideal S256x128 .bf16) :
    k0_pay81 (F := Ideal) n (k0_pay70 (F := Ideal) q k) (k0_pay71 (F := Ideal) q k m0) (k0_pay72 (F := Ideal) (k0_pay70 (F := Ideal) q k) m1) (k0_pay73 (F := Ideal) (k0_pay70 (F := Ideal) q k) m2) (k0_pay74 (F := Ideal) (k0_pay70 (F := Ideal) q k) m3) (k0_pay75 (F := Ideal) (k0_pay70 (F := Ideal) q k) m4) (k0_pay76 (F := Ideal) (k0_pay70 (F := Ideal) q k) m5) (k0_pay77 (F := Ideal) (k0_pay70 (F := Ideal) q k) m6) (k0_pay78 (F := Ideal) (k0_pay70 (F := Ideal) q k) m7) (k0_pay79 (F := Ideal) m8) (k0_pay80 (F := Ideal) (k0_pay70 (F := Ideal) q k)) m9 v g
      = tileV n q k m0 m1 m2 m3 m4 m5 m6 m7 m8 m9 v g := rfl

theorem form_1280 (n : FVec Ideal S1x128 .f32) (q : FVec Ideal S256x128 .bf16) (k : FVec Ideal S2560x128 .bf16) (m0 m1 m2 m3 m4 m5 m6 m7 m8 m9 : FVec Ideal S1x256x256 .f32) (v : FVec Ideal S2560x128 .bf16) (g : FVec Ideal S256x128 .bf16) :
    k0_pay92 (F := Ideal) n (k0_pay89 (F := Ideal) g) (k0_pay90 (F := Ideal) (k0_pay82 (F := Ideal) q k) (k0_pay83 (F := Ideal) q k m0) (k0_pay84 (F := Ideal) q k m1) (k0_pay85 (F := Ideal) q k m2) (k0_pay86 (F := Ideal) q k m3) (k0_pay87 (F := Ideal) q k m4) (k0_pay88 (F := Ideal) q k m5) m6 m7 m8 m9 v) (k0_pay91 (F := Ideal) (k0_pay82 (F := Ideal) q k) (k0_pay83 (F := Ideal) q k m0) (k0_pay84 (F := Ideal) q k m1) (k0_pay85 (F := Ideal) q k m2) (k0_pay86 (F := Ideal) q k m3) (k0_pay87 (F := Ideal) q k m4) (k0_pay88 (F := Ideal) q k m5) m6 m7 m8 m9 v) (Scalar.ofBits (F := Ideal) .f32 0x00000000#32)
      = tileV n q k m0 m1 m2 m3 m4 m5 m6 m7 m8 m9 v g := rfl

theorem form_1536 (n : FVec Ideal S1x128 .f32) (q : FVec Ideal S256x128 .bf16) (k : FVec Ideal S2560x128 .bf16) (m0 m1 m2 m3 m4 m5 m6 m7 m8 m9 : FVec Ideal S1x256x256 .f32) (v : FVec Ideal S2560x128 .bf16) (g : FVec Ideal S256x128 .bf16) :
    k0_pay99 (F := Ideal) n (k0_pay97 (F := Ideal) (k0_pay93 (F := Ideal) q k) (k0_pay94 (F := Ideal) q k m0) (k0_pay95 (F := Ideal) q k m1) (k0_pay96 (F := Ideal) q k m2) m3 m4 m5 m6 m7 m8 m9 v) (k0_pay98 (F := Ideal)) g
      = tileV n q k m0 m1 m2 m3 m4 m5 m6 m7 m8 m9 v g := rfl

theorem form_1792 (n : FVec Ideal S1x128 .f32) (q : FVec Ideal S256x128 .bf16) (k : FVec Ideal S2560x128 .bf16) (m0 m1 m2 m3 m4 m5 m6 m7 m8 m9 : FVec Ideal S1x256x256 .f32) (v : FVec Ideal S2560x128 .bf16) (g : FVec Ideal S256x128 .bf16) :
    k0_pay112 (F := Ideal) (k0_pay110 (F := Ideal) g) (k0_pay111 (F := Ideal) n (k0_pay100 (F := Ideal) q k) (k0_pay102 (F := Ideal) (k0_pay101 (F := Ideal) q k m0)) (k0_pay103 (F := Ideal) (k0_pay100 (F := Ideal) q k) m1) (k0_pay104 (F := Ideal) (k0_pay100 (F := Ideal) q k) m2) (k0_pay105 (F := Ideal) (k0_pay100 (F := Ideal) q k) m3) (k0_pay106 (F := Ideal) (k0_pay100 (F := Ideal) q k) m4) (k0_pay107 (F := Ideal) (k0_pay100 (F := Ideal) q k) m5) (k0_pay108 (F := Ideal) (k0_pay100 (F := Ideal) q k) m6) (k0_pay109 (F := Ideal) (k0_pay100 (F := Ideal) q k) m7) m8 m9 v)
      = tileV n q k m0 m1 m2 m3 m4 m5 m6 m7 m8 m9 v g := rfl

theorem form_2048 (n : FVec Ideal S1x128 .f32) (q : FVec Ideal S256x128 .bf16) (k : FVec Ideal S2560x128 .bf16) (m0 m1 m2 m3 m4 m5 m6 m7 m8 m9 : FVec Ideal S1x256x256 .f32) (v : FVec Ideal S2560x128 .bf16) (g : FVec Ideal S256x128 .bf16) :
    k0_pay1 (F := Ideal) n (k0_pay121 (F := Ideal) g) (k0_pay122 (F := Ideal) (k0_pay113 (F := Ideal) q k) (k0_pay114 (F := Ideal) q k m0) (k0_pay115 (F := Ideal) q k m1) (k0_pay116 (F := Ideal) q k m2) (k0_pay117 (F := Ideal) q k m3) (k0_pay118 (F := Ideal) q k m4) (k0_pay119 (F := Ideal) m5) (k0_pay120 (F := Ideal) q k) m6 m7 m8 m9 v) (k0_pay123 (F := Ideal) (k0_pay113 (F := Ideal) q k) (k0_pay114 (F := Ideal) q k m0) (k0_pay115 (F := Ideal) q k m1) (k0_pay116 (F := Ideal) q k m2) (k0_pay117 (F := Ideal) q k m3) (k0_pay118 (F := Ideal) q k m4) (k0_pay119 (F := Ideal) m5) (k0_pay120 (F := Ideal) q k) m6 m7 m8 m9 v) (Scalar.ofBits (F := Ideal) .f32 0x43000000#32)
      = tileV n q k m0 m1 m2 m3 m4 m5 m6 m7 m8 m9 v g := rfl

theorem pay38_at (n : FVec Ideal S1x128 .f32) (o : FVec Ideal S256x128 .f32) (g : FVec Ideal S256x128 .bf16) (r : Fin 256) (e : Fin 128) :
    k0_pay38 (F := Ideal) n o (k0_pay37 g) (ix2 r e) = gated (fun d => o (ix2 r d)) (fun d => g (ix2 r d)) (fun d => n (ix2 0 d)) e := by
  unfold gated mean
  pointwise [k0_pay38, k0_pay37]

theorem ctx_at (q k v : FVec Ideal S256x128 .bf16) (w : FVec Ideal S1x256x256 .f32) (r : Fin 256) (e : Fin 128) :
    k0_pay36 (F := Ideal) q k w v (ix2 r e) = retained scale (fun d => q (ix2 r d)) (fun c d => k (ix2 c d)) (fun c d => v (ix2 c d)) (fun c => w (ix3 0 r c)) e := by
  unfold retained
  pointwise [k0_pay36]

theorem part_at (s : FVec Ideal S256x2560 .f32) (w : FVec Ideal S1x256x256 .f32) (o : ℕ) (h : S256x2560.Slices ![0, o] S256x256) (r c : Fin 256) (ho : o + 256 ≤ 2560) :
    part s w ![0, o] h (ix2 r c) = s (ix2 r ⟨o + c.val, by omega⟩) * w (ix3 0 r c) := by
  pointwise [part]

theorem part_score (q : FVec Ideal S256x128 .bf16) (k : FVec Ideal S2560x128 .bf16) (w : FVec Ideal S1x256x256 .f32) (W : Fin 2560 → EReal) (o : ℕ) (h : S256x2560.Slices ![0, o] S256x256)
    (ho : o + 256 ≤ 2560) (r : Fin 256) (hw : ∀ c : Fin 256, w (ix3 0 r c) = W ⟨o + c.val, by omega⟩) (c : Fin 256) (x : Fin 2560) (hx : x.val = o + c.val) :
    part (Ideal.matmul dot_S256x128_S2560x128_S256x2560_1_1_0_0_n_n q k (constant (F := Ideal) S256x2560 .f32 0x00000000#32)) w ![0, o] h (ix2 r c)
      = (∑ d, q (ix2 r d) * k (ix2 x d)) * W x := by
  have e : (⟨o + c.val, by omega⟩ : Fin 2560) = x := Fin.ext hx.symm
  rw [part_at _ _ _ _ _ _ ho, hw, e]
  refine congrArg (· * _) ?_
  pointwise []

theorem sumV_at (q : FVec Ideal S256x128 .bf16) (k : FVec Ideal S2560x128 .bf16) (m0 m1 m2 m3 m4 m5 m6 m7 m8 m9 : FVec Ideal S1x256x256 .f32) (v : FVec Ideal S2560x128 .bf16) (W : Fin 2560 → EReal)
    (r : Fin 256) (e : Fin 128) (h0 : ∀ c : Fin 256, m0 (ix3 0 r c) = W ⟨0 + c.val, by omega⟩) (h1 : ∀ c : Fin 256, m1 (ix3 0 r c) = W ⟨256 + c.val, by omega⟩) (h2 : ∀ c : Fin 256, m2 (ix3 0 r c) = W ⟨512 + c.val, by omega⟩) (h3 : ∀ c : Fin 256, m3 (ix3 0 r c) = W ⟨768 + c.val, by omega⟩) (h4 : ∀ c : Fin 256, m4 (ix3 0 r c) = W ⟨1024 + c.val, by omega⟩) (h5 : ∀ c : Fin 256, m5 (ix3 0 r c) = W ⟨1280 + c.val, by omega⟩) (h6 : ∀ c : Fin 256, m6 (ix3 0 r c) = W ⟨1536 + c.val, by omega⟩) (h7 : ∀ c : Fin 256, m7 (ix3 0 r c) = W ⟨1792 + c.val, by omega⟩) (h8 : ∀ c : Fin 256, m8 (ix3 0 r c) = W ⟨2048 + c.val, by omega⟩) (h9 : ∀ c : Fin 256, m9 (ix3 0 r c) = W ⟨2304 + c.val, by omega⟩) :
    sumV q k m0 m1 m2 m3 m4 m5 m6 m7 m8 m9 v (ix2 r e) = retained scale (fun d => q (ix2 r d)) (fun c d => k (ix2 c d)) (fun c d => v (ix2 c d)) W e := by
  unfold retained
  pointwise [sumV]
  refine congrArg (· * scale) (Finset.sum_congr rfl fun x _ => congrArg (· * v (ix2 x e)) ?_)
  have hx := x.isLt
  by_cases g0 : x.val < 256
  · rw [dif_pos g0]
    exact part_score q k _ W 0 _ (by omega) r h0 _ x (by dsimp only; omega)
  rw [dif_neg g0]
  by_cases g1 : x.val - 256 < 256
  · rw [dif_pos g1]
    exact part_score q k _ W 256 _ (by omega) r h1 _ x (by dsimp only; omega)
  rw [dif_neg g1]
  by_cases g2 : x.val - 256 - 256 < 256
  · rw [dif_pos g2]
    exact part_score q k _ W 512 _ (by omega) r h2 _ x (by dsimp only; omega)
  rw [dif_neg g2]
  by_cases g3 : x.val - 256 - 256 - 256 < 256
  · rw [dif_pos g3]
    exact part_score q k _ W 768 _ (by omega) r h3 _ x (by dsimp only; omega)
  rw [dif_neg g3]
  by_cases g4 : x.val - 256 - 256 - 256 - 256 < 256
  · rw [dif_pos g4]
    exact part_score q k _ W 1024 _ (by omega) r h4 _ x (by dsimp only; omega)
  rw [dif_neg g4]
  by_cases g5 : x.val - 256 - 256 - 256 - 256 - 256 < 256
  · rw [dif_pos g5]
    exact part_score q k _ W 1280 _ (by omega) r h5 _ x (by dsimp only; omega)
  rw [dif_neg g5]
  by_cases g6 : x.val - 256 - 256 - 256 - 256 - 256 - 256 < 256
  · rw [dif_pos g6]
    exact part_score q k _ W 1536 _ (by omega) r h6 _ x (by dsimp only; omega)
  rw [dif_neg g6]
  by_cases g7 : x.val - 256 - 256 - 256 - 256 - 256 - 256 - 256 < 256
  · rw [dif_pos g7]
    exact part_score q k _ W 1792 _ (by omega) r h7 _ x (by dsimp only; omega)
  rw [dif_neg g7]
  by_cases g8 : x.val - 256 - 256 - 256 - 256 - 256 - 256 - 256 - 256 < 256
  · rw [dif_pos g8]
    exact part_score q k _ W 2048 _ (by omega) r h8 _ x (by dsimp only; omega)
  rw [dif_neg g8]
  exact part_score q k _ W 2304 _ (by omega) r h9 _ x (by dsimp only; omega)

/-- The weights of the block at distance index `d`: the diagonal, then the eight distances forward, then the eight backward. -/
def maskAt (a b : EReal) (d r c : ℕ) : EReal :=
  if d = 0 then weight a b r c else if d ≤ 8 then wt a (256 * d + r - c) else wt b (256 * (d - 8) + c - r)

/-- All the blocks of weights. -/
def masks (a b : EReal) : FVec Ideal S17x256x256 .f32 := fun j => maskAt a b (j 0).val (j 1).val (j 2).val

/-- The rows apart, as a number. -/
theorem apart (r c : Fin 256) : FloatOps.sitofp (F := Ideal) FTy.f32 (IntOp.subi (BitVec.ofNat 32 r.val) (BitVec.ofNat 32 c.val)) = (((r.val : ℝ) - c.val : ℝ) : EReal) := by
  have h : (IntOp.subi (BitVec.ofNat 32 r.val) (BitVec.ofNat 32 c.val)).toInt = (r.val : ℤ) - c.val := by
    have hr := r.isLt
    have hc := c.isLt
    show (BitVec.ofNat 32 r.val - BitVec.ofNat 32 c.val).toInt = _
    rw [BitVec.toInt_sub, BitVec.toInt_eq_toNat_bmod, BitVec.toInt_eq_toNat_bmod, BitVec.toNat_ofNat, BitVec.toNat_ofNat]
    simp only [Int.bmod]
    omega
  show (((IntOp.subi (BitVec.ofNat 32 r.val) (BitVec.ofNat 32 c.val)).toInt : ℝ) : EReal) = _
  rw [h]
  push_cast
  rfl

/-- The distance forward of a block. -/
theorem exp_fwd (n : ℕ) (hn : 0 < n) (y x : EReal) (hy : y = ((256 * n : ℝ) : EReal)) (r c : Fin 256) :
    Ideal.exp ((y + FloatOps.sitofp (F := Ideal) FTy.f32 (IntOp.subi (BitVec.ofNat 32 r.val) (BitVec.ofNat 32 c.val))) * (0 - Ideal.exp x)) = wt x (256 * n + r.val - c.val) := by
  unfold wt
  rw [apart, hy, ← EReal.coe_add]
  refine congrArg (fun z : ℝ => Ideal.exp ((z : EReal) * _)) ?_
  rw [Nat.cast_sub (by omega)]
  push_cast
  ring

theorem exp_bwd (n : ℕ) (hn : 0 < n) (y x : EReal) (hy : y = ((256 * n : ℝ) : EReal)) (r c : Fin 256) :
    Ideal.exp ((y - FloatOps.sitofp (F := Ideal) FTy.f32 (IntOp.subi (BitVec.ofNat 32 r.val) (BitVec.ofNat 32 c.val))) * (0 - Ideal.exp x)) = wt x (256 * n + c.val - r.val) := by
  unfold wt
  rw [apart, hy, ← EReal.coe_sub]
  refine congrArg (fun z : ℝ => Ideal.exp ((z : EReal) * _)) ?_
  rw [Nat.cast_sub (by omega)]
  push_cast
  ring

theorem diag (l l' : FVec Ideal S1x1x1 .f32) (r c : Fin 256) :
    k0_pay16 (F := Ideal) (k0_pay15 l l') (ix3 0 r c) = maskAt (l (ix3 0 0 0)) (l' (ix3 0 0 0)) 0 r.val c.val := by
  unfold maskAt weight wt
  rw [if_pos rfl]
  pointwise [k0_pay16, k0_pay15, k0_pay14, k0_pay11, k0_pay12]
  rw [apart]
  by_cases h : c.val ≤ r.val
  · rw [if_pos h, if_pos (EReal.coe_nonneg.mpr (sub_nonneg.mpr (Nat.cast_le.mpr h))), Nat.cast_sub h]
  · rw [if_neg h, if_neg (fun h' => h (Nat.cast_le.mp (sub_nonneg.mp (EReal.coe_nonneg.mp h')))), Nat.cast_sub (by omega), zero_sub, ← EReal.coe_neg, neg_sub]

theorem word_256 : Ideal.ofBits .f32 0x43800000#32 = ((256 * (1 : ℕ) : ℝ) : EReal) := by
  simp [Ideal.ofBits, Ideal.ieee, -EReal.coe_mul]
  norm_num

theorem fwd1 (l : FVec Ideal S1x1x1 .f32) (b : EReal) (r c : Fin 256) : (k0_pay17 (k0_pay11 l) k0_pay14 : FVec Ideal S1x256x256 .f32) (ix3 0 r c) = maskAt (l (ix3 0 0 0)) b 1 r.val c.val := by
  refine Eq.trans ?_ (exp_fwd 1 (by omega) _ _ word_256 r c)
  pointwise [k0_pay11, k0_pay14, k0_pay17]

theorem bwd1 (l : FVec Ideal S1x1x1 .f32) (a : EReal) (r c : Fin 256) : (k0_pay18 (k0_pay12 l) k0_pay14 : FVec Ideal S1x256x256 .f32) (ix3 0 r c) = maskAt a (l (ix3 0 0 0)) 9 r.val c.val := by
  refine Eq.trans ?_ (exp_bwd 1 (by omega) _ _ word_256 r c)
  pointwise [k0_pay12, k0_pay14, k0_pay18]

theorem word_512 : Ideal.ofBits .f32 0x44000000#32 = ((256 * (2 : ℕ) : ℝ) : EReal) := by
  simp [Ideal.ofBits, Ideal.ieee, -EReal.coe_mul]
  norm_num

theorem fwd2 (l : FVec Ideal S1x1x1 .f32) (b : EReal) (r c : Fin 256) : (k0_pay19 (k0_pay11 l) k0_pay14 : FVec Ideal S1x256x256 .f32) (ix3 0 r c) = maskAt (l (ix3 0 0 0)) b 2 r.val c.val := by
  refine Eq.trans ?_ (exp_fwd 2 (by omega) _ _ word_512 r c)
  pointwise [k0_pay11, k0_pay14, k0_pay19]

theorem bwd2 (l : FVec Ideal S1x1x1 .f32) (a : EReal) (r c : Fin 256) : (k0_pay20 (k0_pay12 l) k0_pay14 : FVec Ideal S1x256x256 .f32) (ix3 0 r c) = maskAt a (l (ix3 0 0 0)) 10 r.val c.val := by
  refine Eq.trans ?_ (exp_bwd 2 (by omega) _ _ word_512 r c)
  pointwise [k0_pay12, k0_pay14, k0_pay20]

theorem word_768 : Ideal.ofBits .f32 0x44400000#32 = ((256 * (3 : ℕ) : ℝ) : EReal) := by
  simp [Ideal.ofBits, Ideal.ieee, -EReal.coe_mul]
  norm_num

theorem fwd3 (l : FVec Ideal S1x1x1 .f32) (b : EReal) (r c : Fin 256) : (k0_pay23 (k0_pay21 k0_pay14) (k0_pay22 (k0_pay11 l)) : FVec Ideal S1x256x256 .f32) (ix3 0 r c) = maskAt (l (ix3 0 0 0)) b 3 r.val c.val := by
  refine Eq.trans ?_ (exp_fwd 3 (by omega) _ _ word_768 r c)
  pointwise [k0_pay11, k0_pay14, k0_pay21, k0_pay22, k0_pay23]

theorem bwd3 (l : FVec Ideal S1x1x1 .f32) (a : EReal) (r c : Fin 256) : (k0_pay24 (k0_pay12 l) k0_pay14 : FVec Ideal S1x256x256 .f32) (ix3 0 r c) = maskAt a (l (ix3 0 0 0)) 11 r.val c.val := by
  refine Eq.trans ?_ (exp_bwd 3 (by omega) _ _ word_768 r c)
  pointwise [k0_pay12, k0_pay14, k0_pay24]

theorem word_1024 : Ideal.ofBits .f32 0x44800000#32 = ((256 * (4 : ℕ) : ℝ) : EReal) := by
  simp [Ideal.ofBits, Ideal.ieee, -EReal.coe_mul]
  norm_num

theorem fwd4 (l : FVec Ideal S1x1x1 .f32) (b : EReal) (r c : Fin 256) : (k0_pay25 (k0_pay11 l) k0_pay14 : FVec Ideal S1x256x256 .f32) (ix3 0 r c) = maskAt (l (ix3 0 0 0)) b 4 r.val c.val := by
  refine Eq.trans ?_ (exp_fwd 4 (by omega) _ _ word_1024 r c)
  pointwise [k0_pay11, k0_pay14, k0_pay25]

theorem bwd4 (l : FVec Ideal S1x1x1 .f32) (a : EReal) (r c : Fin 256) : (k0_pay26 (k0_pay12 l) k0_pay14 : FVec Ideal S1x256x256 .f32) (ix3 0 r c) = maskAt a (l (ix3 0 0 0)) 12 r.val c.val := by
  refine Eq.trans ?_ (exp_bwd 4 (by omega) _ _ word_1024 r c)
  pointwise [k0_pay12, k0_pay14, k0_pay26]

theorem word_1280 : Ideal.ofBits .f32 0x44a00000#32 = ((256 * (5 : ℕ) : ℝ) : EReal) := by
  simp [Ideal.ofBits, Ideal.ieee, -EReal.coe_mul]
  norm_num

theorem fwd5 (l : FVec Ideal S1x1x1 .f32) (b : EReal) (r c : Fin 256) : (k0_pay27 (k0_pay11 l) k0_pay14 : FVec Ideal S1x256x256 .f32) (ix3 0 r c) = maskAt (l (ix3 0 0 0)) b 5 r.val c.val := by
  refine Eq.trans ?_ (exp_fwd 5 (by omega) _ _ word_1280 r c)
  pointwise [k0_pay11, k0_pay14, k0_pay27]

theorem bwd5 (l : FVec Ideal S1x1x1 .f32) (a : EReal) (r c : Fin 256) : (k0_pay28 (k0_pay12 l) k0_pay14 : FVec Ideal S1x256x256 .f32) (ix3 0 r c) = maskAt a (l (ix3 0 0 0)) 13 r.val c.val := by
  refine Eq.trans ?_ (exp_bwd 5 (by omega) _ _ word_1280 r c)
  pointwise [k0_pay12, k0_pay14, k0_pay28]

theorem word_1536 : Ideal.ofBits .f32 0x44c00000#32 = ((256 * (6 : ℕ) : ℝ) : EReal) := by
  simp [Ideal.ofBits, Ideal.ieee, -EReal.coe_mul]
  norm_num

theorem fwd6 (l : FVec Ideal S1x1x1 .f32) (b : EReal) (r c : Fin 256) : (k0_pay29 (k0_pay11 l) k0_pay14 : FVec Ideal S1x256x256 .f32) (ix3 0 r c) = maskAt (l (ix3 0 0 0)) b 6 r.val c.val := by
  refine Eq.trans ?_ (exp_fwd 6 (by omega) _ _ word_1536 r c)
  pointwise [k0_pay11, k0_pay14, k0_pay29]

theorem bwd6 (l : FVec Ideal S1x1x1 .f32) (a : EReal) (r c : Fin 256) : (k0_pay30 (k0_pay12 l) k0_pay14 : FVec Ideal S1x256x256 .f32) (ix3 0 r c) = maskAt a (l (ix3 0 0 0)) 14 r.val c.val := by
  refine Eq.trans ?_ (exp_bwd 6 (by omega) _ _ word_1536 r c)
  pointwise [k0_pay12, k0_pay14, k0_pay30]

theorem word_1792 : Ideal.ofBits .f32 0x44e00000#32 = ((256 * (7 : ℕ) : ℝ) : EReal) := by
  simp [Ideal.ofBits, Ideal.ieee, -EReal.coe_mul]
  norm_num

theorem fwd7 (l : FVec Ideal S1x1x1 .f32) (b : EReal) (r c : Fin 256) : (k0_pay31 (k0_pay11 l) k0_pay14 : FVec Ideal S1x256x256 .f32) (ix3 0 r c) = maskAt (l (ix3 0 0 0)) b 7 r.val c.val := by
  refine Eq.trans ?_ (exp_fwd 7 (by omega) _ _ word_1792 r c)
  pointwise [k0_pay11, k0_pay14, k0_pay31]

theorem bwd7 (l : FVec Ideal S1x1x1 .f32) (a : EReal) (r c : Fin 256) : (k0_pay33 (k0_pay32 (k0_pay12 l) k0_pay14) : FVec Ideal S1x256x256 .f32) (ix3 0 r c) = maskAt a (l (ix3 0 0 0)) 15 r.val c.val := by
  refine Eq.trans ?_ (exp_bwd 7 (by omega) _ _ word_1792 r c)
  pointwise [k0_pay12, k0_pay14, k0_pay32, k0_pay33]

theorem word_2048 : Ideal.ofBits .f32 0x45000000#32 = ((256 * (8 : ℕ) : ℝ) : EReal) := by
  simp [Ideal.ofBits, Ideal.ieee, -EReal.coe_mul]
  norm_num

theorem fwd8 (l : FVec Ideal S1x1x1 .f32) (b : EReal) (r c : Fin 256) : (k0_pay34 (k0_pay11 l) k0_pay14 : FVec Ideal S1x256x256 .f32) (ix3 0 r c) = maskAt (l (ix3 0 0 0)) b 8 r.val c.val := by
  refine Eq.trans ?_ (exp_fwd 8 (by omega) _ _ word_2048 r c)
  pointwise [k0_pay11, k0_pay14, k0_pay34]

theorem bwd8 (l : FVec Ideal S1x1x1 .f32) (a : EReal) (r c : Fin 256) : (k0_pay35 (k0_pay12 l) k0_pay14 : FVec Ideal S1x256x256 .f32) (ix3 0 r c) = maskAt a (l (ix3 0 0 0)) 16 r.val c.val := by
  refine Eq.trans ?_ (exp_bwd 8 (by omega) _ _ word_2048 r c)
  pointwise [k0_pay12, k0_pay14, k0_pay35]

/-! ## The scratch arrays -/

/-- The turned queries or keys of a block. -/
def turned (x6 x7 x8 : FVec Ideal S2304x128 .f32) (x : FVec Ideal S2304x128 .bf16) (r : Fin 2304) (d : Fin 128) : EReal :=
  x (ix2 r d) * x6 (ix2 r d) + x (ix2 r ⟨(d.val + 128 - 96) % 128, by omega⟩) * x7 (ix2 r d) + x (ix2 r ⟨(d.val + 128 - 32) % 128, by omega⟩) * x8 (ix2 r d)

/-- A block whose rows are read by two coordinates. -/
def block (f : Fin 2304 → Fin 128 → EReal) : FVec Ideal S2304x128 .bf16 := fun j => f (j 0) (j 1)

/-- A block with its first 256 rows again after the last. -/
def again (f : Fin 2304 → Fin 128 → EReal) : FVec Ideal S2560x128 .bf16 := fun j => f ⟨(j 0).val % 2304, Nat.mod_lt _ (by omega)⟩ (j 1)

theorem pay5_at (x6 x7 x8 : FVec Ideal S2304x128 .f32) (x : FVec Ideal S2304x128 .bf16) (r : Fin 2304) (d : Fin 128) :
    k0_pay5 (F := Ideal) x6 x7 x8 x (ix2 r d) = turned x6 x7 x8 x r d := by
  unfold turned
  pointwise [k0_pay5, k0_pay2, k0_pay3, k0_pay4]

theorem pay7_at (x6 x7 x8 : FVec Ideal S2304x128 .f32) (x : FVec Ideal S2304x128 .bf16) (r : Fin 2304) (d : Fin 128) :
    k0_pay7 (F := Ideal) x6 x7 x8 x (ix2 r d) = turned x6 x7 x8 x r d := by
  unfold turned
  pointwise [k0_pay7, k0_pay6, k0_pay2, k0_pay3, k0_pay4]

theorem pay8_at (x6 x7 x8 : FVec Ideal S2304x128 .f32) (x : FVec Ideal S2304x128 .bf16) (r : Fin 256) (d : Fin 128) :
    k0_pay8 (F := Ideal) x6 x7 x8 x (ix2 r d) = turned x6 x7 x8 x ⟨r.val, by omega⟩ d := by
  unfold turned
  pointwise [k0_pay8, k0_pay6, k0_pay2, k0_pay3, k0_pay4]

/-- The values of a block, by row and channel. -/
def entries (x : FVec Ideal S2304x128 .bf16) (r : Fin 2304) (d : Fin 128) : EReal := x (ix2 r d)

theorem pay9_at (x : FVec Ideal S2304x128 .bf16) (r : Fin 2304) (d : Fin 128) : k0_pay9 (F := Ideal) x (ix2 r d) = entries x r d := by
  unfold entries
  pointwise [k0_pay9]

theorem pay10_at (x : FVec Ideal S2304x128 .bf16) (r : Fin 256) (d : Fin 128) :
    k0_pay10 (F := Ideal) (View.ld (Val := Elt Ideal) (e' := .bf16) x (Rect.unit (s := S2304x128) ![0, 0] S256x128.size inb_S2304x128_S256x128_0_0)) (ix2 r d) = entries x ⟨r.val, by omega⟩ d := by
  unfold entries
  pointwise [k0_pay10]

/-- A whole store. -/
abbrev whole (p : FVec Ideal S2304x128 .bf16) : List (View.Piece (Elt Ideal) S2304x128 .bf16) :=
  [⟨Rect.unit (s := S2304x128) ![0, 0] S2304x128.size inb_S2304x128_S2304x128_0_0, p⟩]

theorem whole_of (f : Fin 2304 → Fin 128 → EReal) (p : FVec Ideal S2304x128 .bf16) (hp : ∀ r d, p (ix2 r d) = f r d) : View.PiecesOf (block f) (whole p) := by
  refine ⟨fun x => ?_, trivial⟩
  refine (congrArg p (eq_ix2 x)).trans ((hp (x 0) (x 1)).trans (congrArg₂ f (Fin.ext ?_) (Fin.ext ?_)))
  · show (x 0).val = 0 + 1 * (x 0).val
    omega
  · show (x 1).val = 0 + 1 * (x 1).val
    omega

theorem whole_cover (p : FVec Ideal S2304x128 .bf16) (y : S2304x128.Idx) : ∃ q ∈ whole p, y ∈ q.1.set := by
  have h0 : (y 0).val < 2304 := (y 0).isLt
  have h1 : (y 1).val < 128 := (y 1).isLt
  have h : y ∈ (Rect.unit (s := S2304x128) ![0, 0] S2304x128.size inb_S2304x128_S2304x128_0_0).set := Rect.mem_set_unit.mpr (Fin.forall_fin_two.mpr
    ⟨⟨Nat.zero_le _, by show (y 0).val < 0 + 2304; omega⟩, ⟨Nat.zero_le _, by show (y 1).val < 0 + 128; omega⟩⟩)
  exact ⟨_, .head _, h⟩

theorem load_block {sp : Space} (v : View sig .tc sp S2304x128 .bf16) (f : Fin 2304 → Fin 128 → EReal) (p : FVec Ideal S2304x128 .bf16) (hp : ∀ r d, p (ix2 r d) = f r d)
    (B : LoadRect S2304x128) : v.readCov (whole p) B = fun j => block f (B.idx j) := by
  rw [View.readCov_eq_canon']
  funext j
  exact View.canon_append_of_piecesOf _ [] _ (whole_of f p hp) _ (whole_cover p _)

/-- The two stores of the padded keys or values. -/
abbrev twice (p : FVec Ideal S2304x128 .bf16) (p' : FVec Ideal S256x128 .bf16) : List (View.Piece (Elt Ideal) S2560x128 .bf16) :=
  [⟨Rect.unit (s := S2560x128) ![2304, 0] S256x128.size inb_S2560x128_S256x128_2304_0, p'⟩,
    ⟨Rect.unit (s := S2560x128) ![0, 0] S2304x128.size inb_S2560x128_S2304x128_0_0, p⟩]

theorem twice_of (f : Fin 2304 → Fin 128 → EReal) (p : FVec Ideal S2304x128 .bf16) (p' : FVec Ideal S256x128 .bf16)
    (hp : ∀ r d, p (ix2 r d) = f r d) (hp' : ∀ (r : Fin 256) d, p' (ix2 r d) = f ⟨r.val, by omega⟩ d) : View.PiecesOf (again f) (twice p p') := by
  refine ⟨fun x => ?_, fun x => ?_, trivial⟩
  · refine (congrArg p' (eq_ix2 x)).trans ((hp' (x 0) (x 1)).trans (congrArg₂ f (Fin.ext ?_) (Fin.ext ?_)))
    · have h : (x 0).val < 256 := (x 0).isLt
      show (x 0).val = (2304 + 1 * (x 0).val) % 2304
      omega
    · show (x 1).val = 0 + 1 * (x 1).val
      omega
  · refine (congrArg p (eq_ix2 x)).trans ((hp (x 0) (x 1)).trans (congrArg₂ f (Fin.ext ?_) (Fin.ext ?_)))
    · have h : (x 0).val < 2304 := (x 0).isLt
      show (x 0).val = (0 + 1 * (x 0).val) % 2304
      omega
    · show (x 1).val = 0 + 1 * (x 1).val
      omega

theorem twice_cover (p : FVec Ideal S2304x128 .bf16) (p' : FVec Ideal S256x128 .bf16) (y : S2560x128.Idx) : ∃ q ∈ twice p p', y ∈ q.1.set := by
  have h0 : (y 0).val < 2560 := (y 0).isLt
  have h1 : (y 1).val < 128 := (y 1).isLt
  rcases Nat.lt_or_ge (y 0).val 2304 with h | h
  · have h' : y ∈ (Rect.unit (s := S2560x128) ![0, 0] S2304x128.size inb_S2560x128_S2304x128_0_0).set := Rect.mem_set_unit.mpr (Fin.forall_fin_two.mpr
      ⟨⟨Nat.zero_le _, by show (y 0).val < 0 + 2304; omega⟩, ⟨Nat.zero_le _, by show (y 1).val < 0 + 128; omega⟩⟩)
    exact ⟨_, .tail _ (.head _), h'⟩
  · have h' : y ∈ (Rect.unit (s := S2560x128) ![2304, 0] S256x128.size inb_S2560x128_S256x128_2304_0).set := Rect.mem_set_unit.mpr (Fin.forall_fin_two.mpr
      ⟨⟨h, by show (y 0).val < 2304 + 256; omega⟩, ⟨Nat.zero_le _, by show (y 1).val < 0 + 128; omega⟩⟩)
    exact ⟨_, .head _, h'⟩

theorem load_again {sp : Space} (v : View sig .tc sp S2560x128 .bf16) (f : Fin 2304 → Fin 128 → EReal) (p : FVec Ideal S2304x128 .bf16) (p' : FVec Ideal S256x128 .bf16)
    (hp : ∀ r d, p (ix2 r d) = f r d) (hp' : ∀ (r : Fin 256) d, p' (ix2 r d) = f ⟨r.val, by omega⟩ d) (B : LoadRect S2560x128) :
    v.readCov (twice p p') B = fun j => again f (B.idx j) := by
  rw [View.readCov_eq_canon']
  funext j
  exact View.canon_append_of_piecesOf _ [] _ (twice_of f p p' hp hp') _ (twice_cover p p' _)

/-- The stores of the weights. -/
abbrev stores (p16 p8 p15 p7 p14 p6 p13 p5 p12 p4 p11 p3 p10 p2 p9 p1 p0 : FVec Ideal S1x256x256 .f32) : List (View.Piece (Elt Ideal) S17x256x256 .f32) :=
  [⟨Rect.unit (s := S17x256x256) ![16, 0, 0] S1x256x256.size inb_S17x256x256_S1x256x256_16_0_0, p16⟩,
    ⟨Rect.unit (s := S17x256x256) ![8, 0, 0] S1x256x256.size inb_S17x256x256_S1x256x256_8_0_0, p8⟩,
    ⟨Rect.unit (s := S17x256x256) ![15, 0, 0] S1x256x256.size inb_S17x256x256_S1x256x256_15_0_0, p15⟩,
    ⟨Rect.unit (s := S17x256x256) ![7, 0, 0] S1x256x256.size inb_S17x256x256_S1x256x256_7_0_0, p7⟩,
    ⟨Rect.unit (s := S17x256x256) ![14, 0, 0] S1x256x256.size inb_S17x256x256_S1x256x256_14_0_0, p14⟩,
    ⟨Rect.unit (s := S17x256x256) ![6, 0, 0] S1x256x256.size inb_S17x256x256_S1x256x256_6_0_0, p6⟩,
    ⟨Rect.unit (s := S17x256x256) ![13, 0, 0] S1x256x256.size inb_S17x256x256_S1x256x256_13_0_0, p13⟩,
    ⟨Rect.unit (s := S17x256x256) ![5, 0, 0] S1x256x256.size inb_S17x256x256_S1x256x256_5_0_0, p5⟩,
    ⟨Rect.unit (s := S17x256x256) ![12, 0, 0] S1x256x256.size inb_S17x256x256_S1x256x256_12_0_0, p12⟩,
    ⟨Rect.unit (s := S17x256x256) ![4, 0, 0] S1x256x256.size inb_S17x256x256_S1x256x256_4_0_0, p4⟩,
    ⟨Rect.unit (s := S17x256x256) ![11, 0, 0] S1x256x256.size inb_S17x256x256_S1x256x256_11_0_0, p11⟩,
    ⟨Rect.unit (s := S17x256x256) ![3, 0, 0] S1x256x256.size inb_S17x256x256_S1x256x256_3_0_0, p3⟩,
    ⟨Rect.unit (s := S17x256x256) ![10, 0, 0] S1x256x256.size inb_S17x256x256_S1x256x256_10_0_0, p10⟩,
    ⟨Rect.unit (s := S17x256x256) ![2, 0, 0] S1x256x256.size inb_S17x256x256_S1x256x256_2_0_0, p2⟩,
    ⟨Rect.unit (s := S17x256x256) ![9, 0, 0] S1x256x256.size inb_S17x256x256_S1x256x256_9_0_0, p9⟩,
    ⟨Rect.unit (s := S17x256x256) ![1, 0, 0] S1x256x256.size inb_S17x256x256_S1x256x256_1_0_0, p1⟩,
    ⟨Rect.unit (s := S17x256x256) ![0, 0, 0] S1x256x256.size inb_S17x256x256_S1x256x256_0_0_0, p0⟩]

theorem stores_cover (p16 p8 p15 p7 p14 p6 p13 p5 p12 p4 p11 p3 p10 p2 p9 p1 p0 : FVec Ideal S1x256x256 .f32) (y : S17x256x256.Idx) : ∃ p ∈ stores p16 p8 p15 p7 p14 p6 p13 p5 p12 p4 p11 p3 p10 p2 p9 p1 p0, y ∈ p.1.set := by
  have h0 : (y 0).val < 17 := (y 0).isLt
  have h1 : (y 1).val < 256 := (y 1).isLt
  have h2 : (y 2).val < 256 := (y 2).isLt
  have hit : ∀ (d : ℕ) (inb : ∀ a, (![d, 0, 0] : Fin 3 → ℕ) a + S1x256x256.size a ≤ S17x256x256.size a), (y 0).val = d →
      y ∈ (Rect.unit (s := S17x256x256) ![d, 0, 0] S1x256x256.size inb).set := fun d inb h =>
    Rect.mem_set_unit.mpr (Fin.forall_fin_succ.mpr ⟨⟨h.ge, by show (y 0).val < d + 1; omega⟩,
      Fin.forall_fin_two.mpr ⟨⟨Nat.zero_le _, by show (y 1).val < 0 + 256; omega⟩, ⟨Nat.zero_le _, by show (y 2).val < 0 + 256; omega⟩⟩⟩)
  rcases Nat.eq_or_lt_of_le (show 0 ≤ (y 0).val by omega) with h0' | h0'
  · exact ⟨_, .tail _ (.tail _ (.tail _ (.tail _ (.tail _ (.tail _ (.tail _ (.tail _ (.tail _ (.tail _ (.tail _ (.tail _ (.tail _ (.tail _ (.tail _ (.tail _ (.head _)))))))))))))))), hit 0 inb_S17x256x256_S1x256x256_0_0_0 h0'.symm⟩
  rcases Nat.eq_or_lt_of_le (show 1 ≤ (y 0).val by omega) with h1' | h1'
  · exact ⟨_, .tail _ (.tail _ (.tail _ (.tail _ (.tail _ (.tail _ (.tail _ (.tail _ (.tail _ (.tail _ (.tail _ (.tail _ (.tail _ (.tail _ (.tail _ (.head _))))))))))))))), hit 1 inb_S17x256x256_S1x256x256_1_0_0 h1'.symm⟩
  rcases Nat.eq_or_lt_of_le (show 2 ≤ (y 0).val by omega) with h2' | h2'
  · exact ⟨_, .tail _ (.tail _ (.tail _ (.tail _ (.tail _ (.tail _ (.tail _ (.tail _ (.tail _ (.tail _ (.tail _ (.tail _ (.tail _ (.head _))))))))))))), hit 2 inb_S17x256x256_S1x256x256_2_0_0 h2'.symm⟩
  rcases Nat.eq_or_lt_of_le (show 3 ≤ (y 0).val by omega) with h3' | h3'
  · exact ⟨_, .tail _ (.tail _ (.tail _ (.tail _ (.tail _ (.tail _ (.tail _ (.tail _ (.tail _ (.tail _ (.tail _ (.head _))))))))))), hit 3 inb_S17x256x256_S1x256x256_3_0_0 h3'.symm⟩
  rcases Nat.eq_or_lt_of_le (show 4 ≤ (y 0).val by omega) with h4' | h4'
  · exact ⟨_, .tail _ (.tail _ (.tail _ (.tail _ (.tail _ (.tail _ (.tail _ (.tail _ (.tail _ (.head _))))))))), hit 4 inb_S17x256x256_S1x256x256_4_0_0 h4'.symm⟩
  rcases Nat.eq_or_lt_of_le (show 5 ≤ (y 0).val by omega) with h5' | h5'
  · exact ⟨_, .tail _ (.tail _ (.tail _ (.tail _ (.tail _ (.tail _ (.tail _ (.head _))))))), hit 5 inb_S17x256x256_S1x256x256_5_0_0 h5'.symm⟩
  rcases Nat.eq_or_lt_of_le (show 6 ≤ (y 0).val by omega) with h6' | h6'
  · exact ⟨_, .tail _ (.tail _ (.tail _ (.tail _ (.tail _ (.head _))))), hit 6 inb_S17x256x256_S1x256x256_6_0_0 h6'.symm⟩
  rcases Nat.eq_or_lt_of_le (show 7 ≤ (y 0).val by omega) with h7' | h7'
  · exact ⟨_, .tail _ (.tail _ (.tail _ (.head _))), hit 7 inb_S17x256x256_S1x256x256_7_0_0 h7'.symm⟩
  rcases Nat.eq_or_lt_of_le (show 8 ≤ (y 0).val by omega) with h8' | h8'
  · exact ⟨_, .tail _ (.head _), hit 8 inb_S17x256x256_S1x256x256_8_0_0 h8'.symm⟩
  rcases Nat.eq_or_lt_of_le (show 9 ≤ (y 0).val by omega) with h9' | h9'
  · exact ⟨_, .tail _ (.tail _ (.tail _ (.tail _ (.tail _ (.tail _ (.tail _ (.tail _ (.tail _ (.tail _ (.tail _ (.tail _ (.tail _ (.tail _ (.head _)))))))))))))), hit 9 inb_S17x256x256_S1x256x256_9_0_0 h9'.symm⟩
  rcases Nat.eq_or_lt_of_le (show 10 ≤ (y 0).val by omega) with h10' | h10'
  · exact ⟨_, .tail _ (.tail _ (.tail _ (.tail _ (.tail _ (.tail _ (.tail _ (.tail _ (.tail _ (.tail _ (.tail _ (.tail _ (.head _)))))))))))), hit 10 inb_S17x256x256_S1x256x256_10_0_0 h10'.symm⟩
  rcases Nat.eq_or_lt_of_le (show 11 ≤ (y 0).val by omega) with h11' | h11'
  · exact ⟨_, .tail _ (.tail _ (.tail _ (.tail _ (.tail _ (.tail _ (.tail _ (.tail _ (.tail _ (.tail _ (.head _)))))))))), hit 11 inb_S17x256x256_S1x256x256_11_0_0 h11'.symm⟩
  rcases Nat.eq_or_lt_of_le (show 12 ≤ (y 0).val by omega) with h12' | h12'
  · exact ⟨_, .tail _ (.tail _ (.tail _ (.tail _ (.tail _ (.tail _ (.tail _ (.tail _ (.head _)))))))), hit 12 inb_S17x256x256_S1x256x256_12_0_0 h12'.symm⟩
  rcases Nat.eq_or_lt_of_le (show 13 ≤ (y 0).val by omega) with h13' | h13'
  · exact ⟨_, .tail _ (.tail _ (.tail _ (.tail _ (.tail _ (.tail _ (.head _)))))), hit 13 inb_S17x256x256_S1x256x256_13_0_0 h13'.symm⟩
  rcases Nat.eq_or_lt_of_le (show 14 ≤ (y 0).val by omega) with h14' | h14'
  · exact ⟨_, .tail _ (.tail _ (.tail _ (.tail _ (.head _)))), hit 14 inb_S17x256x256_S1x256x256_14_0_0 h14'.symm⟩
  rcases Nat.eq_or_lt_of_le (show 15 ≤ (y 0).val by omega) with h15' | h15'
  · exact ⟨_, .tail _ (.tail _ (.head _)), hit 15 inb_S17x256x256_S1x256x256_15_0_0 h15'.symm⟩
  exact ⟨_, .head _, hit 16 inb_S17x256x256_S1x256x256_16_0_0 (by omega)⟩

theorem mask_piece (a b : EReal) (d : ℕ) (inb : ∀ a, (![d, 0, 0] : Fin 3 → ℕ) a + S1x256x256.size a ≤ S17x256x256.size a) (p : FVec Ideal S1x256x256 .f32)
    (hp : ∀ r c : Fin 256, p (ix3 0 r c) = maskAt a b d r.val c.val) (x : S1x256x256.Idx) :
    p x = masks a b ((Rect.unit (s := S17x256x256) ![d, 0, 0] S1x256x256.size inb).emb x) := by
  have h0 : (x 0).val < 1 := (x 0).isLt
  have hx : x = ix3 0 (x 1) (x 2) := (eq_ix3 x).trans (congrArg (fun z : Fin 1 => (ix3 z (x 1) (x 2) : S1x256x256.Idx)) (Fin.ext (by show (x 0).val = 0; omega)))
  refine (congrArg _ hx).trans ((hp (x 1) (x 2)).trans ?_)
  unfold masks
  have e0 : (((Rect.unit (s := S17x256x256) ![d, 0, 0] S1x256x256.size inb).emb x) 0).val = d := by
    show d + 1 * (x 0).val = d
    omega
  have e1 : (((Rect.unit (s := S17x256x256) ![d, 0, 0] S1x256x256.size inb).emb x) 1).val = (x 1).val := by
    show 0 + 1 * (x 1).val = _
    omega
  have e2 : (((Rect.unit (s := S17x256x256) ![d, 0, 0] S1x256x256.size inb).emb x) 2).val = (x 2).val := by
    show 0 + 1 * (x 2).val = _
    omega
  rw [e0, e1, e2]

theorem stores_of (l l' : FVec Ideal S1x1x1 .f32) : View.PiecesOf (masks (l (ix3 0 0 0)) (l' (ix3 0 0 0))) (stores (k0_pay35 (k0_pay12 l') k0_pay14) (k0_pay34 (k0_pay11 l) k0_pay14) (k0_pay33 (k0_pay32 (k0_pay12 l') k0_pay14)) (k0_pay31 (k0_pay11 l) k0_pay14) (k0_pay30 (k0_pay12 l') k0_pay14) (k0_pay29 (k0_pay11 l) k0_pay14) (k0_pay28 (k0_pay12 l') k0_pay14) (k0_pay27 (k0_pay11 l) k0_pay14) (k0_pay26 (k0_pay12 l') k0_pay14) (k0_pay25 (k0_pay11 l) k0_pay14) (k0_pay24 (k0_pay12 l') k0_pay14) (k0_pay23 (k0_pay21 k0_pay14) (k0_pay22 (k0_pay11 l))) (k0_pay20 (k0_pay12 l') k0_pay14) (k0_pay19 (k0_pay11 l) k0_pay14) (k0_pay18 (k0_pay12 l') k0_pay14) (k0_pay17 (k0_pay11 l) k0_pay14) (k0_pay16 (k0_pay15 l l'))) :=
  ⟨mask_piece (l (ix3 0 0 0)) (l' (ix3 0 0 0)) 16 inb_S17x256x256_S1x256x256_16_0_0 _ (bwd8 l' _), mask_piece (l (ix3 0 0 0)) (l' (ix3 0 0 0)) 8 inb_S17x256x256_S1x256x256_8_0_0 _ (fwd8 l _), mask_piece (l (ix3 0 0 0)) (l' (ix3 0 0 0)) 15 inb_S17x256x256_S1x256x256_15_0_0 _ (bwd7 l' _), mask_piece (l (ix3 0 0 0)) (l' (ix3 0 0 0)) 7 inb_S17x256x256_S1x256x256_7_0_0 _ (fwd7 l _), mask_piece (l (ix3 0 0 0)) (l' (ix3 0 0 0)) 14 inb_S17x256x256_S1x256x256_14_0_0 _ (bwd6 l' _), mask_piece (l (ix3 0 0 0)) (l' (ix3 0 0 0)) 6 inb_S17x256x256_S1x256x256_6_0_0 _ (fwd6 l _), mask_piece (l (ix3 0 0 0)) (l' (ix3 0 0 0)) 13 inb_S17x256x256_S1x256x256_13_0_0 _ (bwd5 l' _), mask_piece (l (ix3 0 0 0)) (l' (ix3 0 0 0)) 5 inb_S17x256x256_S1x256x256_5_0_0 _ (fwd5 l _), mask_piece (l (ix3 0 0 0)) (l' (ix3 0 0 0)) 12 inb_S17x256x256_S1x256x256_12_0_0 _ (bwd4 l' _), mask_piece (l (ix3 0 0 0)) (l' (ix3 0 0 0)) 4 inb_S17x256x256_S1x256x256_4_0_0 _ (fwd4 l _), mask_piece (l (ix3 0 0 0)) (l' (ix3 0 0 0)) 11 inb_S17x256x256_S1x256x256_11_0_0 _ (bwd3 l' _), mask_piece (l (ix3 0 0 0)) (l' (ix3 0 0 0)) 3 inb_S17x256x256_S1x256x256_3_0_0 _ (fwd3 l _), mask_piece (l (ix3 0 0 0)) (l' (ix3 0 0 0)) 10 inb_S17x256x256_S1x256x256_10_0_0 _ (bwd2 l' _), mask_piece (l (ix3 0 0 0)) (l' (ix3 0 0 0)) 2 inb_S17x256x256_S1x256x256_2_0_0 _ (fwd2 l _), mask_piece (l (ix3 0 0 0)) (l' (ix3 0 0 0)) 9 inb_S17x256x256_S1x256x256_9_0_0 _ (bwd1 l' _), mask_piece (l (ix3 0 0 0)) (l' (ix3 0 0 0)) 1 inb_S17x256x256_S1x256x256_1_0_0 _ (fwd1 l _), mask_piece (l (ix3 0 0 0)) (l' (ix3 0 0 0)) 0 inb_S17x256x256_S1x256x256_0_0_0 _ (diag l l'), trivial⟩

/-- A load of the weights. -/
theorem load_masks {sp : Space} (v : View sig .tc sp S17x256x256 .f32) (l l' : FVec Ideal S1x1x1 .f32) (B : LoadRect S17x256x256) :
    v.readCov (stores (k0_pay35 (k0_pay12 l') k0_pay14) (k0_pay34 (k0_pay11 l) k0_pay14) (k0_pay33 (k0_pay32 (k0_pay12 l') k0_pay14)) (k0_pay31 (k0_pay11 l) k0_pay14) (k0_pay30 (k0_pay12 l') k0_pay14) (k0_pay29 (k0_pay11 l) k0_pay14) (k0_pay28 (k0_pay12 l') k0_pay14) (k0_pay27 (k0_pay11 l) k0_pay14) (k0_pay26 (k0_pay12 l') k0_pay14) (k0_pay25 (k0_pay11 l) k0_pay14) (k0_pay24 (k0_pay12 l') k0_pay14) (k0_pay23 (k0_pay21 k0_pay14) (k0_pay22 (k0_pay11 l))) (k0_pay20 (k0_pay12 l') k0_pay14) (k0_pay19 (k0_pay11 l) k0_pay14) (k0_pay18 (k0_pay12 l') k0_pay14) (k0_pay17 (k0_pay11 l) k0_pay14) (k0_pay16 (k0_pay15 l l'))) B = fun j => masks (l (ix3 0 0 0)) (l' (ix3 0 0 0)) (B.idx j) := by
  rw [View.readCov_eq_canon']
  funext j
  exact View.canon_append_of_piecesOf _ [] _ (stores_of l l') _ (stores_cover _ _ _ _ _ _ _ _ _ _ _ _ _ _ _ _ _ _)

theorem masks_idx (a b : EReal) (d : ℕ) (inb : ∀ a, (![d, 0, 0] : Fin 3 → ℕ) a + S1x256x256.size a ≤ S17x256x256.size a) (r c : Fin 256) :
    masks a b ((Rect.unit (s := S17x256x256) ![d, 0, 0] S1x256x256.size inb).idx (ix3 0 r c)) = maskAt a b d r.val c.val := by
  unfold masks
  have e0 : (((Rect.unit (s := S17x256x256) ![d, 0, 0] S1x256x256.size inb).idx (ix3 0 r c)) 0).val = d := by
    show d + 1 * 0 = d
    omega
  have e1 : (((Rect.unit (s := S17x256x256) ![d, 0, 0] S1x256x256.size inb).idx (ix3 0 r c)) 1).val = r.val := by
    show 0 + 1 * r.val = _
    omega
  have e2 : (((Rect.unit (s := S17x256x256) ![d, 0, 0] S1x256x256.size inb).idx (ix3 0 r c)) 2).val = c.val := by
    show 0 + 1 * c.val = _
    omega
  rw [e0, e1, e2]

/-- Index `d` is the distance from the columns from `p` on to the rows from `o` on. -/
def Apart (d o p : ℕ) : Prop := (d = 0 ∧ o = p) ∨ (0 < d ∧ d ≤ 8 ∧ o = p + 256 * d) ∨ (8 < d ∧ p = o + 256 * (d - 8))

theorem mask_weight (a b : EReal) {d o p : ℕ} (h : Apart d o p) (r c : Fin 256) : maskAt a b d r.val c.val = weight a b (o + r.val) (p + c.val) := by
  have hr := r.isLt
  have hc := c.isLt
  unfold maskAt
  rcases h with ⟨rfl, rfl⟩ | ⟨h0, h1, rfl⟩ | ⟨h0, rfl⟩
  · rw [if_pos rfl]
    unfold weight
    by_cases h : c.val ≤ r.val
    · rw [if_pos h, if_pos (by omega), show o + r.val - (o + c.val) = r.val - c.val by omega]
    · rw [if_neg h, if_neg (by omega), show o + c.val - (o + r.val) = c.val - r.val by omega]
  · unfold weight
    rw [if_neg (by omega), if_pos h1, if_pos (by omega)]
    exact congrArg (wt a) (by omega)
  · unfold weight
    rw [if_neg (by omega), if_neg (by omega), if_neg (by omega)]
    exact congrArg (wt b) (by omega)

theorem block_idx (f : Fin 2304 → Fin 128 → EReal) (o : ℕ) (inb : ∀ a, (![o, 0] : Fin 2 → ℕ) a + S256x128.size a ≤ S2304x128.size a) (ho : o + 256 ≤ 2304)
    (r : Fin 256) (d : Fin 128) : block f ((Rect.unit (s := S2304x128) ![o, 0] S256x128.size inb).idx (ix2 r d)) = f ⟨o + r.val, by omega⟩ d :=
  congrArg₂ f (Fin.ext (by show o + 1 * r.val = o + r.val; omega)) (Fin.ext (by show 0 + 1 * d.val = d.val; omega))

/-- Row `c` of the padded columns. -/
def wrap (c : Fin 2560) : Fin 2304 := ⟨c.val % 2304, Nat.mod_lt _ (by omega)⟩

theorem again_idx (f : Fin 2304 → Fin 128 → EReal) (inb : ∀ a, (![0, 0] : Fin 2 → ℕ) a + S2560x128.size a ≤ S2560x128.size a)
    (r : Fin 2560) (d : Fin 128) : again f ((Rect.unit (s := S2560x128) ![0, 0] S2560x128.size inb).idx (ix2 r d)) = f (wrap r) d :=
  congrArg₂ f (Fin.ext (by show (0 + 1 * r.val) % 2304 = r.val % 2304; rw [Nat.zero_add, Nat.one_mul])) (Fin.ext (by show 0 + 1 * d.val = d.val; omega))

theorem again_ctx (f : Fin 2304 → Fin 128 → EReal) (inb : ∀ a, (![0, 0] : Fin 2 → ℕ) a + S256x128.size a ≤ S2560x128.size a)
    (r : Fin 256) (d : Fin 128) : again f ((Rect.unit (s := S2560x128) ![0, 0] S256x128.size inb).idx (ix2 r d)) = f ⟨r.val, by omega⟩ d :=
  congrArg₂ f (Fin.ext (by show (0 + 1 * r.val) % 2304 = r.val; omega)) (Fin.ext (by show 0 + 1 * d.val = d.val; omega))

theorem rows_at (x : FVec Ideal S2304x128 .bf16) (o : ℕ) (inb : ∀ a, (![o, 0] : Fin 2 → ℕ) a + S256x128.size a ≤ S2304x128.size a) (ho : o + 256 ≤ 2304)
    (r : Fin 256) (d : Fin 128) : View.ld (Val := Elt Ideal) (e' := .bf16) x (Rect.unit (s := S2304x128) ![o, 0] S256x128.size inb) (ix2 r d) = entries x ⟨o + r.val, by omega⟩ d := by
  refine congrArg x (funext fun a => Fin.ext ?_)
  revert a
  refine Fin.forall_fin_two.mpr ⟨?_, ?_⟩
  · show o + 1 * r.val = o + r.val
    omega
  · show 0 + 1 * d.val = d.val
    omega

/-- A head's weighted sum at row `R`: the context rows over the context, the latent rows over the context, the latents, and the context again. -/
def sumAt (a b : EReal) (q k v : Fin 2304 → Fin 128 → EReal) (R : Fin 2304) (e : Fin 128) : EReal :=
  if R.val < 256 then retained scale (q R) (fun c : Fin 256 => k ⟨c.val, by omega⟩) (fun c => v ⟨c.val, by omega⟩) (fun c => weight a b R.val c.val) e
  else retained scale (q R) (fun c : Fin 2560 => k (wrap c)) (fun c => v (wrap c)) (fun c => weight a b R.val c.val) e

/-- The block a grid point writes. -/
def outAt (a b : EReal) (q k v g : Fin 2304 → Fin 128 → EReal) (n : Fin 128 → EReal) (R : Fin 2304) (e : Fin 128) : EReal :=
  gated (sumAt a b q k v R) (g R) n e

theorem pay13_at (x5 : FVec Ideal S1x128 .f32) (d : Fin 128) : k0_pay13 (F := Ideal) x5 (ix2 0 d) = x5 (ix2 0 d) := by
  pointwise [k0_pay13]

theorem lat_tile (a b : EReal) (fq fk fv : Fin 2304 → Fin 128 → EReal) (x3 : FVec Ideal S2304x128 .bf16) (x5 : FVec Ideal S1x128 .f32) (o : ℕ) (ho : o + 256 ≤ 2304) (h256 : 256 ≤ o)
    (iq : ∀ a, (![o, 0] : Fin 2 → ℕ) a + S256x128.size a ≤ S2304x128.size a) (ik : ∀ a, (![0, 0] : Fin 2 → ℕ) a + S2560x128.size a ≤ S2560x128.size a) (d0 d1 d2 d3 d4 d5 d6 d7 d8 d9 : ℕ)
    (i0 : ∀ a, (![d0, 0, 0] : Fin 3 → ℕ) a + S1x256x256.size a ≤ S17x256x256.size a) (i1 : ∀ a, (![d1, 0, 0] : Fin 3 → ℕ) a + S1x256x256.size a ≤ S17x256x256.size a) (i2 : ∀ a, (![d2, 0, 0] : Fin 3 → ℕ) a + S1x256x256.size a ≤ S17x256x256.size a) (i3 : ∀ a, (![d3, 0, 0] : Fin 3 → ℕ) a + S1x256x256.size a ≤ S17x256x256.size a) (i4 : ∀ a, (![d4, 0, 0] : Fin 3 → ℕ) a + S1x256x256.size a ≤ S17x256x256.size a) (i5 : ∀ a, (![d5, 0, 0] : Fin 3 → ℕ) a + S1x256x256.size a ≤ S17x256x256.size a) (i6 : ∀ a, (![d6, 0, 0] : Fin 3 → ℕ) a + S1x256x256.size a ≤ S17x256x256.size a) (i7 : ∀ a, (![d7, 0, 0] : Fin 3 → ℕ) a + S1x256x256.size a ≤ S17x256x256.size a) (i8 : ∀ a, (![d8, 0, 0] : Fin 3 → ℕ) a + S1x256x256.size a ≤ S17x256x256.size a) (i9 : ∀ a, (![d9, 0, 0] : Fin 3 → ℕ) a + S1x256x256.size a ≤ S17x256x256.size a) (h0 : Apart d0 o 0) (h1 : Apart d1 o 256) (h2 : Apart d2 o 512) (h3 : Apart d3 o 768) (h4 : Apart d4 o 1024) (h5 : Apart d5 o 1280) (h6 : Apart d6 o 1536) (h7 : Apart d7 o 1792) (h8 : Apart d8 o 2048) (h9 : Apart d9 o 2304) (r : Fin 256) (e : Fin 128) :
    tileV (k0_pay13 x5) (fun j => block fq ((Rect.unit (s := S2304x128) ![o, 0] S256x128.size iq).idx j)) (fun j => again fk ((Rect.unit (s := S2560x128) ![0, 0] S2560x128.size ik).idx j))
        (fun j => masks a b ((Rect.unit (s := S17x256x256) ![d0, 0, 0] S1x256x256.size i0).idx j))
        (fun j => masks a b ((Rect.unit (s := S17x256x256) ![d1, 0, 0] S1x256x256.size i1).idx j))
        (fun j => masks a b ((Rect.unit (s := S17x256x256) ![d2, 0, 0] S1x256x256.size i2).idx j))
        (fun j => masks a b ((Rect.unit (s := S17x256x256) ![d3, 0, 0] S1x256x256.size i3).idx j))
        (fun j => masks a b ((Rect.unit (s := S17x256x256) ![d4, 0, 0] S1x256x256.size i4).idx j))
        (fun j => masks a b ((Rect.unit (s := S17x256x256) ![d5, 0, 0] S1x256x256.size i5).idx j))
        (fun j => masks a b ((Rect.unit (s := S17x256x256) ![d6, 0, 0] S1x256x256.size i6).idx j))
        (fun j => masks a b ((Rect.unit (s := S17x256x256) ![d7, 0, 0] S1x256x256.size i7).idx j))
        (fun j => masks a b ((Rect.unit (s := S17x256x256) ![d8, 0, 0] S1x256x256.size i8).idx j))
        (fun j => masks a b ((Rect.unit (s := S17x256x256) ![d9, 0, 0] S1x256x256.size i9).idx j))
        (fun j => again fv ((Rect.unit (s := S2560x128) ![0, 0] S2560x128.size ik).idx j))
        (View.ld (Val := Elt Ideal) (e' := .bf16) x3 (Rect.unit (s := S2304x128) ![o, 0] S256x128.size iq)) (ix2 r e)
      = outAt a b fq fk fv (entries x3) (fun d => x5 (ix2 0 d)) ⟨o + r.val, by omega⟩ e := by
  refine (pay38_at _ _ _ r e).trans ?_
  unfold outAt
  have hs : ∀ d, sumV (fun j => block fq ((Rect.unit (s := S2304x128) ![o, 0] S256x128.size iq).idx j)) (fun j => again fk ((Rect.unit (s := S2560x128) ![0, 0] S2560x128.size ik).idx j))
        (fun j => masks a b ((Rect.unit (s := S17x256x256) ![d0, 0, 0] S1x256x256.size i0).idx j))
        (fun j => masks a b ((Rect.unit (s := S17x256x256) ![d1, 0, 0] S1x256x256.size i1).idx j))
        (fun j => masks a b ((Rect.unit (s := S17x256x256) ![d2, 0, 0] S1x256x256.size i2).idx j))
        (fun j => masks a b ((Rect.unit (s := S17x256x256) ![d3, 0, 0] S1x256x256.size i3).idx j))
        (fun j => masks a b ((Rect.unit (s := S17x256x256) ![d4, 0, 0] S1x256x256.size i4).idx j))
        (fun j => masks a b ((Rect.unit (s := S17x256x256) ![d5, 0, 0] S1x256x256.size i5).idx j))
        (fun j => masks a b ((Rect.unit (s := S17x256x256) ![d6, 0, 0] S1x256x256.size i6).idx j))
        (fun j => masks a b ((Rect.unit (s := S17x256x256) ![d7, 0, 0] S1x256x256.size i7).idx j))
        (fun j => masks a b ((Rect.unit (s := S17x256x256) ![d8, 0, 0] S1x256x256.size i8).idx j))
        (fun j => masks a b ((Rect.unit (s := S17x256x256) ![d9, 0, 0] S1x256x256.size i9).idx j))
        (fun j => again fv ((Rect.unit (s := S2560x128) ![0, 0] S2560x128.size ik).idx j)) (ix2 r d) = sumAt a b fq fk fv ⟨o + r.val, by omega⟩ d := fun d => by
    refine (sumV_at _ _ _ _ _ _ _ _ _ _ _ _ _ (fun c => weight a b (o + r.val) c.val) r d (fun c => (masks_idx a b d0 i0 r c).trans (mask_weight a b h0 r c)) (fun c => (masks_idx a b d1 i1 r c).trans (mask_weight a b h1 r c)) (fun c => (masks_idx a b d2 i2 r c).trans (mask_weight a b h2 r c)) (fun c => (masks_idx a b d3 i3 r c).trans (mask_weight a b h3 r c)) (fun c => (masks_idx a b d4 i4 r c).trans (mask_weight a b h4 r c)) (fun c => (masks_idx a b d5 i5 r c).trans (mask_weight a b h5 r c)) (fun c => (masks_idx a b d6 i6 r c).trans (mask_weight a b h6 r c)) (fun c => (masks_idx a b d7 i7 r c).trans (mask_weight a b h7 r c)) (fun c => (masks_idx a b d8 i8 r c).trans (mask_weight a b h8 r c)) (fun c => (masks_idx a b d9 i9 r c).trans (mask_weight a b h9 r c))).trans ?_
    unfold sumAt
    rw [if_neg (by dsimp only; omega)]
    simp only [block_idx fq o iq ho, again_idx fk ik, again_idx fv ik]
  simp only [hs, rows_at x3 o iq ho, pay13_at]

theorem ctx_tile (a b : EReal) (fq fk fv : Fin 2304 → Fin 128 → EReal) (x3 : FVec Ideal S2304x128 .bf16) (x5 : FVec Ideal S1x128 .f32)
    (iq : ∀ a, (![0, 0] : Fin 2 → ℕ) a + S256x128.size a ≤ S2304x128.size a) (ik : ∀ a, (![0, 0] : Fin 2 → ℕ) a + S256x128.size a ≤ S2560x128.size a)
    (i0 : ∀ a, (![0, 0, 0] : Fin 3 → ℕ) a + S1x256x256.size a ≤ S17x256x256.size a) (r : Fin 256) (e : Fin 128) :
    k0_pay38 (F := Ideal) (k0_pay13 x5) (k0_pay36 (fun j => block fq ((Rect.unit (s := S2304x128) ![0, 0] S256x128.size iq).idx j)) (fun j => again fk ((Rect.unit (s := S2560x128) ![0, 0] S256x128.size ik).idx j))
        (fun j => masks a b ((Rect.unit (s := S17x256x256) ![0, 0, 0] S1x256x256.size i0).idx j)) (fun j => again fv ((Rect.unit (s := S2560x128) ![0, 0] S256x128.size ik).idx j)))
        (k0_pay37 (View.ld (Val := Elt Ideal) (e' := .bf16) x3 (Rect.unit (s := S2304x128) ![0, 0] S256x128.size iq))) (ix2 r e)
      = outAt a b fq fk fv (entries x3) (fun d => x5 (ix2 0 d)) ⟨0 + r.val, by omega⟩ e := by
  refine (pay38_at _ _ _ r e).trans ?_
  unfold outAt
  have hs : ∀ d, k0_pay36 (F := Ideal) (fun j => block fq ((Rect.unit (s := S2304x128) ![0, 0] S256x128.size iq).idx j)) (fun j => again fk ((Rect.unit (s := S2560x128) ![0, 0] S256x128.size ik).idx j))
        (fun j => masks a b ((Rect.unit (s := S17x256x256) ![0, 0, 0] S1x256x256.size i0).idx j)) (fun j => again fv ((Rect.unit (s := S2560x128) ![0, 0] S256x128.size ik).idx j)) (ix2 r d)
        = sumAt a b fq fk fv ⟨0 + r.val, by omega⟩ d := fun d => by
    refine (ctx_at _ _ _ _ r d).trans ?_
    unfold sumAt
    rw [if_pos (by dsimp only; omega)]
    simp only [block_idx fq 0 iq (by omega), again_ctx fk ik, again_ctx fv ik, masks_idx a b 0 i0, mask_weight a b (.inl ⟨rfl, rfl⟩ : Apart 0 0 0), Nat.zero_add]
  simp only [hs, rows_at x3 0 iq (by omega), pay13_at]

/-- The first decay's argument, and the second's. -/
theorem dec0 (x4 : FVec Ideal S1x8x128 .f32) : View.ld (Val := Elt Ideal) (e' := .f32) x4 (Rect.unit (s := S1x8x128) ![0, 0, 0] S1x1x1.size inb_S1x8x128_S1x1x1_0_0_0) (ix3 0 0 0) = x4 (ix3 0 0 0) := by
  refine congrArg x4 (funext fun a => Fin.ext ?_)
  fin_cases a <;> rfl

theorem dec1 (x4 : FVec Ideal S1x8x128 .f32) : View.ld (Val := Elt Ideal) (e' := .f32) x4 (Rect.unit (s := S1x8x128) ![0, 1, 0] S1x1x1.size inb_S1x8x128_S1x1x1_0_1_0) (ix3 0 0 0) = x4 (ix3 0 1 0) := by
  refine congrArg x4 (funext fun a => Fin.ext ?_)
  fin_cases a <;> rfl

theorem out9 (c : Dev nD) (t : Fin cfg0.N) (x0 x1 x2 x3 : FVec Ideal S2304x128 .bf16) (x4 : FVec Ideal S1x8x128 .f32) (x5 : FVec Ideal S1x128 .f32) (x6 x7 x8 : FVec Ideal S2304x128 .f32) (r : Fin 2304) (d : Fin 128) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _)
      x0 x1 x2 x3 x4 x5 x6 x7 x8 (ix2 r d)
      = outAt (x4 (ix3 0 0 0)) (x4 (ix3 0 1 0)) (turned x6 x7 x8 x0) (turned x6 x7 x8 x1) (entries x2) (entries x3) (fun d => x5 (ix2 0 d)) r d := by
  refine Eq.trans ?_ (congrArg₂ (fun a b => outAt a b (turned x6 x7 x8 x0) (turned x6 x7 x8 x1) (entries x2) (entries x3) (fun d => x5 (ix2 0 d)) r d) (dec0 x4) (dec1 x4))
  have tile : ∀ (o : ℕ) (ho : o + 256 ≤ 2304) (p : FVec Ideal S256x128 .bf16) (x : S256x128.Idx),
      (∀ (r : Fin 256) (e : Fin 128), p (ix2 r e) = outAt (View.ld (Val := Elt Ideal) (e' := .f32) x4 (Rect.unit (s := S1x8x128) ![0, 0, 0] S1x1x1.size inb_S1x8x128_S1x1x1_0_0_0) (ix3 0 0 0)) (View.ld (Val := Elt Ideal) (e' := .f32) x4 (Rect.unit (s := S1x8x128) ![0, 1, 0] S1x1x1.size inb_S1x8x128_S1x1x1_0_1_0) (ix3 0 0 0)) (turned x6 x7 x8 x0) (turned x6 x7 x8 x1) (entries x2) (entries x3) (fun d => x5 (ix2 0 d)) ⟨o + r.val, by omega⟩ e) →
      r.val = o + (x 0).val → d.val = (x 1).val → p x = outAt (View.ld (Val := Elt Ideal) (e' := .f32) x4 (Rect.unit (s := S1x8x128) ![0, 0, 0] S1x1x1.size inb_S1x8x128_S1x1x1_0_0_0) (ix3 0 0 0)) (View.ld (Val := Elt Ideal) (e' := .f32) x4 (Rect.unit (s := S1x8x128) ![0, 1, 0] S1x1x1.size inb_S1x8x128_S1x1x1_0_1_0) (ix3 0 0 0)) (turned x6 x7 x8 x0) (turned x6 x7 x8 x1) (entries x2) (entries x3) (fun d => x5 (ix2 0 d)) r d := fun o ho p x hp h0 h1 =>
    (congrArg _ (eq_ix2 x)).trans ((hp (x 0) (x 1)).trans (congrArg₂ (outAt _ _ _ _ _ _ _) (Fin.ext h0.symm) (Fin.ext h1.symm)))
  frame_out
  simp only [load_block _ _ _ (pay5_at x6 x7 x8 x0), load_again _ _ _ _ (pay7_at x6 x7 x8 x1) (pay8_at x6 x7 x8 x1), load_again _ _ _ _ (pay9_at x2) (pay10_at x2),
    load_masks _ (View.ld (Val := Elt Ideal) (e' := .f32) x4 (Rect.unit (s := S1x8x128) ![0, 0, 0] S1x1x1.size inb_S1x8x128_S1x1x1_0_0_0)) (View.ld (Val := Elt Ideal) (e' := .f32) x4 (Rect.unit (s := S1x8x128) ![0, 1, 0] S1x1x1.size inb_S1x8x128_S1x1x1_0_1_0))]
  canon_tiles x h
  · exact tile 2048 (by omega) _ x (fun r e => (congrFun (form_2048 _ _ _ _ _ _ _ _ _ _ _ _ _ _ _) (ix2 r e)).trans <| lat_tile (View.ld (Val := Elt Ideal) (e' := .f32) x4 (Rect.unit (s := S1x8x128) ![0, 0, 0] S1x1x1.size inb_S1x8x128_S1x1x1_0_0_0) (ix3 0 0 0)) (View.ld (Val := Elt Ideal) (e' := .f32) x4 (Rect.unit (s := S1x8x128) ![0, 1, 0] S1x1x1.size inb_S1x8x128_S1x1x1_0_1_0) (ix3 0 0 0)) (turned x6 x7 x8 x0) (turned x6 x7 x8 x1) (entries x2) x3 x5 2048 (by omega) (by omega)
      inb_S2304x128_S256x128_2048_0 inb_S2560x128_S2560x128_0_0 8 7 6 5 4 3 2 1 0 9 inb_S17x256x256_S1x256x256_8_0_0 inb_S17x256x256_S1x256x256_7_0_0 inb_S17x256x256_S1x256x256_6_0_0 inb_S17x256x256_S1x256x256_5_0_0 inb_S17x256x256_S1x256x256_4_0_0 inb_S17x256x256_S1x256x256_3_0_0 inb_S17x256x256_S1x256x256_2_0_0 inb_S17x256x256_S1x256x256_1_0_0 inb_S17x256x256_S1x256x256_0_0_0 inb_S17x256x256_S1x256x256_9_0_0
      (.inr (.inl ⟨by decide, by decide, rfl⟩)) (.inr (.inl ⟨by decide, by decide, rfl⟩)) (.inr (.inl ⟨by decide, by decide, rfl⟩)) (.inr (.inl ⟨by decide, by decide, rfl⟩)) (.inr (.inl ⟨by decide, by decide, rfl⟩)) (.inr (.inl ⟨by decide, by decide, rfl⟩)) (.inr (.inl ⟨by decide, by decide, rfl⟩)) (.inr (.inl ⟨by decide, by decide, rfl⟩)) (.inl ⟨rfl, rfl⟩) (.inr (.inr ⟨by decide, rfl⟩)) r e) h0 h1
  · exact tile 1792 (by omega) _ x (fun r e => (congrFun (form_1792 _ _ _ _ _ _ _ _ _ _ _ _ _ _ _) (ix2 r e)).trans <| lat_tile (View.ld (Val := Elt Ideal) (e' := .f32) x4 (Rect.unit (s := S1x8x128) ![0, 0, 0] S1x1x1.size inb_S1x8x128_S1x1x1_0_0_0) (ix3 0 0 0)) (View.ld (Val := Elt Ideal) (e' := .f32) x4 (Rect.unit (s := S1x8x128) ![0, 1, 0] S1x1x1.size inb_S1x8x128_S1x1x1_0_1_0) (ix3 0 0 0)) (turned x6 x7 x8 x0) (turned x6 x7 x8 x1) (entries x2) x3 x5 1792 (by omega) (by omega)
      inb_S2304x128_S256x128_1792_0 inb_S2560x128_S2560x128_0_0 7 6 5 4 3 2 1 0 9 10 inb_S17x256x256_S1x256x256_7_0_0 inb_S17x256x256_S1x256x256_6_0_0 inb_S17x256x256_S1x256x256_5_0_0 inb_S17x256x256_S1x256x256_4_0_0 inb_S17x256x256_S1x256x256_3_0_0 inb_S17x256x256_S1x256x256_2_0_0 inb_S17x256x256_S1x256x256_1_0_0 inb_S17x256x256_S1x256x256_0_0_0 inb_S17x256x256_S1x256x256_9_0_0 inb_S17x256x256_S1x256x256_10_0_0
      (.inr (.inl ⟨by decide, by decide, rfl⟩)) (.inr (.inl ⟨by decide, by decide, rfl⟩)) (.inr (.inl ⟨by decide, by decide, rfl⟩)) (.inr (.inl ⟨by decide, by decide, rfl⟩)) (.inr (.inl ⟨by decide, by decide, rfl⟩)) (.inr (.inl ⟨by decide, by decide, rfl⟩)) (.inr (.inl ⟨by decide, by decide, rfl⟩)) (.inl ⟨rfl, rfl⟩) (.inr (.inr ⟨by decide, rfl⟩)) (.inr (.inr ⟨by decide, rfl⟩)) r e) h0 h1
  · exact tile 1536 (by omega) _ x (fun r e => (congrFun (form_1536 _ _ _ _ _ _ _ _ _ _ _ _ _ _ _) (ix2 r e)).trans <| lat_tile (View.ld (Val := Elt Ideal) (e' := .f32) x4 (Rect.unit (s := S1x8x128) ![0, 0, 0] S1x1x1.size inb_S1x8x128_S1x1x1_0_0_0) (ix3 0 0 0)) (View.ld (Val := Elt Ideal) (e' := .f32) x4 (Rect.unit (s := S1x8x128) ![0, 1, 0] S1x1x1.size inb_S1x8x128_S1x1x1_0_1_0) (ix3 0 0 0)) (turned x6 x7 x8 x0) (turned x6 x7 x8 x1) (entries x2) x3 x5 1536 (by omega) (by omega)
      inb_S2304x128_S256x128_1536_0 inb_S2560x128_S2560x128_0_0 6 5 4 3 2 1 0 9 10 11 inb_S17x256x256_S1x256x256_6_0_0 inb_S17x256x256_S1x256x256_5_0_0 inb_S17x256x256_S1x256x256_4_0_0 inb_S17x256x256_S1x256x256_3_0_0 inb_S17x256x256_S1x256x256_2_0_0 inb_S17x256x256_S1x256x256_1_0_0 inb_S17x256x256_S1x256x256_0_0_0 inb_S17x256x256_S1x256x256_9_0_0 inb_S17x256x256_S1x256x256_10_0_0 inb_S17x256x256_S1x256x256_11_0_0
      (.inr (.inl ⟨by decide, by decide, rfl⟩)) (.inr (.inl ⟨by decide, by decide, rfl⟩)) (.inr (.inl ⟨by decide, by decide, rfl⟩)) (.inr (.inl ⟨by decide, by decide, rfl⟩)) (.inr (.inl ⟨by decide, by decide, rfl⟩)) (.inr (.inl ⟨by decide, by decide, rfl⟩)) (.inl ⟨rfl, rfl⟩) (.inr (.inr ⟨by decide, rfl⟩)) (.inr (.inr ⟨by decide, rfl⟩)) (.inr (.inr ⟨by decide, rfl⟩)) r e) h0 h1
  · exact tile 1280 (by omega) _ x (fun r e => (congrFun (form_1280 _ _ _ _ _ _ _ _ _ _ _ _ _ _ _) (ix2 r e)).trans <| lat_tile (View.ld (Val := Elt Ideal) (e' := .f32) x4 (Rect.unit (s := S1x8x128) ![0, 0, 0] S1x1x1.size inb_S1x8x128_S1x1x1_0_0_0) (ix3 0 0 0)) (View.ld (Val := Elt Ideal) (e' := .f32) x4 (Rect.unit (s := S1x8x128) ![0, 1, 0] S1x1x1.size inb_S1x8x128_S1x1x1_0_1_0) (ix3 0 0 0)) (turned x6 x7 x8 x0) (turned x6 x7 x8 x1) (entries x2) x3 x5 1280 (by omega) (by omega)
      inb_S2304x128_S256x128_1280_0 inb_S2560x128_S2560x128_0_0 5 4 3 2 1 0 9 10 11 12 inb_S17x256x256_S1x256x256_5_0_0 inb_S17x256x256_S1x256x256_4_0_0 inb_S17x256x256_S1x256x256_3_0_0 inb_S17x256x256_S1x256x256_2_0_0 inb_S17x256x256_S1x256x256_1_0_0 inb_S17x256x256_S1x256x256_0_0_0 inb_S17x256x256_S1x256x256_9_0_0 inb_S17x256x256_S1x256x256_10_0_0 inb_S17x256x256_S1x256x256_11_0_0 inb_S17x256x256_S1x256x256_12_0_0
      (.inr (.inl ⟨by decide, by decide, rfl⟩)) (.inr (.inl ⟨by decide, by decide, rfl⟩)) (.inr (.inl ⟨by decide, by decide, rfl⟩)) (.inr (.inl ⟨by decide, by decide, rfl⟩)) (.inr (.inl ⟨by decide, by decide, rfl⟩)) (.inl ⟨rfl, rfl⟩) (.inr (.inr ⟨by decide, rfl⟩)) (.inr (.inr ⟨by decide, rfl⟩)) (.inr (.inr ⟨by decide, rfl⟩)) (.inr (.inr ⟨by decide, rfl⟩)) r e) h0 h1
  · exact tile 1024 (by omega) _ x (fun r e => (congrFun (form_1024 _ _ _ _ _ _ _ _ _ _ _ _ _ _ _) (ix2 r e)).trans <| lat_tile (View.ld (Val := Elt Ideal) (e' := .f32) x4 (Rect.unit (s := S1x8x128) ![0, 0, 0] S1x1x1.size inb_S1x8x128_S1x1x1_0_0_0) (ix3 0 0 0)) (View.ld (Val := Elt Ideal) (e' := .f32) x4 (Rect.unit (s := S1x8x128) ![0, 1, 0] S1x1x1.size inb_S1x8x128_S1x1x1_0_1_0) (ix3 0 0 0)) (turned x6 x7 x8 x0) (turned x6 x7 x8 x1) (entries x2) x3 x5 1024 (by omega) (by omega)
      inb_S2304x128_S256x128_1024_0 inb_S2560x128_S2560x128_0_0 4 3 2 1 0 9 10 11 12 13 inb_S17x256x256_S1x256x256_4_0_0 inb_S17x256x256_S1x256x256_3_0_0 inb_S17x256x256_S1x256x256_2_0_0 inb_S17x256x256_S1x256x256_1_0_0 inb_S17x256x256_S1x256x256_0_0_0 inb_S17x256x256_S1x256x256_9_0_0 inb_S17x256x256_S1x256x256_10_0_0 inb_S17x256x256_S1x256x256_11_0_0 inb_S17x256x256_S1x256x256_12_0_0 inb_S17x256x256_S1x256x256_13_0_0
      (.inr (.inl ⟨by decide, by decide, rfl⟩)) (.inr (.inl ⟨by decide, by decide, rfl⟩)) (.inr (.inl ⟨by decide, by decide, rfl⟩)) (.inr (.inl ⟨by decide, by decide, rfl⟩)) (.inl ⟨rfl, rfl⟩) (.inr (.inr ⟨by decide, rfl⟩)) (.inr (.inr ⟨by decide, rfl⟩)) (.inr (.inr ⟨by decide, rfl⟩)) (.inr (.inr ⟨by decide, rfl⟩)) (.inr (.inr ⟨by decide, rfl⟩)) r e) h0 h1
  · exact tile 768 (by omega) _ x (fun r e => (congrFun (form_768 _ _ _ _ _ _ _ _ _ _ _ _ _ _ _) (ix2 r e)).trans <| lat_tile (View.ld (Val := Elt Ideal) (e' := .f32) x4 (Rect.unit (s := S1x8x128) ![0, 0, 0] S1x1x1.size inb_S1x8x128_S1x1x1_0_0_0) (ix3 0 0 0)) (View.ld (Val := Elt Ideal) (e' := .f32) x4 (Rect.unit (s := S1x8x128) ![0, 1, 0] S1x1x1.size inb_S1x8x128_S1x1x1_0_1_0) (ix3 0 0 0)) (turned x6 x7 x8 x0) (turned x6 x7 x8 x1) (entries x2) x3 x5 768 (by omega) (by omega)
      inb_S2304x128_S256x128_768_0 inb_S2560x128_S2560x128_0_0 3 2 1 0 9 10 11 12 13 14 inb_S17x256x256_S1x256x256_3_0_0 inb_S17x256x256_S1x256x256_2_0_0 inb_S17x256x256_S1x256x256_1_0_0 inb_S17x256x256_S1x256x256_0_0_0 inb_S17x256x256_S1x256x256_9_0_0 inb_S17x256x256_S1x256x256_10_0_0 inb_S17x256x256_S1x256x256_11_0_0 inb_S17x256x256_S1x256x256_12_0_0 inb_S17x256x256_S1x256x256_13_0_0 inb_S17x256x256_S1x256x256_14_0_0
      (.inr (.inl ⟨by decide, by decide, rfl⟩)) (.inr (.inl ⟨by decide, by decide, rfl⟩)) (.inr (.inl ⟨by decide, by decide, rfl⟩)) (.inl ⟨rfl, rfl⟩) (.inr (.inr ⟨by decide, rfl⟩)) (.inr (.inr ⟨by decide, rfl⟩)) (.inr (.inr ⟨by decide, rfl⟩)) (.inr (.inr ⟨by decide, rfl⟩)) (.inr (.inr ⟨by decide, rfl⟩)) (.inr (.inr ⟨by decide, rfl⟩)) r e) h0 h1
  · exact tile 512 (by omega) _ x (fun r e => (congrFun (form_512 _ _ _ _ _ _ _ _ _ _ _ _ _ _ _) (ix2 r e)).trans <| lat_tile (View.ld (Val := Elt Ideal) (e' := .f32) x4 (Rect.unit (s := S1x8x128) ![0, 0, 0] S1x1x1.size inb_S1x8x128_S1x1x1_0_0_0) (ix3 0 0 0)) (View.ld (Val := Elt Ideal) (e' := .f32) x4 (Rect.unit (s := S1x8x128) ![0, 1, 0] S1x1x1.size inb_S1x8x128_S1x1x1_0_1_0) (ix3 0 0 0)) (turned x6 x7 x8 x0) (turned x6 x7 x8 x1) (entries x2) x3 x5 512 (by omega) (by omega)
      inb_S2304x128_S256x128_512_0 inb_S2560x128_S2560x128_0_0 2 1 0 9 10 11 12 13 14 15 inb_S17x256x256_S1x256x256_2_0_0 inb_S17x256x256_S1x256x256_1_0_0 inb_S17x256x256_S1x256x256_0_0_0 inb_S17x256x256_S1x256x256_9_0_0 inb_S17x256x256_S1x256x256_10_0_0 inb_S17x256x256_S1x256x256_11_0_0 inb_S17x256x256_S1x256x256_12_0_0 inb_S17x256x256_S1x256x256_13_0_0 inb_S17x256x256_S1x256x256_14_0_0 inb_S17x256x256_S1x256x256_15_0_0
      (.inr (.inl ⟨by decide, by decide, rfl⟩)) (.inr (.inl ⟨by decide, by decide, rfl⟩)) (.inl ⟨rfl, rfl⟩) (.inr (.inr ⟨by decide, rfl⟩)) (.inr (.inr ⟨by decide, rfl⟩)) (.inr (.inr ⟨by decide, rfl⟩)) (.inr (.inr ⟨by decide, rfl⟩)) (.inr (.inr ⟨by decide, rfl⟩)) (.inr (.inr ⟨by decide, rfl⟩)) (.inr (.inr ⟨by decide, rfl⟩)) r e) h0 h1
  · exact tile 256 (by omega) _ x (fun r e => (congrFun (form_256 _ _ _ _ _ _ _ _ _ _ _ _ _ _ _) (ix2 r e)).trans <| lat_tile (View.ld (Val := Elt Ideal) (e' := .f32) x4 (Rect.unit (s := S1x8x128) ![0, 0, 0] S1x1x1.size inb_S1x8x128_S1x1x1_0_0_0) (ix3 0 0 0)) (View.ld (Val := Elt Ideal) (e' := .f32) x4 (Rect.unit (s := S1x8x128) ![0, 1, 0] S1x1x1.size inb_S1x8x128_S1x1x1_0_1_0) (ix3 0 0 0)) (turned x6 x7 x8 x0) (turned x6 x7 x8 x1) (entries x2) x3 x5 256 (by omega) (by omega)
      inb_S2304x128_S256x128_256_0 inb_S2560x128_S2560x128_0_0 1 0 9 10 11 12 13 14 15 16 inb_S17x256x256_S1x256x256_1_0_0 inb_S17x256x256_S1x256x256_0_0_0 inb_S17x256x256_S1x256x256_9_0_0 inb_S17x256x256_S1x256x256_10_0_0 inb_S17x256x256_S1x256x256_11_0_0 inb_S17x256x256_S1x256x256_12_0_0 inb_S17x256x256_S1x256x256_13_0_0 inb_S17x256x256_S1x256x256_14_0_0 inb_S17x256x256_S1x256x256_15_0_0 inb_S17x256x256_S1x256x256_16_0_0
      (.inr (.inl ⟨by decide, by decide, rfl⟩)) (.inl ⟨rfl, rfl⟩) (.inr (.inr ⟨by decide, rfl⟩)) (.inr (.inr ⟨by decide, rfl⟩)) (.inr (.inr ⟨by decide, rfl⟩)) (.inr (.inr ⟨by decide, rfl⟩)) (.inr (.inr ⟨by decide, rfl⟩)) (.inr (.inr ⟨by decide, rfl⟩)) (.inr (.inr ⟨by decide, rfl⟩)) (.inr (.inr ⟨by decide, rfl⟩)) r e) h0 h1
  · refine tile 0 (by omega) _ x (fun r e => ctx_tile (View.ld (Val := Elt Ideal) (e' := .f32) x4 (Rect.unit (s := S1x8x128) ![0, 0, 0] S1x1x1.size inb_S1x8x128_S1x1x1_0_0_0) (ix3 0 0 0)) (View.ld (Val := Elt Ideal) (e' := .f32) x4 (Rect.unit (s := S1x8x128) ![0, 1, 0] S1x1x1.size inb_S1x8x128_S1x1x1_0_1_0) (ix3 0 0 0)) (turned x6 x7 x8 x0) (turned x6 x7 x8 x1) (entries x2) x3 x5
      inb_S2304x128_S256x128_0_0 inb_S2560x128_S256x128_0_0 inb_S17x256x256_S1x256x256_0_0_0 r e) (h0.trans (Nat.zero_add _).symm) h1

end Cert.RetainIdeal.Val
end
-- ==== Proof.RetainRope.lean ====
/- The rotation of a head's 128 channels by position, as the reference lays it out and by the kernel's tables. -/
module

public import proofs.«01_k».proof.Proof.RetainMath

@[expose] public section

noncomputable section

namespace Cert.Retention

open Idealize.ShloMosaic

/-- The angular speed of pair `k`: `10000 ^ (-2k / 64)`. -/
def speed (k : ℕ) : EReal :=
  Ideal.pow (Ideal.ofBits .f32 0x461C4000#32)
    (Ideal.div (-(Ideal.ofBits .f32 0x40000000#32 * FloatOps.sitofp (F := Ideal) .f32 (BitVec.ofNat 32 k))) (Ideal.ofBits .f32 0x42800000#32))

/-- The angle of pair `k` at place `n` of an axis. -/
def angle (n k : ℕ) : EReal := FloatOps.sitofp (F := Ideal) .f32 (BitVec.ofNat 32 n) * speed k

/-- The angle of rotated channel `e` at latent row `l`: the first half of the channels turns with the row of the grid, the second with its column. -/
def turn (l : ℕ) (e : ℕ) : EReal := if e < 64 then angle (l / 64) (e % 32) else angle (l % 64) (e % 32)

/-- The rotation at latent row `l`: channels 32 apart are a pair. -/
def rotate (l : ℕ) (x : Fin 128 → EReal) (e : Fin 128) : EReal :=
  if h : e.val % 64 < 32 then x e * Ideal.cos (turn l e.val) - x ⟨e.val + 32, by omega⟩ * Ideal.sin (turn l e.val)
  else x e * Ideal.cos (turn l e.val) + x ⟨e.val - 32, by omega⟩ * Ideal.sin (turn l e.val)

/-- The rotation of a sample's row: the context rows are left as they are. -/
def rope (l : Fin 2304) (x : Fin 128 → EReal) (e : Fin 128) : EReal := if l.val < 256 then x e else rotate (l.val - 256) x e

/-- The rotation from its four quarters of channels: the two halves of the pairs that turn with the row of the grid, then those that turn
    with its column. -/
theorem rotate_quarters {l : ℕ} {x : Fin 128 → EReal} {e : Fin 128} {X : EReal}
    (h0 : ∀ h : e.val < 32, X = x e * Ideal.cos (angle (l / 64) e.val) - x ⟨32 + e.val, by omega⟩ * Ideal.sin (angle (l / 64) e.val))
    (h1 : ∀ h : 32 ≤ e.val ∧ e.val < 64, X = x e * Ideal.cos (angle (l / 64) (e.val - 32)) + x ⟨e.val - 32, by omega⟩ * Ideal.sin (angle (l / 64) (e.val - 32)))
    (h2 : ∀ h : 64 ≤ e.val ∧ e.val < 96, X = x e * Ideal.cos (angle (l % 64) (e.val - 64)) - x ⟨32 + e.val, by omega⟩ * Ideal.sin (angle (l % 64) (e.val - 64)))
    (h3 : ∀ h : 96 ≤ e.val, X = x e * Ideal.cos (angle (l % 64) (e.val - 96)) + x ⟨e.val - 32, by omega⟩ * Ideal.sin (angle (l % 64) (e.val - 96))) :
    X = rotate l x e := by
  have low : ∀ n k, k < 32 → e.val % 32 = k → turn l e.val = angle n (e.val % 32) → e.val % 64 < 32 → ∀ hb : 32 + e.val < 128,
      x e * Ideal.cos (angle n k) - x ⟨32 + e.val, hb⟩ * Ideal.sin (angle n k) = rotate l x e := fun n k _ hk ht hl hb => by
    unfold rotate
    rw [dif_pos hl, ht, hk]
    exact congrArg (_ - x · * _) (Fin.ext (Nat.add_comm _ _))
  have high : ∀ n k, k < 32 → e.val % 32 = k → turn l e.val = angle n (e.val % 32) → ¬ e.val % 64 < 32 →
      x e * Ideal.cos (angle n k) + x ⟨e.val - 32, by omega⟩ * Ideal.sin (angle n k) = rotate l x e := fun n k _ hk ht hl => by
    unfold rotate
    rw [dif_neg hl, ht, hk]
  have row : e.val < 64 → turn l e.val = angle (l / 64) (e.val % 32) := fun h => if_pos h
  have col : ¬ e.val < 64 → turn l e.val = angle (l % 64) (e.val % 32) := fun h => if_neg h
  rcases Nat.lt_or_ge e.val 32 with a | a
  · exact (h0 a).trans (low _ _ (by omega) (by omega) (row (by omega)) (by omega) _)
  rcases Nat.lt_or_ge e.val 64 with b | b
  · exact (h1 ⟨a, b⟩).trans (high _ _ (by omega) (by omega) (row b) (by omega))
  rcases Nat.lt_or_ge e.val 96 with c | c
  · exact (h2 ⟨b, c⟩).trans (low _ _ (by omega) (by omega) (col (by omega)) (by omega) _)
  · exact (h3 c).trans (high _ _ (by omega) (by omega) (col (by omega)) (by omega))

/-- The rotation as the reference lays it out: the two halves of the channels apart, each cut into its thirty-two pairs. -/
theorem rotate_nested {l : ℕ} (x : Fin 128 → EReal) (A B : Fin 32 → EReal) (hA : ∀ k, A k = angle (l / 64) k.val) (hB : ∀ k, B k = angle (l % 64) k.val)
    (e : Fin 128) :
    (if h1 : e.val < 64 then
      if h2 : e.val < 32 then x e * Ideal.cos (A ⟨e.val, h2⟩) - x ⟨32 + e.val, by omega⟩ * Ideal.sin (A ⟨e.val, h2⟩)
      else x ⟨32 + (e.val - 32), by omega⟩ * Ideal.cos (A ⟨e.val - 32, by omega⟩) + x ⟨e.val - 32, by omega⟩ * Ideal.sin (A ⟨e.val - 32, by omega⟩)
    else
      if h2 : e.val - 64 < 32 then x ⟨64 + (e.val - 64), by omega⟩ * Ideal.cos (B ⟨e.val - 64, h2⟩)
        - x ⟨64 + (32 + (e.val - 64)), by omega⟩ * Ideal.sin (B ⟨e.val - 64, h2⟩)
      else x ⟨64 + (32 + (e.val - 64 - 32)), by omega⟩ * Ideal.cos (B ⟨e.val - 64 - 32, by omega⟩)
        + x ⟨64 + (e.val - 64 - 32), by omega⟩ * Ideal.sin (B ⟨e.val - 64 - 32, by omega⟩))
      = rotate l x e := by
  have pick : ∀ (n : ℕ) (hn : n < 128) (k : Fin 128), n = k.val → x ⟨n, hn⟩ = x k := fun n hn k h => congrArg x (Fin.ext h)
  refine rotate_quarters (fun h => ?_) (fun h => ?_) (fun h => ?_) fun h => ?_
  · rw [dif_pos (by omega), dif_pos h, hA]
  · rw [dif_pos h.2, dif_neg (by omega), hA, pick _ _ e (by omega)]
  · rw [dif_neg (by omega), dif_pos (by omega), hB, pick (64 + (e.val - 64)) _ e (by omega),
      pick (64 + (32 + (e.val - 64))) _ ⟨32 + e.val, by omega⟩ (by dsimp only; omega)]
  · rw [dif_neg (by omega), dif_neg (by omega), hB, pick (64 + (32 + (e.val - 64 - 32))) _ e (by omega),
      pick (64 + (e.val - 64 - 32)) _ ⟨e.val - 32, by omega⟩ (by dsimp only; omega)]
    dsimp only
    rw [show e.val - 64 - 32 = e.val - 96 by omega]

/-! ## The rotation by tables -/

def cosAt (l : Fin 2304) (d : Fin 128) : EReal := if l.val < 256 then 1 else Ideal.cos (turn (l.val - 256) d.val)

def upAt (l : Fin 2304) (d : Fin 128) : EReal :=
  if l.val < 256 then 0 else if d.val % 64 < 32 then -Ideal.sin (turn (l.val - 256) d.val) else 0

def downAt (l : Fin 2304) (d : Fin 128) : EReal :=
  if l.val < 256 then 0 else if d.val % 64 < 32 then 0 else Ideal.sin (turn (l.val - 256) d.val)

/-- The rotation by tables is the rotation. -/
theorem byTables_eq (l : Fin 2304) (x : Fin 128 → EReal) (d : Fin 128) :
    x d * cosAt l d + x ⟨(d.val + 128 - 96) % 128, by omega⟩ * upAt l d + x ⟨(d.val + 128 - 32) % 128, by omega⟩ * downAt l d = rope l x d := by
  unfold cosAt upAt downAt rope
  by_cases hl : l.val < 256
  · simp only [if_pos hl, mul_one, mul_zero, add_zero]
  simp only [if_neg hl]
  unfold rotate
  by_cases hp : d.val % 64 < 32
  · rw [if_pos hp, if_pos hp, dif_pos hp, mul_zero, add_zero, mul_neg, ← sub_eq_add_neg]
    refine congrArg (_ - · * _) (congrArg x (Fin.ext ?_))
    show (d.val + 128 - 96) % 128 = d.val + 32
    omega
  · rw [if_neg hp, if_neg hp, dif_neg hp, mul_zero, add_zero]
    refine congrArg (_ + · * _) (congrArg x (Fin.ext ?_))
    show (d.val + 128 - 32) % 128 = d.val - 32
    omega

/-! ## Of real channels -/

theorem word_64 : Ideal.ofBits .f32 0x42800000#32 = ((64 : ℝ) : EReal) := by
  simp [Ideal.ofBits, Ideal.ieee, -EReal.coe_mul]; norm_num

theorem word_2 : Ideal.ofBits .f32 0x40000000#32 = ((2 : ℝ) : EReal) := by
  simp [Ideal.ofBits, Ideal.ieee, -EReal.coe_mul]; norm_num

theorem word_10000 : Ideal.ofBits .f32 0x461C4000#32 = ((10000 : ℝ) : EReal) := by
  simp [Ideal.ofBits, Ideal.ieee, -EReal.coe_mul]; norm_num

theorem angle_real (n k : ℕ) : ∃ t : ℝ, angle n k = t := by
  have h : ∀ m : ℕ, FloatOps.sitofp (F := Ideal) .f32 (BitVec.ofNat 32 m) = (((BitVec.ofNat 32 m).toInt : ℝ) : EReal) := fun _ => rfl
  unfold angle speed
  rw [h, h, word_64, word_2, word_10000, ← EReal.coe_mul, ← EReal.coe_neg, Ideal.div_coe (by norm_num), ← EReal.coe_mul, Ideal.pow_coe_coe, ← EReal.coe_mul]
  exact ⟨_, rfl⟩

theorem turn_real (l e : ℕ) : ∃ t : ℝ, turn l e = t := by
  unfold turn
  split_ifs
  · exact angle_real _ _
  · exact angle_real _ _

/-- The rotation of real channels is real. -/
theorem rope_real (l : Fin 2304) (x : Fin 128 → EReal) (hx : ∀ d, ∃ r : ℝ, x d = r) (e : Fin 128) : ∃ r : ℝ, rope l x e = r := by
  choose y hy using hx
  unfold rope rotate
  obtain ⟨t, ht⟩ := turn_real (l.val - 256) e.val
  split_ifs
  · exact ⟨_, hy e⟩
  · rw [hy, hy, ht, Ideal.cos_coe, Ideal.sin_coe, ← EReal.coe_mul, ← EReal.coe_mul, ← EReal.coe_sub]
    exact ⟨_, rfl⟩
  · rw [hy, hy, ht, Ideal.cos_coe, Ideal.sin_coe, ← EReal.coe_mul, ← EReal.coe_mul, ← EReal.coe_add]
    exact ⟨_, rfl⟩

end Cert.Retention

end
-- ==== Proof.RetainArrays.lean ====
/- The retention: the array the kernel leaves, as a function of the call's arguments. -/
module

public import proofs.«01_k».proof.Proof.RetainKernel
public import proofs.«01_k».proof.Proof.RetainRope
public import Idealize.ShloMosaic.Lib.StableHlo.ReadAt

@[expose] public section

set_option maxRecDepth 16384

noncomputable section

namespace Cert.RetainIdeal.Val

open Cert.RetainIdeal Cert.RetainIdeal.Gen Cert.Retention Idealize.ShloMosaic Idealize.ShloMosaic.TcCoe Idealize.SL.Sem

variable (m : (ℓ : Loc nD τ sig) → Buf (Elt Ideal) ℓ)

/-! ## The arrays the host prepares -/

theorem angle_congr {n n' k k' : ℕ} (hn : n = n') (hk : k = k') : angle n k = angle n' k' := by rw [hn, hk]

theorem v43 (c : Dev nD) (l : Fin 2304) (d : Fin 128) : V m c main_v43 (ix2 l d) = cosAt l d := by
  unfold V
  after_reads_at
  repeat after_reads_at
  unfold cosAt turn
  split_ifs
  all_goals first
    | (exfalso; omega)
    | exact congrArg Ideal.cos (angle_congr rfl (by omega))
    | rfl

theorem v49 (c : Dev nD) (l : Fin 2304) (d : Fin 128) : V m c main_v49 (ix2 l d) = upAt l d := by
  unfold V
  after_reads_at
  repeat after_reads_at
  unfold upAt turn
  split_ifs
  all_goals first
    | (exfalso; omega)
    | exact congrArg (fun x => -Ideal.sin x) (angle_congr rfl (by omega))
    | rfl

theorem v55 (c : Dev nD) (l : Fin 2304) (d : Fin 128) : V m c main_v55 (ix2 l d) = downAt l d := by
  unfold V
  after_reads_at
  repeat after_reads_at
  unfold downAt turn
  split_ifs
  all_goals first
    | (exfalso; omega)
    | exact congrArg Ideal.sin (angle_congr rfl (by omega))
    | rfl

theorem v56 (c : Dev nD) (j : Fin 512) : V m c main_v56 (ix2 0 j) = m (c, Proc.tc.devRef main_arg2) (ix1 j) := by
  unfold V
  after_reads_at

theorem v3_0 (c : Dev nD) (h : Fin 4) : V m c main_v3 (ix3 h 0 0) = m (c, Proc.tc.devRef main_arg1) (ix2 0 h) := by
  unfold V
  after_reads_at
  repeat after_reads_at

theorem v3_1 (c : Dev nD) (h : Fin 4) : V m c main_v3 (ix3 h 1 0) = m (c, Proc.tc.devRef main_arg1) (ix2 1 h) := by
  unfold V
  after_reads_at
  repeat after_reads_at

/-! ## The blocks -/

theorem idx : ∀ t : Fin cfg0.N, (win0_0.index t = ![(grid0.coords t 0).val, 16 + (grid0.coords t 1).val]
      ∧ win0_1.index t = ![(grid0.coords t 0).val, 20 + (grid0.coords t 1).val]
      ∧ win0_2.index t = ![(grid0.coords t 0).val, 24 + (grid0.coords t 1).val]
      ∧ win0_3.index t = ![(grid0.coords t 0).val, 28 + (grid0.coords t 1).val])
    ∧ (win0_4.index t = ![(grid0.coords t 1).val, 0, 0] ∧ win0_5.index t = ![0, (grid0.coords t 1).val])
    ∧ (win0_6.index t = ![0, 0] ∧ win0_7.index t = ![0, 0] ∧ win0_8.index t = ![0, 0])
    ∧ win0_9.index t = ![(grid0.coords t 0).val, (grid0.coords t 1).val] :=
  (by decide +kernel : ∀ t : Fin grid0.N, _)

/-- The sample of a grid point. -/
def sample (t : Fin cfg0.N) : Fin 4 := ⟨(grid0.coords t 0).val, (grid0.coords t 0).isLt⟩

/-- The head of a grid point. -/
def head (t : Fin cfg0.N) : Fin 4 := ⟨(grid0.coords t 1).val, (grid0.coords t 1).isLt⟩

/-- Row `l` of sample `b`. -/
def rowOf (b : Fin 4) (l : Fin 2304) : Fin 9216 := ⟨b.val * 2304 + l.val, by omega⟩

/-- Channel `d` of head `h`, of the four heads of 128. -/
def chan (h : Fin 4) (d : Fin 128) : Fin 512 := ⟨h.val * 128 + d.val, by omega⟩

/-- Head `h` of row `l` of sample `b`, of the four heads that begin at column `o`. -/
def headAt (p : FVec Ideal S9216x6400 .bf16) (o : ℕ) (ho : o + 512 ≤ 6400) (b h : Fin 4) (l : Fin 2304) (d : Fin 128) : EReal :=
  p (ix2 (rowOf b l) ⟨o + (h.val * 128 + d.val), by omega⟩)

theorem blk0 (c : Dev nD) (t : Fin cfg0.N) (r : Fin 2304) (d : Fin 128) : iblk m c 0 t (ix2 r d) = headAt (V m c main_arg0) 2048 (by norm_num) (sample t) (head t) r d := by
  obtain ⟨⟨e, _, _, _⟩, _⟩ := idx t
  blk_ext [iblk, e, headAt, rowOf, sample, head]

theorem blk1 (c : Dev nD) (t : Fin cfg0.N) (r : Fin 2304) (d : Fin 128) : iblk m c 1 t (ix2 r d) = headAt (V m c main_arg0) 2560 (by norm_num) (sample t) (head t) r d := by
  obtain ⟨⟨_, e, _, _⟩, _⟩ := idx t
  blk_ext [iblk, e, headAt, rowOf, sample, head]

theorem blk2 (c : Dev nD) (t : Fin cfg0.N) (r : Fin 2304) (d : Fin 128) : iblk m c 2 t (ix2 r d) = headAt (V m c main_arg0) 3072 (by norm_num) (sample t) (head t) r d := by
  obtain ⟨⟨_, _, e, _⟩, _⟩ := idx t
  blk_ext [iblk, e, headAt, rowOf, sample, head]

theorem blk3 (c : Dev nD) (t : Fin cfg0.N) (r : Fin 2304) (d : Fin 128) : iblk m c 3 t (ix2 r d) = headAt (V m c main_arg0) 3584 (by norm_num) (sample t) (head t) r d := by
  obtain ⟨⟨_, _, _, e⟩, _⟩ := idx t
  blk_ext [iblk, e, headAt, rowOf, sample, head]

theorem blk4_0 (c : Dev nD) (t : Fin cfg0.N) : iblk m c 4 t (ix3 0 0 0) = m (c, Proc.tc.devRef main_arg1) (ix2 0 (head t)) := by
  obtain ⟨_, ⟨e, _⟩, _⟩ := idx t
  refine Eq.trans ?_ (v3_0 m c (head t))
  blk_ext [iblk, e, head]

theorem blk4_1 (c : Dev nD) (t : Fin cfg0.N) : iblk m c 4 t (ix3 0 1 0) = m (c, Proc.tc.devRef main_arg1) (ix2 1 (head t)) := by
  obtain ⟨_, ⟨e, _⟩, _⟩ := idx t
  refine Eq.trans ?_ (v3_1 m c (head t))
  blk_ext [iblk, e, head]

theorem blk5 (c : Dev nD) (t : Fin cfg0.N) (d : Fin 128) : iblk m c 5 t (ix2 0 d) = m (c, Proc.tc.devRef main_arg2) (ix1 (chan (head t) d)) := by
  obtain ⟨_, ⟨_, e⟩, _⟩ := idx t
  refine Eq.trans ?_ (v56 m c (chan (head t) d))
  blk_ext [iblk, e, head, chan]

theorem blk6 (c : Dev nD) (t : Fin cfg0.N) (r : Fin 2304) (d : Fin 128) : iblk m c 6 t (ix2 r d) = cosAt r d := by
  obtain ⟨_, _, ⟨e, _⟩, _⟩ := idx t
  refine Eq.trans ?_ (v43 m c r d)
  blk_ext [iblk, e]

theorem blk7 (c : Dev nD) (t : Fin cfg0.N) (r : Fin 2304) (d : Fin 128) : iblk m c 7 t (ix2 r d) = upAt r d := by
  obtain ⟨_, _, ⟨_, e, _⟩, _⟩ := idx t
  refine Eq.trans ?_ (v49 m c r d)
  blk_ext [iblk, e]

theorem blk8 (c : Dev nD) (t : Fin cfg0.N) (r : Fin 2304) (d : Fin 128) : iblk m c 8 t (ix2 r d) = downAt r d := by
  obtain ⟨_, _, ⟨_, _, e⟩, _⟩ := idx t
  refine Eq.trans ?_ (v55 m c r d)
  blk_ext [iblk, e]

/-- The rotated block of a grid point. -/
theorem turned_eq (c : Dev nD) (t : Fin cfg0.N) (x : FVec Ideal S2304x128 .bf16) (y : Fin 2304 → Fin 128 → EReal) (hx : ∀ r d, x (ix2 r d) = y r d) :
    turned (iblk m c 6 t) (iblk m c 7 t) (iblk m c 8 t) x = fun l => rope l (y l) := by
  funext r d
  refine Eq.trans ?_ (byTables_eq r (y r) d)
  exact congrArg₂ (· + ·) (congrArg₂ (· + ·) (congrArg₂ (· * ·) (hx _ _) (blk6 m c t r d)) (congrArg₂ (· * ·) (hx _ _) (blk7 m c t r d)))
    (congrArg₂ (· * ·) (hx _ _) (blk8 m c t r d))

/-! ## The result -/

/-- Channel `e` of head `h` of row `l` of sample `b`, as the kernel computes it. -/
def retAt (p : FVec Ideal S9216x6400 .bf16) (a : FVec Ideal S2x4 .f32) (n : FVec Ideal S512 .f32) (b h : Fin 4) (l : Fin 2304) (e : Fin 128) : EReal :=
  outAt (a (ix2 0 h)) (a (ix2 1 h)) (fun l => rope l (headAt p 2048 (by norm_num) b h l)) (fun l => rope l (headAt p 2560 (by norm_num) b h l))
    (headAt p 3072 (by norm_num) b h) (headAt p 3584 (by norm_num) b h) (fun d => n (ix1 (chan h d))) l e

/-- The whole result. -/
def ret (p : FVec Ideal S9216x6400 .bf16) (a : FVec Ideal S2x4 .f32) (n : FVec Ideal S512 .f32) : FVec Ideal S9216x512 .bf16 := fun i =>
  retAt p a n ⟨(i 0).val / 2304, by have h : (i 0).val < 9216 := (i 0).isLt; omega⟩ ⟨(i 1).val / 128, by have h : (i 1).val < 512 := (i 1).isLt; omega⟩
    ⟨(i 0).val % 2304, by omega⟩ ⟨(i 1).val % 128, by omega⟩

theorem ret_apply (p : FVec Ideal S9216x6400 .bf16) (a : FVec Ideal S2x4 .f32) (n : FVec Ideal S512 .f32) (b h : Fin 4) (l : Fin 2304) (e : Fin 128) :
    ret p a n (ix2 (rowOf b l) (chan h e)) = retAt p a n b h l e := by
  have h0 : (⟨(b.val * 2304 + l.val) / 2304, by omega⟩ : Fin 4) = b := Fin.ext (by show (b.val * 2304 + l.val) / 2304 = b.val; omega)
  have h1 : (⟨(h.val * 128 + e.val) / 128, by omega⟩ : Fin 4) = h := Fin.ext (by show (h.val * 128 + e.val) / 128 = h.val; omega)
  have h2 : (⟨(b.val * 2304 + l.val) % 2304, by omega⟩ : Fin 2304) = l := Fin.ext (by show (b.val * 2304 + l.val) % 2304 = l.val; omega)
  have h3 : (⟨(h.val * 128 + e.val) % 128, by omega⟩ : Fin 128) = e := Fin.ext (by show (h.val * 128 + e.val) % 128 = e.val; omega)
  show retAt p a n ⟨(b.val * 2304 + l.val) / 2304, _⟩ ⟨(h.val * 128 + e.val) / 128, _⟩ ⟨(b.val * 2304 + l.val) % 2304, _⟩ ⟨(h.val * 128 + e.val) % 128, _⟩ = _
  rw [h0, h1, h2, h3]

theorem outAt_congr {a a' b b' : EReal} {q q' k k' v v' g g' : Fin 2304 → Fin 128 → EReal} {n n' : Fin 128 → EReal} (ha : a = a') (hb : b = b') (hq : q = q')
    (hk : k = k') (hv : v = v') (hg : g = g') (hn : n = n') (l : Fin 2304) (e : Fin 128) : outAt a b q k v g n l e = outAt a' b' q' k' v' g' n' l e := by
  rw [ha, hb, hq, hk, hv, hg, hn]

theorem blk9 (c : Dev nD) (t : Fin cfg0.N) (r : Fin 2304) (d : Fin 128) : outsAt0 m c t (ix2 r d)
    = ret (V m c main_arg0) (m (c, Proc.tc.devRef main_arg1)) (m (c, Proc.tc.devRef main_arg2)) (ix2 (rowOf (sample t) r) (chan (head t) d)) := by
  rw [ret_apply]
  dsimp only [outsAt0]
  refine (out9 c t (iblk m c 0 t) (iblk m c 1 t) (iblk m c 2 t) (iblk m c 3 t) (iblk m c 4 t) (iblk m c 5 t) (iblk m c 6 t) (iblk m c 7 t) (iblk m c 8 t) r d).trans ?_
  exact outAt_congr (blk4_0 m c t) (blk4_1 m c t) (turned_eq m c t _ _ (blk0 m c t)) (turned_eq m c t _ _ (blk1 m c t))
    (funext fun r => funext fun d => blk2 m c t r d) (funext fun r => funext fun d => blk3 m c t r d) (funext fun d => blk5 m c t d) r d

theorem final9 (c : Dev nD) : (dats m 0 c).arrAt 9 cfg0.N
    = ret (V m c main_arg0) (m (c, Proc.tc.devRef main_arg1)) (m (c, Proc.tc.devRef main_arg2)) := by
  refine (dats m 0 c).arrAt_eq_of_covers 9 _ (by decide +kernel) fun t hf y => ?_
  blk_simp
  rw [after0_9]
  obtain ⟨_, _, _, e9⟩ := idx t
  refine (congrArg _ (eq_ix2 y)).trans ((blk9 m c t (y 0) (y 1)).trans (congrArg _ ?_))
  blk_ext [e9, rowOf, chan, sample, head]

theorem out9_args (c : Dev nD) : (dats m 0 c).arrAt 9 cfg0.N
    = ret (m ((c.tc : Thread nD τ).loc main_arg0)) (m ((c.tc : Thread nD τ).loc main_arg1)) (m ((c.tc : Thread nD τ).loc main_arg2)) :=
  (final9 m c).trans (congrArg (ret · _ _) (V_main_arg0 m c))

end Cert.RetainIdeal.Val

end
-- ==== Proof.RetainSum.lean ====
/- The retention as two passes over the chunks, against one sum with weights: over real queries, keys and values they are equal. -/
module

public import proofs.«01_k».proof.Proof.RetainMath
public import proofs.«01_k».proof.Proof.AttnMath

@[expose] public section

noncomputable section

namespace Cert.Retention

open Idealize.ShloMosaic
open Cert.AttnMath (sum_coe)

/-- The weight of the forward pass: a row sees itself and the rows before it. -/
def past (a : EReal) (i c : ℕ) : EReal := if c ≤ i then wt a (i - c) else 0

/-- The weight of the backward pass: a row sees the rows after it, which come before it in the reversed order. -/
def before (b : EReal) (i c : ℕ) : EReal := if c < i then wt b (i - c) else 0

/-- One row of a chunk: what the chunk's own rows give it, and what the state from before the chunk gives it. -/
def chunk {n : ℕ} (q k v : Fin n → Fin 128 → EReal) (w : Fin n → Fin n → EReal) (x : Fin n → EReal) (σ : Fin 128 → Fin 128 → EReal) (i : Fin n) (e : Fin 128) : EReal :=
  (∑ c, v c e * ((∑ d, q i d * k c d) * w i c)) + (∑ d, σ d e * q i d) * x i

/-- The state a chunk leaves, from none. -/
def state {n : ℕ} (k v : Fin n → Fin 128 → EReal) (z : Fin n → EReal) (d e : Fin 128) : EReal := ∑ c, k c d * z c * v c e

/-- The weights are real, and the weight over two distances is the product. -/
theorem wt_real (a : EReal) : ∃ ω : ℕ → ℝ, (∀ n, wt a n = (ω n : EReal)) ∧ ∀ m n, ω (m + n) = ω m * ω n := by
  have one : Ideal.exp 0 = ((1 : ℝ) : EReal) := by rw [← EReal.coe_zero, Ideal.exp_coe, Real.exp_zero]
  induction a using EReal.rec with
  | bot =>
    refine ⟨fun _ => 1, fun n => ?_, fun _ _ => by norm_num⟩
    unfold wt
    rw [Ideal.exp_bot, sub_zero, mul_zero]
    exact one
  | top =>
    refine ⟨fun n => if n = 0 then 1 else 0, fun n => ?_, fun m n => ?_⟩
    · have h : (0 : EReal) - Ideal.exp ⊤ = ⊥ := rfl
      unfold wt
      rw [h]
      rcases Nat.eq_zero_or_pos n with h0 | h0
      · subst h0
        rw [Nat.cast_zero, EReal.coe_zero, zero_mul]
        exact one.trans (congrArg _ (if_pos rfl).symm)
      · rw [EReal.coe_mul_bot_of_pos (by exact_mod_cast h0)]
        show (0 : EReal) = ((if n = 0 then 1 else 0 : ℝ) : EReal)
        rw [if_neg h0.ne', EReal.coe_zero]
    · by_cases hm : m = 0 <;> by_cases hn : n = 0 <;> simp [hm, hn]
  | coe r =>
    refine ⟨fun n => Real.exp (n * (0 - Real.exp r)), fun n => ?_, fun m n => ?_⟩
    · unfold wt
      rw [Ideal.exp_coe, ← EReal.coe_zero, ← EReal.coe_sub, ← EReal.coe_mul, Ideal.exp_coe]
    · rw [← Real.exp_add]
      push_cast
      ring_nf

theorem scale_real : ∃ s : ℝ, scale = s := by
  induction h : scale using EReal.rec with
  | bot => simp [scale, Ideal.ofBits, Ideal.ieee, -EReal.coe_mul] at h
  | top => simp [scale, Ideal.ofBits, Ideal.ieee, -EReal.coe_mul] at h
  | coe r => exact ⟨r, rfl⟩

/-- Reversing the columns does not change a sum. -/
theorem sum_rev {n : ℕ} (f : Fin n → ℝ) : ∑ c, f (Fin.rev c) = ∑ c, f c := Equiv.sum_comp Fin.revPerm f

/-- What a chunk's own rows give, over the reals. -/
theorem own_real {n : ℕ} (q : Fin 128 → ℝ) (k : Fin n → Fin 128 → ℝ) (v : Fin n → ℝ) (w : Fin n → ℝ) (s : ℝ) :
    ∑ c, v c * ((∑ d, q d * (k c d * s)) * w c) = (∑ c, (∑ d, q d * k c d) * w c * v c) * s := by
  rw [Finset.sum_mul]
  refine Finset.sum_congr rfl fun c _ => ?_
  simp only [← mul_assoc, ← Finset.sum_mul]
  ring

/-- What the state gives, over the reals. -/
theorem state_real {n : ℕ} (q : Fin 128 → ℝ) (k : Fin n → Fin 128 → ℝ) (v z : Fin n → ℝ) (s x : ℝ) :
    (∑ d, (∑ c, k c d * s * z c * v c) * q d) * x = (∑ c, (∑ d, q d * k c d) * (z c * x) * v c) * s := by
  simp only [Finset.sum_mul]
  rw [Finset.sum_comm]
  refine Finset.sum_congr rfl fun c _ => Finset.sum_congr rfl fun d _ => ?_
  ring

/-- Context rows, then latent rows, then the context rows again. -/
theorem sum_split (f : Fin 2560 → ℝ) : ∑ c, f c = (∑ c : Fin 256, f ⟨c.val, by omega⟩) + (∑ c : Fin 2048, f ⟨256 + c.val, by omega⟩) + ∑ c : Fin 256, f ⟨2304 + c.val, by omega⟩ :=
  (Fin.sum_univ_add (a := 2304) (b := 256) f).trans (congrArg (· + _) (Fin.sum_univ_add (a := 256) (b := 2048) fun c => f ⟨c.val, by omega⟩))

theorem coe_past (a : EReal) (ω : ℕ → ℝ) (h : ∀ n, wt a n = (ω n : EReal)) (i c : ℕ) : past a i c = ((if c ≤ i then ω (i - c) else 0 : ℝ) : EReal) := by
  unfold past
  split_ifs
  · exact h _
  · rfl

theorem coe_before (a : EReal) (ω : ℕ → ℝ) (h : ∀ n, wt a n = (ω n : EReal)) (i c : ℕ) : before a i c = ((if c < i then ω (i - c) else 0 : ℝ) : EReal) := by
  unfold before
  split_ifs
  · exact h _
  · rfl

theorem coe_weight (a b : EReal) (α β : ℕ → ℝ) (ha : ∀ n, wt a n = (α n : EReal)) (hb : ∀ n, wt b n = (β n : EReal)) (i c : ℕ) :
    weight a b i c = ((if c ≤ i then α (i - c) else β (c - i) : ℝ) : EReal) := by
  unfold weight
  split_ifs
  · exact ha _
  · exact hb _

variable (a b : EReal)

/-- A chunk of context rows from no state: the two passes together. -/
theorem ctx_sum {q k v : Fin 256 → Fin 128 → EReal} (hq : ∀ i d, ∃ r : ℝ, q i d = r) (hk : ∀ i d, ∃ r : ℝ, k i d = r) (hv : ∀ i d, ∃ r : ℝ, v i d = r)
    (x y : Fin 256 → EReal) (i : Fin 256) (e : Fin 128) :
    chunk q (fun c d => k c d * scale) v (fun i c => past a i c) x (fun _ _ => 0) i e
      + chunk (fun c => q c.rev) (fun c d => k c.rev d * scale) (fun c => v c.rev) (fun i c => before b i c) y (fun _ _ => 0) i.rev e
    = retained scale (q i) k v (fun c => weight a b i c) e := by
  obtain ⟨α, ha, -⟩ := wt_real a
  obtain ⟨β, hb, -⟩ := wt_real b
  obtain ⟨s, hs⟩ := scale_real
  choose q' hq using hq
  choose k' hk using hk
  choose v' hv using hv
  unfold chunk retained
  simp only [hq, hk, hv, hs, coe_past a α ha, coe_before b β hb, coe_weight a b α β ha hb, Fin.rev_rev, zero_mul, Finset.sum_const_zero, add_zero,
    ← EReal.coe_mul, sum_coe, ← EReal.coe_add]
  refine congrArg _ ?_
  rw [own_real, own_real (q' i) (fun c => k' c.rev) (fun c => v' c.rev e),
    ← sum_rev (fun c => (∑ d, q' i d * k' c.rev d) * (if c.val < i.rev.val then β (i.rev.val - c.val) else 0) * v' c.rev e), ← add_mul, ← Finset.sum_add_distrib]
  refine congrArg (· * s) (Finset.sum_congr rfl fun c _ => ?_)
  simp only [Fin.rev_rev]
  rw [← add_mul, ← mul_add]
  refine congrArg (_ * · * _) ?_
  have h1 := Fin.val_rev i
  have h2 := Fin.val_rev c
  by_cases h : c.val ≤ i.val
  · rw [if_pos h, if_pos h, if_neg (by omega), add_zero]
  · rw [if_neg h, if_neg h, if_pos (by omega), zero_add]
    exact congrArg β (by omega)

/-- A chunk of latent rows, each pass starting from the state its pass over the context rows left. -/
theorem lat_sum {kc vc : Fin 256 → Fin 128 → EReal} {q k v : Fin 2048 → Fin 128 → EReal}
    (hkc : ∀ i d, ∃ r : ℝ, kc i d = r) (hvc : ∀ i d, ∃ r : ℝ, vc i d = r)
    (hq : ∀ i d, ∃ r : ℝ, q i d = r) (hk : ∀ i d, ∃ r : ℝ, k i d = r) (hv : ∀ i d, ∃ r : ℝ, v i d = r) (K W : Fin 2560 → Fin 128 → EReal)
    (hK0 : ∀ c : Fin 256, K ⟨c.val, by omega⟩ = kc c) (hK1 : ∀ c : Fin 2048, K ⟨256 + c.val, by omega⟩ = k c) (hK2 : ∀ c : Fin 256, K ⟨2304 + c.val, by omega⟩ = kc c)
    (hW0 : ∀ c : Fin 256, W ⟨c.val, by omega⟩ = vc c) (hW1 : ∀ c : Fin 2048, W ⟨256 + c.val, by omega⟩ = v c) (hW2 : ∀ c : Fin 256, W ⟨2304 + c.val, by omega⟩ = vc c)
    (i : Fin 2048) (e : Fin 128) :
    chunk q (fun c d => k c d * scale) v (fun i c => past a i c) (fun i => wt a (i + 1)) (state (fun c d => kc c d * scale) vc fun c => wt a (255 - c)) i e
      + chunk (fun c => q c.rev) (fun c d => k c.rev d * scale) (fun c => v c.rev) (fun i c => before b i c) (fun i => wt b (i + 1))
          (state (fun c d => kc c.rev d * scale) (fun c => vc c.rev) fun c => wt b (255 - c)) i.rev e
    = retained scale (q i) K W (fun c => weight a b (256 + i) c) e := by
  obtain ⟨α, ha, ha'⟩ := wt_real a
  obtain ⟨β, hb, hb'⟩ := wt_real b
  obtain ⟨s, hs⟩ := scale_real
  choose kc' hkc using hkc
  choose vc' hvc using hvc
  choose q' hq using hq
  choose k' hk using hk
  choose v' hv using hv
  have hKr : ∀ c d, ∃ r : ℝ, K c d = r := fun c d => by
    by_cases h0 : c.val < 256
    · exact ⟨_, (congrFun (hK0 ⟨c.val, h0⟩) d).trans (hkc _ d)⟩
    by_cases h1 : c.val < 2304
    · exact ⟨_, (congrArg (fun c => K c d) (Fin.ext (by show c.val = 256 + (c.val - 256); omega))).trans ((congrFun (hK1 ⟨c.val - 256, by omega⟩) d).trans (hk _ d))⟩
    · exact ⟨_, (congrArg (fun c => K c d) (Fin.ext (by show c.val = 2304 + (c.val - 2304); omega))).trans ((congrFun (hK2 ⟨c.val - 2304, by omega⟩) d).trans (hkc _ d))⟩
  have hWr : ∀ c d, ∃ r : ℝ, W c d = r := fun c d => by
    by_cases h0 : c.val < 256
    · exact ⟨_, (congrFun (hW0 ⟨c.val, h0⟩) d).trans (hvc _ d)⟩
    by_cases h1 : c.val < 2304
    · exact ⟨_, (congrArg (fun c => W c d) (Fin.ext (by show c.val = 256 + (c.val - 256); omega))).trans ((congrFun (hW1 ⟨c.val - 256, by omega⟩) d).trans (hv _ d))⟩
    · exact ⟨_, (congrArg (fun c => W c d) (Fin.ext (by show c.val = 2304 + (c.val - 2304); omega))).trans ((congrFun (hW2 ⟨c.val - 2304, by omega⟩) d).trans (hvc _ d))⟩
  choose K' hK using hKr
  choose W' hW using hWr
  have eK0 : ∀ (c : Fin 256) d, K' ⟨c.val, by omega⟩ d = kc' c d := fun c d => EReal.coe_injective ((hK _ d).symm.trans ((congrFun (hK0 c) d).trans (hkc c d)))
  have eK1 : ∀ (c : Fin 2048) d, K' ⟨256 + c.val, by omega⟩ d = k' c d := fun c d => EReal.coe_injective ((hK _ d).symm.trans ((congrFun (hK1 c) d).trans (hk c d)))
  have eK2 : ∀ (c : Fin 256) d, K' ⟨2304 + c.val, by omega⟩ d = kc' c d := fun c d => EReal.coe_injective ((hK _ d).symm.trans ((congrFun (hK2 c) d).trans (hkc c d)))
  have eW0 : ∀ (c : Fin 256) d, W' ⟨c.val, by omega⟩ d = vc' c d := fun c d => EReal.coe_injective ((hW _ d).symm.trans ((congrFun (hW0 c) d).trans (hvc c d)))
  have eW1 : ∀ (c : Fin 2048) d, W' ⟨256 + c.val, by omega⟩ d = v' c d := fun c d => EReal.coe_injective ((hW _ d).symm.trans ((congrFun (hW1 c) d).trans (hv c d)))
  have eW2 : ∀ (c : Fin 256) d, W' ⟨2304 + c.val, by omega⟩ d = vc' c d := fun c d => EReal.coe_injective ((hW _ d).symm.trans ((congrFun (hW2 c) d).trans (hvc c d)))
  clear hK0 hK1 hK2 hW0 hW1 hW2
  unfold chunk retained state
  simp only [hq, hk, hv, hkc, hvc, hK, hW, hs, ha, hb, coe_past a α ha, coe_before b β hb, coe_weight a b α β ha hb, Fin.rev_rev,
    ← EReal.coe_mul, sum_coe, ← EReal.coe_add]
  refine congrArg _ ?_
  rw [sum_split]
  simp only [eK0, eK1, eK2, eW0, eW1, eW2]
  rw [own_real, own_real (q' i) (fun c => k' c.rev) (fun c => v' c.rev e), state_real, state_real (q' i) (fun c => kc' c.rev) (fun c => vc' c.rev e),
    ← sum_rev (fun c => (∑ d, q' i d * k' c.rev d) * (if c.val < i.rev.val then β (i.rev.val - c.val) else 0) * v' c.rev e),
    ← sum_rev (fun c : Fin 256 => (∑ d, q' i d * kc' c.rev d) * (β (255 - c.val) * β (i.rev.val + 1)) * vc' c.rev e)]
  simp only [Fin.rev_rev]
  have h1 := Fin.val_rev i
  have s0 : (∑ c : Fin 256, (∑ d, q' i d * kc' c d) * (if c.val ≤ 256 + i.val then α (256 + i.val - c.val) else β (c.val - (256 + i.val))) * vc' c e)
      = ∑ c : Fin 256, (∑ d, q' i d * kc' c d) * (α (255 - c.val) * α (i.val + 1)) * vc' c e := Finset.sum_congr rfl fun c _ => by
    rw [if_pos (by omega), ← ha']
    exact congrArg (fun n => _ * α n * _) (by omega)
  have s2 : (∑ c : Fin 256, (∑ d, q' i d * kc' c d) * (if 2304 + c.val ≤ 256 + i.val then α (256 + i.val - (2304 + c.val)) else β (2304 + c.val - (256 + i.val))) * vc' c e)
      = ∑ c : Fin 256, (∑ d, q' i d * kc' c d) * (β (255 - c.rev.val) * β (i.rev.val + 1)) * vc' c e := Finset.sum_congr rfl fun c _ => by
    have h2 := Fin.val_rev c
    rw [if_neg (by omega), ← hb']
    exact congrArg (fun n => _ * β n * _) (by omega)
  have s1 : (∑ c : Fin 2048, (∑ d, q' i d * k' c d) * (if 256 + c.val ≤ 256 + i.val then α (256 + i.val - (256 + c.val)) else β (256 + c.val - (256 + i.val))) * v' c e)
      = (∑ c : Fin 2048, (∑ d, q' i d * k' c d) * (if c.val ≤ i.val then α (i.val - c.val) else 0) * v' c e)
        + ∑ c : Fin 2048, (∑ d, q' i d * k' c d) * (if c.rev.val < i.rev.val then β (i.rev.val - c.rev.val) else 0) * v' c e := by
    rw [← Finset.sum_add_distrib]
    refine Finset.sum_congr rfl fun c _ => ?_
    have h2 := Fin.val_rev c
    rw [← add_mul, ← mul_add]
    refine congrArg (_ * · * _) ?_
    by_cases h : c.val ≤ i.val
    · rw [if_pos (by omega), if_pos h, if_neg (by omega), add_zero]
      exact congrArg α (by omega)
    · rw [if_neg (by omega), if_neg h, if_pos (by omega), zero_add]
      exact congrArg β (by omega)
  rw [s0, s1, s2]
  ring

end Cert.Retention

end
-- ==== Proof.RetainInf.lean ====
/- The retention over keys that need not be real: where a key's infinity reaches a row, it reaches it in both forms, and the norm then
   leaves zeros; where it does not, both forms are those of a real key in its place. -/
module

public import proofs.«01_k».proof.Proof.RetainSum

@[expose] public section

noncomputable section

namespace Cert.Retention

open Idealize.ShloMosaic

/-- Plus or minus infinity. -/
def Inf (x : EReal) : Prop := x = ⊤ ∨ x = ⊥

theorem inf_coe (r : ℝ) : ¬ Inf r := fun h => h.elim (EReal.coe_ne_top r) (EReal.coe_ne_bot r)

theorem not_inf_of_real {x : EReal} (h : ∃ r : ℝ, x = r) : ¬ Inf x := by
  obtain ⟨r, rfl⟩ := h
  exact inf_coe r

/-- The real number in place of an extended one. -/
def fin (x : EReal) : EReal := (x.toReal : EReal)

theorem fin_real (x : EReal) : ∃ r : ℝ, fin x = r := ⟨_, rfl⟩

theorem fin_eq {x : EReal} (h : ¬ Inf x) : fin x = x := EReal.coe_toReal (fun e => h (Or.inl e)) fun e => h (Or.inr e)

theorem inf_add (x y : EReal) : Inf (x + y) ↔ Inf x ∨ Inf y := by
  induction x using EReal.rec <;> induction y using EReal.rec <;> simp [Inf, ← EReal.coe_add]

theorem inf_mul (x y : EReal) : Inf (x * y) ↔ (Inf x ∧ y ≠ 0) ∨ (Inf y ∧ x ≠ 0) := by
  have hc : ∀ r s : ℝ, Inf ((r : EReal) * s) ↔ False := fun r s => by rw [← EReal.coe_mul]; exact iff_false_intro (inf_coe _)
  have ht : ∀ r : ℝ, Inf ((r : EReal) * ⊤) ↔ (r : EReal) ≠ 0 := fun r => by
    rcases lt_trichotomy r 0 with h | h | h
    · rw [EReal.coe_mul_top_of_neg h]
      exact iff_of_true (Or.inr rfl) (by exact_mod_cast h.ne)
    · subst h
      simp [Inf]
    · rw [EReal.coe_mul_top_of_pos h]
      exact iff_of_true (Or.inl rfl) (by exact_mod_cast h.ne')
  have hb : ∀ r : ℝ, Inf ((r : EReal) * ⊥) ↔ (r : EReal) ≠ 0 := fun r => by
    rcases lt_trichotomy r 0 with h | h | h
    · rw [EReal.coe_mul_bot_of_neg h]
      exact iff_of_true (Or.inl rfl) (by exact_mod_cast h.ne)
    · subst h
      simp [Inf]
    · rw [EReal.coe_mul_bot_of_pos h]
      exact iff_of_true (Or.inr rfl) (by exact_mod_cast h.ne')
  induction x using EReal.rec with
  | bot =>
    induction y using EReal.rec with
    | bot => simp [Inf]
    | top => simp [Inf]
    | coe s => rw [mul_comm, hb]; simp [Inf]
  | top =>
    induction y using EReal.rec with
    | bot => simp [Inf]
    | top => simp [Inf]
    | coe s => rw [mul_comm, ht]; simp [Inf]
  | coe r =>
    induction y using EReal.rec with
    | bot => rw [hb]; simp [Inf]
    | top => rw [ht]; simp [Inf]
    | coe s => rw [hc]; simp [Inf]

theorem inf_sum {n : ℕ} (f : Fin n → EReal) : Inf (∑ c, f c) ↔ ∃ c, Inf (f c) := by
  induction n with
  | zero => simp [Inf]
  | succ n ih => rw [Fin.sum_univ_succ, inf_add, ih, Fin.exists_fin_succ]

/-! ## The three kinds of sums -/

section
variable {n : ℕ} {q : Fin 128 → EReal} {k : Fin n → Fin 128 → EReal} {v w z : Fin n → EReal} {s x : EReal}

/-- A key's infinity that a factor of zero keeps from the sum. -/
def Kept (q : Fin 128 → EReal) (k : Fin n → Fin 128 → EReal) (v w : Fin n → EReal) : Prop := ∀ c d, Inf (k c d) → q d = 0 ∨ w c = 0 ∨ v c = 0

/-- A key's infinity that reaches the sum. -/
def Met (q : Fin 128 → EReal) (k : Fin n → Fin 128 → EReal) (v w : Fin n → EReal) : Prop := ∃ c d, Inf (k c d) ∧ q d ≠ 0 ∧ w c ≠ 0 ∧ v c ≠ 0

theorem met_or_kept : Met q k v w ∨ Kept q k v w := by
  by_cases h : Met q k v w
  · exact Or.inl h
  · refine Or.inr fun c d hi => ?_
    by_contra hn
    push Not at hn
    exact h ⟨c, d, hi, hn⟩

theorem own_inf (hq : ∀ d, ¬ Inf (q d)) (hv : ∀ c, ¬ Inf (v c)) (hw : ∀ c, ¬ Inf (w c)) (hs : ¬ Inf s) (h0 : s ≠ 0) (h : Met q k v w) :
    Inf (∑ c, v c * ((∑ d, q d * (k c d * s)) * w c)) := by
  obtain ⟨c, d, hi, h1, h2, h3⟩ := h
  simp only [inf_sum, inf_mul, hq, hv, hw, hs, false_and, false_or, or_false]
  exact ⟨c, ⟨⟨d, ⟨hi, h0⟩, h1⟩, h2⟩, h3⟩

theorem own_kept (h : Kept q k v w) : ∑ c, v c * ((∑ d, q d * (k c d * s)) * w c) = ∑ c, v c * ((∑ d, q d * (fin (k c d) * s)) * w c) := by
  refine Finset.sum_congr rfl fun c _ => ?_
  by_cases hv : v c = 0
  · rw [hv, zero_mul, zero_mul]
  by_cases hw : w c = 0
  · simp only [hw, mul_zero]
  refine congrArg (fun t => v c * (t * w c)) (Finset.sum_congr rfl fun d _ => ?_)
  by_cases hi : Inf (k c d)
  · rw [(h c d hi).resolve_right fun t => t.elim hw hv, zero_mul, zero_mul]
  · rw [fin_eq hi]

theorem read_inf (hq : ∀ d, ¬ Inf (q d)) (hv : ∀ c, ¬ Inf (v c)) (hz : ∀ c, ¬ Inf (z c)) (hx : ¬ Inf x) (hs : ¬ Inf s) (h0 : s ≠ 0) (h : Met q k v fun c => z c * x) :
    Inf ((∑ d, (∑ c, k c d * s * z c * v c) * q d) * x) := by
  obtain ⟨c, d, hi, h1, h2, h3⟩ := h
  simp only [inf_sum, inf_mul, hq, hv, hz, hs, hx, false_and, false_or, or_false]
  exact ⟨⟨d, ⟨c, ⟨⟨hi, h0⟩, left_ne_zero_of_mul h2⟩, h3⟩, h1⟩, right_ne_zero_of_mul h2⟩

theorem read_kept (h : Kept q k v fun c => z c * x) :
    (∑ d, (∑ c, k c d * s * z c * v c) * q d) * x = (∑ d, (∑ c, fin (k c d) * s * z c * v c) * q d) * x := by
  by_cases hx : x = 0
  · rw [hx, mul_zero, mul_zero]
  refine congrArg (· * x) (Finset.sum_congr rfl fun d _ => ?_)
  by_cases hq : q d = 0
  · rw [hq, mul_zero, mul_zero]
  refine congrArg (· * q d) (Finset.sum_congr rfl fun c _ => ?_)
  by_cases hi : Inf (k c d)
  · rcases (h c d hi).resolve_left hq with hz | hv
    · rw [(mul_eq_zero.1 hz).resolve_right hx, mul_zero, mul_zero]
    · rw [hv, mul_zero, mul_zero]
  · rw [fin_eq hi]

theorem ker_inf (hq : ∀ d, ¬ Inf (q d)) (hv : ∀ c, ¬ Inf (v c)) (hw : ∀ c, ¬ Inf (w c)) (hs : ¬ Inf s) (h0 : s ≠ 0) (h : Met q k v w) :
    Inf ((∑ c, (∑ d, q d * k c d) * w c * v c) * s) := by
  obtain ⟨c, d, hi, h1, h2, h3⟩ := h
  simp only [inf_sum, inf_mul, hq, hv, hw, hs, false_and, false_or, or_false]
  exact ⟨⟨c, ⟨⟨d, hi, h1⟩, h2⟩, h3⟩, h0⟩

theorem ker_kept (h : Kept q k v w) : (∑ c, (∑ d, q d * k c d) * w c * v c) * s = (∑ c, (∑ d, q d * fin (k c d)) * w c * v c) * s := by
  refine congrArg (· * s) (Finset.sum_congr rfl fun c _ => ?_)
  by_cases hv : v c = 0
  · rw [hv, mul_zero, mul_zero]
  by_cases hw : w c = 0
  · rw [hw, mul_zero, mul_zero]
  refine congrArg (fun t => t * w c * v c) (Finset.sum_congr rfl fun d _ => ?_)
  by_cases hi : Inf (k c d)
  · rw [(h c d hi).resolve_right fun t => t.elim hw hv, zero_mul, zero_mul]
  · rw [fin_eq hi]

end

/-! ## The norm of a row with an infinity -/

theorem inf_neg {x : EReal} (h : Inf x) : Inf (-x) := by
  rcases h with rfl | rfl
  · exact Or.inr rfl
  · exact Or.inl rfl

theorem word_128 : Ideal.ofBits .f32 0x43000000#32 = ((128 : ℝ) : EReal) := by
  simp [Ideal.ofBits, Ideal.ieee, -EReal.coe_mul]; norm_num

theorem mean_inf {o : Fin 128 → EReal} (h : ∃ e, Inf (o e)) : Inf (mean o) := by
  unfold mean
  rw [word_128, Ideal.div_coe (by norm_num), inf_mul]
  exact Or.inl ⟨(inf_sum o).2 h, by norm_num⟩

theorem sum_top (n : ℕ) : ∑ _c : Fin (n + 1), (⊤ : EReal) = ⊤ := by
  induction n with
  | zero => simp
  | succ n ih => rw [Fin.sum_univ_succ, ih]; rfl

/-- An infinity anywhere in a head's row makes the normed row zero. -/
theorem gated_inf {o : Fin 128 → EReal} (h : ∃ e, Inf (o e)) (g n : Fin 128 → EReal) (e : Fin 128) : gated o g n e = 0 := by
  have hd : ∀ e, Inf (o e - mean o) := fun e => by
    rw [sub_eq_add_neg, inf_add]
    exact Or.inr (inf_neg (mean_inf h))
  have hs : (fun e => (o e - mean o) * (o e - mean o)) = fun _ => ⊤ := funext fun e => by
    rcases hd e with h | h <;> rw [h] <;> rfl
  have hm : mean (fun _ => ⊤) = ⊤ := by
    unfold mean
    rw [word_128, Ideal.div_coe (by norm_num), sum_top 127]
    exact EReal.top_mul_coe_of_pos (by norm_num)
  have he : (⊤ : EReal) + Ideal.ofBits .f32 0x3727C5AC#32 = ⊤ := by
    refine EReal.top_add_of_ne_bot ?_
    simp [Ideal.ofBits, Ideal.ieee, -EReal.coe_mul]
  have hr : Ideal.rsqrt ⊤ = 0 := rfl
  unfold gated
  rw [hs, hm, he, hr, mul_zero, zero_mul, mul_zero]

/-- Two rows are the same, or both hold an infinity. -/
def Alike (o o' : Fin 128 → EReal) : Prop := (∀ e, o e = o' e) ∨ ((∃ e, Inf (o e)) ∧ ∃ e, Inf (o' e))

theorem Alike.of {p o o' p' : Fin 128 → EReal} (hl : ∀ e, p e = o e) (h : Alike o o') (hr : ∀ e, o' e = p' e) : Alike p p' := by
  rwa [funext hl, ← funext hr]

theorem gated_alike {o o' : Fin 128 → EReal} (h : Alike o o') (g n : Fin 128 → EReal) (e : Fin 128) : gated o g n e = gated o' g n e := by
  rcases h with h | ⟨h, h'⟩
  · rw [funext h]
  · rw [gated_inf h, gated_inf h']

/-! ## The rows -/

theorem wt_fin (a : EReal) (n : ℕ) : ¬ Inf (wt a n) := by
  obtain ⟨ω, h, -⟩ := wt_real a
  rw [h]
  exact inf_coe _

theorem wt_add (a : EReal) (m n : ℕ) : wt a (m + n) = wt a m * wt a n := by
  obtain ⟨ω, h, h'⟩ := wt_real a
  rw [h, h, h, h', EReal.coe_mul]

theorem weight_fin (a b : EReal) (i c : ℕ) : ¬ Inf (weight a b i c) := by
  unfold weight
  split_ifs <;> exact wt_fin _ _

theorem past_fin (a : EReal) (i c : ℕ) : ¬ Inf (past a i c) := by
  unfold past
  split_ifs
  · exact wt_fin _ _
  · exact inf_coe 0

theorem before_fin (b : EReal) (i c : ℕ) : ¬ Inf (before b i c) := by
  unfold before
  split_ifs
  · exact wt_fin _ _
  · exact inf_coe 0

theorem scale_fin : ¬ Inf scale := not_inf_of_real scale_real

theorem scale_ne : scale ≠ 0 := by
  simp [scale, Ideal.ofBits, Ideal.ieee, -EReal.coe_mul]

theorem past_of (a b : EReal) {i c : ℕ} (h : c ≤ i) : past a i c = weight a b i c := (if_pos h).trans (if_pos h).symm

theorem before_of {a b : EReal} {i c i' c' : ℕ} (h : c' < i') (hd : i' - c' = c - i) (hc : i < c) : before b i' c' = weight a b i c :=
  (if_pos h).trans ((congrArg (wt b) hd).trans (if_neg (by omega)).symm)

theorem past_zero {a b : EReal} {i c : ℕ} (h : weight a b i c = 0) : past a i c = 0 := by
  by_cases hc : c ≤ i
  · beta_reduce
    rwa [past_of a b hc]
  · exact if_neg hc

theorem before_zero {a b : EReal} {i c i' c' : ℕ} (hd : i' + i = c' + c) (h : weight a b i c = 0) : before b i' c' = 0 := by
  by_cases hc : c' < i'
  · beta_reduce
    rwa [before_of (a := a) (i := i) (c := c) hc (by omega) (by omega)]
  · exact if_neg hc

variable (a b : EReal)

/-- A chunk of context rows, over any keys: the two passes together and the one sum are alike. -/
theorem ctx_row {q k v : Fin 256 → Fin 128 → EReal} (hq : ∀ i d, ∃ r : ℝ, q i d = r) (hv : ∀ i d, ∃ r : ℝ, v i d = r) (x y : Fin 256 → EReal) (i : Fin 256) :
    Alike (fun e => chunk q (fun c d => k c d * scale) v (fun i c => past a i c) x (fun _ _ => 0) i e
        + chunk (fun c => q c.rev) (fun c d => k c.rev d * scale) (fun c => v c.rev) (fun i c => before b i c) y (fun _ _ => 0) i.rev e)
      fun e => retained scale (q i) k v (fun c => weight a b i c) e := by
  have h1 := Fin.val_rev i
  have fq : ∀ d, ¬ Inf (q i d) := fun d => not_inf_of_real (hq i d)
  have fq' : ∀ d, ¬ Inf (q i.rev.rev d) := fun d => not_inf_of_real (hq _ d)
  by_cases hm : ∃ e, Met (q i) k (fun c => v c e) fun c => weight a b i c
  · obtain ⟨e, hm⟩ := hm
    refine Or.inr ⟨⟨e, ?_⟩, e, ker_inf fq (fun c => not_inf_of_real (hv c e)) (fun c => weight_fin a b i c) scale_fin scale_ne hm⟩
    obtain ⟨c, d, hi, hqd, hw, hvc⟩ := hm
    beta_reduce at hw hvc
    have h2 := Fin.val_rev c
    refine (inf_add _ _).2 ?_
    by_cases h : c.val ≤ i.val
    · refine Or.inl ((inf_add _ _).2 (Or.inl (own_inf fq (fun c => not_inf_of_real (hv c e)) (fun c => past_fin a i c) scale_fin scale_ne ⟨c, d, hi, hqd, ?_, hvc⟩)))
      beta_reduce
      rwa [past_of a b h]
    · refine Or.inr ((inf_add _ _).2 (Or.inl (own_inf fq' (fun c => not_inf_of_real (hv c.rev e)) (fun c => before_fin b i.rev c) scale_fin scale_ne
        ⟨c.rev, d, ?_, ?_, ?_, ?_⟩)))
      · simpa only [Fin.rev_rev] using hi
      · simpa only [Fin.rev_rev] using hqd
      · beta_reduce
        rwa [before_of (a := a) (b := b) (show c.rev.val < i.rev.val by omega) (show i.rev.val - c.rev.val = c.val - i.val by omega) (show i.val < c.val by omega)]
      · simpa only [Fin.rev_rev] using hvc
  · refine Or.inl fun e => ?_
    have hk : Kept (q i) k (fun c => v c e) fun c => weight a b i c := met_or_kept.resolve_left fun h => hm ⟨e, h⟩
    have hf : Kept (q i) k (fun c => v c e) fun c => past a i c := fun c d hi => (hk c d hi).imp_right (Or.imp_left past_zero)
    have hb : Kept (q i.rev.rev) (fun c => k c.rev) (fun c => v c.rev e) fun c => before b i.rev c := fun c d hi => by
      have h2 := Fin.val_rev c
      rw [Fin.rev_rev]
      exact (hk c.rev d hi).imp_right (Or.imp_left fun h => before_zero (by omega) h)
    refine Eq.trans ?_ ((ctx_sum a b hq (fun c d => fin_real (k c d)) hv x y i e).trans (ker_kept hk).symm)
    exact congrArg₂ (· + ·) (congrArg (· + _) (own_kept hf)) (congrArg (· + _) (own_kept hb))

/-- A chunk of latent rows, over any keys. -/
theorem lat_row {kc vc : Fin 256 → Fin 128 → EReal} {q k v : Fin 2048 → Fin 128 → EReal}
    (hvc : ∀ i d, ∃ r : ℝ, vc i d = r) (hq : ∀ i d, ∃ r : ℝ, q i d = r) (hv : ∀ i d, ∃ r : ℝ, v i d = r) (K W : Fin 2560 → Fin 128 → EReal)
    (hK0 : ∀ c : Fin 256, K ⟨c.val, by omega⟩ = kc c) (hK1 : ∀ c : Fin 2048, K ⟨256 + c.val, by omega⟩ = k c) (hK2 : ∀ c : Fin 256, K ⟨2304 + c.val, by omega⟩ = kc c)
    (hW0 : ∀ c : Fin 256, W ⟨c.val, by omega⟩ = vc c) (hW1 : ∀ c : Fin 2048, W ⟨256 + c.val, by omega⟩ = v c) (hW2 : ∀ c : Fin 256, W ⟨2304 + c.val, by omega⟩ = vc c)
    (i : Fin 2048) :
    Alike (fun e => chunk q (fun c d => k c d * scale) v (fun i c => past a i c) (fun i => wt a (i + 1)) (state (fun c d => kc c d * scale) vc fun c => wt a (255 - c)) i e
        + chunk (fun c => q c.rev) (fun c d => k c.rev d * scale) (fun c => v c.rev) (fun i c => before b i c) (fun i => wt b (i + 1))
            (state (fun c d => kc c.rev d * scale) (fun c => vc c.rev) fun c => wt b (255 - c)) i.rev e)
      fun e => retained scale (q i) K W (fun c => weight a b (256 + i) c) e := by
  have h1 := Fin.val_rev i
  have fq : ∀ d, ¬ Inf (q i d) := fun d => not_inf_of_real (hq i d)
  have fq' : ∀ d, ¬ Inf (q i.rev.rev d) := fun d => not_inf_of_real (hq _ d)
  have w0 : ∀ c : Fin 256, wt a (255 - c.val) * wt a (i.val + 1) = weight a b (256 + i) c := fun c => by
    rw [← wt_add, weight, if_pos (by omega)]
    exact congrArg (wt a) (by omega)
  have w2 : ∀ c : Fin 256, wt b (255 - c.rev.val) * wt b (i.rev.val + 1) = weight a b (256 + i) (2304 + c) := fun c => by
    have h2 := Fin.val_rev c
    rw [← wt_add, weight, if_neg (by omega)]
    exact congrArg (wt b) (by omega)
  have w1 : ∀ c : Fin 2048, weight a b (256 + i) (256 + c) = weight a b i c := fun c => by
    unfold weight
    by_cases h : c.val ≤ i.val
    · rw [if_pos (by omega), if_pos h]
      exact congrArg (wt a) (by omega)
    · rw [if_neg (by omega), if_neg h]
      exact congrArg (wt b) (by omega)
  have part : ∀ c : Fin 2560, (∃ c' : Fin 256, c = ⟨c'.val, by omega⟩) ∨ (∃ c' : Fin 2048, c = ⟨256 + c'.val, by omega⟩) ∨ ∃ c' : Fin 256, c = ⟨2304 + c'.val, by omega⟩ := fun c => by
    by_cases h0 : c.val < 256
    · exact Or.inl ⟨⟨c.val, h0⟩, rfl⟩
    by_cases h1 : c.val < 2304
    · exact Or.inr (Or.inl ⟨⟨c.val - 256, by omega⟩, Fin.ext (by show c.val = 256 + (c.val - 256); omega)⟩)
    · exact Or.inr (Or.inr ⟨⟨c.val - 2304, by omega⟩, Fin.ext (by show c.val = 2304 + (c.val - 2304); omega)⟩)
  have hW : ∀ c d, ∃ r : ℝ, W c d = r := fun c d => by
    rcases part c with ⟨c, rfl⟩ | ⟨c, rfl⟩ | ⟨c, rfl⟩
    · rw [hW0]; exact hvc c d
    · rw [hW1]; exact hv c d
    · rw [hW2]; exact hvc c d
  by_cases hm : ∃ e, Met (q i) K (fun c => W c e) fun c => weight a b (256 + i) c
  · obtain ⟨e, hm⟩ := hm
    refine Or.inr ⟨⟨e, ?_⟩, e, ker_inf fq (fun c => not_inf_of_real (hW c e)) (fun c => weight_fin a b _ c) scale_fin scale_ne hm⟩
    obtain ⟨c, d, hi, hqd, hw, hwc⟩ := hm
    beta_reduce at hw hwc
    refine (inf_add _ _).2 ?_
    rcases part c with ⟨c, rfl⟩ | ⟨c, rfl⟩ | ⟨c, rfl⟩
    · rw [hK0] at hi
      rw [hW0] at hwc
      rw [← w0] at hw
      exact Or.inl ((inf_add _ _).2 (Or.inr (read_inf fq (fun c => not_inf_of_real (hvc c e)) (fun c => wt_fin _ _) (wt_fin _ _) scale_fin scale_ne ⟨c, d, hi, hqd, hw, hwc⟩)))
    · rw [hK1] at hi
      rw [hW1] at hwc
      rw [w1] at hw
      have h2 := Fin.val_rev c
      by_cases h : c.val ≤ i.val
      · refine Or.inl ((inf_add _ _).2 (Or.inl (own_inf fq (fun c => not_inf_of_real (hv c e)) (fun c => past_fin a i c) scale_fin scale_ne ⟨c, d, hi, hqd, ?_, hwc⟩)))
        beta_reduce
        rwa [past_of a b h]
      · refine Or.inr ((inf_add _ _).2 (Or.inl (own_inf fq' (fun c => not_inf_of_real (hv c.rev e)) (fun c => before_fin b i.rev c) scale_fin scale_ne
          ⟨c.rev, d, ?_, ?_, ?_, ?_⟩)))
        · simpa only [Fin.rev_rev] using hi
        · simpa only [Fin.rev_rev] using hqd
        · beta_reduce
          rwa [before_of (a := a) (b := b) (show c.rev.val < i.rev.val by omega) (show i.rev.val - c.rev.val = c.val - i.val by omega) (show i.val < c.val by omega)]
        · simpa only [Fin.rev_rev] using hwc
    · rw [hK2] at hi
      rw [hW2] at hwc
      rw [← w2] at hw
      refine Or.inr ((inf_add _ _).2 (Or.inr (read_inf fq' (fun c => not_inf_of_real (hvc c.rev e)) (fun c => wt_fin _ _) (wt_fin _ _) scale_fin scale_ne ⟨c.rev, d, ?_, ?_, hw, ?_⟩)))
      · simpa only [Fin.rev_rev] using hi
      · simpa only [Fin.rev_rev] using hqd
      · simpa only [Fin.rev_rev] using hwc
  · refine Or.inl fun e => ?_
    have hk : Kept (q i) K (fun c => W c e) fun c => weight a b (256 + i) c := met_or_kept.resolve_left fun h => hm ⟨e, h⟩
    have k0 : ∀ (c : Fin 256) d, Inf (kc c d) → q i d = 0 ∨ weight a b (256 + i) c = 0 ∨ vc c e = 0 := fun c d hi => by
      have h := hk ⟨c.val, by omega⟩ d (by rwa [hK0])
      beta_reduce at h
      rwa [hW0] at h
    have k1 : ∀ (c : Fin 2048) d, Inf (k c d) → q i d = 0 ∨ weight a b i c = 0 ∨ v c e = 0 := fun c d hi => by
      have h := hk ⟨256 + c.val, by omega⟩ d (by rwa [hK1])
      beta_reduce at h
      rwa [hW1, w1] at h
    have k2 : ∀ (c : Fin 256) d, Inf (kc c d) → q i d = 0 ∨ weight a b (256 + i) (2304 + c) = 0 ∨ vc c e = 0 := fun c d hi => by
      have h := hk ⟨2304 + c.val, by omega⟩ d (by rwa [hK2])
      beta_reduce at h
      rwa [hW2] at h
    have hf : Kept (q i) k (fun c => v c e) fun c => past a i c := fun c d hi => (k1 c d hi).imp_right (Or.imp_left past_zero)
    have hb : Kept (q i.rev.rev) (fun c => k c.rev) (fun c => v c.rev e) fun c => before b i.rev c := fun c d hi => by
      have h2 := Fin.val_rev c
      rw [Fin.rev_rev]
      exact (k1 c.rev d hi).imp_right (Or.imp_left fun h => before_zero (by omega) h)
    have hs : Kept (q i) kc (fun c => vc c e) fun c => wt a (255 - c) * wt a (i + 1) := fun c d hi => by
      beta_reduce
      rw [w0]
      exact k0 c d hi
    have ht : Kept (q i.rev.rev) (fun c => kc c.rev) (fun c => vc c.rev e) fun c => wt b (255 - c) * wt b (i.rev + 1) := fun c d hi => by
      have h := k2 c.rev d hi
      rw [← w2, Fin.rev_rev] at h
      rwa [Fin.rev_rev]
    refine Eq.trans ?_ ((lat_sum a b (kc := fun c d => fin (kc c d)) (k := fun c d => fin (k c d)) (fun c d => fin_real (kc c d)) hvc hq (fun c d => fin_real (k c d)) hv
      (fun c d => fin (K c d)) W (fun c => funext fun d => congrArg (fun f => fin (f d)) (hK0 c)) (fun c => funext fun d => congrArg (fun f => fin (f d)) (hK1 c))
      (fun c => funext fun d => congrArg (fun f => fin (f d)) (hK2 c)) hW0 hW1 hW2 i e).trans (ker_kept hk).symm)
    exact congrArg₂ (· + ·) (congrArg₂ (· + ·) (own_kept hf) (read_kept hs)) (congrArg₂ (· + ·) (own_kept hb) (read_kept ht))

end Cert.Retention

end
-- ==== Proof.RetainRef.lean ====
/- The reference of the retention: the two passes over each sample's context rows and then its latent rows. -/
module

public import proofs.«01_k».proof.Proof.Gen.RetainRefIdeal.Read
public import proofs.«01_k».proof.Proof.RetainArrays
public import proofs.«01_k».proof.Proof.RetainInf
public import proofs.«01_k».proof.Proof.FfnUpRef

@[expose] public section

set_option maxRecDepth 16384

noncomputable section

namespace Cert.RetainRefIdeal.Val

open Cert.RetainRefIdeal Cert.RetainRefIdeal.Gen Cert.RetainRefIdeal.Read Cert.Retention
  Idealize.ShloMosaic Idealize.ShloMosaic.TcCoe Idealize.SL.Sem
open Cert.Residual (rowC rowL row_cases pick_ctx pick_lat)
open Cert.FfnUpRefIdeal.Val (segC segL)
open Cert.RetainIdeal.Val (headAt rowOf chan retAt ret ret_apply outAt sumAt wrap)

variable (x0 : FVec Ideal S9216x6400 .bf16) (x1 : FVec Ideal S2x4 .f32) (x2 : FVec Ideal S512 .f32)

/-! ## The decays -/

theorem place {n : ℕ} (h : n < 2147483648) : FloatOps.sitofp (F := Ideal) FTy.f32 (BitVec.ofNat 32 n) = ((n : ℝ) : EReal) := by
  have e : (BitVec.ofNat 32 n).toInt = n := by
    rw [BitVec.toInt_eq_toNat_of_lt (by rw [BitVec.toNat_ofNat]; omega), BitVec.toNat_ofNat, Nat.mod_eq_of_lt (by omega)]
  show (((BitVec.ofNat 32 n).toInt : ℝ) : EReal) = _
  rw [e]
  rfl

theorem le_places (i c : ℕ) : (0 : EReal) ≤ ((i : ℝ) : EReal) - ((c : ℝ) : EReal) ↔ c ≤ i := by
  rw [← EReal.coe_sub, ← EReal.coe_zero, EReal.coe_le_coe_iff, sub_nonneg, Nat.cast_le]

theorem lt_places (i c : ℕ) : (0 : EReal) < ((i : ℝ) : EReal) - ((c : ℝ) : EReal) ↔ c < i := by
  rw [← EReal.coe_sub, ← EReal.coe_zero, EReal.coe_lt_coe_iff, sub_pos, Nat.cast_lt]

theorem wt_sub {i c : ℕ} (a : EReal) (h : c ≤ i) : Ideal.exp ((((i : ℝ) : EReal) - ((c : ℝ) : EReal)) * -Ideal.exp a) = wt a (i - c) := by
  unfold wt
  rw [zero_sub, ← EReal.coe_sub, Nat.cast_sub h]

theorem wt_succ (i : ℕ) (a : EReal) : Ideal.exp ((((i : ℝ) : EReal) + 1) * -Ideal.exp a) = wt a (i + 1) := by
  unfold wt
  rw [zero_sub, Nat.cast_add, Nat.cast_one, EReal.coe_add, EReal.coe_one]

theorem word_255 : Ideal.ofBits .f32 0x437F0000#32 = ((255 : ℝ) : EReal) := by
  simp [Ideal.ofBits, Ideal.ieee, -EReal.coe_mul]; norm_num

theorem zero_ix {s : Shape} (i : s.Idx) : id (constant (F := Ideal) s FTy.f32 0#32) i = 0 := Ideal.ofBits_zero_f32

theorem past_form {i c : ℕ} (a y z : EReal) (hz : z = 0) (hi : i < 2147483648) (hc : c < 2147483648) :
    (if 0 ≤ FloatOps.sitofp (F := Ideal) FTy.f32 (BitVec.ofNat 32 i) - FloatOps.sitofp (F := Ideal) FTy.f32 (BitVec.ofNat 32 c) then
      Ideal.exp ((if 0 ≤ FloatOps.sitofp (F := Ideal) FTy.f32 (BitVec.ofNat 32 i) - FloatOps.sitofp (F := Ideal) FTy.f32 (BitVec.ofNat 32 c)
        then FloatOps.sitofp (F := Ideal) FTy.f32 (BitVec.ofNat 32 i) - FloatOps.sitofp (F := Ideal) FTy.f32 (BitVec.ofNat 32 c) else y) * -Ideal.exp a)
    else z) = past a i c := by
  rw [place hi, place hc]
  simp only [le_places]
  unfold past
  split_ifs with h
  · exact wt_sub a h
  · exact hz

theorem before_form {i c : ℕ} (a y z : EReal) (hz : z = 0) (hi : i < 2147483648) (hc : c < 2147483648) :
    (if 0 < FloatOps.sitofp (F := Ideal) FTy.f32 (BitVec.ofNat 32 i) - FloatOps.sitofp (F := Ideal) FTy.f32 (BitVec.ofNat 32 c) then
      Ideal.exp ((if 0 < FloatOps.sitofp (F := Ideal) FTy.f32 (BitVec.ofNat 32 i) - FloatOps.sitofp (F := Ideal) FTy.f32 (BitVec.ofNat 32 c)
        then FloatOps.sitofp (F := Ideal) FTy.f32 (BitVec.ofNat 32 i) - FloatOps.sitofp (F := Ideal) FTy.f32 (BitVec.ofNat 32 c) else y) * -Ideal.exp a)
    else z) = before a i c := by
  rw [place hi, place hc]
  simp only [lt_places]
  unfold before
  split_ifs with h
  · exact wt_sub a h.le
  · exact hz

theorem decay_ctx (h : Fin 4) (i c : Fin 256) : val_main_v145 (F := Ideal) x1 (ix3 h i c) = past (x1 (ix2 0 h)) i c := by
  pointwise [val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_cst_6, val_main_cst_7, val_main_call0_v0, val_main_call0_v1, val_main_cst_8, val_main_call1_v0, val_main_call1_v1, val_main_call1_v2, val_main_v1, val_main_v0]
  exact past_form _ _ _ (zero_ix _) (by omega) (by omega)

theorem decay_lat (h : Fin 4) (i c : Fin 2048) : val_main_v203 (F := Ideal) x1 (ix3 h i c) = past (x1 (ix2 0 h)) i c := by
  pointwise [val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_cst_12, val_main_cst_13, val_main_call2_v0, val_main_call2_v1, val_main_cst_14, val_main_call3_v0, val_main_call3_v1, val_main_call3_v2, val_main_v1, val_main_v0]
  exact past_form _ _ _ (zero_ix _) (by omega) (by omega)

theorem recede_ctx (h : Fin 4) (i c : Fin 256) : val_main_v264 (F := Ideal) x1 (ix3 h i c) = before (x1 (ix2 1 h)) i c := by
  pointwise [val_main_v264, val_main_v263, val_main_v262, val_main_v261, val_main_v260, val_main_v259, val_main_v258, val_main_v257, val_main_v256, val_main_v255, val_main_v254, val_main_v253, val_main_v252, val_main_v251, val_main_v250, val_main_v249, val_main_v248, val_main_v247, val_main_v246, val_main_cst_18, val_main_cst_19, val_main_call7_v0, val_main_call7_v1, val_main_cst_20, val_main_call8_v0, val_main_call8_v1, val_main_call8_v2, val_main_v1, val_main_v0]
  exact before_form _ _ _ (zero_ix _) (by omega) (by omega)

theorem recede_lat (h : Fin 4) (i c : Fin 2048) : val_main_v325 (F := Ideal) x1 (ix3 h i c) = before (x1 (ix2 1 h)) i c := by
  pointwise [val_main_v325, val_main_v324, val_main_v323, val_main_v322, val_main_v321, val_main_v320, val_main_v319, val_main_v318, val_main_v317, val_main_v316, val_main_v315, val_main_v314, val_main_v313, val_main_v312, val_main_v311, val_main_v310, val_main_v309, val_main_v308, val_main_v307, val_main_cst_24, val_main_cst_25, val_main_call12_v0, val_main_call12_v1, val_main_cst_26, val_main_call13_v0, val_main_call13_v1, val_main_call13_v2, val_main_v1, val_main_v0]
  exact before_form _ _ _ (zero_ix _) (by omega) (by omega)

theorem reach_lat (h : Fin 4) (i : Fin 2048) : val_main_v211 (F := Ideal) x1 (ix2 i h) = wt (x1 (ix2 0 h)) (i + 1) := by
  pointwise [val_main_v211, val_main_v210, val_main_v209, val_main_v208, val_main_v207, val_main_v206, val_main_v205, val_main_v204, val_main_cst_15, val_main_v186, val_main_v185, val_main_v187, val_main_v1, val_main_v0]
  rw [place (by omega)]
  exact wt_succ _ _

theorem reach_back (h : Fin 4) (i : Fin 2048) : val_main_v333 (F := Ideal) x1 (ix2 i h) = wt (x1 (ix2 1 h)) (i + 1) := by
  pointwise [val_main_v333, val_main_v332, val_main_v331, val_main_v330, val_main_v329, val_main_v328, val_main_v327, val_main_v326, val_main_cst_27, val_main_v308, val_main_v307, val_main_v309, val_main_v1, val_main_v0]
  rw [place (by omega)]
  exact wt_succ _ _

theorem leave_ctx (h : Fin 4) (i : Fin 256) : val_main_v161 (F := Ideal) x1 (ix2 i h) = wt (x1 (ix2 0 h)) (255 - i) := by
  pointwise [val_main_v161, val_main_v160, val_main_v159, val_main_v158, val_main_v157, val_main_v156, val_main_v155, val_main_v154, val_main_cst_10, val_main_v128, val_main_v127, val_main_v129, val_main_v1, val_main_v0]
  rw [place (by omega), word_255]
  exact wt_sub (i := 255) _ (by omega)

theorem leave_back (h : Fin 4) (i : Fin 256) : val_main_v280 (F := Ideal) x1 (ix2 i h) = wt (x1 (ix2 1 h)) (255 - i) := by
  pointwise [val_main_v280, val_main_v279, val_main_v278, val_main_v277, val_main_v276, val_main_v275, val_main_v274, val_main_v273, val_main_cst_22, val_main_v247, val_main_v246, val_main_v248, val_main_v1, val_main_v0]
  rw [place (by omega), word_255]
  exact wt_sub (i := 255) _ (by omega)

/-! ## The heads -/

theorem angle_row (l : Fin 2048) (k : Fin 32) : val_main_v28 (F := Ideal) (ix2 l k) = angle (l.val / 64) k.val := by
  unfold angle speed
  pointwise [val_main_v28, val_main_v27, val_main_v26, val_main_v25, val_main_v24, val_main_v19, val_main_v18, val_main_v17, val_main_v16, val_main_v15, val_main_v14, val_main_v13, val_main_v12, val_main_v11, val_main_v10, val_main_v9, val_main_v8, val_main_v7, val_main_cst, val_main_cst_0, val_main_cst_1, val_main_cst_2]

theorem angle_col (l : Fin 2048) (k : Fin 32) : val_main_v33 (F := Ideal) (ix2 l k) = angle (l.val % 64) k.val := by
  unfold angle speed
  pointwise [val_main_v33, val_main_v32, val_main_v31, val_main_v30, val_main_v29, val_main_v23, val_main_v22, val_main_v21, val_main_v20, val_main_v16, val_main_v15, val_main_v14, val_main_v13, val_main_v12, val_main_v11, val_main_v10, val_main_v9, val_main_v8, val_main_v7, val_main_cst, val_main_cst_0, val_main_cst_1, val_main_cst_2]

theorem rope_ctx (l : Fin 256) (x : Fin 128 → EReal) : rope (segC l) x = x := funext fun _ => if_pos l.isLt

theorem rope_lat (l : Fin 2048) (x : Fin 128 → EReal) : rope (segL l) x = rotate l.val x := by
  funext e
  unfold rope
  rw [if_neg (by show ¬ 256 + l.val < 256; omega)]
  exact congrArg (rotate · x e) (by show 256 + l.val - 256 = l.val; omega)

theorem q_ctx (b : Fin 4) (l : Fin 256) (h : Fin 4) (e : Fin 128) : val_main_v121 (F := Ideal) x0 (ix4 b l h e) = headAt x0 2048 (by norm_num) b h (segC l) e := by
  pointwise [val_main_v121, val_main_v117, val_main_v5, val_main_v4, val_main_v3, val_main_v2, headAt, rowOf, segC]

theorem k_ctx (b : Fin 4) (l : Fin 256) (h : Fin 4) (e : Fin 128) : val_main_v125 (F := Ideal) x0 (ix4 b l h e) = headAt x0 2560 (by norm_num) b h (segC l) e * scale := by
  pointwise [val_main_v125, val_main_v124, val_main_cst_4, val_main_v122, val_main_v118, val_main_v5, val_main_v4, val_main_v3, val_main_v2, headAt, rowOf, segC]
  exact congrArg (fun n => x0 (ix2 _ n) * scale) (Fin.ext (by dsimp only; omega))

theorem v_ctx (b : Fin 4) (l : Fin 256) (h : Fin 4) (e : Fin 128) : val_main_v123 (F := Ideal) x0 (ix4 b l h e) = headAt x0 3072 (by norm_num) b h (segC l) e := by
  pointwise [val_main_v123, val_main_v119, val_main_v5, val_main_v4, val_main_v3, val_main_v2, headAt, rowOf, segC]
  exact congrArg (fun n => x0 (ix2 _ n)) (Fin.ext (by dsimp only; omega))

theorem q_lat (b : Fin 4) (l : Fin 2048) (h : Fin 4) (e : Fin 128) : val_main_v38 (F := Ideal) x0 (ix4 b l h e) = headAt x0 2048 (by norm_num) b h (segL l) e := by
  pointwise [val_main_v38, val_main_v34, val_main_v6, val_main_v4, val_main_v3, val_main_v2, headAt, rowOf, segL]

theorem k_lat (b : Fin 4) (l : Fin 2048) (h : Fin 4) (e : Fin 128) : val_main_v39 (F := Ideal) x0 (ix4 b l h e) = headAt x0 2560 (by norm_num) b h (segL l) e := by
  pointwise [val_main_v39, val_main_v35, val_main_v6, val_main_v4, val_main_v3, val_main_v2, headAt, rowOf, segL]
  exact congrArg (fun n => x0 (ix2 _ n)) (Fin.ext (by dsimp only; omega))

theorem v_lat (b : Fin 4) (l : Fin 2048) (h : Fin 4) (e : Fin 128) : val_main_v40 (F := Ideal) x0 (ix4 b l h e) = headAt x0 3072 (by norm_num) b h (segL l) e := by
  pointwise [val_main_v40, val_main_v36, val_main_v6, val_main_v4, val_main_v3, val_main_v2, headAt, rowOf, segL]
  exact congrArg (fun n => x0 (ix2 _ n)) (Fin.ext (by dsimp only; omega))

theorem turned_q (b : Fin 4) (l : Fin 2048) (h : Fin 4) (e : Fin 128) : val_main_v77 (F := Ideal) x0 (ix4 b l h e) = rope (segL l) (headAt x0 2048 (by norm_num) b h (segL l)) e := by
  have hx : headAt x0 2048 (by norm_num) b h (segL l) = fun e => val_main_v38 (F := Ideal) x0 (ix4 b l h e) := funext fun e => (q_lat x0 b l h e).symm
  rw [rope_lat, hx]
  pointwise [val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41]
  exact rotate_nested (fun e => val_main_v38 (F := Ideal) x0 (ix4 b l h e)) (fun k => val_main_v28 (F := Ideal) (ix2 l k))
    (fun k => val_main_v33 (F := Ideal) (ix2 l k)) (angle_row l) (angle_col l) e

theorem turned_k (b : Fin 4) (l : Fin 2048) (h : Fin 4) (e : Fin 128) : val_main_v114 (F := Ideal) x0 (ix4 b l h e) = rope (segL l) (headAt x0 2560 (by norm_num) b h (segL l)) e := by
  have hx : headAt x0 2560 (by norm_num) b h (segL l) = fun e => val_main_v39 (F := Ideal) x0 (ix4 b l h e) := funext fun e => (k_lat x0 b l h e).symm
  rw [rope_lat, hx]
  pointwise [val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78]
  exact rotate_nested (fun e => val_main_v39 (F := Ideal) x0 (ix4 b l h e)) (fun k => val_main_v28 (F := Ideal) (ix2 l k))
    (fun k => val_main_v33 (F := Ideal) (ix2 l k)) (angle_row l) (angle_col l) e

theorem scaled_k (b : Fin 4) (l : Fin 2048) (h : Fin 4) (e : Fin 128) : val_main_v116 (F := Ideal) x0 (ix4 b l h e)
    = rope (segL l) (headAt x0 2560 (by norm_num) b h (segL l)) e * scale := by
  rw [← turned_k]
  pointwise [val_main_v116, val_main_v115, val_main_cst_3]

/-- The rows of a chunk in the reversed order. -/
theorem flip_ctx (f : FVec Ideal S4x256x4x128 .f32) (b : Fin 4) (l : Fin 256) (h : Fin 4) (e : Fin 128) :
    Host.reverse [1] f (ix4 b l h e) = f (ix4 b l.rev h e) := by
  pointwise []
  rfl

theorem flip_lat (f : FVec Ideal S4x2048x4x128 .f32) (b : Fin 4) (l : Fin 2048) (h : Fin 4) (e : Fin 128) :
    Host.reverse [1] f (ix4 b l h e) = f (ix4 b l.rev h e) := by
  pointwise []
  rfl

theorem flip_q (b : Fin 4) (l : Fin 256) (h : Fin 4) (e : Fin 128) : val_main_v243 (F := Ideal) x0 (ix4 b l h e) = val_main_v121 (F := Ideal) x0 (ix4 b l.rev h e) := flip_ctx ..

theorem flip_k (b : Fin 4) (l : Fin 256) (h : Fin 4) (e : Fin 128) : val_main_v244 (F := Ideal) x0 (ix4 b l h e) = val_main_v125 (F := Ideal) x0 (ix4 b l.rev h e) := flip_ctx ..

theorem flip_v (b : Fin 4) (l : Fin 256) (h : Fin 4) (e : Fin 128) : val_main_v245 (F := Ideal) x0 (ix4 b l h e) = val_main_v123 (F := Ideal) x0 (ix4 b l.rev h e) := flip_ctx ..

theorem flip_q_lat (b : Fin 4) (l : Fin 2048) (h : Fin 4) (e : Fin 128) : val_main_v304 (F := Ideal) x0 (ix4 b l h e) = val_main_v77 (F := Ideal) x0 (ix4 b l.rev h e) := flip_lat ..

theorem flip_k_lat (b : Fin 4) (l : Fin 2048) (h : Fin 4) (e : Fin 128) : val_main_v305 (F := Ideal) x0 (ix4 b l h e) = val_main_v116 (F := Ideal) x0 (ix4 b l.rev h e) := flip_lat ..

theorem flip_v_lat (b : Fin 4) (l : Fin 2048) (h : Fin 4) (e : Fin 128) : val_main_v306 (F := Ideal) x0 (ix4 b l h e) = val_main_v40 (F := Ideal) x0 (ix4 b l.rev h e) := flip_lat ..

/-! ## The passes -/

theorem pass_ctx (b : Fin 4) (l : Fin 256) (h : Fin 4) (e : Fin 128) : val_main_v184 (F := Ideal) x0 x1 (ix4 b l h e)
    = chunk (fun c => headAt x0 2048 (by norm_num) b h (segC c)) (fun c d => headAt x0 2560 (by norm_num) b h (segC c) d * scale)
        (fun c => headAt x0 3072 (by norm_num) b h (segC c)) (fun i c => past (x1 (ix2 0 h)) i c) (fun i => val_main_v153 (F := Ideal) x1 (ix2 i h)) (fun _ _ => 0) l e := by
  unfold chunk
  pointwise [val_main_v184, val_main_v175, val_main_v174, val_main_v173, val_main_v172, val_main_v171, val_main_v170, val_main_v169, val_main_v168, val_main_v167, val_main_v166, val_main_v165, val_main_v126, val_main_cst_5]
  simp only [q_ctx, k_ctx, v_ctx, decay_ctx]

theorem back_ctx (b : Fin 4) (l : Fin 256) (h : Fin 4) (e : Fin 128) : val_main_v303 (F := Ideal) x0 x1 (ix4 b l h e)
    = chunk (fun c => headAt x0 2048 (by norm_num) b h (segC c.rev)) (fun c d => headAt x0 2560 (by norm_num) b h (segC c.rev) d * scale)
        (fun c => headAt x0 3072 (by norm_num) b h (segC c.rev)) (fun i c => before (x1 (ix2 1 h)) i c) (fun i => val_main_v272 (F := Ideal) x1 (ix2 i h)) (fun _ _ => 0) l e := by
  unfold chunk
  pointwise [val_main_v303, val_main_v294, val_main_v293, val_main_v292, val_main_v291, val_main_v290, val_main_v289, val_main_v288, val_main_v287, val_main_v286, val_main_v285, val_main_v284, val_main_v126, val_main_cst_5]
  simp only [flip_q, flip_k, flip_v, q_ctx, k_ctx, v_ctx, recede_ctx]

theorem state_ctx (b h : Fin 4) (d e : Fin 128) : val_main_v183 (F := Ideal) x0 x1 (ix4 b h d e)
    = state (fun c d => headAt x0 2560 (by norm_num) b h (segC c) d * scale) (fun c => headAt x0 3072 (by norm_num) b h (segC c)) (fun c => wt (x1 (ix2 0 h)) (255 - c)) d e := by
  unfold state
  pointwise [val_main_v183, val_main_v182, val_main_v181, val_main_v180, val_main_v179, val_main_v178, val_main_v177, val_main_v176, val_main_v126, val_main_cst_5]
  simp only [k_ctx, v_ctx, leave_ctx, zero_mul, zero_add]

theorem state_back (b h : Fin 4) (d e : Fin 128) : val_main_v302 (F := Ideal) x0 x1 (ix4 b h d e)
    = state (fun c d => headAt x0 2560 (by norm_num) b h (segC c.rev) d * scale) (fun c => headAt x0 3072 (by norm_num) b h (segC c.rev)) (fun c => wt (x1 (ix2 1 h)) (255 - c)) d e := by
  unfold state
  pointwise [val_main_v302, val_main_v301, val_main_v300, val_main_v299, val_main_v298, val_main_v297, val_main_v296, val_main_v295, val_main_v126, val_main_cst_5]
  simp only [flip_k, flip_v, k_ctx, v_ctx, leave_back, zero_mul, zero_add]

theorem pass_lat (b : Fin 4) (l : Fin 2048) (h : Fin 4) (e : Fin 128) : val_main_v242 (F := Ideal) x0 x1 (ix4 b l h e)
    = chunk (fun c => rope (segL c) (headAt x0 2048 (by norm_num) b h (segL c))) (fun c d => rope (segL c) (headAt x0 2560 (by norm_num) b h (segL c)) d * scale)
        (fun c => headAt x0 3072 (by norm_num) b h (segL c)) (fun i c => past (x1 (ix2 0 h)) i c) (fun i => wt (x1 (ix2 0 h)) (i + 1))
        (state (fun c d => headAt x0 2560 (by norm_num) b h (segC c) d * scale) (fun c => headAt x0 3072 (by norm_num) b h (segC c)) fun c => wt (x1 (ix2 0 h)) (255 - c)) l e := by
  unfold chunk
  pointwise [val_main_v242, val_main_v233, val_main_v232, val_main_v231, val_main_v230, val_main_v229, val_main_v228, val_main_v227, val_main_v226, val_main_v225, val_main_v224, val_main_v223]
  simp only [turned_q, scaled_k, v_lat, decay_lat, state_ctx, reach_lat]

theorem back_lat (b : Fin 4) (l : Fin 2048) (h : Fin 4) (e : Fin 128) : val_main_v364 (F := Ideal) x0 x1 (ix4 b l h e)
    = chunk (fun c => rope (segL c.rev) (headAt x0 2048 (by norm_num) b h (segL c.rev))) (fun c d => rope (segL c.rev) (headAt x0 2560 (by norm_num) b h (segL c.rev)) d * scale)
        (fun c => headAt x0 3072 (by norm_num) b h (segL c.rev)) (fun i c => before (x1 (ix2 1 h)) i c) (fun i => wt (x1 (ix2 1 h)) (i + 1))
        (state (fun c d => headAt x0 2560 (by norm_num) b h (segC c.rev) d * scale) (fun c => headAt x0 3072 (by norm_num) b h (segC c.rev)) fun c => wt (x1 (ix2 1 h)) (255 - c)) l e := by
  unfold chunk
  pointwise [val_main_v364, val_main_v355, val_main_v354, val_main_v353, val_main_v352, val_main_v351, val_main_v350, val_main_v349, val_main_v348, val_main_v347, val_main_v346, val_main_v345]
  simp only [flip_q_lat, flip_k_lat, flip_v_lat, turned_q, scaled_k, v_lat, recede_lat, state_back, reach_back]

/-! ## The sums, over real queries and values -/

/-- The queries and the values are real. -/
def RealQV : Prop := ∀ (r : Fin 9216) (j : Fin 512), (∃ t : ℝ, x0 (ix2 r ⟨2048 + j.val, by omega⟩) = t) ∧ ∃ t : ℝ, x0 (ix2 r ⟨3072 + j.val, by omega⟩) = t

variable {x0}

theorem head_q (hx : RealQV x0) (b h : Fin 4) (l : Fin 2304) (d : Fin 128) : ∃ t : ℝ, headAt x0 2048 (by norm_num) b h l d = t :=
  (hx (rowOf b l) (chan h d)).1

theorem head_v (hx : RealQV x0) (b h : Fin 4) (l : Fin 2304) (d : Fin 128) : ∃ t : ℝ, headAt x0 3072 (by norm_num) b h l d = t :=
  (hx (rowOf b l) (chan h d)).2

/-- A sample's head as the kernel sums it. -/
abbrev sumOf (x0 : FVec Ideal S9216x6400 .bf16) (x1 : FVec Ideal S2x4 .f32) (b h : Fin 4) (l : Fin 2304) (e : Fin 128) : EReal :=
  sumAt (x1 (ix2 0 h)) (x1 (ix2 1 h)) (fun l => rope l (headAt x0 2048 (by norm_num) b h l)) (fun l => rope l (headAt x0 2560 (by norm_num) b h l))
    (headAt x0 3072 (by norm_num) b h) l e

/-- A context row's head before the norm, as the reference sums it. -/
abbrev bothC (x0 : FVec Ideal S9216x6400 .bf16) (x1 : FVec Ideal S2x4 .f32) (b : Fin 4) (l : Fin 256) (h : Fin 4) (e : Fin 128) : EReal :=
  val_main_v367 (F := Ideal) x0 x1 (ix4 b l h e)

/-- A latent row's head before the norm, as the reference sums it. -/
abbrev bothL (x0 : FVec Ideal S9216x6400 .bf16) (x1 : FVec Ideal S2x4 .f32) (b : Fin 4) (l : Fin 2048) (h : Fin 4) (e : Fin 128) : EReal :=
  val_main_v393 (F := Ideal) x0 x1 (ix4 b l h e)

theorem alike_ctx (hx : RealQV x0) (b : Fin 4) (l : Fin 256) (h : Fin 4) : Alike (bothC x0 x1 b l h) (sumOf x0 x1 b h (segC l)) := by
  refine Alike.of (fun e => congrArg₂ (· + ·) (pass_ctx x0 x1 b l h e) ((flip_ctx _ b l h e).trans (back_ctx x0 x1 b l.rev h e)))
    (ctx_row (x1 (ix2 0 h)) (x1 (ix2 1 h)) (fun _ _ => head_q hx _ _ _ _) (fun _ _ => head_v hx _ _ _ _) _ _ l) fun e => ?_
  refine Eq.trans ?_ (if_pos l.isLt).symm
  simp only [rope_ctx]
  have hr : ∀ c : Fin 256, rope ⟨c.val, by omega⟩ (headAt x0 2560 (by norm_num) b h ⟨c.val, by omega⟩) = headAt x0 2560 (by norm_num) b h ⟨c.val, by omega⟩ :=
    fun c => rope_ctx c _
  simp only [hr]
  rfl

theorem alike_lat (hx : RealQV x0) (b : Fin 4) (l : Fin 2048) (h : Fin 4) : Alike (bothL x0 x1 b l h) (sumOf x0 x1 b h (segL l)) := by
  have w0 : ∀ c : Fin 256, wrap ⟨c.val, by omega⟩ = segC c := fun c => Fin.ext (by show c.val % 2304 = c.val; omega)
  have w1 : ∀ c : Fin 2048, wrap ⟨256 + c.val, by omega⟩ = segL c := fun c => Fin.ext (by show (256 + c.val) % 2304 = 256 + c.val; omega)
  have w2 : ∀ c : Fin 256, wrap ⟨2304 + c.val, by omega⟩ = segC c := fun c => Fin.ext (by show (2304 + c.val) % 2304 = c.val; omega)
  refine Alike.of (fun e => congrArg₂ (· + ·) (pass_lat x0 x1 b l h e) ((flip_lat _ b l h e).trans (back_lat x0 x1 b l.rev h e)))
    (lat_row (x1 (ix2 0 h)) (x1 (ix2 1 h)) (fun _ _ => head_v hx _ _ _ _) (fun _ _ => rope_real _ _ (fun _ => head_q hx _ _ _ _) _) (fun _ _ => head_v hx _ _ _ _)
      (fun c => rope (wrap c) (headAt x0 2560 (by norm_num) b h (wrap c))) (fun c => headAt x0 3072 (by norm_num) b h (wrap c))
      (fun c => by rw [w0, rope_ctx]) (fun c => by rw [w1]) (fun c => by rw [w2, rope_ctx]) (fun c => by rw [w0]) (fun c => by rw [w1]) (fun c => by rw [w2]) l) fun e => ?_
  refine Eq.trans ?_ (if_neg (by show ¬ 256 + l.val < 256; omega)).symm
  rfl

/-! ## The norm and the gate -/

/-- Which head and channel a column is. -/
theorem chan_cases (j : Fin 512) : ∃ h e, j = chan h e :=
  ⟨⟨j.val / 128, by omega⟩, ⟨j.val % 128, by omega⟩, Fin.ext (by show j.val = j.val / 128 * 128 + j.val % 128; omega)⟩

theorem chan_head (h : Fin 4) (e : Fin 128) : (⟨(chan h e).val / 128, by omega⟩ : Fin 4) = h := Fin.ext (by show (h.val * 128 + e.val) / 128 = h.val; omega)

theorem chan_chan (h : Fin 4) (e : Fin 128) : (⟨(chan h e).val % 128, by omega⟩ : Fin 128) = e := Fin.ext (by show (h.val * 128 + e.val) % 128 = e.val; omega)

theorem row_ctx (hx : RealQV x0) (b : Fin 4) (l : Fin 256) (h : Fin 4) (e : Fin 128) : val_main_v391 (F := Ideal) x0 x1 x2 (ix3 b l (chan h e))
    = retAt x0 x1 x2 b h (segC l) e := by
  have hg : val_main_v120 (F := Ideal) x0 (ix3 b l (chan h e)) = headAt x0 3584 (by norm_num) b h (segC l) e := by
    pointwise [val_main_v120, val_main_v5, val_main_v4, val_main_v3, val_main_v2, headAt, rowOf, segC, chan]
    exact congrArg (fun n => x0 (ix2 _ n)) (Fin.ext (by dsimp only; omega))
  have hn : val_main_v388 (F := Ideal) x0 x1 x2 (ix4 b l h e) = (bothC x0 x1 b l h e - mean (bothC x0 x1 b l h))
      * Ideal.rsqrt (mean (fun e => (bothC x0 x1 b l h e - mean (bothC x0 x1 b l h)) * (bothC x0 x1 b l h e - mean (bothC x0 x1 b l h)))
        + Ideal.ofBits .f32 0x3727C5AC#32) * x2 (ix1 (chan h e)) := by
    unfold mean
    pointwise [val_main_v388, val_main_v387, val_main_v386, val_main_v385, val_main_v384, val_main_v383, val_main_v382, val_main_v381, val_main_v380, val_main_v379, val_main_v378, val_main_v377, val_main_v376, val_main_v375, val_main_v374, val_main_v373, val_main_v372, val_main_v371, val_main_v370, val_main_v369, val_main_v368, val_main_v365, val_main_cst_30, val_main_cst_31, val_main_cst_32, val_main_cst_33, val_main_cst_34]
    rfl
  pointwise [val_main_v391, val_main_v390, val_main_v389, val_main_call15_v5, val_main_call15_v4, val_main_call15_v3, val_main_call15_v2, val_main_call15_v1, val_main_call15_v0, val_main_call15_cst, val_main_call15_cst_0]
  rw [hg, chan_head, chan_chan, hn]
  unfold retAt outAt
  refine Eq.trans ?_ (gated_alike (alike_ctx x1 hx b l h) _ _ e)
  unfold gated
  rw [zero_sub]

theorem row_lat (hx : RealQV x0) (b : Fin 4) (l : Fin 2048) (h : Fin 4) (e : Fin 128) : val_main_v417 (F := Ideal) x0 x1 x2 (ix3 b l (chan h e))
    = retAt x0 x1 x2 b h (segL l) e := by
  have hg : val_main_v37 (F := Ideal) x0 (ix3 b l (chan h e)) = headAt x0 3584 (by norm_num) b h (segL l) e := by
    pointwise [val_main_v37, val_main_v6, val_main_v4, val_main_v3, val_main_v2, headAt, rowOf, segL, chan]
    exact congrArg (fun n => x0 (ix2 _ n)) (Fin.ext (by dsimp only; omega))
  have hn : val_main_v414 (F := Ideal) x0 x1 x2 (ix4 b l h e) = (bothL x0 x1 b l h e - mean (bothL x0 x1 b l h))
      * Ideal.rsqrt (mean (fun e => (bothL x0 x1 b l h e - mean (bothL x0 x1 b l h)) * (bothL x0 x1 b l h e - mean (bothL x0 x1 b l h)))
        + Ideal.ofBits .f32 0x3727C5AC#32) * x2 (ix1 (chan h e)) := by
    unfold mean
    pointwise [val_main_v414, val_main_v413, val_main_v412, val_main_v411, val_main_v410, val_main_v409, val_main_v408, val_main_v407, val_main_v406, val_main_v405, val_main_v404, val_main_v403, val_main_v402, val_main_v401, val_main_v400, val_main_v399, val_main_v398, val_main_v397, val_main_v396, val_main_v395, val_main_v394, val_main_v365, val_main_cst_35, val_main_cst_36, val_main_cst_37, val_main_cst_38, val_main_cst_39]
    rfl
  pointwise [val_main_v417, val_main_v416, val_main_v415, val_main_call17_v5, val_main_call17_v4, val_main_call17_v3, val_main_call17_v2, val_main_call17_v1, val_main_call17_v0, val_main_call17_cst, val_main_call17_cst_0]
  rw [hg, chan_head, chan_chan, hn]
  unfold retAt outAt
  refine Eq.trans ?_ (gated_alike (alike_lat x1 hx b l h) _ _ e)
  unfold gated
  rw [zero_sub]

/-! ## The result: context rows and latent rows are one array -/

theorem at_ret (hx : RealQV x0) (r : Fin 9216) (h : Fin 4) (e : Fin 128) : val_main_v420 (F := Ideal) x0 x1 x2 (ix2 r (chan h e)) = ret x0 x1 x2 (ix2 r (chan h e)) := by
  refine row_cases (P := fun r => val_main_v420 (F := Ideal) x0 x1 x2 (ix2 r (chan h e)) = ret x0 x1 x2 (ix2 r (chan h e))) (fun b l => ?_) (fun b l => ?_) r
  · refine Eq.trans ?_ (ret_apply x0 x1 x2 b h (segC l) e).symm
    rw [← row_ctx x1 x2 hx]
    pointwise [val_main_v420, val_main_v419, val_main_v418, rowC]
    exact pick_ctx (fun l => val_main_v391 (F := Ideal) x0 x1 x2 (ix3 b l (chan h e))) (fun l => val_main_v417 (F := Ideal) x0 x1 x2 (ix3 b l (chan h e))) b l
  · refine Eq.trans ?_ (ret_apply x0 x1 x2 b h (segL l) e).symm
    rw [← row_lat x1 x2 hx]
    pointwise [val_main_v420, val_main_v419, val_main_v418, rowL]
    exact pick_lat (fun l => val_main_v391 (F := Ideal) x0 x1 x2 (ix3 b l (chan h e))) (fun l => val_main_v417 (F := Ideal) x0 x1 x2 (ix3 b l (chan h e))) b l

/-- The reference's array. -/
theorem ref_ret (hx : RealQV x0) : val_main_v420 (F := Ideal) x0 x1 x2 = ret x0 x1 x2 := funext fun i => by
  obtain ⟨h, e, hj⟩ := chan_cases (i 1)
  have hi : i = ix2 (i 0) (chan h e) := hj ▸ eq_ix2 i
  rw [hi]
  exact at_ret x1 x2 hx (i 0) h e

end Cert.RetainRefIdeal.Val

end
-- ==== Proof.RetainValue.lean ====
/- The retention: over finite queries and values, kernel and reference compute the same array. -/
module

public import proofs.«01_k».proof.Defs
public import proofs.«01_k».proof.Proof.RetainRef
public import proofs.«01_k».proof.Proof.AttnValue
public import proofs.«01_k».proof.Proof.Gen.RetainIdeal.Value
public import proofs.«01_k».proof.Proof.Gen.Pre_finite_pr
public import Idealize.ShloMosaic.Lib.ReduceAll

@[expose] public section

set_option maxRecDepth 16384

noncomputable section

namespace Cert.RetainRefIdeal.Val

open Cert.RetainRefIdeal Idealize.ShloMosaic

/-- What the precondition says. -/
theorem real_of_pre (x0 : FVec Ideal S9216x6400 .bf16) (x1 : FVec Ideal S2x4 .f32) (x2 : FVec Ideal S512 .f32)
    (h : Cert.Pre_finite_pr.fn (F := Ideal) x0 x1 x2 = fun _ => 1#1) : RealQV x0 := fun r j => by
  have h0 := congrFun h ix0
  unfold Cert.Pre_finite_pr.fn at h0
  simp only [] at h0
  haveI : Subsingleton Cert.Pre_finite_pr.S_.Idx := ⟨fun a b => funext fun i => i.elim0⟩
  obtain ⟨hq, hv⟩ := IntOp.andi_eq_one.1 h0
  obtain ⟨t, ht⟩ := Cert.AttnRefIdeal.Val.real_of_cmp _ (Host.reduce_andi_all _ _ _ _ _ hq (ix2 r j))
  obtain ⟨u, hu⟩ := Cert.AttnRefIdeal.Val.real_of_cmp _ (Host.reduce_andi_all _ _ _ _ _ hv (ix2 r j))
  refine ⟨⟨t, Eq.trans ?_ ht⟩, u, Eq.trans ?_ hu⟩ <;> pointwise []

theorem ref_ret_at {y0 : (⟨S9216x6400, .bf16⟩ : BufTy).Contents (Elt Ideal)} {y1 : (⟨S2x4, .f32⟩ : BufTy).Contents (Elt Ideal)}
    {y2 : (⟨S512, .f32⟩ : BufTy).Contents (Elt Ideal)} {z0 z1 z2} (h0 : y0 = z0) (h1 : y1 = z1) (h2 : y2 = z2) (hx : RealQV z0) :
    Read.val_main_v420 (F := Ideal) y0 y1 y2 = Cert.RetainIdeal.Val.ret z0 z1 z2 := by
  subst h0 h1 h2
  exact ref_ret _ _ hx

end Cert.RetainRefIdeal.Val

namespace Cert.Proof

open Idealize.ShloMosaic Idealize.ShloMosaic.TcCoe Idealize.SL.Sem

theorem algebraic_retain : Cert.algebraic_RetainIdeal_RetainRefIdeal_pre_finite_pr := fun m ρ m' ρ' hpre hagree => by
  refine ⟨fun c => Cert.RetainIdeal.Val.ret (m ((c.tc : Thread Cert.RetainIdeal.nD Cert.RetainIdeal.τ).loc Cert.RetainIdeal.main_arg0))
      (m ((c.tc : Thread Cert.RetainIdeal.nD Cert.RetainIdeal.τ).loc Cert.RetainIdeal.main_arg1))
      (m ((c.tc : Thread Cert.RetainIdeal.nD Cert.RetainIdeal.τ).loc Cert.RetainIdeal.main_arg2)),
    (θ_run Cert.RetainIdeal.defs _ _).mono (fun r h c => ⟨(h c).1.trans (Cert.RetainIdeal.Val.out9_args m c), (h c).2⟩)
      (Cert.RetainIdeal.Value.run_blocks m ρ),
    (θ_run Cert.RetainRefIdeal.defs _ _).mono (fun r h c => ⟨(h c).1.trans ((Cert.RetainRefIdeal.Read.val_main_v420_eq _).trans ?_), (h c).2⟩)
      (Cert.RetainRefIdeal.Value.run (F := Ideal) m' ρ')⟩
  exact Cert.RetainRefIdeal.Val.ref_ret_at (hagree c).1 (hagree c).2.1 (hagree c).2.2 (Cert.RetainRefIdeal.Val.real_of_pre _ _ _ (hpre c))

end Cert.Proof

end
-- ==== Proof.ModulValue.lean ====
/- The modulation rows `silu(c) @ w + b` of every layer: the array the kernel writes, element by element, and the reference's array. -/
module

public import proofs.«01_k».proof.Defs
public import proofs.«01_k».proof.Proof.Gen.ModulIdeal.Value
public import proofs.«01_k».proof.Proof.Gen.ModulRefIdeal.Read
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.ModulIdeal.Val

open Cert.ModulIdeal Cert.ModulIdeal.Gen Idealize.ShloMosaic Idealize.ShloMosaic.TcCoe Idealize.SL.Sem

variable (m : (ℓ : Loc nD τ sig) → Buf (Elt Ideal) ℓ)

/-- The conditioning rows: the four batch rows, the context row, three rows of zeros. -/
def rows (x : FVec Ideal S4x2048 .f32) (y : FVec Ideal S2048 .f32) (r : Fin 8) (d : Fin 2048) : EReal :=
  if h : r.val < 4 then x (ix2 ⟨r.val, h⟩ d) else if r.val < 5 then y (ix1 d) else 0

def silu (x : EReal) : EReal := x * Ideal.div 1 (1 + Ideal.exp (-x))

/-- The modulation of layer `l`, row `r`, column `n`. -/
def table (x : FVec Ideal S4x2048 .f32) (y : FVec Ideal S2048 .f32) (w : FVec Ideal S4x2048x12288 .f32) (b : FVec Ideal S4x12288 .f32) :
    FVec Ideal S4x8x12288 .f32 :=
  fun i => (∑ d : Fin 2048, silu (rows x y (i 1) d) * w (ix3 (i 0) d (i 2))) + b (ix2 (i 0) (i 2))

theorem v2 (c : Dev nD) (r : Fin 8) (d : Fin 2048) :
    V m c main_v2 (ix2 r d) = rows (m (c, Proc.tc.devRef main_arg0)) (m (c, Proc.tc.devRef main_arg1)) r d := by
  unfold V
  after_reads_at
  repeat after_reads_at
  unfold rows
  split_ifs
  all_goals first
    | (exfalso; omega)
    | rfl

theorem v3 (c : Dev nD) (l : Fin 4) (n : Fin 12288) :
    V m c main_v3 (ix3 l 0 n) = m (c, Proc.tc.devRef main_arg3) (ix2 l n) := by
  unfold V
  after_reads_at

theorem idx : ∀ t : Fin cfg0.N, win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] :=
  (by decide +kernel : ∀ t : Fin grid0.N, _)

theorem pay (x0 : FVec Ideal S8x2048 .f32) (x1 : FVec Ideal S1x2048x1024 .f32) (x2 : FVec Ideal S1x1x1024 .f32) (r : Fin 8) (n : Fin 1024) :
    k0_pay1 (F := Ideal) x0 x1 x2 (ix3 0 r n) = (∑ d : Fin 2048, silu (x0 (ix2 r d)) * x1 (ix3 0 d n)) + x2 (ix3 0 0 n) := by
  unfold silu
  pointwise [k0_pay1]
  simp only [zero_sub]

/-- The array column that column `n` of the block of grid step `t` is. -/
def col (t : Fin cfg0.N) (n : Fin 1024) : Fin 12288 :=
  ⟨(grid0.coords t 1).val * 1024 + n.val, by
    have h1 : (grid0.coords t 1).val < 12 := (grid0.coords t 1).isLt
    omega⟩

theorem blk3 (c : Dev nD) (t : Fin cfg0.N) (z : Fin 1) (r : Fin 8) (n : Fin 1024) :
    k0_pay1 (F := Ideal) (iblk m c 0 t) (iblk m c 1 t) (iblk m c 2 t) (ix3 z r n)
      = table (m (c, Proc.tc.devRef main_arg0)) (m (c, Proc.tc.devRef main_arg1)) (V m c main_arg2) (m (c, Proc.tc.devRef main_arg3))
        (ix3 (grid0.coords t 0) r (col t n)) := by
  obtain ⟨e0, e1, e2, _⟩ := idx t
  have b0 : ∀ d : Fin 2048, iblk m c 0 t (ix2 r d) = rows (m (c, Proc.tc.devRef main_arg0)) (m (c, Proc.tc.devRef main_arg1)) r d := fun d => by
    rw [← v2]
    blk_ext [iblk, e0]
  have b1 : ∀ d : Fin 2048, iblk m c 1 t (ix3 0 d n) = V m c main_arg2 (ix3 (grid0.coords t 0) d (col t n)) := fun d => by
    blk_ext [iblk, e1, col]
  have b2 : iblk m c 2 t (ix3 0 0 n) = m (c, Proc.tc.devRef main_arg3) (ix2 (grid0.coords t 0) (col t n)) := by
    refine Eq.trans ?_ (v3 m c (grid0.coords t 0) (col t n))
    blk_ext [iblk, e2, col]
  obtain rfl : z = 0 := Subsingleton.elim _ _
  rw [pay]
  simp only [b0, b1, b2]
  rfl

theorem final (c : Dev nD) : (dats m 0 c).arrAt 3 cfg0.N
    = table (m (c, Proc.tc.devRef main_arg0)) (m (c, Proc.tc.devRef main_arg1)) (V m c main_arg2) (m (c, Proc.tc.devRef main_arg3)) := by
  refine (dats m 0 c).arrAt_eq_of_covers 3 _ (by decide +kernel) fun t hf y => ?_
  blk_simp
  rw [after0_3]
  frame_out
  obtain ⟨_, _, _, e3⟩ := idx t
  refine (congrArg _ (eq_ix3 y)).trans ((blk3 m c t (y 0) (y 1) (y 2)).trans (congrArg _ ?_))
  blk_ext [e3, col]

end Cert.ModulIdeal.Val

namespace Cert.ModulRefIdeal.Val

open Cert.ModulRefIdeal Cert.ModulRefIdeal.Gen Idealize.ShloMosaic Idealize.ShloMosaic.TcCoe Idealize.SL.Sem

theorem rows_eq (x : FVec Ideal S4x2048 .f32) (y : FVec Ideal S2048 .f32) (r : Fin 8) (d : Fin 2048) :
    Read.val_main_v2 (F := Ideal) x y (ix2 r d) = Cert.ModulIdeal.Val.rows x y r d := by
  pointwise [Read.val_main_v2, Read.val_main_v0, Read.val_main_v1, Read.val_main_cst]
  unfold Cert.ModulIdeal.Val.rows
  split_ifs
  all_goals first
    | (exfalso; omega)
    | rfl

theorem silu_eq (x : FVec Ideal S4x2048 .f32) (y : FVec Ideal S2048 .f32) (r : Fin 8) (d : Fin 2048) :
    Read.val_main_v3 (F := Ideal) x y (ix2 r d) = Cert.ModulIdeal.Val.silu (Cert.ModulIdeal.Val.rows x y r d) := by
  rw [← rows_eq]
  unfold Cert.ModulIdeal.Val.silu
  pointwise [Read.val_main_v3, Read.val_main_call0_v0, Read.val_main_call0_v1, Read.val_main_call0_v2, Read.val_main_call0_v3, Read.val_main_call0_v4, Read.val_main_call0_v5, Read.val_main_call0_cst, Read.val_main_call0_cst_0]

/-- The reference's result is the same table. -/
theorem ref_eq (x : FVec Ideal S4x2048 .f32) (y : FVec Ideal S2048 .f32) (w : FVec Ideal S4x2048x12288 .f32) (b : FVec Ideal S4x12288 .f32) :
    Read.val_main_v8 (F := Ideal) x y w b = Cert.ModulIdeal.Val.table x y w b := by
  funext i
  rw [Read.val_main_v8_apply, Read.val_main_v5_apply, Read.val_main_v4_apply, Read.val_main_v7_apply, Read.val_main_v6_apply]
  refine congrArg₂ (· + ·) (Finset.sum_congr rfl fun d _ => ?_) (congrArg b (funext fun a => ?_))
  · rw [mul_comm]
    refine congrArg₂ (· * ·) ?_ (congrArg w (funext fun a => ?_))
    · exact (congrArg _ (eq_ix2 _)).trans (silu_eq x y (i 1) d)
    · fin_cases a <;> rfl
  · fin_cases a <;> rfl

end Cert.ModulRefIdeal.Val

namespace Cert.Proof

open Idealize.ShloMosaic Idealize.ShloMosaic.TcCoe Idealize.SL.Sem

/-- The kernel's modulation rows and the reference's are one function of the arguments. -/
theorem algebraic_modul : Cert.algebraic_ModulIdeal_ModulRefIdeal := fun m ρ m' ρ' _ hagree => by
  refine ⟨fun c => Cert.ModulIdeal.Val.table (m ((c.tc : Thread Cert.ModulIdeal.nD Cert.ModulIdeal.τ).loc Cert.ModulIdeal.main_arg0))
      (m ((c.tc : Thread Cert.ModulIdeal.nD Cert.ModulIdeal.τ).loc Cert.ModulIdeal.main_arg1))
      (m ((c.tc : Thread Cert.ModulIdeal.nD Cert.ModulIdeal.τ).loc Cert.ModulIdeal.main_arg2))
      (m ((c.tc : Thread Cert.ModulIdeal.nD Cert.ModulIdeal.τ).loc Cert.ModulIdeal.main_arg3)),
    (θ_run Cert.ModulIdeal.defs _ _).mono (fun r h c => ⟨(h c).1.trans ((Cert.ModulIdeal.Val.final m c).trans (by rw [Cert.ModulIdeal.Gen.V_main_arg2])), (h c).2⟩)
      (Cert.ModulIdeal.Value.run_blocks m ρ),
    (θ_run Cert.ModulRefIdeal.defs _ _).mono (fun r h c => ⟨(h c).1.trans ?_, (h c).2⟩) (Cert.ModulRefIdeal.Value.run (F := Ideal) m' ρ')⟩
  rw [(hagree c).1, (hagree c).2.1, (hagree c).2.2.1, (hagree c).2.2.2]
  exact (Cert.ModulRefIdeal.Read.val_main_v8_eq _ _ _ _).trans (Cert.ModulRefIdeal.Val.ref_eq _ _ _ _)

end Cert.Proof

end
-- ==== Proof.PrologKernel.lean ====
/- The call that joins the context rows to the latent rows and norms them for the first layer: the two arrays the kernel writes, element by element. -/
module

public import proofs.«01_k».proof.Proof.Gen.PrologIdeal.Value
public import proofs.«01_k».proof.Proof.Residual

@[expose] public section

set_option maxRecDepth 16384

noncomputable section

namespace Cert.PrologIdeal.Val

open Cert.PrologIdeal Cert.PrologIdeal.Gen Cert.Residual Idealize.ShloMosaic Idealize.ShloMosaic.TcCoe Idealize.SL.Sem

variable (m : (ℓ : Loc nD τ sig) → Buf (Elt Ideal) ℓ)

/-! ## The arrays -/

/-- Row `r` of the joined rows: the context's 256 rows of a batch element, then its latent rows. -/
def joined (ctx : FVec Ideal S4x256x2048 .f32) (x : FVec Ideal S4x2048x2048 .f32) (r : Fin 9216) (d : Fin 2048) : EReal :=
  if h : r.val % 2304 < 256 then ctx (ix3 (⟨r.val / 2304, by omega⟩ : Fin 4) (⟨r.val % 2304, h⟩ : Fin 256) d)
  else x (ix3 (⟨r.val / 2304, by omega⟩ : Fin 4) (⟨r.val % 2304 - 256, by omega⟩ : Fin 2048) d)

/-- Row `k` of the six modulation rows that array row `r` sees. -/
def mod6 (mc : FVec Ideal S6x2048 .f32) (mb : FVec Ideal S4x6x2048 .f32) (r : Fin 9216) (k : Fin 6) (d : Fin 2048) : EReal :=
  if r.val % 2304 < 256 then mc (ix2 k d) else mb (ix3 (⟨r.val / 2304, by omega⟩ : Fin 4) k d)

/-- The first array: the joined rows. -/
def resX (ctx : FVec Ideal S4x256x2048 .f32) (x : FVec Ideal S4x2048x2048 .f32) : FVec Ideal S9216x2048 .f32 :=
  fun i => joined ctx x (i 0) (i 1)

/-- The second array: the joined rows normed, scaled and shifted. -/
def resH (ctx : FVec Ideal S4x256x2048 .f32) (x : FVec Ideal S4x2048x2048 .f32) (mc : FVec Ideal S6x2048 .f32) (mb : FVec Ideal S4x6x2048 .f32)
    (g : FVec Ideal S1x2048 .f32) : FVec Ideal S9216x2048 .bf16 :=
  fun i => scaled (joined ctx x (i 0)) (mod6 mc mb (i 0) 1) (fun d => g (ix2 0 d)) (mod6 mc mb (i 0) 0) (i 1)

theorem joined_tile (ctx : FVec Ideal S4x256x2048 .f32) (x : FVec Ideal S4x2048x2048 .f32) (r : Fin 9216) (d : Fin 2048) (b : Fin 4) (t : ℕ) (ht : t < 9)
    (k : Fin 256) (h : r.val = b.val * 2304 + (t * 256 + k.val)) :
    joined ctx x r d = if t = 0 then ctx (ix3 b k d) else x (ix3 b (⟨(t - 1) * 256 + k.val, by omega⟩ : Fin 2048) d) := by
  have e2 : r.val / 2304 = b.val := by omega
  unfold joined
  by_cases ht0 : t = 0
  · rw [dif_pos (by omega), if_pos ht0]
    exact congrArg₂ (fun y z => ctx (ix3 y z d)) (Fin.ext e2) (Fin.ext (by show r.val % 2304 = k.val; omega))
  · rw [dif_neg (by omega), if_neg ht0]
    exact congrArg₂ (fun y z => x (ix3 y z d)) (Fin.ext e2) (Fin.ext (by show r.val % 2304 - 256 = (t - 1) * 256 + k.val; omega))

theorem mod6_tile (mc : FVec Ideal S6x2048 .f32) (mb : FVec Ideal S4x6x2048 .f32) (r : Fin 9216) (k : Fin 6) (d : Fin 2048)
    (b : Fin 4) (l : Nat) (hl : l < 2304) (h : r.val = b.val * 2304 + l) :
    mod6 mc mb r k d = if l < 256 then mc (ix2 k d) else mb (ix3 b k d) := by
  have e1 : r.val % 2304 = l := by omega
  have e2 : (⟨r.val / 2304, by omega⟩ : Fin 4) = b := Fin.ext (by show r.val / 2304 = b.val; omega)
  unfold mod6
  rw [e1, e2]

/-! ## The body -/

/-- The kernel's choice of a whole tile: the first tile of a batch element is the context's. -/
theorem select_tile {α : Type} (t : ℕ) (ht : t < 9) (a b : α) :
    Scalar.select (Scalar.cmpi .slt (Scalar.muli (BitVec.ofNat 32 t) 256#32) 256#32) a b = if t = 0 then a else b := by
  interval_cases t <;> rfl

def rowIn (i : grid0.Coords) (x0 x1 : Vec Ideal S1x256x2048 .f32) (r : Fin 256) (d : Fin 2048) : EReal :=
  if (i 1).val = 0 then x0 (ix3 0 r d) else x1 (ix3 0 r d)

/-- The modulation a block's row `r` sees in grid step `i`. -/
def rowMod (i : grid0.Coords) (x2 : Vec Ideal S6x2048 .f32) (x3 : Vec Ideal S1x6x2048 .f32) (r : Fin 256) (k : Fin 6) (d : Fin 2048) : EReal :=
  if (i 1).val * 256 + r.val < 256 then x2 (ix2 k d) else x3 (ix3 0 k d)

theorem bound (i : grid0.Coords) : (i 1).val < 9 := (i 1).isLt

theorem pay3 (i : grid0.Coords) (x0 x1 : Vec Ideal S1x256x2048 .f32) (r : Fin 256) (d : Fin 2048) :
    k0_pay3 (F := Ideal) i x0 x1 (ix2 r d) = rowIn i x0 x1 r d := by
  unfold k0_pay3
  dsimp only
  rw [select_tile _ (bound i)]
  unfold rowIn
  split_ifs
  · pointwise
  · pointwise

theorem pay1 (i : grid0.Coords) (x0 x1 : Vec Ideal S1x256x2048 .f32) (x2 : Vec Ideal S6x2048 .f32) (x3 : Vec Ideal S1x6x2048 .f32) (x4 : Vec Ideal S1x2048 .f32)
    (r : Fin 256) (d : Fin 2048) :
    k0_pay1 (F := Ideal) (k0_pay2 i) (k0_pay4 i x0 x1 x4) (k0_pay5 i) (k0_pay6 (View.ld x2 r0_3)) (k0_pay7 (View.ld x3 r0_4)) (View.ld x2 r0_5) (View.ld x3 r0_6) (ix2 r d)
      = scaled (rowIn i x0 x1 r) (rowMod i x2 x3 r 1) (fun d => x4 (ix2 0 d)) (rowMod i x2 x3 r 0) d := by
  have hs : (i 1).val * 256 + r.val < 2147483648 := by have := bound i; omega
  rw [← scaled_comm]
  unfold rms
  pointwise [k0_pay1, k0_pay2, k0_pay4, k0_pay5, k0_pay6, k0_pay7]
  simp only [pay3]
  rw [select_row _ _ _ hs, select_row _ _ _ hs]
  unfold rowMod
  split_ifs <;> rfl

theorem out5 (i : grid0.Coords) (x0 x1 : Vec Ideal S1x256x2048 .f32) (x2 : Vec Ideal S6x2048 .f32) (x3 : Vec Ideal S1x6x2048 .f32) (x4 : Vec Ideal S1x2048 .f32)
    (r : Fin 256) (d : Fin 2048) : out0_5 (F := Ideal) i x0 x1 x2 x3 x4 (ix2 r d) = rowIn i x0 x1 r d := by
  unfold out0_5
  frame_out
  exact pay3 i x0 x1 r d

theorem out6 (i : grid0.Coords) (x0 x1 : Vec Ideal S1x256x2048 .f32) (x2 : Vec Ideal S6x2048 .f32) (x3 : Vec Ideal S1x6x2048 .f32) (x4 : Vec Ideal S1x2048 .f32)
    (r : Fin 256) (d : Fin 2048) : out0_6 (F := Ideal) i x0 x1 x2 x3 x4 (ix2 r d)
      = scaled (rowIn i x0 x1 r) (rowMod i x2 x3 r 1) (fun d => x4 (ix2 0 d)) (rowMod i x2 x3 r 0) d := by
  unfold out0_6
  frame_out
  exact pay1 i x0 x1 x2 x3 x4 r d

theorem idx : ∀ t : Fin cfg0.N, win0_0.index t = ![(grid0.coords t 0).val, 0, 0]
    ∧ win0_1.index t = ![(grid0.coords t 0).val, (grid0.coords t 1).val - 1, 0]
    ∧ win0_2.index t = ![0, 0] ∧ win0_3.index t = ![(grid0.coords t 0).val, 0, 0] ∧ win0_4.index t = ![0, 0]
    ∧ win0_5.index t = ![(grid0.coords t 0).val * 9 + (grid0.coords t 1).val, 0]
    ∧ win0_6.index t = ![(grid0.coords t 0).val * 9 + (grid0.coords t 1).val, 0] :=
  (by decide +kernel : ∀ t : Fin grid0.N, _)

/-- The array row that row `r` of the block of grid step `t` is. -/
def row (t : Fin cfg0.N) (r : Fin 256) : Fin 9216 :=
  ⟨((grid0.coords t 0).val * 9 + (grid0.coords t 1).val) * 256 + r.val, by
    have h0 : (grid0.coords t 0).val < 4 := (grid0.coords t 0).isLt
    have h1 : (grid0.coords t 1).val < 9 := (grid0.coords t 1).isLt
    omega⟩

theorem blk_mod (c : Dev nD) (t : Fin cfg0.N) (r : Fin 256) (k : Fin 6) :
    rowMod (grid0.coords t) (iblk m c 2 t) (iblk m c 3 t) r k = mod6 (V m c main_arg2) (V m c main_arg3) (row t r) k := by
  funext d
  obtain ⟨_, _, e2, e3, _⟩ := idx t
  have h1 : (grid0.coords t 1).val < 9 := (grid0.coords t 1).isLt
  rw [mod6_tile _ _ (row t r) k d (grid0.coords t 0) ((grid0.coords t 1).val * 256 + r.val) (by omega) (by show _ * 256 + r.val = _; omega)]
  unfold rowMod
  rw [show iblk m c 2 t (ix2 k d) = V m c main_arg2 (ix2 k d) by blk_ext [iblk, V, e2],
    show iblk m c 3 t (ix3 0 k d) = V m c main_arg3 (ix3 (grid0.coords t 0) k d) by blk_ext [iblk, V, e3]]

theorem blk_row (c : Dev nD) (t : Fin cfg0.N) (r : Fin 256) :
    rowIn (grid0.coords t) (iblk m c 0 t) (iblk m c 1 t) r = joined (V m c main_arg0) (V m c main_arg1) (row t r) := by
  funext d
  obtain ⟨e0, e1, _⟩ := idx t
  have h1 : (grid0.coords t 1).val < 9 := (grid0.coords t 1).isLt
  rw [joined_tile _ _ (row t r) d (grid0.coords t 0) (grid0.coords t 1).val h1 r (by show _ * 256 + r.val = _; omega)]
  unfold rowIn
  rw [show iblk m c 0 t (ix3 0 r d) = V m c main_arg0 (ix3 (grid0.coords t 0) r d) by blk_ext [iblk, V, e0],
    show iblk m c 1 t (ix3 0 r d) = V m c main_arg1 (ix3 (grid0.coords t 0) ⟨((grid0.coords t 1).val - 1) * 256 + r.val, by omega⟩ d) by blk_ext [iblk, V, e1]]

theorem blk5 (c : Dev nD) (t : Fin cfg0.N) (r : Fin 256) (d : Fin 2048) :
    out0_5 (grid0.coords t) (iblk m c 0 t) (iblk m c 1 t) (iblk m c 2 t) (iblk m c 3 t) (iblk m c 4 t) (ix2 r d)
      = resX (V m c main_arg0) (V m c main_arg1) (ix2 (row t r) d) := by
  rw [out5, blk_row]
  rfl

theorem blk6 (c : Dev nD) (t : Fin cfg0.N) (r : Fin 256) (d : Fin 2048) :
    out0_6 (grid0.coords t) (iblk m c 0 t) (iblk m c 1 t) (iblk m c 2 t) (iblk m c 3 t) (iblk m c 4 t) (ix2 r d)
      = resH (V m c main_arg0) (V m c main_arg1) (V m c main_arg2) (V m c main_arg3) (V m c main_arg4) (ix2 (row t r) d) := by
  obtain ⟨_, _, _, _, e4, _⟩ := idx t
  have b4 : ∀ d : Fin 2048, iblk m c 4 t (ix2 0 d) = V m c main_arg4 (ix2 0 d) := fun d => by blk_ext [iblk, V, e4]
  rw [out6, blk_row, blk_mod, blk_mod]
  simp only [b4]
  rfl

theorem final5 (c : Dev nD) : (dats m 0 c).arrAt 5 cfg0.N = resX (V m c main_arg0) (V m c main_arg1) := by
  refine (dats m 0 c).arrAt_eq_of_covers 5 _ (by decide +kernel) fun t hf y => ?_
  blk_simp
  rw [after0_5]
  obtain ⟨_, _, _, _, _, e5, _⟩ := idx t
  refine (congrArg _ (eq_ix2 y)).trans ((blk5 m c t (y 0) (y 1)).trans (congrArg _ ?_))
  blk_ext [e5, row]

theorem final6 (c : Dev nD) : (dats m 0 c).arrAt 6 cfg0.N
    = resH (V m c main_arg0) (V m c main_arg1) (V m c main_arg2) (V m c main_arg3) (V m c main_arg4) := by
  refine (dats m 0 c).arrAt_eq_of_covers 6 _ (by decide +kernel) fun t hf y => ?_
  blk_simp
  rw [after0_6]
  obtain ⟨_, _, _, _, _, _, e6⟩ := idx t
  refine (congrArg _ (eq_ix2 y)).trans ((blk6 m c t (y 0) (y 1)).trans (congrArg _ ?_))
  blk_ext [e6, row]

end Cert.PrologIdeal.Val

end
-- ==== Proof.PrologValue.lean ====
/- The reference of the joining call: its two arrays are the same joined rows and their norm. -/
module

public import proofs.«01_k».proof.Defs
public import proofs.«01_k».proof.Proof.Gen.PrologRefIdeal.Read
public import proofs.«01_k».proof.Proof.PrologKernel

@[expose] public section

set_option maxRecDepth 16384

noncomputable section

namespace Cert.PrologRefIdeal.Val

open Cert.PrologRefIdeal Cert.PrologRefIdeal.Gen Cert.PrologRefIdeal.Read Cert.Residual Idealize.ShloMosaic Idealize.ShloMosaic.TcCoe Idealize.SL.Sem
open Cert.PrologIdeal.Val (joined mod6 resX resH)

variable (x0 : FVec Ideal S4x256x2048 .f32) (x1 : FVec Ideal S4x2048x2048 .f32) (x2 : FVec Ideal S6x2048 .f32) (x3 : FVec Ideal S4x6x2048 .f32)
  (x4 : FVec Ideal S1x2048 .f32)

theorem joined_ctx (b : Fin 4) (l : Fin 256) : joined x0 x1 (rowC b l) = fun d => x0 (ix3 b l d) := by
  funext d
  rw [Cert.PrologIdeal.Val.joined_tile x0 x1 (rowC b l) d b 0 (by omega) l (by show b.val * 2304 + l.val = _; omega), if_pos rfl]

theorem joined_lat (b : Fin 4) (l : Fin 2048) : joined x0 x1 (rowL b l) = fun d => x1 (ix3 b l d) := by
  funext d
  have hl := l.isLt
  rw [Cert.PrologIdeal.Val.joined_tile x0 x1 (rowL b l) d b (l.val / 256 + 1) (by omega) ⟨l.val % 256, by omega⟩
    (by show b.val * 2304 + (256 + l.val) = b.val * 2304 + ((l.val / 256 + 1) * 256 + l.val % 256); omega), if_neg (by omega)]
  exact congrArg (fun z => x1 (ix3 b z d)) (Fin.ext (by show (l.val / 256 + 1 - 1) * 256 + l.val % 256 = l.val; omega))

theorem mod_ctx (b : Fin 4) (l : Fin 256) (k : Fin 6) : mod6 x2 x3 (rowC b l) k = fun d => x2 (ix2 k d) := by
  funext d
  rw [Cert.PrologIdeal.Val.mod6_tile x2 x3 (rowC b l) k d b l.val (by omega) rfl, if_pos l.isLt]

theorem mod_lat (b : Fin 4) (l : Fin 2048) (k : Fin 6) : mod6 x2 x3 (rowL b l) k = fun d => x3 (ix3 b k d) := by
  funext d
  rw [Cert.PrologIdeal.Val.mod6_tile x2 x3 (rowL b l) k d b (256 + l.val) (by omega) rfl, if_neg (by omega)]

theorem norm_ctx (b : Fin 4) (l : Fin 256) (d : Fin 2048) :
    val_main_v25 (F := Ideal) x0 x2 x4 (ix3 b l d) = resH x0 x1 x2 x3 x4 (ix2 (rowC b l) d) := by
  show _ = scaled (joined x0 x1 (rowC b l)) (mod6 x2 x3 (rowC b l) 1) (fun d => x4 (ix2 0 d)) (mod6 x2 x3 (rowC b l) 0) d
  rw [← scaled_comm, joined_ctx, mod_ctx, mod_ctx]
  unfold rms
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2, val_main_cst_3, val_main_cst_4, val_main_cst_5, val_main_cst_6]

theorem norm_lat (b : Fin 4) (l : Fin 2048) (d : Fin 2048) :
    val_main_v51 (F := Ideal) x1 x3 x4 (ix3 b l d) = resH x0 x1 x2 x3 x4 (ix2 (rowL b l) d) := by
  show _ = scaled (joined x0 x1 (rowL b l)) (mod6 x2 x3 (rowL b l) 1) (fun d => x4 (ix2 0 d)) (mod6 x2 x3 (rowL b l) 0) d
  rw [← scaled_comm, joined_lat, mod_lat, mod_lat]
  unfold rms
  pointwise [val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_cst, val_main_cst_0, val_main_cst_1, val_main_cst_2, val_main_cst_3, val_main_cst_4, val_main_cst_5, val_main_cst_6]

theorem at_x (r : Fin 9216) (d : Fin 2048) : val_main_v53 (F := Ideal) x0 x1 (ix2 r d) = joined x0 x1 r d := by
  refine row_cases (P := fun r => val_main_v53 (F := Ideal) x0 x1 (ix2 r d) = joined x0 x1 r d) (fun b l => ?_) (fun b l => ?_) r
  · rw [joined_ctx]
    pointwise [val_main_v53, val_main_v52, rowC]
    exact pick_ctx (fun l => x0 (ix3 b l d)) (fun l => x1 (ix3 b l d)) b l
  · rw [joined_lat]
    pointwise [val_main_v53, val_main_v52, rowL]
    exact pick_lat (fun l => x0 (ix3 b l d)) (fun l => x1 (ix3 b l d)) b l

theorem at_h (r : Fin 9216) (d : Fin 2048) : val_main_v56 (F := Ideal) x0 x1 x2 x3 x4 (ix2 r d) = resH x0 x1 x2 x3 x4 (ix2 r d) := by
  refine row_cases (P := fun r => val_main_v56 (F := Ideal) x0 x1 x2 x3 x4 (ix2 r d) = resH x0 x1 x2 x3 x4 (ix2 r d)) (fun b l => ?_) (fun b l => ?_) r
  · rw [← norm_ctx]
    pointwise [val_main_v56, val_main_v55, val_main_v54, rowC]
    exact pick_ctx (fun l => val_main_v25 (F := Ideal) x0 x2 x4 (ix3 b l d)) (fun l => val_main_v51 (F := Ideal) x1 x3 x4 (ix3 b l d)) b l
  · rw [← norm_lat]
    pointwise [val_main_v56, val_main_v55, val_main_v54, rowL]
    exact pick_lat (fun l => val_main_v25 (F := Ideal) x0 x2 x4 (ix3 b l d)) (fun l => val_main_v51 (F := Ideal) x1 x3 x4 (ix3 b l d)) b l

theorem ref_x : val_main_v53 (F := Ideal) x0 x1 = resX x0 x1 :=
  funext fun i => (congrArg _ (eq_ix2 i)).trans (at_x x0 x1 (i 0) (i 1))

theorem ref_h : val_main_v56 (F := Ideal) x0 x1 x2 x3 x4 = resH x0 x1 x2 x3 x4 :=
  funext fun i => (congrArg _ (eq_ix2 i)).trans ((at_h x0 x1 x2 x3 x4 (i 0) (i 1)).trans (congrArg _ (eq_ix2 i).symm))

end Cert.PrologRefIdeal.Val

namespace Cert.Proof

open Idealize.ShloMosaic Idealize.ShloMosaic.TcCoe Idealize.SL.Sem

/-- The kernel's two arrays and the reference's are the same functions of the arguments. -/
theorem algebraic_prolog : Cert.algebraic_PrologIdeal_PrologRefIdeal := fun m ρ m' ρ' _ hagree => by
  refine ⟨fun c => Cert.PrologIdeal.Val.resX (m ((c.tc : Thread Cert.PrologIdeal.nD Cert.PrologIdeal.τ).loc Cert.PrologIdeal.main_arg0))
      (m ((c.tc : Thread Cert.PrologIdeal.nD Cert.PrologIdeal.τ).loc Cert.PrologIdeal.main_arg1)),
    fun c => Cert.PrologIdeal.Val.resH (m ((c.tc : Thread Cert.PrologIdeal.nD Cert.PrologIdeal.τ).loc Cert.PrologIdeal.main_arg0))
      (m ((c.tc : Thread Cert.PrologIdeal.nD Cert.PrologIdeal.τ).loc Cert.PrologIdeal.main_arg1))
      (m ((c.tc : Thread Cert.PrologIdeal.nD Cert.PrologIdeal.τ).loc Cert.PrologIdeal.main_arg2))
      (m ((c.tc : Thread Cert.PrologIdeal.nD Cert.PrologIdeal.τ).loc Cert.PrologIdeal.main_arg3))
      (m ((c.tc : Thread Cert.PrologIdeal.nD Cert.PrologIdeal.τ).loc Cert.PrologIdeal.main_arg4)),
    (θ_run Cert.PrologIdeal.defs _ _).mono (fun r h c => ⟨(h c).1.trans (Cert.PrologIdeal.Val.final5 m c), (h c).2.1.trans (Cert.PrologIdeal.Val.final6 m c), (h c).2.2⟩)
      (Cert.PrologIdeal.Value.run_blocks m ρ),
    (θ_run Cert.PrologRefIdeal.defs _ _).mono (fun r h c => ⟨(h c).1.trans ?_, (h c).2.1.trans ?_, (h c).2.2⟩) (Cert.PrologRefIdeal.Value.run (F := Ideal) m' ρ')⟩
  · rw [Cert.PrologRefIdeal.Read.val_main_v53_eq, (hagree c).1, (hagree c).2.1]
    exact Cert.PrologRefIdeal.Val.ref_x _ _
  · rw [Cert.PrologRefIdeal.Read.val_main_v56_eq, (hagree c).1, (hagree c).2.1, (hagree c).2.2.1, (hagree c).2.2.2.1, (hagree c).2.2.2.2]
    exact Cert.PrologRefIdeal.Val.ref_h _ _ _ _ _

end Cert.Proof

end
-- ==== Proof.FinishMath.lean ====
/- A row of 512 columns as 8 heads of 64: the mean over a head, and the same mean by a product with the block matrix of ones. -/
module

public import proofs.«01_k».proof.Proof.AttnMath
public import Idealize.ShloMosaic.Lib.Pointwise
public import Idealize.ShloMosaic.Lib.Pipeline.ValueKit

@[expose] public section

noncomputable section

namespace Cert.Heads

open Idealize.ShloMosaic

/-- Column `e` of the head that column `j` is in. -/
def peer (j : Fin 512) (e : Fin 64) : Fin 512 := ⟨j.val / 64 * 64 + e.val, by omega⟩

/-- The mean over the head of column `j`. -/
def mean (y : Fin 512 → EReal) (j : Fin 512) : EReal := Ideal.div (∑ e, y (peer j e)) (Ideal.ofBits .f32 0x42800000#32)

/-- The row less the mean of each head. -/
def centred (y : Fin 512 → EReal) (j : Fin 512) : EReal := y j - mean y j

/-- The row, each head normalised. -/
def normed (y : Fin 512 → EReal) (j : Fin 512) : EReal :=
  centred y j * Ideal.rsqrt (mean (fun k => centred y k * centred y k) j + Ideal.ofBits .f32 0x3A27C5AC#32)

/-- The block matrix of ones: one where row and column are of the same head. -/
def block (k j : Fin 512) : EReal := if k.val / 64 = j.val / 64 then 1 else 0

theorem word_64 : Ideal.ofBits .f32 0x42800000#32 = ((64 : ℝ) : EReal) := by
  simp [Ideal.ofBits, Ideal.ieee, -EReal.coe_mul]; norm_num

theorem word_inv : Ideal.ofBits .f32 0x3C800000#32 = (((64 : ℝ)⁻¹ : ℝ) : EReal) := by
  simp [Ideal.ofBits, Ideal.ieee, -EReal.coe_mul]; norm_num

theorem mean_eq (y : Fin 512 → EReal) (j : Fin 512) : mean y j = (∑ e, y (peer j e)) * Ideal.ofBits .f32 0x3C800000#32 := by
  unfold mean
  rw [word_64, word_inv, Ideal.div_coe (by norm_num), one_div]

theorem sum_block (y : Fin 512 → EReal) (j : Fin 512) : ∑ k, y k * block k j = ∑ e, y (peer j e) := by
  have hj : j.val / 64 < 8 := by omega
  rw [← (finProdFinEquiv (m := 8) (n := 64)).sum_comp (fun k : Fin 512 => y k * block k j), Fintype.sum_prod_type,
    Finset.sum_eq_single (⟨j.val / 64, hj⟩ : Fin 8)]
  · refine Finset.sum_congr rfl fun e _ => ?_
    have h : (finProdFinEquiv ((⟨j.val / 64, hj⟩ : Fin 8), e) : Fin 512) = peer j e := Fin.ext (by show e.val + 64 * (j.val / 64) = j.val / 64 * 64 + e.val; omega)
    rw [h]
    unfold block peer
    rw [if_pos (by show (j.val / 64 * 64 + e.val) / 64 = j.val / 64; omega), mul_one]
  · intro a _ ha
    refine Finset.sum_eq_zero fun e _ => ?_
    unfold block
    rw [if_neg, mul_zero]
    intro h
    refine ha (Fin.ext ?_)
    have h' : (e.val + 64 * a.val) / 64 = j.val / 64 := h
    show a.val = j.val / 64
    omega
  · exact fun h => absurd (Finset.mem_univ _) h

/-- All entries are real. -/
def AllReal (y : Fin 512 → EReal) : Prop := ∀ k, ∃ t : ℝ, y k = t

variable {y : Fin 512 → EReal}

theorem mean_real (h : AllReal y) : AllReal (mean y) := fun j => by
  choose f hf using h
  rw [mean_eq, word_inv]
  simp only [hf]
  exact ⟨(∑ e, f (peer j e)) * (64 : ℝ)⁻¹, by rw [EReal.coe_mul, Cert.AttnMath.sum_coe]⟩

theorem square_real (h : AllReal y) : AllReal fun k => centred y k * centred y k := fun k => by
  obtain ⟨a, ha⟩ := h k
  obtain ⟨b, hb⟩ := mean_real h k
  exact ⟨(a - b) * (a - b), by unfold centred; dsimp only; rw [ha, hb, EReal.coe_mul, EReal.coe_sub]⟩

/-- The product with the block matrix in three parts, of which two are of the zeros that rounding leaves over: the mean over the head. -/
theorem split_mean (h : AllReal y) (j : Fin 512) :
    (∑ k, y k * block k j + ∑ k, (y k - y k) * block k j + ∑ k, (y k - y k - (y k - y k)) * block k j) * Ideal.ofBits .f32 0x3C800000#32 = mean y j := by
  have hz : ∀ k, y k - y k = 0 := fun k => by
    obtain ⟨a, ha⟩ := h k
    rw [ha, ← EReal.coe_sub, sub_self, EReal.coe_zero]
  simp only [hz, sub_zero, zero_mul, Finset.sum_const_zero, add_zero]
  rw [sum_block, mean_eq]

/-- The sum of the two passes, by row. -/
abbrev both {n : ℕ} (a b : FVec Ideal ⟨2, ![n, 512]⟩ .f32) (r : Fin n) (k : Fin 512) : EReal := a (ix2 r k) + b (ix2 r k)

/-- The finished rows: both passes' sum with each head normalised, scaled and shifted, then the bonus and the gate. -/
def out (yf yb gate bonus : FVec Ideal ⟨2, ![9216, 512]⟩ .f32) (vecs : FVec Ideal ⟨2, ![5, 512]⟩ .f32) : FVec Ideal ⟨2, ![9216, 512]⟩ .bf16 :=
  fun i => (normed (fun k => yf (ix2 (i 0) k) + yb (ix2 (i 0) k)) (i 1) * vecs (ix2 3 (i 1)) + vecs (ix2 4 (i 1)) + bonus (ix2 (i 0) (i 1)))
    * gate (ix2 (i 0) (i 1))

end Cert.Heads

end
-- ==== Proof.FinishKernel.lean ====
/- The finish of the recurrent mixer: the array the kernel writes, element by element. -/
module

public import proofs.«01_k».proof.Proof.Gen.FinishIdeal.Value
public import proofs.«01_k».proof.Proof.FinishMath
public import Idealize.ShloMosaic.Lib.Pipeline.ReadBack
public import Idealize.ShloMosaic.Lib.StableHlo.ReadAt

@[expose] public section

set_option maxRecDepth 16384

noncomputable section

namespace Cert.FinishIdeal.Val

open Cert.FinishIdeal Cert.FinishIdeal.Gen Cert.Heads Idealize.ShloMosaic Idealize.ShloMosaic.TcCoe Idealize.SL.Sem

variable (m : (ℓ : Loc nD τ sig) → Buf (Elt Ideal) ℓ)

/-- The program's quotient of a column by 64, rounded towards minus infinity. -/
def quot (k : BitVec 32) : BitVec 32 :=
  Scalar.select
    (IntOp.andi (IntOp.cmpi .ne (if k = 0 then 0 else if k.msb = true then -1 else (1 : BitVec 32)) (if (64#32 : BitVec 32) = 0 then 0 else if BitVec.msb (64#32 : BitVec 32) = true then -1 else (1 : BitVec 32)))
      (IntOp.cmpi .ne (IntOp.remsi ArithUnit.host k 64#32) 0#32))
    (IntOp.subi (IntOp.divsi ArithUnit.host k 64#32) 1#32) (IntOp.divsi ArithUnit.host k 64#32)

theorem quot_eq : ∀ k : Fin 512, quot (BitVec.ofNat 32 k.val) = BitVec.ofNat 32 (k.val / 64) := by decide +kernel

theorem eq_words : ∀ a b : Fin 8, IntOp.cmpi .eq (BitVec.ofNat 32 a.val) (BitVec.ofNat 32 b.val) = if a.val = b.val then 1#1 else 0#1 := by decide +kernel

/-- The matrix the call is given. -/
theorem ones (c : Dev nD) (k j : Fin 512) : V m c main_v7 (ix2 k j) = block k j := by
  unfold V
  after_reads_at
  repeat after_reads_at
  show FloatOps.uitofp (F := Ideal) FTy.bf16 (IntOp.cmpi .eq (quot (BitVec.ofNat 32 k.val)) (quot (BitVec.ofNat 32 j.val))) = _
  rw [quot_eq, quot_eq, eq_words ⟨k.val / 64, by omega⟩ ⟨j.val / 64, by omega⟩]
  unfold block
  dsimp only
  split_ifs
  · show (((1#1 : BitVec 1).toNat : ℝ) : EReal) = 1
    norm_num
  · show (((0#1 : BitVec 1).toNat : ℝ) : EReal) = 0
    norm_num

theorem idx : ∀ t : Fin cfg0.N, win0_0.index t = ![(grid0.coords t 0).val * 3 + (grid0.coords t 1).val, 0]
    ∧ win0_1.index t = ![(grid0.coords t 0).val * 3 + (grid0.coords t 1).val, 0]
    ∧ win0_2.index t = ![(grid0.coords t 0).val * 3 + (grid0.coords t 1).val, 0]
    ∧ win0_3.index t = ![(grid0.coords t 0).val * 3 + (grid0.coords t 1).val, 0]
    ∧ win0_4.index t = ![0, 0] ∧ win0_5.index t = ![0, 0]
    ∧ win0_6.index t = ![(grid0.coords t 0).val * 3 + (grid0.coords t 1).val, 0] :=
  (by decide +kernel : ∀ t : Fin grid0.N, _)

/-- The array row that row `r` of the block of grid step `t` is. -/
def row (t : Fin cfg0.N) (r : Fin 768) : Fin 9216 :=
  ⟨((grid0.coords t 0).val * 3 + (grid0.coords t 1).val) * 768 + r.val, by
    have h0 : (grid0.coords t 0).val < 4 := (grid0.coords t 0).isLt
    have h1 : (grid0.coords t 1).val < 3 := (grid0.coords t 1).isLt
    omega⟩

theorem pay2 (x0 x1 : Vec Ideal S768x512 .f32) (x5 : Vec Ideal S512x512 .bf16) (h5 : ∀ k j, x5 (ix2 k j) = block k j) (r : Fin 768)
    (h : AllReal fun k => x0 (ix2 r k) + x1 (ix2 r k)) (j : Fin 512) :
    k0_pay2 (F := Ideal) x5 x0 x1 (ix2 r j) = normed (fun k => x0 (ix2 r k) + x1 (ix2 r k)) j := by
  have e1 : ∀ j, _ := split_mean h
  have e2 : ∀ j, _ := split_mean (square_real h)
  unfold normed
  unfold centred at e2 ⊢
  dsimp only at e1 e2 ⊢
  pointwise [k0_pay2]
  simp only [h5, e1, e2]

theorem out6 (x0 x1 x2 x3 : Vec Ideal S768x512 .f32) (x4 : Vec Ideal S5x512 .f32) (x5 : Vec Ideal S512x512 .bf16) (h5 : ∀ k j, x5 (ix2 k j) = block k j)
    (r : Fin 768) (h : AllReal fun k => x0 (ix2 r k) + x1 (ix2 r k)) (j : Fin 512) :
    out0_6 (F := Ideal) x0 x1 x2 x3 x4 x5 (ix2 r j)
      = (normed (fun k => x0 (ix2 r k) + x1 (ix2 r k)) j * x4 (ix2 3 j) + x4 (ix2 4 j) + x3 (ix2 r j)) * x2 (ix2 r j) := by
  unfold out0_6
  frame_out
  rw [← pay2 x0 x1 x5 h5 r h j]
  pointwise [k0_pay1, k0_pay3]

theorem blk6 (c : Dev nD) (h : ∀ r, AllReal (both (n := 9216) (V m c main_arg0) (V m c main_arg1) r)) (t : Fin cfg0.N) (r : Fin 768) (j : Fin 512) :
    out0_6 (iblk m c 0 t) (iblk m c 1 t) (iblk m c 2 t) (iblk m c 3 t) (iblk m c 4 t) (iblk m c 5 t) (ix2 r j)
      = out (V m c main_arg0) (V m c main_arg1) (V m c main_arg2) (V m c main_arg3) (V m c main_arg4) (ix2 (row t r) j) := by
  obtain ⟨e0, e1, e2, e3, e4, e5, _⟩ := idx t
  have b0 : ∀ k : Fin 512, iblk m c 0 t (ix2 r k) = V m c main_arg0 (ix2 (row t r) k) := fun k => by blk_ext [iblk, V, e0, row]
  have b1 : ∀ k : Fin 512, iblk m c 1 t (ix2 r k) = V m c main_arg1 (ix2 (row t r) k) := fun k => by blk_ext [iblk, V, e1, row]
  have b2 : iblk m c 2 t (ix2 r j) = V m c main_arg2 (ix2 (row t r) j) := by blk_ext [iblk, V, e2, row]
  have b3 : iblk m c 3 t (ix2 r j) = V m c main_arg3 (ix2 (row t r) j) := by blk_ext [iblk, V, e3, row]
  have b4 : ∀ k : Fin 5, iblk m c 4 t (ix2 k j) = V m c main_arg4 (ix2 k j) := fun k => by blk_ext [iblk, V, e4]
  have b5 : ∀ k j : Fin 512, iblk m c 5 t (ix2 k j) = block k j := fun k j => by
    rw [← ones m c]
    blk_ext [iblk, e5]
  have hr : AllReal (both (n := 768) (iblk m c 0 t) (iblk m c 1 t) r) := fun k => by
    obtain ⟨u, hu⟩ := h (row t r) k
    exact ⟨u, (congrArg₂ (fun y z : EReal => y + z) (b0 k) (b1 k)).trans hu⟩
  rw [out6 _ _ _ _ _ _ b5 r hr]
  simp only [b0, b1, b2, b3, b4]
  rfl

theorem final (c : Dev nD) (h : ∀ r, AllReal (both (n := 9216) (V m c main_arg0) (V m c main_arg1) r)) : (dats m 0 c).arrAt 6 cfg0.N
    = out (V m c main_arg0) (V m c main_arg1) (V m c main_arg2) (V m c main_arg3) (V m c main_arg4) := by
  refine (dats m 0 c).arrAt_eq_of_covers 6 _ (by decide +kernel) fun t hf y => ?_
  blk_simp
  rw [after0_6]
  obtain ⟨_, _, _, _, _, _, e6⟩ := idx t
  refine (congrArg _ (eq_ix2 y)).trans ((blk6 m c h t (y 0) (y 1)).trans (congrArg _ ?_))
  blk_ext [e6, row]

end Cert.FinishIdeal.Val

end
-- ==== Proof.FinishRef.lean ====
/- The finish of the recurrent mixer: the reference's array. -/
module

public import proofs.«01_k».proof.Proof.FinishMath
public import proofs.«01_k».proof.Proof.Gen.FinishRefIdeal.Read

@[expose] public section

set_option maxRecDepth 16384

noncomputable section

namespace Cert.FinishRefIdeal.Val

open Cert.FinishRefIdeal Cert.FinishRefIdeal.Gen Cert.FinishRefIdeal.Read Cert.Heads Idealize.ShloMosaic Idealize.ShloMosaic.TcCoe Idealize.SL.Sem

variable (x0 x1 x2 x3 : FVec Ideal S9216x512 .f32) (x4 : FVec Ideal S5x512 .f32)

/-- Column `e` of head `h`. -/
def col (h : Fin 8) (e : Fin 64) : Fin 512 := ⟨h.val * 64 + e.val, by omega⟩

theorem col_cases (j : Fin 512) : ∃ h e, j = col h e :=
  ⟨⟨j.val / 64, by omega⟩, ⟨j.val % 64, by omega⟩, Fin.ext (by show j.val = j.val / 64 * 64 + j.val % 64; omega)⟩

theorem peer_col (h : Fin 8) (e f : Fin 64) : peer (col h e) f = col h f := Fin.ext (by show (h.val * 64 + e.val) / 64 * 64 + f.val = h.val * 64 + f.val; omega)

theorem col_head (h : Fin 8) (e : Fin 64) : (⟨(col h e).val / 64, by omega⟩ : Fin 8) = h := Fin.ext (by show (h.val * 64 + e.val) / 64 = h.val; omega)

theorem col_rest (h : Fin 8) (e : Fin 64) : (⟨(col h e).val % 64, by omega⟩ : Fin 64) = e := Fin.ext (by show (h.val * 64 + e.val) % 64 = e.val; omega)

theorem head (r : Fin 9216) (h : Fin 8) (e : Fin 64) : val_main_v1 (F := Ideal) x0 x1 (ix3 r h e) = x0 (ix2 r (col h e)) + x1 (ix2 r (col h e)) := by
  pointwise [val_main_v1, val_main_v0]
  rfl

theorem less (r : Fin 9216) (h : Fin 8) (e : Fin 64) :
    val_main_v7 (F := Ideal) x0 x1 (ix3 r h e) = centred (fun k => x0 (ix2 r k) + x1 (ix2 r k)) (col h e) := by
  unfold centred mean
  simp only [peer_col, ← head]
  pointwise [val_main_v7, val_main_v6, val_main_v5, val_main_v4, val_main_v3, val_main_v2, val_main_cst, val_main_cst_0]

theorem norm (r : Fin 9216) (h : Fin 8) (e : Fin 64) :
    val_main_v19 (F := Ideal) x0 x1 (ix3 r h e) = normed (fun k => x0 (ix2 r k) + x1 (ix2 r k)) (col h e) := by
  unfold normed mean
  simp only [peer_col, ← less]
  pointwise [val_main_v19, val_main_v18, val_main_v17, val_main_v16, val_main_v15, val_main_v14, val_main_v13, val_main_v12, val_main_v11, val_main_v10, val_main_v9, val_main_v8, val_main_v7, val_main_v6,
    val_main_cst_1, val_main_cst_2, val_main_cst_3]

theorem at_out (r : Fin 9216) (h : Fin 8) (e : Fin 64) :
    val_main_v36 (F := Ideal) x0 x1 x2 x3 x4 (ix2 r (col h e)) = out x0 x1 x2 x3 x4 (ix2 r (col h e)) := by
  unfold out
  show _ = (normed (fun k => x0 (ix2 r k) + x1 (ix2 r k)) (col h e) * x4 (ix2 3 (col h e)) + x4 (ix2 4 (col h e)) + x3 (ix2 r (col h e))) * x2 (ix2 r (col h e))
  rw [← norm]
  pointwise [val_main_v36, val_main_v35, val_main_v34, val_main_v33, val_main_v32, val_main_v31, val_main_v30, val_main_v29, val_main_v28, val_main_v27, val_main_v26, val_main_v25, val_main_v24, val_main_v23,
    val_main_v22, val_main_v21, val_main_v20]
  rw [col_head, col_rest]

/-- The reference's array. -/
theorem ref_eq : val_main_v36 (F := Ideal) x0 x1 x2 x3 x4 = out x0 x1 x2 x3 x4 := funext fun i => by
  obtain ⟨h, e, hj⟩ := col_cases (i 1)
  have hi : i = ix2 (i 0) (col h e) := hj ▸ eq_ix2 i
  rw [hi]
  exact at_out x0 x1 x2 x3 x4 (i 0) h e

end Cert.FinishRefIdeal.Val

end
-- ==== Proof.FinishValue.lean ====
/- The finish of the recurrent mixer: over finite passes kernel and reference compute the same array. -/
module

public import proofs.«01_k».proof.Defs
public import proofs.«01_k».proof.Proof.FinishKernel
public import proofs.«01_k».proof.Proof.AttnValue
public import proofs.«01_k».proof.Proof.FinishRef
public import proofs.«01_k».proof.Proof.Gen.Pre_finite_y
public import Idealize.ShloMosaic.Lib.ReduceAll

@[expose] public section

set_option maxRecDepth 16384

noncomputable section

namespace Cert.FinishRefIdeal.Val

open Cert.FinishRefIdeal Cert.FinishRefIdeal.Gen Cert.FinishRefIdeal.Read Cert.Heads Idealize.ShloMosaic Idealize.ShloMosaic.TcCoe Idealize.SL.Sem

variable (x0 x1 x2 x3 : FVec Ideal S9216x512 .f32) (x4 : FVec Ideal S5x512 .f32)

/-- What the precondition says. -/
theorem real_of_pre (h : Cert.Pre_finite_y.fn (F := Ideal) x0 x1 x2 x3 x4 = fun _ => 1#1) (r : Fin 9216) : AllReal (both x0 x1 r) := fun k => by
  have h0 := congrFun h ix0
  unfold Cert.Pre_finite_y.fn at h0
  simp only [] at h0
  haveI : Subsingleton Cert.Pre_finite_y.S_.Idx := ⟨fun a b => funext fun i => i.elim0⟩
  obtain ⟨hf, hb⟩ := IntOp.andi_eq_one.1 h0
  obtain ⟨t, ht⟩ := Cert.AttnRefIdeal.Val.real_of_cmp _ (Host.reduce_andi_all _ _ _ _ _ hf (ix2 r k))
  obtain ⟨u, hu⟩ := Cert.AttnRefIdeal.Val.real_of_cmp _ (Host.reduce_andi_all _ _ _ _ _ hb (ix2 r k))
  exact ⟨t + u, (congrArg₂ (fun y z : EReal => y + z) ht hu).trans (EReal.coe_add t u).symm⟩

theorem kernel_at (m : (ℓ : Loc Cert.FinishIdeal.nD Cert.FinishIdeal.τ Cert.FinishIdeal.sig) → Buf (Elt Ideal) ℓ) (c : Dev Cert.FinishIdeal.nD)
    (h : ∀ r, AllReal (both (n := 9216) (m ((c.tc : Thread Cert.FinishIdeal.nD Cert.FinishIdeal.τ).loc Cert.FinishIdeal.main_arg0))
      (m ((c.tc : Thread Cert.FinishIdeal.nD Cert.FinishIdeal.τ).loc Cert.FinishIdeal.main_arg1)) r)) :
    (Cert.FinishIdeal.Gen.dats m 0 c).arrAt 6 Cert.FinishIdeal.cfg0.N
      = out (m ((c.tc : Thread Cert.FinishIdeal.nD Cert.FinishIdeal.τ).loc Cert.FinishIdeal.main_arg0))
        (m ((c.tc : Thread Cert.FinishIdeal.nD Cert.FinishIdeal.τ).loc Cert.FinishIdeal.main_arg1))
        (m ((c.tc : Thread Cert.FinishIdeal.nD Cert.FinishIdeal.τ).loc Cert.FinishIdeal.main_arg2))
        (m ((c.tc : Thread Cert.FinishIdeal.nD Cert.FinishIdeal.τ).loc Cert.FinishIdeal.main_arg3))
        (m ((c.tc : Thread Cert.FinishIdeal.nD Cert.FinishIdeal.τ).loc Cert.FinishIdeal.main_arg4)) := by
  refine (Cert.FinishIdeal.Val.final m c ?_).trans ?_
  · intro r
    rw [Cert.FinishIdeal.Gen.V_main_arg0, Cert.FinishIdeal.Gen.V_main_arg1]
    exact h r
  · rw [Cert.FinishIdeal.Gen.V_main_arg0, Cert.FinishIdeal.Gen.V_main_arg1, Cert.FinishIdeal.Gen.V_main_arg2, Cert.FinishIdeal.Gen.V_main_arg3,
      Cert.FinishIdeal.Gen.V_main_arg4]

end Cert.FinishRefIdeal.Val

namespace Cert.Proof

open Idealize.ShloMosaic Idealize.ShloMosaic.TcCoe Idealize.SL.Sem

/-- Over finite passes the kernel's finished rows and the reference's are one function of the arguments. -/
theorem algebraic_finish : Cert.algebraic_FinishIdeal_FinishRefIdeal_pre_finite_y := fun m ρ m' ρ' hpre hagree => by
  refine ⟨fun c => Cert.Heads.out (m ((c.tc : Thread Cert.FinishIdeal.nD Cert.FinishIdeal.τ).loc Cert.FinishIdeal.main_arg0))
      (m ((c.tc : Thread Cert.FinishIdeal.nD Cert.FinishIdeal.τ).loc Cert.FinishIdeal.main_arg1))
      (m ((c.tc : Thread Cert.FinishIdeal.nD Cert.FinishIdeal.τ).loc Cert.FinishIdeal.main_arg2))
      (m ((c.tc : Thread Cert.FinishIdeal.nD Cert.FinishIdeal.τ).loc Cert.FinishIdeal.main_arg3))
      (m ((c.tc : Thread Cert.FinishIdeal.nD Cert.FinishIdeal.τ).loc Cert.FinishIdeal.main_arg4)),
    (θ_run Cert.FinishIdeal.defs _ _).mono (fun r h c => ⟨(h c).1.trans (Cert.FinishRefIdeal.Val.kernel_at m c (Cert.FinishRefIdeal.Val.real_of_pre _ _ _ _ _ (hpre c))), (h c).2⟩)
      (Cert.FinishIdeal.Value.run_blocks m ρ),
    (θ_run Cert.FinishRefIdeal.defs _ _).mono (fun r h c => ⟨(h c).1.trans ?_, (h c).2⟩) (Cert.FinishRefIdeal.Value.run (F := Ideal) m' ρ')⟩
  rw [(hagree c).1, (hagree c).2.1, (hagree c).2.2.1, (hagree c).2.2.2.1, (hagree c).2.2.2.2]
  exact (Cert.FinishRefIdeal.Read.val_main_v36_eq _ _ _ _ _).trans (Cert.FinishRefIdeal.Val.ref_eq _ _ _ _ _)

end Cert.Proof

end
-- ==== Proof.lean ====
/- The certificate: every claim of `Cert.Claim`, from the generated frames and the value theorems of the modules beside this one. -/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Gen.FfnUp.Frame
public import proofs.«01_k».proof.Proof.Gen.FfnUpIdeal.Frame
public import proofs.«01_k».proof.Proof.Gen.FfnUpRefIdeal.Run
public import proofs.«01_k».proof.Proof.Gen.FfnDown.Frame
public import proofs.«01_k».proof.Proof.Gen.FfnDownIdeal.Frame
public import proofs.«01_k».proof.Proof.Gen.FfnDownRefIdeal.Run
public import proofs.«01_k».proof.Proof.Gen.OutProj.Frame
public import proofs.«01_k».proof.Proof.Gen.OutProjIdeal.Frame
public import proofs.«01_k».proof.Proof.Gen.OutProjRefIdeal.Run
public import proofs.«01_k».proof.Proof.Gen.InProj.Frame
public import proofs.«01_k».proof.Proof.Gen.InProjIdeal.Frame
public import proofs.«01_k».proof.Proof.Gen.InProjRefIdeal.Run
public import proofs.«01_k».proof.Proof.Gen.MlaProj.Frame
public import proofs.«01_k».proof.Proof.Gen.MlaProjIdeal.Frame
public import proofs.«01_k».proof.Proof.Gen.MlaProjRefIdeal.Run
public import proofs.«01_k».proof.Proof.Gen.ConvMix.Frame
public import proofs.«01_k».proof.Proof.Gen.ConvMixIdeal.Frame
public import proofs.«01_k».proof.Proof.Gen.ConvMixRefIdeal.Run
public import proofs.«01_k».proof.Proof.Gen.Retain.Frame
public import proofs.«01_k».proof.Proof.Gen.RetainIdeal.Frame
public import proofs.«01_k».proof.Proof.Gen.RetainRefIdeal.Run
public import proofs.«01_k».proof.Proof.Gen.Modul.Frame
public import proofs.«01_k».proof.Proof.Gen.ModulIdeal.Frame
public import proofs.«01_k».proof.Proof.Gen.ModulRefIdeal.Run
public import proofs.«01_k».proof.Proof.Gen.Prolog.Frame
public import proofs.«01_k».proof.Proof.Gen.PrologIdeal.Frame
public import proofs.«01_k».proof.Proof.Gen.PrologRefIdeal.Run
public import proofs.«01_k».proof.Proof.Gen.Finish.Frame
public import proofs.«01_k».proof.Proof.Gen.FinishIdeal.Frame
public import proofs.«01_k».proof.Proof.Gen.FinishRefIdeal.Run
public import proofs.«01_k».proof.Proof.AttnValue
public import proofs.«01_k».proof.Proof.FfnUpValue
public import proofs.«01_k».proof.Proof.FfnDownValue
public import proofs.«01_k».proof.Proof.OutProjValue
public import proofs.«01_k».proof.Proof.InProjValue
public import proofs.«01_k».proof.Proof.MlaProjValue
public import proofs.«01_k».proof.Proof.ConvMixValue
public import proofs.«01_k».proof.Proof.RetainValue
public import proofs.«01_k».proof.Proof.ModulValue
public import proofs.«01_k».proof.Proof.PrologValue
public import proofs.«01_k».proof.Proof.FinishValue
public import proofs.«01_k».proof.Proof.Gen.Pre_finite_qk
public import proofs.«01_k».proof.Proof.Gen.Pre_finite_pr
public import proofs.«01_k».proof.Proof.Gen.Pre_finite_y
public import Idealize.ShloMosaic.Adequacy
public import Idealize.ShloMosaic.Init

@[expose] public section

noncomputable section

namespace Cert.Proof

open Idealize.ShloMosaic Idealize.SL.Sem

/-- The attention's reference ends, leaves its arguments as they were, and has no semaphore to leave raised. -/
theorem frame_AttnRef : Cert.quiescent_AttnRefIdeal := fun m ρ _ =>
  (θ_run Cert.AttnRefIdeal.defs _ _).mono (fun r h => ⟨fun c => (h c).2, Idealize.ShloMosaic.sem_eq_zero_of_no_sems (by decide) r.2⟩)
    (Cert.AttnRefIdeal.Value.run (F := Ideal) m ρ)

/-- The first half of the feed-forward layer's reference ends, leaves its arguments as they were, and has no semaphore to leave raised. -/
theorem frame_FfnUpRef : Cert.quiescent_FfnUpRefIdeal := fun m ρ _ =>
  (θ_run Cert.FfnUpRefIdeal.defs _ _).mono (fun r h => ⟨fun c => (h c).2, Idealize.ShloMosaic.sem_eq_zero_of_no_sems (by decide) r.2⟩)
    (Cert.FfnUpRefIdeal.Value.run (F := Ideal) m ρ)

/-- The second half of the feed-forward layer's reference ends, leaves its arguments as they were, and has no semaphore to leave raised. -/
theorem frame_FfnDownRef : Cert.quiescent_FfnDownRefIdeal := fun m ρ _ =>
  (θ_run Cert.FfnDownRefIdeal.defs _ _).mono (fun r h => ⟨fun c => (h c).2.2, Idealize.ShloMosaic.sem_eq_zero_of_no_sems (by decide) r.2⟩)
    (Cert.FfnDownRefIdeal.Value.run (F := Ideal) m ρ)

/-- The output projection's reference ends, leaves its arguments as they were, and has no semaphore to leave raised. -/
theorem frame_OutProjRef : Cert.quiescent_OutProjRefIdeal := fun m ρ _ =>
  (θ_run Cert.OutProjRefIdeal.defs _ _).mono (fun r h => ⟨fun c => (h c).2.2, Idealize.ShloMosaic.sem_eq_zero_of_no_sems (by decide) r.2⟩)
    (Cert.OutProjRefIdeal.Value.run (F := Ideal) m ρ)

/-- The input projection's reference ends, leaves its arguments as they were, and has no semaphore to leave raised. -/
theorem frame_InProjRef : Cert.quiescent_InProjRefIdeal := fun m ρ _ =>
  (θ_run Cert.InProjRefIdeal.defs _ _).mono (fun r h => ⟨fun c => (h c).2, Idealize.ShloMosaic.sem_eq_zero_of_no_sems (by decide) r.2⟩)
    (Cert.InProjRefIdeal.Value.run (F := Ideal) m ρ)

/-- The latent attention projections's reference ends, leaves its arguments as they were, and has no semaphore to leave raised. -/
theorem frame_MlaProjRef : Cert.quiescent_MlaProjRefIdeal := fun m ρ _ =>
  (θ_run Cert.MlaProjRefIdeal.defs _ _).mono (fun r h => ⟨fun c => (h c).2.2.2, Idealize.ShloMosaic.sem_eq_zero_of_no_sems (by decide) r.2⟩)
    (Cert.MlaProjRefIdeal.Value.run (F := Ideal) m ρ)

/-- The short convolution's reference ends, leaves its arguments as they were, and has no semaphore to leave raised. -/
theorem frame_ConvMixRef : Cert.quiescent_ConvMixRefIdeal := fun m ρ _ =>
  (θ_run Cert.ConvMixRefIdeal.defs _ _).mono (fun r h => ⟨fun c => (h c).2, Idealize.ShloMosaic.sem_eq_zero_of_no_sems (by decide) r.2⟩)
    (Cert.ConvMixRefIdeal.Value.run (F := Ideal) m ρ)

/-- The retention's reference ends, leaves its arguments as they were, and has no semaphore to leave raised. -/
theorem frame_RetainRef : Cert.quiescent_RetainRefIdeal := fun m ρ _ =>
  (θ_run Cert.RetainRefIdeal.defs _ _).mono (fun r h => ⟨fun c => (h c).2, Idealize.ShloMosaic.sem_eq_zero_of_no_sems (by decide) r.2⟩)
    (Cert.RetainRefIdeal.Value.run (F := Ideal) m ρ)

/-- The modulation rows's reference ends, leaves its arguments as they were, and has no semaphore to leave raised. -/
theorem frame_ModulRef : Cert.quiescent_ModulRefIdeal := fun m ρ _ =>
  (θ_run Cert.ModulRefIdeal.defs _ _).mono (fun r h => ⟨fun c => (h c).2, Idealize.ShloMosaic.sem_eq_zero_of_no_sems (by decide) r.2⟩)
    (Cert.ModulRefIdeal.Value.run (F := Ideal) m ρ)

/-- The joining and first norm's reference ends, leaves its arguments as they were, and has no semaphore to leave raised. -/
theorem frame_PrologRef : Cert.quiescent_PrologRefIdeal := fun m ρ _ =>
  (θ_run Cert.PrologRefIdeal.defs _ _).mono (fun r h => ⟨fun c => (h c).2.2, Idealize.ShloMosaic.sem_eq_zero_of_no_sems (by decide) r.2⟩)
    (Cert.PrologRefIdeal.Value.run (F := Ideal) m ρ)

/-- The finish of the RWKV mixer's reference ends, leaves its arguments as they were, and has no semaphore to leave raised. -/
theorem frame_FinishRef : Cert.quiescent_FinishRefIdeal := fun m ρ _ =>
  (θ_run Cert.FinishRefIdeal.defs _ _).mono (fun r h => ⟨fun c => (h c).2, Idealize.ShloMosaic.sem_eq_zero_of_no_sems (by decide) r.2⟩)
    (Cert.FinishRefIdeal.Value.run (F := Ideal) m ρ)

theorem claim : Cert.Claim :=
  ⟨Cert.Attn.Gen.facts, Cert.AttnIdeal.Gen.facts, Cert.AttnRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.OutProj.Gen.facts, Cert.OutProjIdeal.Gen.facts, Cert.OutProjRefIdeal.Gen.facts, Cert.InProj.Gen.facts, Cert.InProjIdeal.Gen.facts, Cert.InProjRefIdeal.Gen.facts, Cert.MlaProj.Gen.facts, Cert.MlaProjIdeal.Gen.facts, Cert.MlaProjRefIdeal.Gen.facts, Cert.ConvMix.Gen.facts, Cert.ConvMixIdeal.Gen.facts, Cert.ConvMixRefIdeal.Gen.facts, Cert.Retain.Gen.facts, Cert.RetainIdeal.Gen.facts, Cert.RetainRefIdeal.Gen.facts, Cert.Modul.Gen.facts, Cert.ModulIdeal.Gen.facts, Cert.ModulRefIdeal.Gen.facts, Cert.Prolog.Gen.facts, Cert.PrologIdeal.Gen.facts, Cert.PrologRefIdeal.Gen.facts, Cert.Finish.Gen.facts, Cert.FinishIdeal.Gen.facts, Cert.FinishRefIdeal.Gen.facts,
    Cert.Pre_finite_qk.Gen.facts, Cert.Pre_finite_pr.Gen.facts, Cert.Pre_finite_y.Gen.facts,
    fun m ρ _ => Cert.Attn.Gen.frame m ρ,
    fun m ρ _ => Cert.AttnIdeal.Gen.frame m ρ,
    fun m ρ _ => Cert.AttnIdeal.Gen.frame m ρ,
    frame_AttnRef,
    fun m ρ _ => frame_AttnRef m ρ trivial,
    fun m ρ _ => Cert.FfnUp.Gen.frame m ρ,
    fun m ρ _ => Cert.FfnUpIdeal.Gen.frame m ρ,
    frame_FfnUpRef,
    fun m ρ _ => Cert.FfnDown.Gen.frame m ρ,
    fun m ρ _ => Cert.FfnDownIdeal.Gen.frame m ρ,
    frame_FfnDownRef,
    fun m ρ _ => Cert.OutProj.Gen.frame m ρ,
    fun m ρ _ => Cert.OutProjIdeal.Gen.frame m ρ,
    frame_OutProjRef,
    fun m ρ _ => Cert.InProj.Gen.frame m ρ,
    fun m ρ _ => Cert.InProjIdeal.Gen.frame m ρ,
    frame_InProjRef,
    fun m ρ _ => Cert.MlaProj.Gen.frame m ρ,
    fun m ρ _ => Cert.MlaProjIdeal.Gen.frame m ρ,
    frame_MlaProjRef,
    fun m ρ _ => Cert.ConvMix.Gen.frame m ρ,
    fun m ρ _ => Cert.ConvMixIdeal.Gen.frame m ρ,
    frame_ConvMixRef,
    fun m ρ _ => Cert.Retain.Gen.frame m ρ,
    fun m ρ _ => Cert.RetainIdeal.Gen.frame m ρ,
    fun m ρ _ => Cert.RetainIdeal.Gen.frame m ρ,
    frame_RetainRef,
    fun m ρ _ => frame_RetainRef m ρ trivial,
    fun m ρ _ => Cert.Modul.Gen.frame m ρ,
    fun m ρ _ => Cert.ModulIdeal.Gen.frame m ρ,
    frame_ModulRef,
    fun m ρ _ => Cert.Prolog.Gen.frame m ρ,
    fun m ρ _ => Cert.PrologIdeal.Gen.frame m ρ,
    frame_PrologRef,
    fun m ρ _ => Cert.Finish.Gen.frame m ρ,
    fun m ρ _ => Cert.FinishIdeal.Gen.frame m ρ,
    fun m ρ _ => Cert.FinishIdeal.Gen.frame m ρ,
    frame_FinishRef,
    fun m ρ _ => frame_FinishRef m ρ trivial,
    trivial,
    algebraic_attn,
    trivial,
    algebraic_ffnUp,
    trivial,
    algebraic_ffnDown,
    trivial,
    algebraic_outProj,
    trivial,
    algebraic_inProj,
    IdealRules.named_const.statement Cert.MlaProjIdeal.κ "logit_scale" .f32 0x3DD53B95#32 ((((Real.sqrt 192) * (Real.log 2))⁻¹ : ℝ) : EReal) rfl,
    algebraic_mlaProj,
    trivial,
    algebraic_convMix,
    trivial,
    algebraic_retain,
    trivial,
    algebraic_modul,
    trivial,
    algebraic_prolog,
    trivial,
    algebraic_finish⟩

end Cert.Proof

end
